-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Band4 (m : (ℓ : Loc Cert.Band4.nD Cert.Band4.τ Cert.Band4.sig) → Buf (Elt Bits) ℓ) : Prop :=
  True

def Pre_Band4Ideal (m : (ℓ : Loc Cert.Band4Ideal.nD Cert.Band4Ideal.τ Cert.Band4Ideal.sig) → Buf (Elt Ideal) ℓ) : Prop :=
  True

def Pre_Band4RefIdeal (m : (ℓ : Loc Cert.Band4RefIdeal.nD Cert.Band4RefIdeal.τ Cert.Band4RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1RefIdeal (m : (ℓ : Loc Cert.Band1RefIdeal.nD Cert.Band1RefIdeal.τ Cert.Band1RefIdeal.sig) → Buf (Elt Ideal) ℓ) : Prop :=
  True

def Pre_Band16 (m : (ℓ : Loc Cert.Band16.nD Cert.Band16.τ Cert.Band16.sig) → Buf (Elt Bits) ℓ) : Prop :=
  True

def Pre_Band16Ideal (m : (ℓ : Loc Cert.Band16Ideal.nD Cert.Band16Ideal.τ Cert.Band16Ideal.sig) → Buf (Elt Ideal) ℓ) : Prop :=
  True

def Pre_Band16RefIdeal (m : (ℓ : Loc Cert.Band16RefIdeal.nD Cert.Band16RefIdeal.τ Cert.Band16RefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Band4 [hBand4 : Cert.Band4.Facts] : Prop :=
  ∀ (m : (ℓ : Loc Cert.Band4.nD Cert.Band4.τ Cert.Band4.sig) → Buf (Elt Bits) ℓ) (g : Dev Cert.Band4.nD → PrngReg), Pre_Band4 m →
    θ_run (Cert.Band4.defs (F := Bits)) (onTc (τ := Cert.Band4.τ) (Cert.Band4.main (F := Bits))) ⟨m, fun _ => 0, g⟩ (fun r => (∀ c : Dev Cert.Band4.nD,
      r.2.mem ((c.tc : Thread Cert.Band4.nD Cert.Band4.τ).loc Cert.Band4.main_arg0) = m ((c.tc : Thread Cert.Band4.nD Cert.Band4.τ).loc Cert.Band4.main_arg0))
      ∧ r.2.sem = fun _ => 0)

def quiescent_Band4Ideal [hBand4Ideal : Cert.Band4Ideal.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ r.2.sem = fun _ => 0)

def quiescent_Band4RefIdeal [hBand4RefIdeal : Cert.Band4RefIdeal.Facts] : Prop :=
  ∀ (m : (ℓ : Loc Cert.Band4RefIdeal.nD Cert.Band4RefIdeal.τ Cert.Band4RefIdeal.sig) → Buf (Elt Ideal) ℓ) (g : Dev Cert.Band4RefIdeal.nD → PrngReg), Pre_Band4RefIdeal m →
    θ_run (Cert.Band4RefIdeal.defs (F := Ideal)) (onTc (τ := Cert.Band4RefIdeal.τ) (Cert.Band4RefIdeal.main (F := Ideal))) ⟨m, fun _ => 0, g⟩ (fun r => (∀ c : Dev Cert.Band4RefIdeal.nD,
      r.2.mem ((c.tc : Thread Cert.Band4RefIdeal.nD Cert.Band4RefIdeal.τ).loc Cert.Band4RefIdeal.main_arg0) = m ((c.tc : Thread Cert.Band4RefIdeal.nD Cert.Band4RefIdeal.τ).loc Cert.Band4RefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ r.2.sem = fun _ => 0)

def quiescent_Band1RefIdeal [hBand1RefIdeal : Cert.Band1RefIdeal.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0))
      ∧ r.2.sem = fun _ => 0)

def quiescent_Band16 [hBand16 : Cert.Band16.Facts] : Prop :=
  ∀ (m : (ℓ : Loc Cert.Band16.nD Cert.Band16.τ Cert.Band16.sig) → Buf (Elt Bits) ℓ) (g : Dev Cert.Band16.nD → PrngReg), Pre_Band16 m →
    θ_run (Cert.Band16.defs (F := Bits)) (onTc (τ := Cert.Band16.τ) (Cert.Band16.main (F := Bits))) ⟨m, fun _ => 0, g⟩ (fun r => (∀ c : Dev Cert.Band16.nD,
      r.2.mem ((c.tc : Thread Cert.Band16.nD Cert.Band16.τ).loc Cert.Band16.main_arg0) = m ((c.tc : Thread Cert.Band16.nD Cert.Band16.τ).loc Cert.Band16.main_arg0))
      ∧ r.2.sem = fun _ => 0)

def quiescent_Band16Ideal [hBand16Ideal : Cert.Band16Ideal.Facts] : Prop :=
  ∀ (m : (ℓ : Loc Cert.Band16Ideal.nD Cert.Band16Ideal.τ Cert.Band16Ideal.sig) → Buf (Elt Ideal) ℓ) (g : Dev Cert.Band16Ideal.nD → PrngReg), Pre_Band16Ideal m →
    θ_run (Cert.Band16Ideal.defs (F := Ideal)) (onTc (τ := Cert.Band16Ideal.τ) (Cert.Band16Ideal.main (F := Ideal))) ⟨m, fun _ => 0, g⟩ (fun r => (∀ c : Dev Cert.Band16Ideal.nD,
      r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ r.2.sem = fun _ => 0)

def quiescent_Band16RefIdeal [hBand16RefIdeal : Cert.Band16RefIdeal.Facts] : Prop :=
  ∀ (m : (ℓ : Loc Cert.Band16RefIdeal.nD Cert.Band16RefIdeal.τ Cert.Band16RefIdeal.sig) → Buf (Elt Ideal) ℓ) (g : Dev Cert.Band16RefIdeal.nD → PrngReg), Pre_Band16RefIdeal m →
    θ_run (Cert.Band16RefIdeal.defs (F := Ideal)) (onTc (τ := Cert.Band16RefIdeal.τ) (Cert.Band16RefIdeal.main (F := Ideal))) ⟨m, fun _ => 0, g⟩ (fun r => (∀ c : Dev Cert.Band16RefIdeal.nD,
      r.2.mem ((c.tc : Thread Cert.Band16RefIdeal.nD Cert.Band16RefIdeal.τ).loc Cert.Band16RefIdeal.main_arg0) = m ((c.tc : Thread Cert.Band16RefIdeal.nD Cert.Band16RefIdeal.τ).loc Cert.Band16RefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Band4_Band4Ideal : Prop :=
  IdealRules.named_const.Statement Cert.Band4Ideal.κ "mask" .f32 0xF149F2CA#32 ⊥
  ∧ IdealRules.named_const.Statement Cert.Band4Ideal.κ "slope0" .f32 0x3F129195#32 (((13316085 / 33554432) * (Real.log 2)⁻¹ : ℝ) : EReal)
  ∧ IdealRules.named_const.Statement Cert.Band4Ideal.κ "slope1" .f32 0x3EB8AA3B#32 (((1 / 4) * (Real.log 2)⁻¹ : ℝ) : EReal)
  ∧ IdealRules.named_const.Statement Cert.Band4Ideal.κ "slope2" .f32 0x3E68A9CD#32 (((1321123 / 8388608) * (Real.log 2)⁻¹ : ℝ) : EReal)
  ∧ IdealRules.named_const.Statement Cert.Band4Ideal.κ "slope3" .f32 0x3E129195#32 (((13316085 / 134217728) * (Real.log 2)⁻¹ : ℝ) : EReal)
  ∧ IdealRules.named_const.Statement Cert.Band4Ideal.κ "ln2" .f32 0x3F317218#32 ((Real.log 2 : ℝ) : EReal)

def algebraic_Band4Ideal_Band4RefIdeal [hBand4Ideal : Cert.Band4Ideal.Facts] [hBand4RefIdeal : Cert.Band4RefIdeal.Facts] : Prop :=
  ∀ (m : (ℓ : Loc Cert.Band4Ideal.nD Cert.Band4Ideal.τ Cert.Band4Ideal.sig) → Buf (Elt Ideal) ℓ) (g : Dev Cert.Band4Ideal.nD → PrngReg)
    (m' : (ℓ : Loc Cert.Band4RefIdeal.nD Cert.Band4RefIdeal.τ Cert.Band4RefIdeal.sig) → Buf (Elt Ideal) ℓ) (g' : Dev Cert.Band4RefIdeal.nD → PrngReg), Pre_Band4Ideal m →
    (∀ c : Dev Cert.Band4Ideal.nD,
      m' ((c.tc : Thread Cert.Band4RefIdeal.nD Cert.Band4RefIdeal.τ).loc Cert.Band4RefIdeal.main_arg0) = m ((c.tc : Thread Cert.Band4Ideal.nD Cert.Band4Ideal.τ).loc Cert.Band4Ideal.main_arg0)) →
    ∃ (v0 : (c : Dev Cert.Band4Ideal.nD) → Buf (Elt Ideal) ((c.tc : Thread Cert.Band4Ideal.nD Cert.Band4Ideal.τ).loc Cert.Band4Ideal.main_v0_0)) (v1 : (c : Dev Cert.Band4Ideal.nD) → Buf (Elt Ideal) ((c.tc : Thread Cert.Band4Ideal.nD Cert.Band4Ideal.τ).loc Cert.Band4Ideal.main_v0_1)),
      θ_run (Cert.Band4Ideal.defs (F := Ideal)) (onTc (τ := Cert.Band4Ideal.τ) (Cert.Band4Ideal.main (F := Ideal))) ⟨m, fun _ => 0, g⟩ (fun r => ∀ c : Dev Cert.Band4Ideal.nD,
          r.2.mem ((c.tc : Thread Cert.Band4Ideal.nD Cert.Band4Ideal.τ).loc Cert.Band4Ideal.main_v0_0) = v0 c
          ∧ r.2.mem ((c.tc : Thread Cert.Band4Ideal.nD Cert.Band4Ideal.τ).loc Cert.Band4Ideal.main_v0_1) = v1 c
          ∧ r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ θ_run (Cert.Band4RefIdeal.defs (F := Ideal)) (onTc (τ := Cert.Band4RefIdeal.τ) (Cert.Band4RefIdeal.main (F := Ideal))) ⟨m', fun _ => 0, g'⟩ (fun r => ∀ c : Dev Cert.Band4RefIdeal.nD,
          r.2.mem ((c.tc : Thread Cert.Band4RefIdeal.nD Cert.Band4RefIdeal.τ).loc Cert.Band4RefIdeal.main_v63) = v0 c
          ∧ r.2.mem ((c.tc : Thread Cert.Band4RefIdeal.nD Cert.Band4RefIdeal.τ).loc Cert.Band4RefIdeal.main_v64) = v1 c
          ∧ r.2.mem ((c.tc : Thread Cert.Band4RefIdeal.nD Cert.Band4RefIdeal.τ).loc Cert.Band4RefIdeal.main_arg0) = m' ((c.tc : Thread Cert.Band4RefIdeal.nD Cert.Band4RefIdeal.τ).loc Cert.Band4RefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v69) = v0 c
          ∧ r.2.mem ((c.tc : Thread Cert.MergeRefIdeal.nD Cert.MergeRefIdeal.τ).loc Cert.MergeRefIdeal.main_v84) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)) (v2 : (c : Dev Cert.InProjIdeal.nD) → Buf (Elt Ideal) ((c.tc : Thread Cert.InProjIdeal.nD Cert.InProjIdeal.τ).loc Cert.InProjIdeal.main_v25_2)) (v3 : (c : Dev Cert.InProjIdeal.nD) → Buf (Elt Ideal) ((c.tc : Thread Cert.InProjIdeal.nD Cert.InProjIdeal.τ).loc Cert.InProjIdeal.main_v25_3)) (v4 : (c : Dev Cert.InProjIdeal.nD) → Buf (Elt Ideal) ((c.tc : Thread Cert.InProjIdeal.nD Cert.InProjIdeal.τ).loc Cert.InProjIdeal.main_v25_4)) (v5 : (c : Dev Cert.InProjIdeal.nD) → Buf (Elt Ideal) ((c.tc : Thread Cert.InProjIdeal.nD Cert.InProjIdeal.τ).loc Cert.InProjIdeal.main_v25_5)) (v6 : (c : Dev Cert.InProjIdeal.nD) → Buf (Elt Ideal) ((c.tc : Thread Cert.InProjIdeal.nD Cert.InProjIdeal.τ).loc Cert.InProjIdeal.main_v25_6)) (v7 : (c : Dev Cert.InProjIdeal.nD) → Buf (Elt Ideal) ((c.tc : Thread Cert.InProjIdeal.nD Cert.InProjIdeal.τ).loc Cert.InProjIdeal.main_v25_7)) (v8 : (c : Dev Cert.InProjIdeal.nD) → Buf (Elt Ideal) ((c.tc : Thread Cert.InProjIdeal.nD Cert.InProjIdeal.τ).loc Cert.InProjIdeal.main_v25_8)) (v9 : (c : Dev Cert.InProjIdeal.nD) → Buf (Elt Ideal) ((c.tc : Thread Cert.InProjIdeal.nD Cert.InProjIdeal.τ).loc Cert.InProjIdeal.main_v25_9)) (v10 : (c : Dev Cert.InProjIdeal.nD) → Buf (Elt Ideal) ((c.tc : Thread Cert.InProjIdeal.nD Cert.InProjIdeal.τ).loc Cert.InProjIdeal.main_v25_10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_v25_2) = v2 c
          ∧ r.2.mem ((c.tc : Thread Cert.InProjIdeal.nD Cert.InProjIdeal.τ).loc Cert.InProjIdeal.main_v25_3) = v3 c
          ∧ r.2.mem ((c.tc : Thread Cert.InProjIdeal.nD Cert.InProjIdeal.τ).loc Cert.InProjIdeal.main_v25_4) = v4 c
          ∧ r.2.mem ((c.tc : Thread Cert.InProjIdeal.nD Cert.InProjIdeal.τ).loc Cert.InProjIdeal.main_v25_5) = v5 c
          ∧ r.2.mem ((c.tc : Thread Cert.InProjIdeal.nD Cert.InProjIdeal.τ).loc Cert.InProjIdeal.main_v25_6) = v6 c
          ∧ r.2.mem ((c.tc : Thread Cert.InProjIdeal.nD Cert.InProjIdeal.τ).loc Cert.InProjIdeal.main_v25_7) = v7 c
          ∧ r.2.mem ((c.tc : Thread Cert.InProjIdeal.nD Cert.InProjIdeal.τ).loc Cert.InProjIdeal.main_v25_8) = v8 c
          ∧ r.2.mem ((c.tc : Thread Cert.InProjIdeal.nD Cert.InProjIdeal.τ).loc Cert.InProjIdeal.main_v25_9) = v9 c
          ∧ r.2.mem ((c.tc : Thread Cert.InProjIdeal.nD Cert.InProjIdeal.τ).loc Cert.InProjIdeal.main_v25_10) = v10 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v77) = v0 c
          ∧ r.2.mem ((c.tc : Thread Cert.InProjRefIdeal.nD Cert.InProjRefIdeal.τ).loc Cert.InProjRefIdeal.main_v80) = v1 c
          ∧ r.2.mem ((c.tc : Thread Cert.InProjRefIdeal.nD Cert.InProjRefIdeal.τ).loc Cert.InProjRefIdeal.main_v85) = v2 c
          ∧ r.2.mem ((c.tc : Thread Cert.InProjRefIdeal.nD Cert.InProjRefIdeal.τ).loc Cert.InProjRefIdeal.main_v90) = v3 c
          ∧ r.2.mem ((c.tc : Thread Cert.InProjRefIdeal.nD Cert.InProjRefIdeal.τ).loc Cert.InProjRefIdeal.main_v54) = v4 c
          ∧ r.2.mem ((c.tc : Thread Cert.InProjRefIdeal.nD Cert.InProjRefIdeal.τ).loc Cert.InProjRefIdeal.main_v59) = v5 c
          ∧ r.2.mem ((c.tc : Thread Cert.InProjRefIdeal.nD Cert.InProjRefIdeal.τ).loc Cert.InProjRefIdeal.main_v64) = v6 c
          ∧ r.2.mem ((c.tc : Thread Cert.InProjRefIdeal.nD Cert.InProjRefIdeal.τ).loc Cert.InProjRefIdeal.main_v94) = v7 c
          ∧ r.2.mem ((c.tc : Thread Cert.InProjRefIdeal.nD Cert.InProjRefIdeal.τ).loc Cert.InProjRefIdeal.main_v99) = v8 c
          ∧ r.2.mem ((c.tc : Thread Cert.InProjRefIdeal.nD Cert.InProjRefIdeal.τ).loc Cert.InProjRefIdeal.main_v104) = v9 c
          ∧ r.2.mem ((c.tc : Thread Cert.InProjRefIdeal.nD Cert.InProjRefIdeal.τ).loc Cert.InProjRefIdeal.main_v74) = v10 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Band1_Band1Ideal : Prop :=
  IdealRules.named_const.Statement Cert.Band1Ideal.κ "mask" .f32 0xF149F2CA#32 ⊥
  ∧ IdealRules.named_const.Statement Cert.Band1Ideal.κ "slope0" .f32 0x3F68A9CD#32 (((1321123 / 2097152) * (Real.log 2)⁻¹ : ℝ) : EReal)
  ∧ IdealRules.named_const.Statement Cert.Band1Ideal.κ "slope1" .f32 0x3F129195#32 (((13316085 / 33554432) * (Real.log 2)⁻¹ : ℝ) : EReal)
  ∧ IdealRules.named_const.Statement Cert.Band1Ideal.κ "slope2" .f32 0x3EB8AA3B#32 (((1 / 4) * (Real.log 2)⁻¹ : ℝ) : EReal)
  ∧ IdealRules.named_const.Statement Cert.Band1Ideal.κ "slope3" .f32 0x3E68A9CD#32 (((1321123 / 8388608) * (Real.log 2)⁻¹ : ℝ) : EReal)
  ∧ IdealRules.named_const.Statement Cert.Band1Ideal.κ "ln2" .f32 0x3F317218#32 ((Real.log 2 : ℝ) : EReal)

def algebraic_Band1Ideal_Band1RefIdeal [hBand1Ideal : Cert.Band1Ideal.Facts] [hBand1RefIdeal : Cert.Band1RefIdeal.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.Band1RefIdeal.nD Cert.Band1RefIdeal.τ Cert.Band1RefIdeal.sig) → Buf (Elt Ideal) ℓ) (g' : Dev Cert.Band1RefIdeal.nD → PrngReg), Pre_Band1Ideal m →
    (∀ c : Dev Cert.Band1Ideal.nD,
      m' ((c.tc : Thread Cert.Band1RefIdeal.nD Cert.Band1RefIdeal.τ).loc Cert.Band1RefIdeal.main_arg0) = m ((c.tc : Thread Cert.Band1Ideal.nD Cert.Band1Ideal.τ).loc Cert.Band1Ideal.main_arg0)) →
    ∃ (v0 : (c : Dev Cert.Band1Ideal.nD) → Buf (Elt Ideal) ((c.tc : Thread Cert.Band1Ideal.nD Cert.Band1Ideal.τ).loc Cert.Band1Ideal.main_v0_0)) (v1 : (c : Dev Cert.Band1Ideal.nD) → Buf (Elt Ideal) ((c.tc : Thread Cert.Band1Ideal.nD Cert.Band1Ideal.τ).loc Cert.Band1Ideal.main_v0_1)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v0_0) = v0 c
          ∧ r.2.mem ((c.tc : Thread Cert.Band1Ideal.nD Cert.Band1Ideal.τ).loc Cert.Band1Ideal.main_v0_1) = v1 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ θ_run (Cert.Band1RefIdeal.defs (F := Ideal)) (onTc (τ := Cert.Band1RefIdeal.τ) (Cert.Band1RefIdeal.main (F := Ideal))) ⟨m', fun _ => 0, g'⟩ (fun r => ∀ c : Dev Cert.Band1RefIdeal.nD,
          r.2.mem ((c.tc : Thread Cert.Band1RefIdeal.nD Cert.Band1RefIdeal.τ).loc Cert.Band1RefIdeal.main_v63) = v0 c
          ∧ r.2.mem ((c.tc : Thread Cert.Band1RefIdeal.nD Cert.Band1RefIdeal.τ).loc Cert.Band1RefIdeal.main_v64) = v1 c
          ∧ r.2.mem ((c.tc : Thread Cert.Band1RefIdeal.nD Cert.Band1RefIdeal.τ).loc Cert.Band1RefIdeal.main_arg0) = m' ((c.tc : Thread Cert.Band1RefIdeal.nD Cert.Band1RefIdeal.τ).loc Cert.Band1RefIdeal.main_arg0))

def preserves_Band16_Band16Ideal : Prop :=
  IdealRules.named_const.Statement Cert.Band16Ideal.κ "mask" .f32 0xF149F2CA#32 ⊥
  ∧ IdealRules.named_const.Statement Cert.Band16Ideal.κ "slope0" .f32 0x3EB8AA3B#32 (((1 / 4) * (Real.log 2)⁻¹ : ℝ) : EReal)
  ∧ IdealRules.named_const.Statement Cert.Band16Ideal.κ "slope1" .f32 0x3E68A9CD#32 (((1321123 / 8388608) * (Real.log 2)⁻¹ : ℝ) : EReal)
  ∧ IdealRules.named_const.Statement Cert.Band16Ideal.κ "slope2" .f32 0x3E129195#32 (((13316085 / 134217728) * (Real.log 2)⁻¹ : ℝ) : EReal)
  ∧ IdealRules.named_const.Statement Cert.Band16Ideal.κ "slope3" .f32 0x3DB8AA3B#32 (((1 / 16) * (Real.log 2)⁻¹ : ℝ) : EReal)
  ∧ IdealRules.named_const.Statement Cert.Band16Ideal.κ "ln2" .f32 0x3F317218#32 ((Real.log 2 : ℝ) : EReal)

def algebraic_Band16Ideal_Band16RefIdeal [hBand16Ideal : Cert.Band16Ideal.Facts] [hBand16RefIdeal : Cert.Band16RefIdeal.Facts] : Prop :=
  ∀ (m : (ℓ : Loc Cert.Band16Ideal.nD Cert.Band16Ideal.τ Cert.Band16Ideal.sig) → Buf (Elt Ideal) ℓ) (g : Dev Cert.Band16Ideal.nD → PrngReg)
    (m' : (ℓ : Loc Cert.Band16RefIdeal.nD Cert.Band16RefIdeal.τ Cert.Band16RefIdeal.sig) → Buf (Elt Ideal) ℓ) (g' : Dev Cert.Band16RefIdeal.nD → PrngReg), Pre_Band16Ideal m →
    (∀ c : Dev Cert.Band16Ideal.nD,
      m' ((c.tc : Thread Cert.Band16RefIdeal.nD Cert.Band16RefIdeal.τ).loc Cert.Band16RefIdeal.main_arg0) = m ((c.tc : Thread Cert.Band16Ideal.nD Cert.Band16Ideal.τ).loc Cert.Band16Ideal.main_arg0)) →
    ∃ (v0 : (c : Dev Cert.Band16Ideal.nD) → Buf (Elt Ideal) ((c.tc : Thread Cert.Band16Ideal.nD Cert.Band16Ideal.τ).loc Cert.Band16Ideal.main_v0_0)) (v1 : (c : Dev Cert.Band16Ideal.nD) → Buf (Elt Ideal) ((c.tc : Thread Cert.Band16Ideal.nD Cert.Band16Ideal.τ).loc Cert.Band16Ideal.main_v0_1)),
      θ_run (Cert.Band16Ideal.defs (F := Ideal)) (onTc (τ := Cert.Band16Ideal.τ) (Cert.Band16Ideal.main (F := Ideal))) ⟨m, fun _ => 0, g⟩ (fun r => ∀ c : Dev Cert.Band16Ideal.nD,
          r.2.mem ((c.tc : Thread Cert.Band16Ideal.nD Cert.Band16Ideal.τ).loc Cert.Band16Ideal.main_v0_0) = v0 c
          ∧ r.2.mem ((c.tc : Thread Cert.Band16Ideal.nD Cert.Band16Ideal.τ).loc Cert.Band16Ideal.main_v0_1) = v1 c
          ∧ r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ θ_run (Cert.Band16RefIdeal.defs (F := Ideal)) (onTc (τ := Cert.Band16RefIdeal.τ) (Cert.Band16RefIdeal.main (F := Ideal))) ⟨m', fun _ => 0, g'⟩ (fun r => ∀ c : Dev Cert.Band16RefIdeal.nD,
          r.2.mem ((c.tc : Thread Cert.Band16RefIdeal.nD Cert.Band16RefIdeal.τ).loc Cert.Band16RefIdeal.main_v63) = v0 c
          ∧ r.2.mem ((c.tc : Thread Cert.Band16RefIdeal.nD Cert.Band16RefIdeal.τ).loc Cert.Band16RefIdeal.main_v64) = v1 c
          ∧ r.2.mem ((c.tc : Thread Cert.Band16RefIdeal.nD Cert.Band16RefIdeal.τ).loc Cert.Band16RefIdeal.main_arg0) = m' ((c.tc : Thread Cert.Band16RefIdeal.nD Cert.Band16RefIdeal.τ).loc Cert.Band16RefIdeal.main_arg0))

def Claim : Prop :=
  ∃ (hFfn : Cert.Ffn.Facts) (hFfnIdeal : Cert.FfnIdeal.Facts) (hFfnRefIdeal : Cert.FfnRefIdeal.Facts) (hBand4 : Cert.Band4.Facts) (hBand4Ideal : Cert.Band4Ideal.Facts) (hBand4RefIdeal : Cert.Band4RefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hBand1 : Cert.Band1.Facts) (hBand1Ideal : Cert.Band1Ideal.Facts) (hBand1RefIdeal : Cert.Band1RefIdeal.Facts) (hBand16 : Cert.Band16.Facts) (hBand16Ideal : Cert.Band16Ideal.Facts) (hBand16RefIdeal : Cert.Band16RefIdeal.Facts),
    quiescent_Ffn (hFfn := hFfn)
    ∧ quiescent_FfnIdeal (hFfnIdeal := hFfnIdeal)
    ∧ quiescent_FfnRefIdeal (hFfnRefIdeal := hFfnRefIdeal)
    ∧ quiescent_Band4 (hBand4 := hBand4)
    ∧ quiescent_Band4Ideal (hBand4Ideal := hBand4Ideal)
    ∧ quiescent_Band4RefIdeal (hBand4RefIdeal := hBand4RefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Band1 (hBand1 := hBand1)
    ∧ quiescent_Band1Ideal (hBand1Ideal := hBand1Ideal)
    ∧ quiescent_Band1RefIdeal (hBand1RefIdeal := hBand1RefIdeal)
    ∧ quiescent_Band16 (hBand16 := hBand16)
    ∧ quiescent_Band16Ideal (hBand16Ideal := hBand16Ideal)
    ∧ quiescent_Band16RefIdeal (hBand16RefIdeal := hBand16RefIdeal)
    ∧ preserves_Ffn_FfnIdeal
    ∧ algebraic_FfnIdeal_FfnRefIdeal (hFfnIdeal := hFfnIdeal) (hFfnRefIdeal := hFfnRefIdeal)
    ∧ preserves_Band4_Band4Ideal
    ∧ algebraic_Band4Ideal_Band4RefIdeal (hBand4Ideal := hBand4Ideal) (hBand4RefIdeal := hBand4RefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Band1_Band1Ideal
    ∧ algebraic_Band1Ideal_Band1RefIdeal (hBand1Ideal := hBand1Ideal) (hBand1RefIdeal := hBand1RefIdeal)
    ∧ preserves_Band16_Band16Ideal
    ∧ algebraic_Band16Ideal_Band16RefIdeal (hBand16Ideal := hBand16Ideal) (hBand16RefIdeal := hBand16RefIdeal)
-- ==== Ffn.lean ====
abbrev S4x4096x1024 : Shape := ⟨3, ![4, 4096, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S1x1024x1024 : Shape := ⟨3, ![1, 1024, 1024]⟩
abbrev S1x16x1024 : Shape := ⟨3, ![1, 16, 1024]⟩
abbrev S1024x2816 : Shape := ⟨2, ![1024, 2816]⟩
abbrev S1024x1024 : Shape := ⟨2, ![1024, 1024]⟩
abbrev S16x1024 : Shape := ⟨2, ![16, 1024]⟩
abbrev S1024x256 : Shape := ⟨2, ![1024, 256]⟩
abbrev S16x256 : Shape := ⟨2, ![16, 256]⟩
abbrev S1x256 : Shape := ⟨2, ![1, 256]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S1x2816, .f32⟩
  | .hbm, ⟨9, _⟩ => ⟨S2816x1024, .bf16⟩
  | .hbm, ⟨10, _⟩ => ⟨S1x1024, .f32⟩
  | .hbm, ⟨11, _⟩ => ⟨S4x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1024x2816, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S4x4096x1024 : Shape := ⟨3, ![4, 4096, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S4x4096x5632 : Shape := ⟨3, ![4, 4096, 5632]⟩
abbrev S4x4096x2816 : Shape := ⟨3, ![4, 4096, 2816]⟩
abbrev S_ : Shape := ⟨0, ![]⟩
abbrev S4x4098x2816 : Shape := ⟨3, ![4, 4098, 2816]⟩
abbrev S1x2816 : Shape := ⟨2, ![1, 2816]⟩
abbrev S1x1x2816 : Shape := ⟨3, ![1, 1, 2816]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S4x4096x1024, .f32⟩
  | .hbm, ⟨8, _⟩ => ⟨S4x4096x5632, .f32⟩
  | .hbm, ⟨9, _⟩ => ⟨S4x4096x2816, .f32⟩
  | .hbm, ⟨10, _⟩ => ⟨S4x4096x2816, .f32⟩
  | .hbm, ⟨11, _⟩ => ⟨S_, .i32⟩
  | .hbm, ⟨12, _⟩ => ⟨S_, .f32⟩
  | .hbm, ⟨13, _⟩ => ⟨S4x4098x2816, .f32⟩
  | .hbm, ⟨14, _⟩ => ⟨S1x2816, .f32⟩
  | .hbm, ⟨15, _⟩ => ⟨S2816, .f32⟩
  | .hbm, ⟨16, _⟩ => ⟨S4x4096x2816, .f32⟩
  | .hbm, ⟨17, _⟩ => ⟨S1x1x2816, .f32⟩
  | .hbm, ⟨18, _⟩ => ⟨S4x4096x2816, .f32⟩
  | .hbm, ⟨19, _⟩ => ⟨S4x4096x2816, .f32⟩
  | .hbm, ⟨20, _⟩ => ⟨S1x1x2816, .f32⟩
  | .hbm, ⟨21, _⟩ => ⟨S4x4096x2816, .f32⟩
  | .hbm, ⟨22, _⟩ => ⟨S4x4096x2816, .f32⟩
  | .hbm, ⟨23, _⟩ => ⟨S1x2816, .f32⟩
  | .hbm, ⟨24, _⟩ => ⟨S2816, .f32⟩
  | .hbm, ⟨25, _⟩ => ⟨S4x4096x2816, .f32⟩
  | .hbm, ⟨26, _⟩ => ⟨S1x1x2816, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S4x4096x2816, .f32⟩
  | .hbm, ⟨33, _⟩ => ⟨S1x1x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S_, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S_, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S_, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Band4.lean ====
abbrev S4x3x4x1024x256 : Shape := ⟨5, ![4, 3, 4, 1024, 256]⟩
abbrev S4x4x1024x256 : Shape := ⟨4, ![4, 4, 1024, 256]⟩
abbrev S1x1x2x1024x256 : Shape := ⟨5, ![1, 1, 2, 1024, 256]⟩
abbrev S1x2x1024x256 : Shape := ⟨4, ![1, 2, 1024, 256]⟩
abbrev S256x256 : Shape := ⟨2, ![256, 256]⟩
abbrev S128x256 : Shape := ⟨2, ![128, 256]⟩
abbrev S1x1x1x128x256 : Shape := ⟨5, ![1, 1, 1, 128, 256]⟩
abbrev S1x1x1x256x256 : Shape := ⟨5, ![1, 1, 1, 256, 256]⟩
abbrev S1024x256 : Shape := ⟨2, ![1024, 256]⟩
abbrev S128x1024 : Shape := ⟨2, ![128, 1024]⟩
abbrev S128 : Shape := ⟨1, ![128]⟩
abbrev S128x1 : Shape := ⟨2, ![128, 1]⟩
abbrev S1x1x128x256 : Shape := ⟨4, ![1, 1, 128, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x3x4x1024x256, .bf16⟩
  | .hbm, ⟨1, _⟩ => ⟨S4x4x1024x256, .f32⟩
  | .hbm, ⟨2, _⟩ => ⟨S4x4x1024x256, .f32⟩
  | .local _ .vmem, ⟨0, _⟩ => ⟨S1x1x2x1024x256, .bf16⟩
  | .local _ .vmem, ⟨1, _⟩ => ⟨S1x1x2x1024x256, .bf16⟩
  | .local _ .vmem, ⟨2, _⟩ => ⟨S1x1x2x1024x256, .bf16⟩
  | .local _ .vmem, ⟨3, _⟩ => ⟨S1x1x2x1024x256, .bf16⟩
  | .local _ .vmem, ⟨4, _⟩ => ⟨S1x1x2x1024x256, .bf16⟩
  | .local _ .vmem, ⟨5, _⟩ => ⟨S1x1x2x1024x256, .bf16⟩
  | .local _ .vmem, ⟨6, _⟩ => ⟨S1x2x1024x256, .f32⟩
  | .local _ .vmem, ⟨7, _⟩ => ⟨S1x2x1024x256, .f32⟩
  | .local _ .vmem, ⟨8, _⟩ => ⟨S1x2x1024x256, .f32⟩
  | .local _ .vmem, ⟨9, _⟩ => ⟨S1x2x1024x256, .f32⟩
  | _, _ => ⟨S4x3x4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def k0_mult1 (i : grid0.Coords) : BitVec 32 :=
  let arg2 : BitVec 32 := BitVec.ofNat 32 (i 2).val
  let c8_i32 : BitVec 32 := 8#32
  let v30 : BitVec 32 := Scalar.muli arg2 c8_i32
  let c0_i32_8 : BitVec 32 := 0#32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  v34
def k0_off1 (i : grid0.Coords) (c0_i32_8 : BitVec 32) : Fin 5 → Nat :=
  let c0_15 : Index := 0#32
  let c0_16 : Index := 0#32
  let c0_17 : Index := 0#32
  let arg2 : BitVec 32 := BitVec.ofNat 32 (i 2).val
  let c8_i32 : BitVec 32 := 8#32
  let v30 : BitVec 32 := Scalar.muli arg2 c8_i32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  let v35 : BitVec 32 := v34
  let v38 : Index := Scalar.indexCast v35
  let c0_18 : Index := 0#32
  ![0, 0, 0, v38.toNat, 0]
def k0_mult2 (i : grid0.Coords) : BitVec 32 :=
  let arg2 : BitVec 32 := BitVec.ofNat 32 (i 2).val
  let c8_i32_21 : BitVec 32 := 8#32
  let v49 : BitVec 32 := Scalar.muli arg2 c8_i32_21
  let c1_i32_22 : BitVec 32 := 1#32
  let v50 : BitVec 32 := Scalar.addi v49 c1_i32_22
  let c1_i32_23 : BitVec 32 := 1#32
  let v51 : BitVec 32 := Scalar.subi v50 c1_i32_23
  let c0_i32_24 : BitVec 32 := 0#32
  let v52 : BitVec 32 := Scalar.maxsi v51 c0_i32_24
  let c128_i32_25 : BitVec 32 := 128#32
  let v53 : BitVec 32 := Scalar.muli v52 c128_i32_25
  v53
def k0_mult3 (i : grid0.Coords) : BitVec 32 :=
  let arg2 : BitVec 32 := BitVec.ofNat 32 (i 2).val
  let c8_i32_35 : BitVec 32 := 8#32
  let v66 : BitVec 32 := Scalar.muli arg2 c8_i32_35
  let c2_i32_36 : BitVec 32 := 2#32
  let v67 : BitVec 32 := Scalar.addi v66 c2_i32_36
  let c1_i32_37 : BitVec 32 := 1#32
  let v68 : BitVec 32 := Scalar.subi v67 c1_i32_37
  let c0_i32_38 : BitVec 32 := 0#32
  let v69 : BitVec 32 := Scalar.maxsi v68 c0_i32_38
  let c128_i32_39 : BitVec 32 := 128#32
  let v70 : BitVec 32 := Scalar.muli v69 c128_i32_39
  v70
def k0_mult4 (i : grid0.Coords) : BitVec 32 :=
  let arg2 : BitVec 32 := BitVec.ofNat 32 (i 2).val
  let c8_i32_49 : BitVec 32 := 8#32
  let v83 : BitVec 32 := Scalar.muli arg2 c8_i32_49
  let c3_i32_50 : BitVec 32 := 3#32
  let v84 : BitVec 32 := Scalar.addi v83 c3_i32_50
  let c1_i32_51 : BitVec 32 := 1#32
  let v85 : BitVec 32 := Scalar.subi v84 c1_i32_51
  let c0_i32_52 : BitVec 32 := 0#32
  let v86 : BitVec 32 := Scalar.maxsi v85 c0_i32_52
  let c128_i32_53 : BitVec 32 := 128#32
  let v87 : BitVec 32 := Scalar.muli v86 c128_i32_53
  v87
def k0_mult5 (i : grid0.Coords) : BitVec 32 :=
  let arg2 : BitVec 32 := BitVec.ofNat 32 (i 2).val
  let c8_i32_63 : BitVec 32 := 8#32
  let v100 : BitVec 32 := Scalar.muli arg2 c8_i32_63
  let c4_i32 : BitVec 32 := 4#32
  let v101 : BitVec 32 := Scalar.addi v100 c4_i32
  let c1_i32_64 : BitVec 32 := 1#32
  let v102 : BitVec 32 := Scalar.subi v101 c1_i32_64
  let c0_i32_65 : BitVec 32 := 0#32
  let v103 : BitVec 32 := Scalar.maxsi v102 c0_i32_65
  let c128_i32_66 : BitVec 32 := 128#32
  let v104 : BitVec 32 := Scalar.muli v103 c128_i32_66
  v104
def k0_mult6 (i : grid0.Coords) : BitVec 32 :=
  let arg2 : BitVec 32 := BitVec.ofNat 32 (i 2).val
  let c8_i32_76 : BitVec 32 := 8#32
  let v117 : BitVec 32 := Scalar.muli arg2 c8_i32_76
  let c5_i32 : BitVec 32 := 5#32
  let v118 : BitVec 32 := Scalar.addi v117 c5_i32
  let c1_i32_77 : BitVec 32 := 1#32
  let v119 : BitVec 32 := Scalar.subi v118 c1_i32_77
  let c0_i32_78 : BitVec 32 := 0#32
  let v120 : BitVec 32 := Scalar.maxsi v119 c0_i32_78
  let c128_i32_79 : BitVec 32 := 128#32
  let v121 : BitVec 32 := Scalar.muli v120 c128_i32_79
  v121
def k0_mult7 (i : grid0.Coords) : BitVec 32 :=
  let arg2 : BitVec 32 := BitVec.ofNat 32 (i 2).val
  let c8_i32_89 : BitVec 32 := 8#32
  let v134 : BitVec 32 := Scalar.muli arg2 c8_i32_89
  let c6_i32_90 : BitVec 32 := 6#32
  let v135 : BitVec 32 := Scalar.addi v134 c6_i32_90
  let c1_i32_91 : BitVec 32 := 1#32
  let v136 : BitVec 32 := Scalar.subi v135 c1_i32_91
  let c0_i32_92 : BitVec 32 := 0#32
  let v137 : BitVec 32 := Scalar.maxsi v136 c0_i32_92
  let c128_i32_93 : BitVec 32 := 128#32
  let v138 : BitVec 32 := Scalar.muli v137 c128_i32_93
  v138
def k0_mult8 (i : grid0.Coords) : BitVec 32 :=
  let arg2 : BitVec 32 := BitVec.ofNat 32 (i 2).val
  let c8_i32_103 : BitVec 32 := 8#32
  let v151 : BitVec 32 := Scalar.muli arg2 c8_i32_103
  let c7_i32 : BitVec 32 := 7#32
  let v152 : BitVec 32 := Scalar.addi v151 c7_i32
  let c1_i32_104 : BitVec 32 := 1#32
  let v153 : BitVec 32 := Scalar.subi v152 c1_i32_104
  let c0_i32_105 : BitVec 32 := 0#32
  let v154 : BitVec 32 := Scalar.maxsi v153 c0_i32_105
  let c128_i32_106 : BitVec 32 := 128#32
  let v155 : BitVec 32 := Scalar.muli v154 c128_i32_106
  v155
def k0_mult9 (i : grid0.Coords) : BitVec 32 :=
  let arg2 : BitVec 32 := BitVec.ofNat 32 (i 2).val
  let c8_i32_116 : BitVec 32 := 8#32
  let v168 : BitVec 32 := Scalar.muli arg2 c8_i32_116
  let c0_i32_117 : BitVec 32 := 0#32
  let v169 : BitVec 32 := Scalar.addi v168 c0_i32_117
  let c1_i32_118 : BitVec 32 := 1#32
  let v170 : BitVec 32 := Scalar.subi v169 c1_i32_118
  let c0_i32_119 : BitVec 32 := 0#32
  let v171 : BitVec 32 := Scalar.maxsi v170 c0_i32_119
  let c128_i32_120 : BitVec 32 := 128#32
  let v172 : BitVec 32 := Scalar.muli v171 c128_i32_120
  v172
def k0_off2 (i : grid0.Coords) (c0_i32_117 : BitVec 32) : Fin 5 → Nat :=
  let c0_125 : Index := 0#32
  let c0_126 : Index := 0#32
  let c1_127 : Index := 1#32
  let arg2 : BitVec 32 := BitVec.ofNat 32 (i 2).val
  let c8_i32_116 : BitVec 32 := 8#32
  let v168 : BitVec 32 := Scalar.muli arg2 c8_i32_116
  let v169 : BitVec 32 := Scalar.addi v168 c0_i32_117
  let c1_i32_118 : BitVec 32 := 1#32
  let v170 : BitVec 32 := Scalar.subi v169 c1_i32_118
  let c0_i32_119 : BitVec 32 := 0#32
  let v171 : BitVec 32 := Scalar.maxsi v170 c0_i32_119
  let c128_i32_120 : BitVec 32 := 128#32
  let v172 : BitVec 32 := Scalar.muli v171 c128_i32_120
  let v173 : BitVec 32 := v172
  let v176 : Index := Scalar.indexCast v173
  let c0_128 : Index := 0#32
  ![0, 0, 1, v176.toNat, 0]
def k0_mult10 (i : grid0.Coords) : BitVec 32 :=
  let arg2 : BitVec 32 := BitVec.ofNat 32 (i 2).val
  let c8_i32_130 : BitVec 32 := 8#32
  let v185 : BitVec 32 := Scalar.muli arg2 c8_i32_130
  let c1_i32_131 : BitVec 32 := 1#32
  let v186 : BitVec 32 := Scalar.addi v185 c1_i32_131
  let c1_i32_132 : BitVec 32 := 1#32
  let v187 : BitVec 32 := Scalar.subi v186 c1_i32_132
  let c0_i32_133 : BitVec 32 := 0#32
  let v188 : BitVec 32 := Scalar.maxsi v187 c0_i32_133
  let c128_i32_134 : BitVec 32 := 128#32
  let v189 : BitVec 32 := Scalar.muli v188 c128_i32_134
  v189
def k0_mult11 (i : grid0.Coords) : BitVec 32 :=
  let arg2 : BitVec 32 := BitVec.ofNat 32 (i 2).val
  let c8_i32_145 : BitVec 32 := 8#32
  let v202 : BitVec 32 := Scalar.muli arg2 c8_i32_145
  let c2_i32_146 : BitVec 32 := 2#32
  let v203 : BitVec 32 := Scalar.addi v202 c2_i32_146
  let c1_i32_147 : BitVec 32 := 1#32
  let v204 : BitVec 32 := Scalar.subi v203 c1_i32_147
  let c0_i32_148 : BitVec 32 := 0#32
  let v205 : BitVec 32 := Scalar.maxsi v204 c0_i32_148
  let c128_i32_149 : BitVec 32 := 128#32
  let v206 : BitVec 32 := Scalar.muli v205 c128_i32_149
  v206
def k0_mult12 (i : grid0.Coords) : BitVec 32 :=
  let arg2 : BitVec 32 := BitVec.ofNat 32 (i 2).val
  let c8_i32_160 : BitVec 32 := 8#32
  let v219 : BitVec 32 := Scalar.muli arg2 c8_i32_160
  let c3_i32_161 : BitVec 32 := 3#32
  let v220 : BitVec 32 := Scalar.addi v219 c3_i32_161
  let c1_i32_162 : BitVec 32 := 1#32
  let v221 : BitVec 32 := Scalar.subi v220 c1_i32_162
  let c0_i32_163 : BitVec 32 := 0#32
  let v222 : BitVec 32 := Scalar.maxsi v221 c0_i32_163
  let c128_i32_164 : BitVec 32 := 128#32
  let v223 : BitVec 32 := Scalar.muli v222 c128_i32_164
  v223
def k0_mult13 (i : grid0.Coords) : BitVec 32 :=
  let arg2 : BitVec 32 := BitVec.ofNat 32 (i 2).val
  let c8_i32_175 : BitVec 32 := 8#32
  let v236 : BitVec 32 := Scalar.muli arg2 c8_i32_175
  let c4_i32_176 : BitVec 32 := 4#32
  let v237 : BitVec 32 := Scalar.addi v236 c4_i32_176
  let c1_i32_177 : BitVec 32 := 1#32
  let v238 : BitVec 32 := Scalar.subi v237 c1_i32_177
  let c0_i32_178 : BitVec 32 := 0#32
  let v239 : BitVec 32 := Scalar.maxsi v238 c0_i32_178
  let c128_i32_179 : BitVec 32 := 128#32
  let v240 : BitVec 32 := Scalar.muli v239 c128_i32_179
  v240
def k0_mult14 (i : grid0.Coords) : BitVec 32 :=
  let arg2 : BitVec 32 := BitVec.ofNat 32 (i 2).val
  let c8_i32_190 : BitVec 32 := 8#32
  let v253 : BitVec 32 := Scalar.muli arg2 c8_i32_190
  let c5_i32_191 : BitVec 32 := 5#32
  let v254 : BitVec 32 := Scalar.addi v253 c5_i32_191
  let c1_i32_192 : BitVec 32 := 1#32
  let v255 : BitVec 32 := Scalar.subi v254 c1_i32_192
  let c0_i32_193 : BitVec 32 := 0#32
  let v256 : BitVec 32 := Scalar.maxsi v255 c0_i32_193
  let c128_i32_194 : BitVec 32 := 128#32
  let v257 : BitVec 32 := Scalar.muli v256 c128_i32_194
  v257
def k0_mult15 (i : grid0.Coords) : BitVec 32 :=
  let arg2 : BitVec 32 := BitVec.ofNat 32 (i 2).val
  let c8_i32_205 : BitVec 32 := 8#32
  let v270 : BitVec 32 := Scalar.muli arg2 c8_i32_205
  let c6_i32_206 : BitVec 32 := 6#32
  let v271 : BitVec 32 := Scalar.addi v270 c6_i32_206
  let c1_i32_207 : BitVec 32 := 1#32
  let v272 : BitVec 32 := Scalar.subi v271 c1_i32_207
  let c0_i32_208 : BitVec 32 := 0#32
  let v273 : BitVec 32 := Scalar.maxsi v272 c0_i32_208
  let c128_i32_209 : BitVec 32 := 128#32
  let v274 : BitVec 32 := Scalar.muli v273 c128_i32_209
  v274
def k0_mult16 (i : grid0.Coords) : BitVec 32 :=
  let arg2 : BitVec 32 := BitVec.ofNat 32 (i 2).val
  let c8_i32_220 : BitVec 32 := 8#32
  let v287 : BitVec 32 := Scalar.muli arg2 c8_i32_220
  let c7_i32_221 : BitVec 32 := 7#32
  let v288 : BitVec 32 := Scalar.addi v287 c7_i32_221
  let c1_i32_222 : BitVec 32 := 1#32
  let v289 : BitVec 32 := Scalar.subi v288 c1_i32_222
  let c0_i32_223 : BitVec 32 := 0#32
  let v290 : BitVec 32 := Scalar.maxsi v289 c0_i32_223
  let c128_i32_224 : BitVec 32 := 128#32
  let v291 : BitVec 32 := Scalar.muli v290 c128_i32_224
  v291
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band4Ideal.lean ====
abbrev S4x3x4x1024x256 : Shape := ⟨5, ![4, 3, 4, 1024, 256]⟩
abbrev S4x4x1024x256 : Shape := ⟨4, ![4, 4, 1024, 256]⟩
abbrev S1x1x2x1024x256 : Shape := ⟨5, ![1, 1, 2, 1024, 256]⟩
abbrev S1x2x1024x256 : Shape := ⟨4, ![1, 2, 1024, 256]⟩
abbrev S256x256 : Shape := ⟨2, ![256, 256]⟩
abbrev S128x256 : Shape := ⟨2, ![128, 256]⟩
abbrev S1x1x1x128x256 : Shape := ⟨5, ![1, 1, 1, 128, 256]⟩
abbrev S1x1x1x256x256 : Shape := ⟨5, ![1, 1, 1, 256, 256]⟩
abbrev S1024x256 : Shape := ⟨2, ![1024, 256]⟩
abbrev S128x1024 : Shape := ⟨2, ![128, 1024]⟩
abbrev S128 : Shape := ⟨1, ![128]⟩
abbrev S128x1 : Shape := ⟨2, ![128, 1]⟩
abbrev S1x1x128x256 : Shape := ⟨4, ![1, 1, 128, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x3x4x1024x256, .bf16⟩
  | .hbm, ⟨1, _⟩ => ⟨S4x4x1024x256, .f32⟩
  | .hbm, ⟨2, _⟩ => ⟨S4x4x1024x256, .f32⟩
  | .local _ .vmem, ⟨0, _⟩ => ⟨S1x1x2x1024x256, .bf16⟩
  | .local _ .vmem, ⟨1, _⟩ => ⟨S1x1x2x1024x256, .bf16⟩
  | .local _ .vmem, ⟨2, _⟩ => ⟨S1x1x2x1024x256, .bf16⟩
  | .local _ .vmem, ⟨3, _⟩ => ⟨S1x1x2x1024x256, .bf16⟩
  | .local _ .vmem, ⟨4, _⟩ => ⟨S1x1x2x1024x256, .bf16⟩
  | .local _ .vmem, ⟨5, _⟩ => ⟨S1x1x2x1024x256, .bf16⟩
  | .local _ .vmem, ⟨6, _⟩ => ⟨S1x2x1024x256, .f32⟩
  | .local _ .vmem, ⟨7, _⟩ => ⟨S1x2x1024x256, .f32⟩
  | .local _ .vmem, ⟨8, _⟩ => ⟨S1x2x1024x256, .f32⟩
  | .local _ .vmem, ⟨9, _⟩ => ⟨S1x2x1024x256, .f32⟩
  | _, _ => ⟨S4x3x4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F] [Named F]

def κ : String → Option EReal := fun
  | "ln2" => some ((Real.log 2 : ℝ) : EReal)
  | "mask" => some ⊥
  | "slope0" => some (((13316085 / 33554432) * (Real.log 2)⁻¹ : ℝ) : EReal)
  | "slope1" => some (((1 / 4) * (Real.log 2)⁻¹ : ℝ) : EReal)
  | "slope2" => some (((1321123 / 8388608) * (Real.log 2)⁻¹ : ℝ) : EReal)
  | "slope3" => some (((13316085 / 134217728) * (Real.log 2)⁻¹ : ℝ) : EReal)
  | _ => none

abbrev grid0 : Pipeline.Grid := ⟨3, ![4, 2, 1], ![false, false, false]⟩

def k0_mult1 (i : grid0.Coords) : BitVec 32 :=
  let arg2 : BitVec 32 := BitVec.ofNat 32 (i 2).val
  let c8_i32 : BitVec 32 := 8#32
  let v30 : BitVec 32 := Scalar.muli arg2 c8_i32
  let c0_i32_8 : BitVec 32 := 0#32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  v34
def k0_off1 (i : grid0.Coords) (c0_i32_8 : BitVec 32) : Fin 5 → Nat :=
  let c0_15 : Index := 0#32
  let c0_16 : Index := 0#32
  let c0_17 : Index := 0#32
  let arg2 : BitVec 32 := BitVec.ofNat 32 (i 2).val
  let c8_i32 : BitVec 32 := 8#32
  let v30 : BitVec 32 := Scalar.muli arg2 c8_i32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  let v35 : BitVec 32 := v34
  let v38 : Index := Scalar.indexCast v35
  let c0_18 : Index := 0#32
  ![0, 0, 0, v38.toNat, 0]
def k0_mult2 (i : grid0.Coords) : BitVec 32 :=
  let arg2 : BitVec 32 := BitVec.ofNat 32 (i 2).val
  let c8_i32_21 : BitVec 32 := 8#32
  let v49 : BitVec 32 := Scalar.muli arg2 c8_i32_21
  let c1_i32_22 : BitVec 32 := 1#32
  let v50 : BitVec 32 := Scalar.addi v49 c1_i32_22
  let c1_i32_23 : BitVec 32 := 1#32
  let v51 : BitVec 32 := Scalar.subi v50 c1_i32_23
  let c0_i32_24 : BitVec 32 := 0#32
  let v52 : BitVec 32 := Scalar.maxsi v51 c0_i32_24
  let c128_i32_25 : BitVec 32 := 128#32
  let v53 : BitVec 32 := Scalar.muli v52 c128_i32_25
  v53
def k0_mult3 (i : grid0.Coords) : BitVec 32 :=
  let arg2 : BitVec 32 := BitVec.ofNat 32 (i 2).val
  let c8_i32_35 : BitVec 32 := 8#32
  let v66 : BitVec 32 := Scalar.muli arg2 c8_i32_35
  let c2_i32_36 : BitVec 32 := 2#32
  let v67 : BitVec 32 := Scalar.addi v66 c2_i32_36
  let c1_i32_37 : BitVec 32 := 1#32
  let v68 : BitVec 32 := Scalar.subi v67 c1_i32_37
  let c0_i32_38 : BitVec 32 := 0#32
  let v69 : BitVec 32 := Scalar.maxsi v68 c0_i32_38
  let c128_i32_39 : BitVec 32 := 128#32
  let v70 : BitVec 32 := Scalar.muli v69 c128_i32_39
  v70
def k0_mult4 (i : grid0.Coords) : BitVec 32 :=
  let arg2 : BitVec 32 := BitVec.ofNat 32 (i 2).val
  let c8_i32_49 : BitVec 32 := 8#32
  let v83 : BitVec 32 := Scalar.muli arg2 c8_i32_49
  let c3_i32_50 : BitVec 32 := 3#32
  let v84 : BitVec 32 := Scalar.addi v83 c3_i32_50
  let c1_i32_51 : BitVec 32 := 1#32
  let v85 : BitVec 32 := Scalar.subi v84 c1_i32_51
  let c0_i32_52 : BitVec 32 := 0#32
  let v86 : BitVec 32 := Scalar.maxsi v85 c0_i32_52
  let c128_i32_53 : BitVec 32 := 128#32
  let v87 : BitVec 32 := Scalar.muli v86 c128_i32_53
  v87
def k0_mult5 (i : grid0.Coords) : BitVec 32 :=
  let arg2 : BitVec 32 := BitVec.ofNat 32 (i 2).val
  let c8_i32_63 : BitVec 32 := 8#32
  let v100 : BitVec 32 := Scalar.muli arg2 c8_i32_63
  let c4_i32 : BitVec 32 := 4#32
  let v101 : BitVec 32 := Scalar.addi v100 c4_i32
  let c1_i32_64 : BitVec 32 := 1#32
  let v102 : BitVec 32 := Scalar.subi v101 c1_i32_64
  let c0_i32_65 : BitVec 32 := 0#32
  let v103 : BitVec 32 := Scalar.maxsi v102 c0_i32_65
  let c128_i32_66 : BitVec 32 := 128#32
  let v104 : BitVec 32 := Scalar.muli v103 c128_i32_66
  v104
def k0_mult6 (i : grid0.Coords) : BitVec 32 :=
  let arg2 : BitVec 32 := BitVec.ofNat 32 (i 2).val
  let c8_i32_76 : BitVec 32 := 8#32
  let v117 : BitVec 32 := Scalar.muli arg2 c8_i32_76
  let c5_i32 : BitVec 32 := 5#32
  let v118 : BitVec 32 := Scalar.addi v117 c5_i32
  let c1_i32_77 : BitVec 32 := 1#32
  let v119 : BitVec 32 := Scalar.subi v118 c1_i32_77
  let c0_i32_78 : BitVec 32 := 0#32
  let v120 : BitVec 32 := Scalar.maxsi v119 c0_i32_78
  let c128_i32_79 : BitVec 32 := 128#32
  let v121 : BitVec 32 := Scalar.muli v120 c128_i32_79
  v121
def k0_mult7 (i : grid0.Coords) : BitVec 32 :=
  let arg2 : BitVec 32 := BitVec.ofNat 32 (i 2).val
  let c8_i32_89 : BitVec 32 := 8#32
  let v134 : BitVec 32 := Scalar.muli arg2 c8_i32_89
  let c6_i32_90 : BitVec 32 := 6#32
  let v135 : BitVec 32 := Scalar.addi v134 c6_i32_90
  let c1_i32_91 : BitVec 32 := 1#32
  let v136 : BitVec 32 := Scalar.subi v135 c1_i32_91
  let c0_i32_92 : BitVec 32 := 0#32
  let v137 : BitVec 32 := Scalar.maxsi v136 c0_i32_92
  let c128_i32_93 : BitVec 32 := 128#32
  let v138 : BitVec 32 := Scalar.muli v137 c128_i32_93
  v138
def k0_mult8 (i : grid0.Coords) : BitVec 32 :=
  let arg2 : BitVec 32 := BitVec.ofNat 32 (i 2).val
  let c8_i32_103 : BitVec 32 := 8#32
  let v151 : BitVec 32 := Scalar.muli arg2 c8_i32_103
  let c7_i32 : BitVec 32 := 7#32
  let v152 : BitVec 32 := Scalar.addi v151 c7_i32
  let c1_i32_104 : BitVec 32 := 1#32
  let v153 : BitVec 32 := Scalar.subi v152 c1_i32_104
  let c0_i32_105 : BitVec 32 := 0#32
  let v154 : BitVec 32 := Scalar.maxsi v153 c0_i32_105
  let c128_i32_106 : BitVec 32 := 128#32
  let v155 : BitVec 32 := Scalar.muli v154 c128_i32_106
  v155
def k0_mult9 (i : grid0.Coords) : BitVec 32 :=
  let arg2 : BitVec 32 := BitVec.ofNat 32 (i 2).val
  let c8_i32_116 : BitVec 32 := 8#32
  let v168 : BitVec 32 := Scalar.muli arg2 c8_i32_116
  let c0_i32_117 : BitVec 32 := 0#32
  let v169 : BitVec 32 := Scalar.addi v168 c0_i32_117
  let c1_i32_118 : BitVec 32 := 1#32
  let v170 : BitVec 32 := Scalar.subi v169 c1_i32_118
  let c0_i32_119 : BitVec 32 := 0#32
  let v171 : BitVec 32 := Scalar.maxsi v170 c0_i32_119
  let c128_i32_120 : BitVec 32 := 128#32
  let v172 : BitVec 32 := Scalar.muli v171 c128_i32_120
  v172
def k0_off2 (i : grid0.Coords) (c0_i32_117 : BitVec 32) : Fin 5 → Nat :=
  let c0_125 : Index := 0#32
  let c0_126 : Index := 0#32
  let c1_127 : Index := 1#32
  let arg2 : BitVec 32 := BitVec.ofNat 32 (i 2).val
  let c8_i32_116 : BitVec 32 := 8#32
  let v168 : BitVec 32 := Scalar.muli arg2 c8_i32_116
  let v169 : BitVec 32 := Scalar.addi v168 c0_i32_117
  let c1_i32_118 : BitVec 32 := 1#32
  let v170 : BitVec 32 := Scalar.subi v169 c1_i32_118
  let c0_i32_119 : BitVec 32 := 0#32
  let v171 : BitVec 32 := Scalar.maxsi v170 c0_i32_119
  let c128_i32_120 : BitVec 32 := 128#32
  let v172 : BitVec 32 := Scalar.muli v171 c128_i32_120
  let v173 : BitVec 32 := v172
  let v176 : Index := Scalar.indexCast v173
  let c0_128 : Index := 0#32
  ![0, 0, 1, v176.toNat, 0]
def k0_mult10 (i : grid0.Coords) : BitVec 32 :=
  let arg2 : BitVec 32 := BitVec.ofNat 32 (i 2).val
  let c8_i32_130 : BitVec 32 := 8#32
  let v185 : BitVec 32 := Scalar.muli arg2 c8_i32_130
  let c1_i32_131 : BitVec 32 := 1#32
  let v186 : BitVec 32 := Scalar.addi v185 c1_i32_131
  let c1_i32_132 : BitVec 32 := 1#32
  let v187 : BitVec 32 := Scalar.subi v186 c1_i32_132
  let c0_i32_133 : BitVec 32 := 0#32
  let v188 : BitVec 32 := Scalar.maxsi v187 c0_i32_133
  let c128_i32_134 : BitVec 32 := 128#32
  let v189 : BitVec 32 := Scalar.muli v188 c128_i32_134
  v189
def k0_mult11 (i : grid0.Coords) : BitVec 32 :=
  let arg2 : BitVec 32 := BitVec.ofNat 32 (i 2).val
  let c8_i32_145 : BitVec 32 := 8#32
  let v202 : BitVec 32 := Scalar.muli arg2 c8_i32_145
  let c2_i32_146 : BitVec 32 := 2#32
  let v203 : BitVec 32 := Scalar.addi v202 c2_i32_146
  let c1_i32_147 : BitVec 32 := 1#32
  let v204 : BitVec 32 := Scalar.subi v203 c1_i32_147
  let c0_i32_148 : BitVec 32 := 0#32
  let v205 : BitVec 32 := Scalar.maxsi v204 c0_i32_148
  let c128_i32_149 : BitVec 32 := 128#32
  let v206 : BitVec 32 := Scalar.muli v205 c128_i32_149
  v206
def k0_mult12 (i : grid0.Coords) : BitVec 32 :=
  let arg2 : BitVec 32 := BitVec.ofNat 32 (i 2).val
  let c8_i32_160 : BitVec 32 := 8#32
  let v219 : BitVec 32 := Scalar.muli arg2 c8_i32_160
  let c3_i32_161 : BitVec 32 := 3#32
  let v220 : BitVec 32 := Scalar.addi v219 c3_i32_161
  let c1_i32_162 : BitVec 32 := 1#32
  let v221 : BitVec 32 := Scalar.subi v220 c1_i32_162
  let c0_i32_163 : BitVec 32 := 0#32
  let v222 : BitVec 32 := Scalar.maxsi v221 c0_i32_163
  let c128_i32_164 : BitVec 32 := 128#32
  let v223 : BitVec 32 := Scalar.muli v222 c128_i32_164
  v223
def k0_mult13 (i : grid0.Coords) : BitVec 32 :=
  let arg2 : BitVec 32 := BitVec.ofNat 32 (i 2).val
  let c8_i32_175 : BitVec 32 := 8#32
  let v236 : BitVec 32 := Scalar.muli arg2 c8_i32_175
  let c4_i32_176 : BitVec 32 := 4#32
  let v237 : BitVec 32 := Scalar.addi v236 c4_i32_176
  let c1_i32_177 : BitVec 32 := 1#32
  let v238 : BitVec 32 := Scalar.subi v237 c1_i32_177
  let c0_i32_178 : BitVec 32 := 0#32
  let v239 : BitVec 32 := Scalar.maxsi v238 c0_i32_178
  let c128_i32_179 : BitVec 32 := 128#32
  let v240 : BitVec 32 := Scalar.muli v239 c128_i32_179
  v240
def k0_mult14 (i : grid0.Coords) : BitVec 32 :=
  let arg2 : BitVec 32 := BitVec.ofNat 32 (i 2).val
  let c8_i32_190 : BitVec 32 := 8#32
  let v253 : BitVec 32 := Scalar.muli arg2 c8_i32_190
  let c5_i32_191 : BitVec 32 := 5#32
  let v254 : BitVec 32 := Scalar.addi v253 c5_i32_191
  let c1_i32_192 : BitVec 32 := 1#32
  let v255 : BitVec 32 := Scalar.subi v254 c1_i32_192
  let c0_i32_193 : BitVec 32 := 0#32
  let v256 : BitVec 32 := Scalar.maxsi v255 c0_i32_193
  let c128_i32_194 : BitVec 32 := 128#32
  let v257 : BitVec 32 := Scalar.muli v256 c128_i32_194
  v257
def k0_mult15 (i : grid0.Coords) : BitVec 32 :=
  let arg2 : BitVec 32 := BitVec.ofNat 32 (i 2).val
  let c8_i32_205 : BitVec 32 := 8#32
  let v270 : BitVec 32 := Scalar.muli arg2 c8_i32_205
  let c6_i32_206 : BitVec 32 := 6#32
  let v271 : BitVec 32 := Scalar.addi v270 c6_i32_206
  let c1_i32_207 : BitVec 32 := 1#32
  let v272 : BitVec 32 := Scalar.subi v271 c1_i32_207
  let c0_i32_208 : BitVec 32 := 0#32
  let v273 : BitVec 32 := Scalar.maxsi v272 c0_i32_208
  let c128_i32_209 : BitVec 32 := 128#32
  let v274 : BitVec 32 := Scalar.muli v273 c128_i32_209
  v274
def k0_mult16 (i : grid0.Coords) : BitVec 32 :=
  let arg2 : BitVec 32 := BitVec.ofNat 32 (i 2).val
  let c8_i32_220 : BitVec 32 := 8#32
  let v287 : BitVec 32 := Scalar.muli arg2 c8_i32_220
  let c7_i32_221 : BitVec 32 := 7#32
  let v288 : BitVec 32 := Scalar.addi v287 c7_i32_221
  let c1_i32_222 : BitVec 32 := 1#32
  let v289 : BitVec 32 := Scalar.subi v288 c1_i32_222
  let c0_i32_223 : BitVec 32 := 0#32
  let v290 : BitVec 32 := Scalar.maxsi v289 c0_i32_223
  let c128_i32_224 : BitVec 32 := 128#32
  let v291 : BitVec 32 := Scalar.muli v290 c128_i32_224
  v291
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band4RefIdeal.lean ====
abbrev S4x3x4x1024x256 : Shape := ⟨5, ![4, 3, 4, 1024, 256]⟩
abbrev S4x1x4x1024x256 : Shape := ⟨5, ![4, 1, 4, 1024, 256]⟩
abbrev S4x4x1024x256 : Shape := ⟨4, ![4, 4, 1024, 256]⟩
abbrev S4x4x1024x4x64 : Shape := ⟨5, ![4, 4, 1024, 4, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S4x4x4x1024x1024 : Shape := ⟨5, ![4, 4, 4, 1024, 1024]⟩
abbrev S1 : Shape := ⟨1, ![1]⟩
abbrev S4 : Shape := ⟨1, ![4]⟩
abbrev S4x1x1 : Shape := ⟨3, ![4, 1, 1]⟩
abbrev S1x1024x1024 : Shape := ⟨3, ![1, 1024, 1024]⟩
abbrev S4x1024x1024 : Shape := ⟨3, ![4, 1024, 1024]⟩
abbrev S1x1x4x1024x1024 : Shape := ⟨5, ![1, 1, 4, 1024, 1024]⟩
abbrev S4x4x4x1024 : Shape := ⟨4, ![4, 4, 4, 1024]⟩
abbrev S4x4x4x1024x1 : Shape := ⟨5, ![4, 4, 4, 1024, 1]⟩
abbrev S4x4x4x64x1024 : Shape := ⟨5, ![4, 4, 4, 64, 1024]⟩
abbrev S4x4x1024x4x1 : Shape := ⟨5, ![4, 4, 1024, 4, 1]⟩

abbrev nBuf : Space → Nat
  | .hbm => 85
  | .vmem => 0
  | .smem => 0
  | _ => 0

abbrev bufTy : (tb : Table) → Fin (tcTables nBuf tb) → BufTy
  | .hbm, ⟨0, _⟩ => ⟨S4x3x4x1024x256, .bf16⟩
  | .hbm, ⟨1, _⟩ => ⟨S4x1x4x1024x256, .bf16⟩
  | .hbm, ⟨2, _⟩ => ⟨S4x4x1024x256, .bf16⟩
  | .hbm, ⟨3, _⟩ => ⟨S4x4x1024x256, .f32⟩
  | .hbm, ⟨4, _⟩ => ⟨S4x4x1024x4x64, .f32⟩
  | .hbm, ⟨5, _⟩ => ⟨S4x1x4x1024x256, .bf16⟩
  | .hbm, ⟨6, _⟩ => ⟨S4x4x1024x256, .bf16⟩
  | .hbm, ⟨7, _⟩ => ⟨S4x4x1024x256, .f32⟩
  | .hbm, ⟨8, _⟩ => ⟨S4x4x1024x4x64, .f32⟩
  | .hbm, ⟨9, _⟩ => ⟨S4x1x4x1024x256, .bf16⟩
  | .hbm, ⟨10, _⟩ => ⟨S4x4x1024x256, .bf16⟩
  | .hbm, ⟨11, _⟩ => ⟨S4x4x1024x256, .f32⟩
  | .hbm, ⟨12, _⟩ => ⟨S4x4x1024x4x64, .f32⟩
  | .hbm, ⟨13, _⟩ => ⟨S1024, .i32⟩
  | .hbm, ⟨14, _⟩ => ⟨S1024x1, .i32⟩
  | .hbm, ⟨15, _⟩ => ⟨S1024, .i32⟩
  | .hbm, ⟨16, _⟩ => ⟨S1x1024, .i32⟩
  | .hbm, ⟨17, _⟩ => ⟨S1024x1024, .i32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S_, .i32⟩
  | .hbm, ⟨24, _⟩ => ⟨S1024x1024, .i32⟩
  | .hbm, ⟨25, _⟩ => ⟨S1024x1024, .i1⟩
  | .hbm, ⟨26, _⟩ => ⟨S_, .i32⟩
  | .hbm, ⟨27, _⟩ => ⟨S1024x1024, .i32⟩
  | .hbm, ⟨28, _⟩ => ⟨S1024x1024, .i1⟩
  | .hbm, ⟨29, _⟩ => ⟨S1024x1024, .i1⟩
  | .hbm, ⟨30, _⟩ => ⟨S_, .f32⟩
  | .hbm, ⟨31, _⟩ => ⟨S_, .f32⟩
  | .hbm, ⟨32, _⟩ => ⟨S4x4x1024x4x64, .f32⟩
  | .hbm, ⟨33, _⟩ => ⟨S4x4x1024x4x64, .f32⟩
  | .hbm, ⟨34, _⟩ => ⟨S4x4x4x1024x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S4, .f32⟩
  | .hbm, ⟨44, _⟩ => ⟨S4x1x1, .f32⟩
  | .hbm, ⟨45, _⟩ => ⟨S1024x1024, .f32⟩
  | .hbm, ⟨46, _⟩ => ⟨S1x1024x1024, .f32⟩
  | .hbm, ⟨47, _⟩ => ⟨S4x1024x1024, .f32⟩
  | .hbm, ⟨48, _⟩ => ⟨S4x1024x1024, .f32⟩
  | .hbm, ⟨49, _⟩ => ⟨S4x1024x1024, .f32⟩
  | .hbm, ⟨50, _⟩ => ⟨S1x1x4x1024x1024, .f32⟩
  | .hbm, ⟨51, _⟩ => ⟨S4x4x4x1024x1024, .f32⟩
  | .hbm, ⟨52, _⟩ => ⟨S4x4x4x1024x1024, .f32⟩
  | .hbm, ⟨53, _⟩ => ⟨S_, .f32⟩
  | .hbm, ⟨54, _⟩ => ⟨S_, .f32⟩
  | .hbm, ⟨55, _⟩ => ⟨S4x4x4x1024x1024, .i1⟩
  | .hbm, ⟨56, _⟩ => ⟨S4x4x4x1024x1024, .f32⟩
  | .hbm, ⟨57, _⟩ => ⟨S4x4x4x1024x1024, .f32⟩
  | .hbm, ⟨58, _⟩ => ⟨S_, .f32⟩
  | .hbm, ⟨59, _⟩ => ⟨S4x4x4x1024, .f32⟩
  | .hbm, ⟨60, _⟩ => ⟨S4x4x4x1024x1, .f32⟩
  | .hbm, ⟨61, _⟩ => ⟨S4x4x4x1024x1024, .f32⟩
  | .hbm, ⟨62, _⟩ => ⟨S4x4x4x1024x1024, .f32⟩
  | .hbm, ⟨63, _⟩ => ⟨S4x4x4x1024x1024, .f32⟩
  | .hbm, ⟨64, _⟩ => ⟨S_, .f32⟩
  | .hbm, ⟨65, _⟩ => ⟨S_, .f32⟩
  | .hbm, ⟨66, _⟩ => ⟨S4x4x4x1024x1024, .i1⟩
  | .hbm, ⟨67, _⟩ => ⟨S4x4x4x1024x1024, .f32⟩
  | .hbm, ⟨68, _⟩ => ⟨S4x4x4x1024x1024, .f32⟩
  | .hbm, ⟨69, _⟩ => ⟨S_, .f32⟩
  | .hbm, ⟨70, _⟩ => ⟨S4x4x4x1024, .f32⟩
  | .hbm, ⟨71, _⟩ => ⟨S4x4x4x1024x1, .f32⟩
  | .hbm, ⟨72, _⟩ => ⟨S_, .f32⟩
  | .hbm, ⟨73, _⟩ => ⟨S4x4x4x1024x1, .f32⟩
  | .hbm, ⟨74, _⟩ => ⟨S4x4x4x1024x1, .f32⟩
  | .hbm, ⟨75, _⟩ => ⟨S4x4x4x1024x1024, .f32⟩
  | .hbm, ⟨76, _⟩ => ⟨S4x4x4x1024x1024, .f32⟩
  | .hbm, ⟨77, _⟩ => ⟨S4x4x4x64x1024, .f32⟩
  | .hbm, ⟨78, _⟩ => ⟨S4x4x1024x4x64, .f32⟩
  | .hbm, ⟨79, _⟩ => ⟨S4x4x4x1024x1, .f32⟩
  | .hbm, ⟨80, _⟩ => ⟨S4x4x4x1024x1, .f32⟩
  | .hbm, ⟨81, _⟩ => ⟨S4x4x1024x4x1, .f32⟩
  | .hbm, ⟨82, _⟩ => ⟨S4x4x1024x4x64, .f32⟩
  | .hbm, ⟨83, _⟩ => ⟨S4x4x1024x256, .f32⟩
  | .hbm, ⟨84, _⟩ => ⟨S4x4x1024x256, .f32⟩
  | _, _ => ⟨S4x3x4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_c : Ref sig .tc := ⟨.hbm, 20, rfl⟩
abbrev main_v19 : Ref sig .tc := ⟨.hbm, 21, rfl⟩
abbrev main_v20 : Ref sig .tc := ⟨.hbm, 22, rfl⟩
abbrev main_c_0 : Ref sig .tc := ⟨.hbm, 23, rfl⟩
abbrev main_v21 : Ref sig .tc := ⟨.hbm, 24, rfl⟩
abbrev main_v22 : Ref sig .tc := ⟨.hbm, 25, rfl⟩
abbrev main_c_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_cst_3 : Ref sig .tc := ⟨.hbm, 36, rfl⟩
abbrev main_cst_4 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x512 : Shape := ⟨3, ![4, 4096, 512]⟩
abbrev S4x1x4096x256 : Shape := ⟨4, ![4, 1, 4096, 256]⟩
abbrev S4x4x1024x256 : Shape := ⟨4, ![4, 4, 1024, 256]⟩
abbrev S4x16x256x256 : Shape := ⟨4, ![4, 16, 256, 256]⟩
abbrev S1x1024 : Shape := ⟨2, ![1, 1024]⟩
abbrev S2048x1024 : Shape := ⟨2, ![2048, 1024]⟩
abbrev S512x1024 : Shape := ⟨2, ![512, 1024]⟩
abbrev S256x1024 : Shape := ⟨2, ![256, 1024]⟩
abbrev S1024x1024 : Shape := ⟨2, ![1024, 1024]⟩
abbrev S1x1024x1024 : Shape := ⟨3, ![1, 1024, 1024]⟩
abbrev S1x1024x512 : Shape := ⟨3, ![1, 1024, 512]⟩
abbrev S1x1x1024x256 : Shape := ⟨4, ![1, 1, 1024, 256]⟩
abbrev S1x4x256x256 : Shape := ⟨4, ![1, 4, 256, 256]⟩
abbrev S1x16x64x256 : Shape := ⟨4, ![1, 16, 64, 256]⟩
abbrev S2x1024x128 : Shape := ⟨3, ![2, 1024, 128]⟩
abbrev S1024 : Shape := ⟨1, ![1024]⟩
abbrev S1024x1 : Shape := ⟨2, ![1024, 1]⟩
abbrev S1x1x1024x128 : Shape := ⟨4, ![1, 1, 1024, 128]⟩
abbrev S1024x128 : Shape := ⟨2, ![1024, 128]⟩
abbrev S1x1x256x128 : Shape := ⟨4, ![1, 1, 256, 128]⟩
abbrev S256x128 : Shape := ⟨2, ![256, 128]⟩
abbrev S1x256x128 : Shape := ⟨3, ![1, 256, 128]⟩
abbrev S1x1024x128 : Shape := ⟨3, ![1, 1024, 128]⟩
abbrev S1x1x64x128 : Shape := ⟨4, ![1, 1, 64, 128]⟩
abbrev S64x128 : Shape := ⟨2, ![64, 128]⟩
abbrev S1x64x128 : Shape := ⟨3, ![1, 64, 128]⟩
abbrev S1024x256 : Shape := ⟨2, ![1024, 256]⟩
abbrev S1024x512 : Shape := ⟨2, ![1024, 512]⟩
abbrev S512x256 : Shape := ⟨2, ![512, 256]⟩
abbrev S256x256 : Shape := ⟨2, ![256, 256]⟩

abbrev nBuf : Space → Nat
  | .hbm => 20
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x1x4096x256, .f32⟩
  | .hbm, ⟨3, _⟩ => ⟨S4x4x1024x256, .f32⟩
  | .hbm, ⟨4, _⟩ => ⟨S4x16x256x256, .f32⟩
  | .hbm, ⟨5, _⟩ => ⟨S4x1x4096x256, .f32⟩
  | .hbm, ⟨6, _⟩ => ⟨S4x4x1024x256, .f32⟩
  | .hbm, ⟨7, _⟩ => ⟨S4x16x256x256, .f32⟩
  | .hbm, ⟨8, _⟩ => ⟨S1x1024, .f32⟩
  | .hbm, ⟨9, _⟩ => ⟨S2048x1024, .f32⟩
  | .hbm, ⟨10, _⟩ => ⟨S512x1024, .f32⟩
  | .hbm, ⟨11, _⟩ => ⟨S256x1024, .f32⟩
  | .hbm, ⟨12, _⟩ => ⟨S1024x1024, .f32⟩
  | .hbm, ⟨13, _⟩ => ⟨S1x1024, .f32⟩
  | .hbm, ⟨14, _⟩ => ⟨S2048x1024, .bf16⟩
  | .hbm, ⟨15, _⟩ => ⟨S512x1024, .bf16⟩
  | .hbm, ⟨16, _⟩ => ⟨S256x1024, .bf16⟩
  | .hbm, ⟨17, _⟩ => ⟨S1024x1024, .bf16⟩
  | .hbm, ⟨18, _⟩ => ⟨S4x4096x1024, .f32⟩
  | .hbm, ⟨19, _⟩ => ⟨S4x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1x1024x256, .f32⟩
  | .local _ .vmem, ⟨5, _⟩ => ⟨S1x1x1024x256, .f32⟩
  | .local _ .vmem, ⟨6, _⟩ => ⟨S1x4x256x256, .f32⟩
  | .local _ .vmem, ⟨7, _⟩ => ⟨S1x4x256x256, .f32⟩
  | .local _ .vmem, ⟨8, _⟩ => ⟨S1x16x64x256, .f32⟩
  | .local _ .vmem, ⟨9, _⟩ => ⟨S1x16x64x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x4x256x256, .f32⟩
  | .local _ .vmem, ⟨13, _⟩ => ⟨S1x4x256x256, .f32⟩
  | .local _ .vmem, ⟨14, _⟩ => ⟨S1x16x64x256, .f32⟩
  | .local _ .vmem, ⟨15, _⟩ => ⟨S1x16x64x256, .f32⟩
  | .local _ .vmem, ⟨16, _⟩ => ⟨S1x1024, .f32⟩
  | .local _ .vmem, ⟨17, _⟩ => ⟨S2048x1024, .bf16⟩
  | .local _ .vmem, ⟨18, _⟩ => ⟨S512x1024, .bf16⟩
  | .local _ .vmem, ⟨19, _⟩ => ⟨S256x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x1024, .bf16⟩
  | .local _ .vmem, ⟨25, _⟩ => ⟨S1x1024x1024, .bf16⟩
  | .local _ .vmem, ⟨26, _⟩ => ⟨S2x1024x128, .f32⟩
  | .local _ .vmem, ⟨27, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRefIdeal.lean ====
abbrev S4x4096x1024 : Shape := ⟨3, ![4, 4096, 1024]⟩
abbrev S4x4096x512 : Shape := ⟨3, ![4, 4096, 512]⟩
abbrev S4x1x4096x256 : Shape := ⟨4, ![4, 1, 4096, 256]⟩
abbrev S4x4x1024x256 : Shape := ⟨4, ![4, 4, 1024, 256]⟩
abbrev S4x16x256x256 : Shape := ⟨4, ![4, 16, 256, 256]⟩
abbrev S1x1024 : Shape := ⟨2, ![1, 1024]⟩
abbrev S2048x1024 : Shape := ⟨2, ![2048, 1024]⟩
abbrev S512x1024 : Shape := ⟨2, ![512, 1024]⟩
abbrev S256x1024 : Shape := ⟨2, ![256, 1024]⟩
abbrev S1024x1024 : Shape := ⟨2, ![1024, 1024]⟩
abbrev S4x4096x1x256 : Shape := ⟨4, ![4, 4096, 1, 256]⟩
abbrev S4x4096x256 : Shape := ⟨3, ![4, 4096, 256]⟩
abbrev S4x1024x4x256 : Shape := ⟨4, ![4, 1024, 4, 256]⟩
abbrev S4x256x16x256 : Shape := ⟨4, ![4, 256, 16, 256]⟩
abbrev S1x4x4096x256 : Shape := ⟨4, ![1, 4, 4096, 256]⟩
abbrev S3x4x4096x256 : Shape := ⟨4, ![3, 4, 4096, 256]⟩
abbrev S_ : Shape := ⟨0, ![]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1024x2048 : Shape := ⟨2, ![1024, 2048]⟩
abbrev S4x4096x2048 : Shape := ⟨3, ![4, 4096, 2048]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x1x4096x256, .f32⟩
  | .hbm, ⟨3, _⟩ => ⟨S4x4x1024x256, .f32⟩
  | .hbm, ⟨4, _⟩ => ⟨S4x16x256x256, .f32⟩
  | .hbm, ⟨5, _⟩ => ⟨S4x1x4096x256, .f32⟩
  | .hbm, ⟨6, _⟩ => ⟨S4x4x1024x256, .f32⟩
  | .hbm, ⟨7, _⟩ => ⟨S4x16x256x256, .f32⟩
  | .hbm, ⟨8, _⟩ => ⟨S1x1024, .f32⟩
  | .hbm, ⟨9, _⟩ => ⟨S2048x1024, .f32⟩
  | .hbm, ⟨10, _⟩ => ⟨S512x1024, .f32⟩
  | .hbm, ⟨11, _⟩ => ⟨S256x1024, .f32⟩
  | .hbm, ⟨12, _⟩ => ⟨S1024x1024, .f32⟩
  | .hbm, ⟨13, _⟩ => ⟨S1x1024, .f32⟩
  | .hbm, ⟨14, _⟩ => ⟨S4x4096x1x256, .f32⟩
  | .hbm, ⟨15, _⟩ => ⟨S4x4096x256, .f32⟩
  | .hbm, ⟨16, _⟩ => ⟨S4x1024x4x256, .f32⟩
  | .hbm, ⟨17, _⟩ => ⟨S4x4096x256, .f32⟩
  | .hbm, ⟨18, _⟩ => ⟨S4x256x16x256, .f32⟩
  | .hbm, ⟨19, _⟩ => ⟨S4x4096x256, .f32⟩
  | .hbm, ⟨20, _⟩ => ⟨S4x4096x1x256, .f32⟩
  | .hbm, ⟨21, _⟩ => ⟨S4x4096x256, .f32⟩
  | .hbm, ⟨22, _⟩ => ⟨S4x1024x4x256, .f32⟩
  | .hbm, ⟨23, _⟩ => ⟨S4x4096x256, .f32⟩
  | .hbm, ⟨24, _⟩ => ⟨S4x256x16x256, .f32⟩
  | .hbm, ⟨25, _⟩ => ⟨S4x4096x256, .f32⟩
  | .hbm, ⟨26, _⟩ => ⟨S1x4x4096x256, .f32⟩
  | .hbm, ⟨27, _⟩ => ⟨S1x4x4096x256, .f32⟩
  | .hbm, ⟨28, _⟩ => ⟨S1x4x4096x256, .f32⟩
  | .hbm, ⟨29, _⟩ => ⟨S3x4x4096x256, .f32⟩
  | .hbm, ⟨30, _⟩ => ⟨S_, .f32⟩
  | .hbm, ⟨31, _⟩ => ⟨S4x4096x256, .f32⟩
  | .hbm, ⟨32, _⟩ => ⟨S1x4x4096x256, .f32⟩
  | .hbm, ⟨33, _⟩ => ⟨S3x4x4096x256, .f32⟩
  | .hbm, ⟨34, _⟩ => ⟨S3x4x4096x256, .f32⟩
  | .hbm, ⟨35, _⟩ => ⟨S3x4x4096x256, .f32⟩
  | .hbm, ⟨36, _⟩ => ⟨S_, .f32⟩
  | .hbm, ⟨37, _⟩ => ⟨S4x4096x256, .f32⟩
  | .hbm, ⟨38, _⟩ => ⟨S_, .f32⟩
  | .hbm, ⟨39, _⟩ => ⟨S4x4096x256, .f32⟩
  | .hbm, ⟨40, _⟩ => ⟨S4x4096x256, .f32⟩
  | .hbm, ⟨41, _⟩ => ⟨S1x4x4096x256, .f32⟩
  | .hbm, ⟨42, _⟩ => ⟨S3x4x4096x256, .f32⟩
  | .hbm, ⟨43, _⟩ => ⟨S3x4x4096x256, .f32⟩
  | .hbm, ⟨44, _⟩ => ⟨S1x4x4096x256, .f32⟩
  | .hbm, ⟨45, _⟩ => ⟨S4x4096x256, .f32⟩
  | .hbm, ⟨46, _⟩ => ⟨S4x4096x256, .f32⟩
  | .hbm, ⟨47, _⟩ => ⟨S1x4x4096x256, .f32⟩
  | .hbm, ⟨48, _⟩ => ⟨S4x4096x256, .f32⟩
  | .hbm, ⟨49, _⟩ => ⟨S4x4096x256, .f32⟩
  | .hbm, ⟨50, _⟩ => ⟨S4x4096x256, .f32⟩
  | .hbm, ⟨51, _⟩ => ⟨S1x4x4096x256, .f32⟩
  | .hbm, ⟨52, _⟩ => ⟨S4x4096x256, .f32⟩
  | .hbm, ⟨53, _⟩ => ⟨S4x4096x256, .f32⟩
  | .hbm, ⟨54, _⟩ => ⟨S4x4096x256, .f32⟩
  | .hbm, ⟨55, _⟩ => ⟨S1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S1024x2048, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S_, .f32⟩
  | .hbm, ⟨77, _⟩ => ⟨S4x4096x2048, .f32⟩
  | .hbm, ⟨78, _⟩ => ⟨S4x4096x2048, .f32⟩
  | .hbm, ⟨79, _⟩ => ⟨S_, .f32⟩
  | .hbm, ⟨80, _⟩ => ⟨S4x4096x2048, .f32⟩
  | .hbm, ⟨81, _⟩ => ⟨S4x4096x2048, .f32⟩
  | .hbm, ⟨82, _⟩ => ⟨S4x4096x1024, .f32⟩
  | .hbm, ⟨83, _⟩ => ⟨S4x4096x512, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S1024, .f32⟩
  | .hbm, ⟨93, _⟩ => ⟨S4x4096x1024, .f32⟩
  | .hbm, ⟨94, _⟩ => ⟨S_, .f32⟩
  | .hbm, ⟨95, _⟩ => ⟨S4x4096, .f32⟩
  | .hbm, ⟨96, _⟩ => ⟨S4x4096x1, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S_, .f32⟩
  | .hbm, ⟨101, _⟩ => ⟨S4x4096x1, .f32⟩
  | .hbm, ⟨102, _⟩ => ⟨S4x4096x1, .f32⟩
  | .hbm, ⟨103, _⟩ => ⟨S4x4096x1, .f32⟩
  | .hbm, ⟨104, _⟩ => ⟨S4x4096x1024, .f32⟩
  | .hbm, ⟨105, _⟩ => ⟨S4x4096x1024, .f32⟩
  | .hbm, ⟨106, _⟩ => ⟨S1x1x1024, .f32⟩
  | .hbm, ⟨107, _⟩ => ⟨S4x4096x1024, .f32⟩
  | .hbm, ⟨108, _⟩ => ⟨S4x4096x1024, .f32⟩
  | .hbm, ⟨109, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_7 : Ref sig .tc := ⟨.hbm, 94, rfl⟩
abbrev main_v72 : Ref sig .tc := ⟨.hbm, 95, rfl⟩
abbrev main_v73 : Ref sig .tc := ⟨.hbm, 96, rfl⟩
abbrev main_cst_8 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== InProj.lean ====
abbrev S4x4096x1024 : Shape := ⟨3, ![4, 4096, 1024]⟩
abbrev S1x1024 : Shape := ⟨2, ![1, 1024]⟩
abbrev S1024x5656 : Shape := ⟨2, ![1024, 5656]⟩
abbrev S5656x1024 : Shape := ⟨2, ![5656, 1024]⟩
abbrev S768x1024 : Shape := ⟨2, ![768, 1024]⟩
abbrev S2304x1024 : Shape := ⟨2, ![2304, 1024]⟩
abbrev S_ : Shape := ⟨0, ![]⟩
abbrev S1536x1024 : Shape := ⟨2, ![1536, 1024]⟩
abbrev S128x1024 : Shape := ⟨2, ![128, 1024]⟩
abbrev S2816x1024 : Shape := ⟨2, ![2816, 1024]⟩
abbrev S24x1024 : Shape := ⟨2, ![24, 1024]⟩
abbrev S2x12x1024 : Shape := ⟨3, ![2, 12, 1024]⟩
abbrev S2x16x1024 : Shape := ⟨3, ![2, 16, 1024]⟩
abbrev S32x1024 : Shape := ⟨2, ![32, 1024]⟩
abbrev S512x1024 : Shape := ⟨2, ![512, 1024]⟩
abbrev S800x1024 : Shape := ⟨2, ![800, 1024]⟩
abbrev S4x4096x128 : Shape := ⟨3, ![4, 4096, 128]⟩
abbrev S4x2x4096x128 : Shape := ⟨4, ![4, 2, 4096, 128]⟩
abbrev S4x3x1x4096x256 : Shape := ⟨5, ![4, 3, 1, 4096, 256]⟩
abbrev S4x3x4x1024x256 : Shape := ⟨5, ![4, 3, 4, 1024, 256]⟩
abbrev S4x3x16x256x256 : Shape := ⟨5, ![4, 3, 16, 256, 256]⟩
abbrev S4x512x4096 : Shape := ⟨3, ![4, 512, 4096]⟩
abbrev S4x2x80x4096 : Shape := ⟨4, ![4, 2, 80, 4096]⟩
abbrev S4x32x4096 : Shape := ⟨3, ![4, 32, 4096]⟩
abbrev S1x1024x1024 : Shape := ⟨3, ![1, 1024, 1024]⟩
abbrev S1x1024x128 : Shape := ⟨3, ![1, 1024, 128]⟩
abbrev S1x2x1024x128 : Shape := ⟨4, ![1, 2, 1024, 128]⟩
abbrev S1x3x1x1024x256 : Shape := ⟨5, ![1, 3, 1, 1024, 256]⟩
abbrev S1x3x4x256x256 : Shape := ⟨5, ![1, 3, 4, 256, 256]⟩
abbrev S1x3x16x64x256 : Shape := ⟨5, ![1, 3, 16, 64, 256]⟩
abbrev S1x512x1024 : Shape := ⟨3, ![1, 512, 1024]⟩
abbrev S1x2x80x1024 : Shape := ⟨4, ![1, 2, 80, 1024]⟩
abbrev S1x32x1024 : Shape := ⟨3, ![1, 32, 1024]⟩
abbrev S2x1024x128 : Shape := ⟨3, ![2, 1024, 128]⟩
abbrev S1024x1024 : Shape := ⟨2, ![1024, 1024]⟩
abbrev S1024 : Shape := ⟨1, ![1024]⟩
abbrev S1024x1 : Shape := ⟨2, ![1024, 1]⟩
abbrev S256x1024 : Shape := ⟨2, ![256, 1024]⟩
abbrev S1024x256 : Shape := ⟨2, ![1024, 256]⟩
abbrev S1024x128 : Shape := ⟨2, ![1024, 128]⟩
abbrev S1024x64 : Shape := ⟨2, ![1024, 64]⟩
abbrev S1x1x1024x128 : Shape := ⟨4, ![1, 1, 1024, 128]⟩
abbrev S1024x768 : Shape := ⟨2, ![1024, 768]⟩
abbrev S1x1x1x1024x256 : Shape := ⟨5, ![1, 1, 1, 1024, 256]⟩
abbrev S1x256x128 : Shape := ⟨3, ![1, 256, 128]⟩
abbrev S256x128 : Shape := ⟨2, ![256, 128]⟩
abbrev S256x256 : Shape := ⟨2, ![256, 256]⟩
abbrev S1x1x1x256x256 : Shape := ⟨5, ![1, 1, 1, 256, 256]⟩
abbrev S1x64x128 : Shape := ⟨3, ![1, 64, 128]⟩
abbrev S64x128 : Shape := ⟨2, ![64, 128]⟩
abbrev S64x256 : Shape := ⟨2, ![64, 256]⟩
abbrev S1x1x1x64x256 : Shape := ⟨5, ![1, 1, 1, 64, 256]⟩
abbrev S16x1024 : Shape := ⟨2, ![16, 1024]⟩
abbrev S64x1024 : Shape := ⟨2, ![64, 1024]⟩
abbrev S80x1024 : Shape := ⟨2, ![80, 1024]⟩
abbrev S1x1x80x1024 : Shape := ⟨4, ![1, 1, 80, 1024]⟩

abbrev nBuf : Space → Nat
  | .hbm => 43
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1024x5656, .f32⟩
  | .hbm, ⟨3, _⟩ => ⟨S5656x1024, .f32⟩
  | .hbm, ⟨4, _⟩ => ⟨S768x1024, .f32⟩
  | .hbm, ⟨5, _⟩ => ⟨S2304x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S1536x1024, .f32⟩
  | .hbm, ⟨11, _⟩ => ⟨S2304x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S2816x1024, .f32⟩
  | .hbm, ⟨17, _⟩ => ⟨S2816x1024, .bf16⟩
  | .hbm, ⟨18, _⟩ => ⟨S24x1024, .f32⟩
  | .hbm, ⟨19, _⟩ => ⟨S2x12x1024, .f32⟩
  | .hbm, ⟨20, _⟩ => ⟨S_, .i32⟩
  | .hbm, ⟨21, _⟩ => ⟨S_, .f32⟩
  | .hbm, ⟨22, _⟩ => ⟨S2x16x1024, .f32⟩
  | .hbm, ⟨23, _⟩ => ⟨S32x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S128x1024, .f32⟩
  | .hbm, ⟨29, _⟩ => ⟨S128x1024, .f32⟩
  | .hbm, ⟨30, _⟩ => ⟨S800x1024, .f32⟩
  | .hbm, ⟨31, _⟩ => ⟨S800x1024, .bf16⟩
  | .hbm, ⟨32, _⟩ => ⟨S4x4096x128, .f32⟩
  | .hbm, ⟨33, _⟩ => ⟨S4x4096x128, .f32⟩
  | .hbm, ⟨34, _⟩ => ⟨S4x2x4096x128, .bf16⟩
  | .hbm, ⟨35, _⟩ => ⟨S4x2x4096x128, .bf16⟩
  | .hbm, ⟨36, _⟩ => ⟨S4x3x1x4096x256, .bf16⟩
  | .hbm, ⟨37, _⟩ => ⟨S4x3x4x1024x256, .bf16⟩
  | .hbm, ⟨38, _⟩ => ⟨S4x3x16x256x256, .bf16⟩
  | .hbm, ⟨39, _⟩ => ⟨S4x512x4096, .bf16⟩
  | .hbm, ⟨40, _⟩ => ⟨S4x2x80x4096, .bf16⟩
  | .hbm, ⟨41, _⟩ => ⟨S4x2x80x4096, .bf16⟩
  | .hbm, ⟨42, _⟩ => ⟨S4x32x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S2816x1024, .bf16⟩
  | .local _ .vmem, ⟨4, _⟩ => ⟨S800x1024, .bf16⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x2x1024x128, .bf16⟩
  | .local _ .vmem, ⟨10, _⟩ => ⟨S1x2x1024x128, .bf16⟩
  | .local _ .vmem, ⟨11, _⟩ => ⟨S1x2x1024x128, .bf16⟩
  | .local _ .vmem, ⟨12, _⟩ => ⟨S1x2x1024x128, .bf16⟩
  | .local _ .vmem, ⟨13, _⟩ => ⟨S1x3x1x1024x256, .bf16⟩
  | .local _ .vmem, ⟨14, _⟩ => ⟨S1x3x1x1024x256, .bf16⟩
  | .local _ .vmem, ⟨15, _⟩ => ⟨S1x3x4x256x256, .bf16⟩
  | .local _ .vmem, ⟨16, _⟩ => ⟨S1x3x4x256x256, .bf16⟩
  | .local _ .vmem, ⟨17, _⟩ => ⟨S1x3x16x64x256, .bf16⟩
  | .local _ .vmem, ⟨18, _⟩ => ⟨S1x3x16x64x256, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x2x80x1024, .bf16⟩
  | .local _ .vmem, ⟨22, _⟩ => ⟨S1x2x80x1024, .bf16⟩
  | .local _ .vmem, ⟨23, _⟩ => ⟨S1x2x80x1024, .bf16⟩
  | .local _ .vmem, ⟨24, _⟩ => ⟨S1x2x80x1024, .bf16⟩
  | .local _ .vmem, ⟨25, _⟩ => ⟨S1x32x1024, .f32⟩
  | .local _ .vmem, ⟨26, _⟩ => ⟨S1x32x1024, .f32⟩
  | .local _ .vmem, ⟨27, _⟩ => ⟨S2x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev main_v25_5 : Ref sig .tc := ⟨.hbm, 37, rfl⟩
abbrev main_v25_6 : Ref sig .tc := ⟨.hbm, 38, rfl⟩
abbrev main_v25_7 : Ref sig .tc := ⟨.hbm, 39, rfl⟩
abbrev main_v25_8 : Ref sig .tc := ⟨.hbm, 40, rfl⟩
abbrev main_v25_9 : Ref sig .tc := ⟨.hbm, 41, rfl⟩
abbrev main_v25_10 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S800x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x4x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x16x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x80x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x80x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjRefIdeal.lean ====
abbrev S4x4096x1024 : Shape := ⟨3, ![4, 4096, 1024]⟩
abbrev S1x1024 : Shape := ⟨2, ![1, 1024]⟩
abbrev S1024x5656 : Shape := ⟨2, ![1024, 5656]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3608 : Shape := ⟨2, ![1024, 3608]⟩
abbrev S4x4096x3608 : Shape := ⟨3, ![4, 4096, 3608]⟩
abbrev S4x4096x512 : Shape := ⟨3, ![4, 4096, 512]⟩
abbrev S4x4096x768 : Shape := ⟨3, ![4, 4096, 768]⟩
abbrev S4x4096x24 : Shape := ⟨3, ![4, 4096, 24]⟩
abbrev S4x4096x2304 : Shape := ⟨3, ![4, 4096, 2304]⟩
abbrev S4x4096x6x2x64 : Shape := ⟨5, ![4, 4096, 6, 2, 64]⟩
abbrev S4096 : Shape := ⟨1, ![4096]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S4096x2 : Shape := ⟨2, ![4096, 2]⟩
abbrev S4096x52 : Shape := ⟨2, ![4096, 52]⟩
abbrev S4096x64 : Shape := ⟨2, ![4096, 64]⟩
abbrev S4x2x4096x64 : Shape := ⟨4, ![4, 2, 4096, 64]⟩
abbrev S4x2x1x4096 : Shape := ⟨4, ![4, 2, 1, 4096]⟩
abbrev S4x2x15x4096 : Shape := ⟨4, ![4, 2, 15, 4096]⟩
abbrev S4x2x16x4096 : Shape := ⟨4, ![4, 2, 16, 4096]⟩
abbrev S4x4096x3x3x256 : Shape := ⟨5, ![4, 4096, 3, 3, 256]⟩
abbrev S4x4096x1x3x256 : Shape := ⟨5, ![4, 4096, 1, 3, 256]⟩
abbrev S4x4096x2x3x256 : Shape := ⟨5, ![4, 4096, 2, 3, 256]⟩
abbrev S4x4096x3x1x256 : Shape := ⟨5, ![4, 4096, 3, 1, 256]⟩
abbrev S4x4096x3x256 : Shape := ⟨4, ![4, 4096, 3, 256]⟩
abbrev S4x3x1x4096x256 : Shape := ⟨5, ![4, 3, 1, 4096, 256]⟩
abbrev S4x1024x4x3x256 : Shape := ⟨5, ![4, 1024, 4, 3, 256]⟩
abbrev S4x3x4x1024x256 : Shape := ⟨5, ![4, 3, 4, 1024, 256]⟩
abbrev S4x256x16x3x256 : Shape := ⟨5, ![4, 256, 16, 3, 256]⟩
abbrev S4x3x16x256x256 : Shape := ⟨5, ![4, 3, 16, 256, 256]⟩
abbrev S4x4096x2x12 : Shape := ⟨4, ![4, 4096, 2, 12]⟩
abbrev S4x4096x2x16 : Shape := ⟨4, ![4, 4096, 2, 16]⟩
abbrev S4x4096x32 : Shape := ⟨3, ![4, 4096, 32]⟩
abbrev S4x32x4096 : Shape := ⟨3, ![4, 32, 4096]⟩
abbrev S4x4096x1x2x64 : Shape := ⟨5, ![4, 4096, 1, 2, 64]⟩
abbrev S4x4096x2x64 : Shape := ⟨4, ![4, 4096, 2, 64]⟩
abbrev S4x4096x128 : Shape := ⟨3, ![4, 4096, 128]⟩
abbrev S4x2x4096x128 : Shape := ⟨4, ![4, 2, 4096, 128]⟩
abbrev S4x512x4096 : Shape := ⟨3, ![4, 512, 4096]⟩
abbrev S4x2x64x4096 : Shape := ⟨4, ![4, 2, 64, 4096]⟩
abbrev S4x2x80x4096 : Shape := ⟨4, ![4, 2, 80, 4096]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1024x5656, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x3608, .f32⟩
  | .hbm, ⟨21, _⟩ => ⟨S4x4096x3608, .f32⟩
  | .hbm, ⟨22, _⟩ => ⟨S4x4096x512, .f32⟩
  | .hbm, ⟨23, _⟩ => ⟨S4x4096x768, .f32⟩
  | .hbm, ⟨24, _⟩ => ⟨S4x4096x24, .f32⟩
  | .hbm, ⟨25, _⟩ => ⟨S4x4096x2304, .f32⟩
  | .hbm, ⟨26, _⟩ => ⟨S4x4096x6x2x64, .f32⟩
  | .hbm, ⟨27, _⟩ => ⟨S4096, .i32⟩
  | .hbm, ⟨28, _⟩ => ⟨S4096x1, .i32⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i32⟩
  | .hbm, ⟨35, _⟩ => ⟨S8, .i32⟩
  | .hbm, ⟨36, _⟩ => ⟨S1x8, .i32⟩
  | .hbm, ⟨37, _⟩ => ⟨S4096x8, .i32⟩
  | .hbm, ⟨38, _⟩ => ⟨S4096x8, .i32⟩
  | .hbm, ⟨39, _⟩ => ⟨S4096x8, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S4096x2, .i32⟩
  | .hbm, ⟨45, _⟩ => ⟨S4096x2, .f32⟩
  | .hbm, ⟨46, _⟩ => ⟨S4096x8, .f32⟩
  | .hbm, ⟨47, _⟩ => ⟨S_, .f32⟩
  | .hbm, ⟨48, _⟩ => ⟨S4096x52, .f32⟩
  | .hbm, ⟨49, _⟩ => ⟨S4096x64, .f32⟩
  | .hbm, ⟨50, _⟩ => ⟨S4x2x4096x64, .f32⟩
  | .hbm, ⟨51, _⟩ => ⟨S_, .f32⟩
  | .hbm, ⟨52, _⟩ => ⟨S4x2x1x4096, .f32⟩
  | .hbm, ⟨53, _⟩ => ⟨S_, .f32⟩
  | .hbm, ⟨54, _⟩ => ⟨S4x2x15x4096, .f32⟩
  | .hbm, ⟨55, _⟩ => ⟨S4x2x16x4096, .f32⟩
  | .hbm, ⟨56, _⟩ => ⟨S4x4096x3x3x256, .f32⟩
  | .hbm, ⟨57, _⟩ => ⟨S4x4096x1x3x256, .f32⟩
  | .hbm, ⟨58, _⟩ => ⟨S_, .f32⟩
  | .hbm, ⟨59, _⟩ => ⟨S4x4096x1x3x256, .f32⟩
  | .hbm, ⟨60, _⟩ => ⟨S4x4096x1x3x256, .f32⟩
  | .hbm, ⟨61, _⟩ => ⟨S4x4096x2x3x256, .f32⟩
  | .hbm, ⟨62, _⟩ => ⟨S4x4096x3x3x256, .f32⟩
  | .hbm, ⟨63, _⟩ => ⟨S4x4096x3x1x256, .f32⟩
  | .hbm, ⟨64, _⟩ => ⟨S4x4096x3x256, .f32⟩
  | .hbm, ⟨65, _⟩ => ⟨S4x4096x1x3x256, .f32⟩
  | .hbm, ⟨66, _⟩ => ⟨S4x3x1x4096x256, .f32⟩
  | .hbm, ⟨67, _⟩ => ⟨S4x3x1x4096x256, .bf16⟩
  | .hbm, ⟨68, _⟩ => ⟨S4x4096x3x1x256, .f32⟩
  | .hbm, ⟨69, _⟩ => ⟨S4x4096x3x256, .f32⟩
  | .hbm, ⟨70, _⟩ => ⟨S4x1024x4x3x256, .f32⟩
  | .hbm, ⟨71, _⟩ => ⟨S4x3x4x1024x256, .f32⟩
  | .hbm, ⟨72, _⟩ => ⟨S4x3x4x1024x256, .bf16⟩
  | .hbm, ⟨73, _⟩ => ⟨S4x4096x3x1x256, .f32⟩
  | .hbm, ⟨74, _⟩ => ⟨S4x4096x3x256, .f32⟩
  | .hbm, ⟨75, _⟩ => ⟨S4x256x16x3x256, .f32⟩
  | .hbm, ⟨76, _⟩ => ⟨S4x3x16x256x256, .f32⟩
  | .hbm, ⟨77, _⟩ => ⟨S4x3x16x256x256, .bf16⟩
  | .hbm, ⟨78, _⟩ => ⟨S4x4096x2x12, .f32⟩
  | .hbm, ⟨79, _⟩ => ⟨S_, .i32⟩
  | .hbm, ⟨80, _⟩ => ⟨S_, .f32⟩
  | .hbm, ⟨81, _⟩ => ⟨S4x4096x2x16, .f32⟩
  | .hbm, ⟨82, _⟩ => ⟨S4x4096x2x16, .f32⟩
  | .hbm, ⟨83, _⟩ => ⟨S4x4096x2x16, .f32⟩
  | .hbm, ⟨84, _⟩ => ⟨S_, .f32⟩
  | .hbm, ⟨85, _⟩ => ⟨S4x4096x2x16, .f32⟩
  | .hbm, ⟨86, _⟩ => ⟨S4x4096x2x16, .f32⟩
  | .hbm, ⟨87, _⟩ => ⟨S_, .f32⟩
  | .hbm, ⟨88, _⟩ => ⟨S4x4096x2x16, .f32⟩
  | .hbm, ⟨89, _⟩ => ⟨S4x4096x2x16, .f32⟩
  | .hbm, ⟨90, _⟩ => ⟨S4x4096x32, .f32⟩
  | .hbm, ⟨91, _⟩ => ⟨S4x32x4096, .f32⟩
  | .hbm, ⟨92, _⟩ => ⟨S4x4096x1x2x64, .f32⟩
  | .hbm, ⟨93, _⟩ => ⟨S4x4096x2x64, .f32⟩
  | .hbm, ⟨94, _⟩ => ⟨S4x4096x128, .f32⟩
  | .hbm, ⟨95, _⟩ => ⟨S4x4096x1x2x64, .f32⟩
  | .hbm, ⟨96, _⟩ => ⟨S4x4096x2x64, .f32⟩
  | .hbm, ⟨97, _⟩ => ⟨S4x4096x128, .f32⟩
  | .hbm, ⟨98, _⟩ => ⟨S4x4096x1x2x64, .f32⟩
  | .hbm, ⟨99, _⟩ => ⟨S4x4096x2x64, .f32⟩
  | .hbm, ⟨100, _⟩ => ⟨S4x2x4096x64, .f32⟩
  | .hbm, ⟨101, _⟩ => ⟨S4x2x4096x128, .f32⟩
  | .hbm, ⟨102, _⟩ => ⟨S4x2x4096x128, .bf16⟩
  | .hbm, ⟨103, _⟩ => ⟨S4x4096x1x2x64, .f32⟩
  | .hbm, ⟨104, _⟩ => ⟨S4x4096x2x64, .f32⟩
  | .hbm, ⟨105, _⟩ => ⟨S4x2x4096x64, .f32⟩
  | .hbm, ⟨106, _⟩ => ⟨S4x2x4096x128, .f32⟩
  | .hbm, ⟨107, _⟩ => ⟨S4x2x4096x128, .bf16⟩
  | .hbm, ⟨108, _⟩ => ⟨S_, .f32⟩
  | .hbm, ⟨109, _⟩ => ⟨S4x4096x512, .f32⟩
  | .hbm, ⟨110, _⟩ => ⟨S4x4096x512, .f32⟩
  | .hbm, ⟨111, _⟩ => ⟨S4x512x4096, .f32⟩
  | .hbm, ⟨112, _⟩ => ⟨S4x512x4096, .bf16⟩
  | .hbm, ⟨113, _⟩ => ⟨S4x4096x1x2x64, .f32⟩
  | .hbm, ⟨114, _⟩ => ⟨S4x4096x2x64, .f32⟩
  | .hbm, ⟨115, _⟩ => ⟨S4x2x64x4096, .f32⟩
  | .hbm, ⟨116, _⟩ => ⟨S4x2x80x4096, .f32⟩
  | .hbm, ⟨117, _⟩ => ⟨S4x2x80x4096, .bf16⟩
  | .hbm, ⟨118, _⟩ => ⟨S4x4096x1x2x64, .f32⟩
  | .hbm, ⟨119, _⟩ => ⟨S4x4096x2x64, .f32⟩
  | .hbm, ⟨120, _⟩ => ⟨S4x2x64x4096, .f32⟩
  | .hbm, ⟨121, _⟩ => ⟨S4x2x80x4096, .f32⟩
  | .hbm, ⟨122, _⟩ => ⟨S4x2x80x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_8 : Ref sig .tc := ⟨.hbm, 79, rfl⟩
abbrev main_call0_v0 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩

abbrev nD : Nat := 1
abbrev τ : Topo := Topo.v7x

variable {F : FTy → Type} [FloatOps F]
-- ==== Band1.lean ====
abbrev S4x3x1x4096x256 : Shape := ⟨5, ![4, 3, 1, 4096, 256]⟩
abbrev S4x1x4096x256 : Shape := ⟨4, ![4, 1, 4096, 256]⟩
abbrev S1x1x1x2048x256 : Shape := ⟨5, ![1, 1, 1, 2048, 256]⟩
abbrev S1x1x1x4096x256 : Shape := ⟨5, ![1, 1, 1, 4096, 256]⟩
abbrev S1x1x2048x256 : Shape := ⟨4, ![1, 1, 2048, 256]⟩
abbrev S256x256 : Shape := ⟨2, ![256, 256]⟩
abbrev S128x256 : Shape := ⟨2, ![128, 256]⟩
abbrev S1x1x1x128x256 : Shape := ⟨5, ![1, 1, 1, 128, 256]⟩
abbrev S1x1x1x256x256 : Shape := ⟨5, ![1, 1, 1, 256, 256]⟩
abbrev S1024x256 : Shape := ⟨2, ![1024, 256]⟩
abbrev S128x1024 : Shape := ⟨2, ![128, 1024]⟩
abbrev S128 : Shape := ⟨1, ![128]⟩
abbrev S128x1 : Shape := ⟨2, ![128, 1]⟩
abbrev S1x1x128x256 : Shape := ⟨4, ![1, 1, 128, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x3x1x4096x256, .bf16⟩
  | .hbm, ⟨1, _⟩ => ⟨S4x1x4096x256, .f32⟩
  | .hbm, ⟨2, _⟩ => ⟨S4x1x4096x256, .f32⟩
  | .local _ .vmem, ⟨0, _⟩ => ⟨S1x1x1x2048x256, .bf16⟩
  | .local _ .vmem, ⟨1, _⟩ => ⟨S1x1x1x2048x256, .bf16⟩
  | .local _ .vmem, ⟨2, _⟩ => ⟨S1x1x1x4096x256, .bf16⟩
  | .local _ .vmem, ⟨3, _⟩ => ⟨S1x1x1x4096x256, .bf16⟩
  | .local _ .vmem, ⟨4, _⟩ => ⟨S1x1x1x4096x256, .bf16⟩
  | .local _ .vmem, ⟨5, _⟩ => ⟨S1x1x1x4096x256, .bf16⟩
  | .local _ .vmem, ⟨6, _⟩ => ⟨S1x1x2048x256, .f32⟩
  | .local _ .vmem, ⟨7, _⟩ => ⟨S1x1x2048x256, .f32⟩
  | .local _ .vmem, ⟨8, _⟩ => ⟨S1x1x2048x256, .f32⟩
  | .local _ .vmem, ⟨9, _⟩ => ⟨S1x1x2048x256, .f32⟩
  | _, _ => ⟨S4x3x1x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 2], ![false, false, false]⟩

def k0_mult1 (i : grid0.Coords) : BitVec 32 :=
  let arg2 : BitVec 32 := BitVec.ofNat 32 (i 2).val
  let c16_i32 : BitVec 32 := 16#32
  let v30 : BitVec 32 := Scalar.muli arg2 c16_i32
  let c0_i32_8 : BitVec 32 := 0#32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  v34
def k0_off1 (i : grid0.Coords) (c0_i32_8 : BitVec 32) : Fin 5 → Nat :=
  let c0_15 : Index := 0#32
  let c0_16 : Index := 0#32
  let c0_17 : Index := 0#32
  let arg2 : BitVec 32 := BitVec.ofNat 32 (i 2).val
  let c16_i32 : BitVec 32 := 16#32
  let v30 : BitVec 32 := Scalar.muli arg2 c16_i32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  let v35 : BitVec 32 := v34
  let v38 : Index := Scalar.indexCast v35
  let c0_18 : Index := 0#32
  ![0, 0, 0, v38.toNat, 0]
def k0_mult2 (i : grid0.Coords) : BitVec 32 :=
  let arg2 : BitVec 32 := BitVec.ofNat 32 (i 2).val
  let c16_i32_21 : BitVec 32 := 16#32
  let v49 : BitVec 32 := Scalar.muli arg2 c16_i32_21
  let c1_i32_22 : BitVec 32 := 1#32
  let v50 : BitVec 32 := Scalar.addi v49 c1_i32_22
  let c1_i32_23 : BitVec 32 := 1#32
  let v51 : BitVec 32 := Scalar.subi v50 c1_i32_23
  let c0_i32_24 : BitVec 32 := 0#32
  let v52 : BitVec 32 := Scalar.maxsi v51 c0_i32_24
  let c128_i32_25 : BitVec 32 := 128#32
  let v53 : BitVec 32 := Scalar.muli v52 c128_i32_25
  v53
def k0_mult3 (i : grid0.Coords) : BitVec 32 :=
  let arg2 : BitVec 32 := BitVec.ofNat 32 (i 2).val
  let c16_i32_35 : BitVec 32 := 16#32
  let v66 : BitVec 32 := Scalar.muli arg2 c16_i32_35
  let c2_i32_36 : BitVec 32 := 2#32
  let v67 : BitVec 32 := Scalar.addi v66 c2_i32_36
  let c1_i32_37 : BitVec 32 := 1#32
  let v68 : BitVec 32 := Scalar.subi v67 c1_i32_37
  let c0_i32_38 : BitVec 32 := 0#32
  let v69 : BitVec 32 := Scalar.maxsi v68 c0_i32_38
  let c128_i32_39 : BitVec 32 := 128#32
  let v70 : BitVec 32 := Scalar.muli v69 c128_i32_39
  v70
def k0_mult4 (i : grid0.Coords) : BitVec 32 :=
  let arg2 : BitVec 32 := BitVec.ofNat 32 (i 2).val
  let c16_i32_49 : BitVec 32 := 16#32
  let v83 : BitVec 32 := Scalar.muli arg2 c16_i32_49
  let c3_i32_50 : BitVec 32 := 3#32
  let v84 : BitVec 32 := Scalar.addi v83 c3_i32_50
  let c1_i32_51 : BitVec 32 := 1#32
  let v85 : BitVec 32 := Scalar.subi v84 c1_i32_51
  let c0_i32_52 : BitVec 32 := 0#32
  let v86 : BitVec 32 := Scalar.maxsi v85 c0_i32_52
  let c128_i32_53 : BitVec 32 := 128#32
  let v87 : BitVec 32 := Scalar.muli v86 c128_i32_53
  v87
def k0_mult5 (i : grid0.Coords) : BitVec 32 :=
  let arg2 : BitVec 32 := BitVec.ofNat 32 (i 2).val
  let c16_i32_63 : BitVec 32 := 16#32
  let v100 : BitVec 32 := Scalar.muli arg2 c16_i32_63
  let c4_i32 : BitVec 32 := 4#32
  let v101 : BitVec 32 := Scalar.addi v100 c4_i32
  let c1_i32_64 : BitVec 32 := 1#32
  let v102 : BitVec 32 := Scalar.subi v101 c1_i32_64
  let c0_i32_65 : BitVec 32 := 0#32
  let v103 : BitVec 32 := Scalar.maxsi v102 c0_i32_65
  let c128_i32_66 : BitVec 32 := 128#32
  let v104 : BitVec 32 := Scalar.muli v103 c128_i32_66
  v104
def k0_mult6 (i : grid0.Coords) : BitVec 32 :=
  let arg2 : BitVec 32 := BitVec.ofNat 32 (i 2).val
  let c16_i32_76 : BitVec 32 := 16#32
  let v117 : BitVec 32 := Scalar.muli arg2 c16_i32_76
  let c5_i32 : BitVec 32 := 5#32
  let v118 : BitVec 32 := Scalar.addi v117 c5_i32
  let c1_i32_77 : BitVec 32 := 1#32
  let v119 : BitVec 32 := Scalar.subi v118 c1_i32_77
  let c0_i32_78 : BitVec 32 := 0#32
  let v120 : BitVec 32 := Scalar.maxsi v119 c0_i32_78
  let c128_i32_79 : BitVec 32 := 128#32
  let v121 : BitVec 32 := Scalar.muli v120 c128_i32_79
  v121
def k0_mult7 (i : grid0.Coords) : BitVec 32 :=
  let arg2 : BitVec 32 := BitVec.ofNat 32 (i 2).val
  let c16_i32_89 : BitVec 32 := 16#32
  let v134 : BitVec 32 := Scalar.muli arg2 c16_i32_89
  let c6_i32_90 : BitVec 32 := 6#32
  let v135 : BitVec 32 := Scalar.addi v134 c6_i32_90
  let c1_i32_91 : BitVec 32 := 1#32
  let v136 : BitVec 32 := Scalar.subi v135 c1_i32_91
  let c0_i32_92 : BitVec 32 := 0#32
  let v137 : BitVec 32 := Scalar.maxsi v136 c0_i32_92
  let c128_i32_93 : BitVec 32 := 128#32
  let v138 : BitVec 32 := Scalar.muli v137 c128_i32_93
  v138
def k0_mult8 (i : grid0.Coords) : BitVec 32 :=
  let arg2 : BitVec 32 := BitVec.ofNat 32 (i 2).val
  let c16_i32_103 : BitVec 32 := 16#32
  let v151 : BitVec 32 := Scalar.muli arg2 c16_i32_103
  let c7_i32 : BitVec 32 := 7#32
  let v152 : BitVec 32 := Scalar.addi v151 c7_i32
  let c1_i32_104 : BitVec 32 := 1#32
  let v153 : BitVec 32 := Scalar.subi v152 c1_i32_104
  let c0_i32_105 : BitVec 32 := 0#32
  let v154 : BitVec 32 := Scalar.maxsi v153 c0_i32_105
  let c128_i32_106 : BitVec 32 := 128#32
  let v155 : BitVec 32 := Scalar.muli v154 c128_i32_106
  v155
def k0_mult9 (i : grid0.Coords) : BitVec 32 :=
  let arg2 : BitVec 32 := BitVec.ofNat 32 (i 2).val
  let c16_i32_116 : BitVec 32 := 16#32
  let v168 : BitVec 32 := Scalar.muli arg2 c16_i32_116
  let c8_i32 : BitVec 32 := 8#32
  let v169 : BitVec 32 := Scalar.addi v168 c8_i32
  let c1_i32_117 : BitVec 32 := 1#32
  let v170 : BitVec 32 := Scalar.subi v169 c1_i32_117
  let c0_i32_118 : BitVec 32 := 0#32
  let v171 : BitVec 32 := Scalar.maxsi v170 c0_i32_118
  let c128_i32_119 : BitVec 32 := 128#32
  let v172 : BitVec 32 := Scalar.muli v171 c128_i32_119
  v172
def k0_mult10 (i : grid0.Coords) : BitVec 32 :=
  let arg2 : BitVec 32 := BitVec.ofNat 32 (i 2).val
  let c16_i32_129 : BitVec 32 := 16#32
  let v185 : BitVec 32 := Scalar.muli arg2 c16_i32_129
  let c9_i32 : BitVec 32 := 9#32
  let v186 : BitVec 32 := Scalar.addi v185 c9_i32
  let c1_i32_130 : BitVec 32 := 1#32
  let v187 : BitVec 32 := Scalar.subi v186 c1_i32_130
  let c0_i32_131 : BitVec 32 := 0#32
  let v188 : BitVec 32 := Scalar.maxsi v187 c0_i32_131
  let c128_i32_132 : BitVec 32 := 128#32
  let v189 : BitVec 32 := Scalar.muli v188 c128_i32_132
  v189
def k0_mult11 (i : grid0.Coords) : BitVec 32 :=
  let arg2 : BitVec 32 := BitVec.ofNat 32 (i 2).val
  let c16_i32_142 : BitVec 32 := 16#32
  let v202 : BitVec 32 := Scalar.muli arg2 c16_i32_142
  let c10_i32 : BitVec 32 := 10#32
  let v203 : BitVec 32 := Scalar.addi v202 c10_i32
  let c1_i32_143 : BitVec 32 := 1#32
  let v204 : BitVec 32 := Scalar.subi v203 c1_i32_143
  let c0_i32_144 : BitVec 32 := 0#32
  let v205 : BitVec 32 := Scalar.maxsi v204 c0_i32_144
  let c128_i32_145 : BitVec 32 := 128#32
  let v206 : BitVec 32 := Scalar.muli v205 c128_i32_145
  v206
def k0_mult12 (i : grid0.Coords) : BitVec 32 :=
  let arg2 : BitVec 32 := BitVec.ofNat 32 (i 2).val
  let c16_i32_155 : BitVec 32 := 16#32
  let v219 : BitVec 32 := Scalar.muli arg2 c16_i32_155
  let c11_i32 : BitVec 32 := 11#32
  let v220 : BitVec 32 := Scalar.addi v219 c11_i32
  let c1_i32_156 : BitVec 32 := 1#32
  let v221 : BitVec 32 := Scalar.subi v220 c1_i32_156
  let c0_i32_157 : BitVec 32 := 0#32
  let v222 : BitVec 32 := Scalar.maxsi v221 c0_i32_157
  let c128_i32_158 : BitVec 32 := 128#32
  let v223 : BitVec 32 := Scalar.muli v222 c128_i32_158
  v223
def k0_mult13 (i : grid0.Coords) : BitVec 32 :=
  let arg2 : BitVec 32 := BitVec.ofNat 32 (i 2).val
  let c16_i32_168 : BitVec 32 := 16#32
  let v236 : BitVec 32 := Scalar.muli arg2 c16_i32_168
  let c12_i32 : BitVec 32 := 12#32
  let v237 : BitVec 32 := Scalar.addi v236 c12_i32
  let c1_i32_169 : BitVec 32 := 1#32
  let v238 : BitVec 32 := Scalar.subi v237 c1_i32_169
  let c0_i32_170 : BitVec 32 := 0#32
  let v239 : BitVec 32 := Scalar.maxsi v238 c0_i32_170
  let c128_i32_171 : BitVec 32 := 128#32
  let v240 : BitVec 32 := Scalar.muli v239 c128_i32_171
  v240
def k0_mult14 (i : grid0.Coords) : BitVec 32 :=
  let arg2 : BitVec 32 := BitVec.ofNat 32 (i 2).val
  let c16_i32_181 : BitVec 32 := 16#32
  let v253 : BitVec 32 := Scalar.muli arg2 c16_i32_181
  let c13_i32 : BitVec 32 := 13#32
  let v254 : BitVec 32 := Scalar.addi v253 c13_i32
  let c1_i32_182 : BitVec 32 := 1#32
  let v255 : BitVec 32 := Scalar.subi v254 c1_i32_182
  let c0_i32_183 : BitVec 32 := 0#32
  let v256 : BitVec 32 := Scalar.maxsi v255 c0_i32_183
  let c128_i32_184 : BitVec 32 := 128#32
  let v257 : BitVec 32 := Scalar.muli v256 c128_i32_184
  v257
def k0_mult15 (i : grid0.Coords) : BitVec 32 :=
  let arg2 : BitVec 32 := BitVec.ofNat 32 (i 2).val
  let c16_i32_194 : BitVec 32 := 16#32
  let v270 : BitVec 32 := Scalar.muli arg2 c16_i32_194
  let c14_i32 : BitVec 32 := 14#32
  let v271 : BitVec 32 := Scalar.addi v270 c14_i32
  let c1_i32_195 : BitVec 32 := 1#32
  let v272 : BitVec 32 := Scalar.subi v271 c1_i32_195
  let c0_i32_196 : BitVec 32 := 0#32
  let v273 : BitVec 32 := Scalar.maxsi v272 c0_i32_196
  let c128_i32_197 : BitVec 32 := 128#32
  let v274 : BitVec 32 := Scalar.muli v273 c128_i32_197
  v274
def k0_mult16 (i : grid0.Coords) : BitVec 32 :=
  let arg2 : BitVec 32 := BitVec.ofNat 32 (i 2).val
  let c16_i32_207 : BitVec 32 := 16#32
  let v287 : BitVec 32 := Scalar.muli arg2 c16_i32_207
  let c15_i32 : BitVec 32 := 15#32
  let v288 : BitVec 32 := Scalar.addi v287 c15_i32
  let c1_i32_208 : BitVec 32 := 1#32
  let v289 : BitVec 32 := Scalar.subi v288 c1_i32_208
  let c0_i32_209 : BitVec 32 := 0#32
  let v290 : BitVec 32 := Scalar.maxsi v289 c0_i32_209
  let c128_i32_210 : BitVec 32 := 128#32
  let v291 : BitVec 32 := Scalar.muli v290 c128_i32_210
  v291
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band1Ideal.lean ====
abbrev S4x3x1x4096x256 : Shape := ⟨5, ![4, 3, 1, 4096, 256]⟩
abbrev S4x1x4096x256 : Shape := ⟨4, ![4, 1, 4096, 256]⟩
abbrev S1x1x1x2048x256 : Shape := ⟨5, ![1, 1, 1, 2048, 256]⟩
abbrev S1x1x1x4096x256 : Shape := ⟨5, ![1, 1, 1, 4096, 256]⟩
abbrev S1x1x2048x256 : Shape := ⟨4, ![1, 1, 2048, 256]⟩
abbrev S256x256 : Shape := ⟨2, ![256, 256]⟩
abbrev S128x256 : Shape := ⟨2, ![128, 256]⟩
abbrev S1x1x1x128x256 : Shape := ⟨5, ![1, 1, 1, 128, 256]⟩
abbrev S1x1x1x256x256 : Shape := ⟨5, ![1, 1, 1, 256, 256]⟩
abbrev S1024x256 : Shape := ⟨2, ![1024, 256]⟩
abbrev S128x1024 : Shape := ⟨2, ![128, 1024]⟩
abbrev S128 : Shape := ⟨1, ![128]⟩
abbrev S128x1 : Shape := ⟨2, ![128, 1]⟩
abbrev S1x1x128x256 : Shape := ⟨4, ![1, 1, 128, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x3x1x4096x256, .bf16⟩
  | .hbm, ⟨1, _⟩ => ⟨S4x1x4096x256, .f32⟩
  | .hbm, ⟨2, _⟩ => ⟨S4x1x4096x256, .f32⟩
  | .local _ .vmem, ⟨0, _⟩ => ⟨S1x1x1x2048x256, .bf16⟩
  | .local _ .vmem, ⟨1, _⟩ => ⟨S1x1x1x2048x256, .bf16⟩
  | .local _ .vmem, ⟨2, _⟩ => ⟨S1x1x1x4096x256, .bf16⟩
  | .local _ .vmem, ⟨3, _⟩ => ⟨S1x1x1x4096x256, .bf16⟩
  | .local _ .vmem, ⟨4, _⟩ => ⟨S1x1x1x4096x256, .bf16⟩
  | .local _ .vmem, ⟨5, _⟩ => ⟨S1x1x1x4096x256, .bf16⟩
  | .local _ .vmem, ⟨6, _⟩ => ⟨S1x1x2048x256, .f32⟩
  | .local _ .vmem, ⟨7, _⟩ => ⟨S1x1x2048x256, .f32⟩
  | .local _ .vmem, ⟨8, _⟩ => ⟨S1x1x2048x256, .f32⟩
  | .local _ .vmem, ⟨9, _⟩ => ⟨S1x1x2048x256, .f32⟩
  | _, _ => ⟨S4x3x1x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F] [Named F]

def κ : String → Option EReal := fun
  | "ln2" => some ((Real.log 2 : ℝ) : EReal)
  | "mask" => some ⊥
  | "slope0" => some (((1321123 / 2097152) * (Real.log 2)⁻¹ : ℝ) : EReal)
  | "slope1" => some (((13316085 / 33554432) * (Real.log 2)⁻¹ : ℝ) : EReal)
  | "slope2" => some (((1 / 4) * (Real.log 2)⁻¹ : ℝ) : EReal)
  | "slope3" => some (((1321123 / 8388608) * (Real.log 2)⁻¹ : ℝ) : EReal)
  | _ => none

abbrev grid0 : Pipeline.Grid := ⟨3, ![4, 1, 2], ![false, false, false]⟩

def k0_mult1 (i : grid0.Coords) : BitVec 32 :=
  let arg2 : BitVec 32 := BitVec.ofNat 32 (i 2).val
  let c16_i32 : BitVec 32 := 16#32
  let v30 : BitVec 32 := Scalar.muli arg2 c16_i32
  let c0_i32_8 : BitVec 32 := 0#32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  v34
def k0_off1 (i : grid0.Coords) (c0_i32_8 : BitVec 32) : Fin 5 → Nat :=
  let c0_15 : Index := 0#32
  let c0_16 : Index := 0#32
  let c0_17 : Index := 0#32
  let arg2 : BitVec 32 := BitVec.ofNat 32 (i 2).val
  let c16_i32 : BitVec 32 := 16#32
  let v30 : BitVec 32 := Scalar.muli arg2 c16_i32
  let v31 : BitVec 32 := Scalar.addi v30 c0_i32_8
  let c1_i32_9 : BitVec 32 := 1#32
  let v32 : BitVec 32 := Scalar.subi v31 c1_i32_9
  let c0_i32_10 : BitVec 32 := 0#32
  let v33 : BitVec 32 := Scalar.maxsi v32 c0_i32_10
  let c128_i32 : BitVec 32 := 128#32
  let v34 : BitVec 32 := Scalar.muli v33 c128_i32
  let v35 : BitVec 32 := v34
  let v38 : Index := Scalar.indexCast v35
  let c0_18 : Index := 0#32
  ![0, 0, 0, v38.toNat, 0]
def k0_mult2 (i : grid0.Coords) : BitVec 32 :=
  let arg2 : BitVec 32 := BitVec.ofNat 32 (i 2).val
  let c16_i32_21 : BitVec 32 := 16#32
  let v49 : BitVec 32 := Scalar.muli arg2 c16_i32_21
  let c1_i32_22 : BitVec 32 := 1#32
  let v50 : BitVec 32 := Scalar.addi v49 c1_i32_22
  let c1_i32_23 : BitVec 32 := 1#32
  let v51 : BitVec 32 := Scalar.subi v50 c1_i32_23
  let c0_i32_24 : BitVec 32 := 0#32
  let v52 : BitVec 32 := Scalar.maxsi v51 c0_i32_24
  let c128_i32_25 : BitVec 32 := 128#32
  let v53 : BitVec 32 := Scalar.muli v52 c128_i32_25
  v53
def k0_mult3 (i : grid0.Coords) : BitVec 32 :=
  let arg2 : BitVec 32 := BitVec.ofNat 32 (i 2).val
  let c16_i32_35 : BitVec 32 := 16#32
  let v66 : BitVec 32 := Scalar.muli arg2 c16_i32_35
  let c2_i32_36 : BitVec 32 := 2#32
  let v67 : BitVec 32 := Scalar.addi v66 c2_i32_36
  let c1_i32_37 : BitVec 32 := 1#32
  let v68 : BitVec 32 := Scalar.subi v67 c1_i32_37
  let c0_i32_38 : BitVec 32 := 0#32
  let v69 : BitVec 32 := Scalar.maxsi v68 c0_i32_38
  let c128_i32_39 : BitVec 32 := 128#32
  let v70 : BitVec 32 := Scalar.muli v69 c128_i32_39
  v70
def k0_mult4 (i : grid0.Coords) : BitVec 32 :=
  let arg2 : BitVec 32 := BitVec.ofNat 32 (i 2).val
  let c16_i32_49 : BitVec 32 := 16#32
  let v83 : BitVec 32 := Scalar.muli arg2 c16_i32_49
  let c3_i32_50 : BitVec 32 := 3#32
  let v84 : BitVec 32 := Scalar.addi v83 c3_i32_50
  let c1_i32_51 : BitVec 32 := 1#32
  let v85 : BitVec 32 := Scalar.subi v84 c1_i32_51
  let c0_i32_52 : BitVec 32 := 0#32
  let v86 : BitVec 32 := Scalar.maxsi v85 c0_i32_52
  let c128_i32_53 : BitVec 32 := 128#32
  let v87 : BitVec 32 := Scalar.muli v86 c128_i32_53
  v87
def k0_mult5 (i : grid0.Coords) : BitVec 32 :=
  let arg2 : BitVec 32 := BitVec.ofNat 32 (i 2).val
  let c16_i32_63 : BitVec 32 := 16#32
  let v100 : BitVec 32 := Scalar.muli arg2 c16_i32_63
  let c4_i32 : BitVec 32 := 4#32
  let v101 : BitVec 32 := Scalar.addi v100 c4_i32
  let c1_i32_64 : BitVec 32 := 1#32
  let v102 : BitVec 32 := Scalar.subi v101 c1_i32_64
  let c0_i32_65 : BitVec 32 := 0#32
  let v103 : BitVec 32 := Scalar.maxsi v102 c0_i32_65
  let c128_i32_66 : BitVec 32 := 128#32
  let v104 : BitVec 32 := Scalar.muli v103 c128_i32_66
  v104
def k0_mult6 (i : grid0.Coords) : BitVec 32 :=
  let arg2 : BitVec 32 := BitVec.ofNat 32 (i 2).val
  let c16_i32_76 : BitVec 32 := 16#32
  let v117 : BitVec 32 := Scalar.muli arg2 c16_i32_76
  let c5_i32 : BitVec 32 := 5#32
  let v118 : BitVec 32 := Scalar.addi v117 c5_i32
  let c1_i32_77 : BitVec 32 := 1#32
  let v119 : BitVec 32 := Scalar.subi v118 c1_i32_77
  let c0_i32_78 : BitVec 32 := 0#32
  let v120 : BitVec 32 := Scalar.maxsi v119 c0_i32_78
  let c128_i32_79 : BitVec 32 := 128#32
  let v121 : BitVec 32 := Scalar.muli v120 c128_i32_79
  v121
def k0_mult7 (i : grid0.Coords) : BitVec 32 :=
  let arg2 : BitVec 32 := BitVec.ofNat 32 (i 2).val
  let c16_i32_89 : BitVec 32 := 16#32
  let v134 : BitVec 32 := Scalar.muli arg2 c16_i32_89
  let c6_i32_90 : BitVec 32 := 6#32
  let v135 : BitVec 32 := Scalar.addi v134 c6_i32_90
  let c1_i32_91 : BitVec 32 := 1#32
  let v136 : BitVec 32 := Scalar.subi v135 c1_i32_91
  let c0_i32_92 : BitVec 32 := 0#32
  let v137 : BitVec 32 := Scalar.maxsi v136 c0_i32_92
  let c128_i32_93 : BitVec 32 := 128#32
  let v138 : BitVec 32 := Scalar.muli v137 c128_i32_93
  v138
def k0_mult8 (i : grid0.Coords) : BitVec 32 :=
  let arg2 : BitVec 32 := BitVec.ofNat 32 (i 2).val
  let c16_i32_103 : BitVec 32 := 16#32
  let v151 : BitVec 32 := Scalar.muli arg2 c16_i32_103
  let c7_i32 : BitVec 32 := 7#32
  let v152 : BitVec 32 := Scalar.addi v151 c7_i32
  let c1_i32_104 : BitVec 32 := 1#32
  let v153 : BitVec 32 := Scalar.subi v152 c1_i32_104
  let c0_i32_105 : BitVec 32 := 0#32
  let v154 : BitVec 32 := Scalar.maxsi v153 c0_i32_105
  let c128_i32_106 : BitVec 32 := 128#32
  let v155 : BitVec 32 := Scalar.muli v154 c128_i32_106
  v155
def k0_mult9 (i : grid0.Coords) : BitVec 32 :=
  let arg2 : BitVec 32 := BitVec.ofNat 32 (i 2).val
  let c16_i32_116 : BitVec 32 := 16#32
  let v168 : BitVec 32 := Scalar.muli arg2 c16_i32_116
  let c8_i32 : BitVec 32 := 8#32
  let v169 : BitVec 32 := Scalar.addi v168 c8_i32
  let c1_i32_117 : BitVec 32 := 1#32
  let v170 : BitVec 32 := Scalar.subi v169 c1_i32_117
  let c0_i32_118 : BitVec 32 := 0#32
  let v171 : BitVec 32 := Scalar.maxsi v170 c0_i32_118
  let c128_i32_119 : BitVec 32 := 128#32
  let v172 : BitVec 32 := Scalar.muli v171 c128_i32_119
  v172
def k0_mult10 (i : grid0.Coords) : BitVec 32 :=
  let arg2 : BitVec 32 := BitVec.ofNat 32 (i 2).val
  let c16_i32_129 : BitVec 32 := 16#32
  let v185 : BitVec 32 := Scalar.muli arg2 c16_i32_129
  let c9_i32 : BitVec 32 := 9#32
  let v186 : BitVec 32 := Scalar.addi v185 c9_i32
  let c1_i32_130 : BitVec 32 := 1#32
  let v187 : BitVec 32 := Scalar.subi v186 c1_i32_130
  let c0_i32_131 : BitVec 32 := 0#32
  let v188 : BitVec 32 := Scalar.maxsi v187 c0_i32_131
  let c128_i32_132 : BitVec 32 := 128#32
  let v189 : BitVec 32 := Scalar.muli v188 c128_i32_132
  v189
def k0_mult11 (i : grid0.Coords) : BitVec 32 :=
  let arg2 : BitVec 32 := BitVec.ofNat 32 (i 2).val
  let c16_i32_142 : BitVec 32 := 16#32
  let v202 : BitVec 32 := Scalar.muli arg2 c16_i32_142
  let c10_i32 : BitVec 32 := 10#32
  let v203 : BitVec 32 := Scalar.addi v202 c10_i32
  let c1_i32_143 : BitVec 32 := 1#32
  let v204 : BitVec 32 := Scalar.subi v203 c1_i32_143
  let c0_i32_144 : BitVec 32 := 0#32
  let v205 : BitVec 32 := Scalar.maxsi v204 c0_i32_144
  let c128_i32_145 : BitVec 32 := 128#32
  let v206 : BitVec 32 := Scalar.muli v205 c128_i32_145
  v206
def k0_mult12 (i : grid0.Coords) : BitVec 32 :=
  let arg2 : BitVec 32 := BitVec.ofNat 32 (i 2).val
  let c16_i32_155 : BitVec 32 := 16#32
  let v219 : BitVec 32 := Scalar.muli arg2 c16_i32_155
  let c11_i32 : BitVec 32 := 11#32
  let v220 : BitVec 32 := Scalar.addi v219 c11_i32
  let c1_i32_156 : BitVec 32 := 1#32
  let v221 : BitVec 32 := Scalar.subi v220 c1_i32_156
  let c0_i32_157 : BitVec 32 := 0#32
  let v222 : BitVec 32 := Scalar.maxsi v221 c0_i32_157
  let c128_i32_158 : BitVec 32 := 128#32
  let v223 : BitVec 32 := Scalar.muli v222 c128_i32_158
  v223
def k0_mult13 (i : grid0.Coords) : BitVec 32 :=
  let arg2 : BitVec 32 := BitVec.ofNat 32 (i 2).val
  let c16_i32_168 : BitVec 32 := 16#32
  let v236 : BitVec 32 := Scalar.muli arg2 c16_i32_168
  let c12_i32 : BitVec 32 := 12#32
  let v237 : BitVec 32 := Scalar.addi v236 c12_i32
  let c1_i32_169 : BitVec 32 := 1#32
  let v238 : BitVec 32 := Scalar.subi v237 c1_i32_169
  let c0_i32_170 : BitVec 32 := 0#32
  let v239 : BitVec 32 := Scalar.maxsi v238 c0_i32_170
  let c128_i32_171 : BitVec 32 := 128#32
  let v240 : BitVec 32 := Scalar.muli v239 c128_i32_171
  v240
def k0_mult14 (i : grid0.Coords) : BitVec 32 :=
  let arg2 : BitVec 32 := BitVec.ofNat 32 (i 2).val
  let c16_i32_181 : BitVec 32 := 16#32
  let v253 : BitVec 32 := Scalar.muli arg2 c16_i32_181
  let c13_i32 : BitVec 32 := 13#32
  let v254 : BitVec 32 := Scalar.addi v253 c13_i32
  let c1_i32_182 : BitVec 32 := 1#32
  let v255 : BitVec 32 := Scalar.subi v254 c1_i32_182
  let c0_i32_183 : BitVec 32 := 0#32
  let v256 : BitVec 32 := Scalar.maxsi v255 c0_i32_183
  let c128_i32_184 : BitVec 32 := 128#32
  let v257 : BitVec 32 := Scalar.muli v256 c128_i32_184
  v257
def k0_mult15 (i : grid0.Coords) : BitVec 32 :=
  let arg2 : BitVec 32 := BitVec.ofNat 32 (i 2).val
  let c16_i32_194 : BitVec 32 := 16#32
  let v270 : BitVec 32 := Scalar.muli arg2 c16_i32_194
  let c14_i32 : BitVec 32 := 14#32
  let v271 : BitVec 32 := Scalar.addi v270 c14_i32
  let c1_i32_195 : BitVec 32 := 1#32
  let v272 : BitVec 32 := Scalar.subi v271 c1_i32_195
  let c0_i32_196 : BitVec 32 := 0#32
  let v273 : BitVec 32 := Scalar.maxsi v272 c0_i32_196
  let c128_i32_197 : BitVec 32 := 128#32
  let v274 : BitVec 32 := Scalar.muli v273 c128_i32_197
  v274
def k0_mult16 (i : grid0.Coords) : BitVec 32 :=
  let arg2 : BitVec 32 := BitVec.ofNat 32 (i 2).val
  let c16_i32_207 : BitVec 32 := 16#32
  let v287 : BitVec 32 := Scalar.muli arg2 c16_i32_207
  let c15_i32 : BitVec 32 := 15#32
  let v288 : BitVec 32 := Scalar.addi v287 c15_i32
  let c1_i32_208 : BitVec 32 := 1#32
  let v289 : BitVec 32 := Scalar.subi v288 c1_i32_208
  let c0_i32_209 : BitVec 32 := 0#32
  let v290 : BitVec 32 := Scalar.maxsi v289 c0_i32_209
  let c128_i32_210 : BitVec 32 := 128#32
  let v291 : BitVec 32 := Scalar.muli v290 c128_i32_210
  v291
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band1RefIdeal.lean ====
abbrev S4x3x1x4096x256 : Shape := ⟨5, ![4, 3, 1, 4096, 256]⟩
abbrev S4x1x1x4096x256 : Shape := ⟨5, ![4, 1, 1, 4096, 256]⟩
abbrev S4x1x4096x256 : Shape := ⟨4, ![4, 1, 4096, 256]⟩
abbrev S4x1x4096x4x64 : Shape := ⟨5, ![4, 1, 4096, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x1x4x4096x4096 : Shape := ⟨5, ![4, 1, 4, 4096, 4096]⟩
abbrev S1 : Shape := ⟨1, ![1]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S1x1x4x4096x4096 : Shape := ⟨5, ![1, 1, 4, 4096, 4096]⟩
abbrev S4x1x4x4096 : Shape := ⟨4, ![4, 1, 4, 4096]⟩
abbrev S4x1x4x4096x1 : Shape := ⟨5, ![4, 1, 4, 4096, 1]⟩
abbrev S4x1x4x64x4096 : Shape := ⟨5, ![4, 1, 4, 64, 4096]⟩
abbrev S4x1x4096x4x1 : Shape := ⟨5, ![4, 1, 4096, 4, 1]⟩

abbrev nBuf : Space → Nat
  | .hbm => 85
  | .vmem => 0
  | .smem => 0
  | _ => 0

abbrev bufTy : (tb : Table) → Fin (tcTables nBuf tb) → BufTy
  | .hbm, ⟨0, _⟩ => ⟨S4x3x1x4096x256, .bf16⟩
  | .hbm, ⟨1, _⟩ => ⟨S4x1x1x4096x256, .bf16⟩
  | .hbm, ⟨2, _⟩ => ⟨S4x1x4096x256, .bf16⟩
  | .hbm, ⟨3, _⟩ => ⟨S4x1x4096x256, .f32⟩
  | .hbm, ⟨4, _⟩ => ⟨S4x1x4096x4x64, .f32⟩
  | .hbm, ⟨5, _⟩ => ⟨S4x1x1x4096x256, .bf16⟩
  | .hbm, ⟨6, _⟩ => ⟨S4x1x4096x256, .bf16⟩
  | .hbm, ⟨7, _⟩ => ⟨S4x1x4096x256, .f32⟩
  | .hbm, ⟨8, _⟩ => ⟨S4x1x4096x4x64, .f32⟩
  | .hbm, ⟨9, _⟩ => ⟨S4x1x1x4096x256, .bf16⟩
  | .hbm, ⟨10, _⟩ => ⟨S4x1x4096x256, .bf16⟩
  | .hbm, ⟨11, _⟩ => ⟨S4x1x4096x256, .f32⟩
  | .hbm, ⟨12, _⟩ => ⟨S4x1x4096x4x64, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S_, .i32⟩
  | .hbm, ⟨27, _⟩ => ⟨S4096x4096, .i32⟩
  | .hbm, ⟨28, _⟩ => ⟨S4096x4096, .i1⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4x1x4096x4x64, .f32⟩
  | .hbm, ⟨33, _⟩ => ⟨S4x1x4096x4x64, .f32⟩
  | .hbm, ⟨34, _⟩ => ⟨S4x1x4x4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S4, .f32⟩
  | .hbm, ⟨44, _⟩ => ⟨S4x1x1, .f32⟩
  | .hbm, ⟨45, _⟩ => ⟨S4096x4096, .f32⟩
  | .hbm, ⟨46, _⟩ => ⟨S1x4096x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S1x1x4x4096x4096, .f32⟩
  | .hbm, ⟨51, _⟩ => ⟨S4x1x4x4096x4096, .f32⟩
  | .hbm, ⟨52, _⟩ => ⟨S4x1x4x4096x4096, .f32⟩
  | .hbm, ⟨53, _⟩ => ⟨S_, .f32⟩
  | .hbm, ⟨54, _⟩ => ⟨S_, .f32⟩
  | .hbm, ⟨55, _⟩ => ⟨S4x1x4x4096x4096, .i1⟩
  | .hbm, ⟨56, _⟩ => ⟨S4x1x4x4096x4096, .f32⟩
  | .hbm, ⟨57, _⟩ => ⟨S4x1x4x4096x4096, .f32⟩
  | .hbm, ⟨58, _⟩ => ⟨S_, .f32⟩
  | .hbm, ⟨59, _⟩ => ⟨S4x1x4x4096, .f32⟩
  | .hbm, ⟨60, _⟩ => ⟨S4x1x4x4096x1, .f32⟩
  | .hbm, ⟨61, _⟩ => ⟨S4x1x4x4096x4096, .f32⟩
  | .hbm, ⟨62, _⟩ => ⟨S4x1x4x4096x4096, .f32⟩
  | .hbm, ⟨63, _⟩ => ⟨S4x1x4x4096x4096, .f32⟩
  | .hbm, ⟨64, _⟩ => ⟨S_, .f32⟩
  | .hbm, ⟨65, _⟩ => ⟨S_, .f32⟩
  | .hbm, ⟨66, _⟩ => ⟨S4x1x4x4096x4096, .i1⟩
  | .hbm, ⟨67, _⟩ => ⟨S4x1x4x4096x4096, .f32⟩
  | .hbm, ⟨68, _⟩ => ⟨S4x1x4x4096x4096, .f32⟩
  | .hbm, ⟨69, _⟩ => ⟨S_, .f32⟩
  | .hbm, ⟨70, _⟩ => ⟨S4x1x4x4096, .f32⟩
  | .hbm, ⟨71, _⟩ => ⟨S4x1x4x4096x1, .f32⟩
  | .hbm, ⟨72, _⟩ => ⟨S_, .f32⟩
  | .hbm, ⟨73, _⟩ => ⟨S4x1x4x4096x1, .f32⟩
  | .hbm, ⟨74, _⟩ => ⟨S4x1x4x4096x1, .f32⟩
  | .hbm, ⟨75, _⟩ => ⟨S4x1x4x4096x4096, .f32⟩
  | .hbm, ⟨76, _⟩ => ⟨S4x1x4x4096x4096, .f32⟩
  | .hbm, ⟨77, _⟩ => ⟨S4x1x4x64x4096, .f32⟩
  | .hbm, ⟨78, _⟩ => ⟨S4x1x4096x4x64, .f32⟩
  | .hbm, ⟨79, _⟩ => ⟨S4x1x4x4096x1, .f32⟩
  | .hbm, ⟨80, _⟩ => ⟨S4x1x4x4096x1, .f32⟩
  | .hbm, ⟨81, _⟩ => ⟨S4x1x4096x4x1, .f32⟩
  | .hbm, ⟨82, _⟩ => ⟨S4x1x4096x4x64, .f32⟩
  | .hbm, ⟨83, _⟩ => ⟨S4x1x4096x256, .f32⟩
  | .hbm, ⟨84, _⟩ => ⟨S4x1x4096x256, .f32⟩
  | _, _ => ⟨S4x3x1x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_c : Ref sig .tc := ⟨.hbm, 20, rfl⟩
abbrev main_v19 : Ref sig .tc := ⟨.hbm, 21, rfl⟩
abbrev main_v20 : Ref sig .tc := ⟨.hbm, 22, rfl⟩
abbrev main_c_0 : Ref sig .tc := ⟨.hbm, 23, rfl⟩
abbrev main_v21 : Ref sig .tc := ⟨.hbm, 24, rfl⟩
abbrev main_v22 : Ref sig .tc := ⟨.hbm, 25, rfl⟩
abbrev main_c_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_cst_3 : Ref sig .tc := ⟨.hbm, 36, rfl⟩
abbrev main_cst_4 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Band16.lean ====
abbrev S4x3x16x256x256 : Shape := ⟨5, ![4, 3, 16, 256, 256]⟩
abbrev S4x16x256x256 : Shape := ⟨4, ![4, 16, 256, 256]⟩
abbrev S1x1x8x256x256 : Shape := ⟨5, ![1, 1, 8, 256, 256]⟩
abbrev S1x8x256x256 : Shape := ⟨4, ![1, 8, 256, 256]⟩
abbrev S256x256 : Shape := ⟨2, ![256, 256]⟩
abbrev S128x256 : Shape := ⟨2, ![128, 256]⟩
abbrev S1x1x1x128x256 : Shape := ⟨5, ![1, 1, 1, 128, 256]⟩
abbrev S1x1x1x256x256 : Shape := ⟨5, ![1, 1, 1, 256, 256]⟩
abbrev S1024x256 : Shape := ⟨2, ![1024, 256]⟩
abbrev S128x1024 : Shape := ⟨2, ![128, 1024]⟩
abbrev S128 : Shape := ⟨1, ![128]⟩
abbrev S128x1 : Shape := ⟨2, ![128, 1]⟩
abbrev S1x1x128x256 : Shape := ⟨4, ![1, 1, 128, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x3x16x256x256, .bf16⟩
  | .hbm, ⟨1, _⟩ => ⟨S4x16x256x256, .f32⟩
  | .hbm, ⟨2, _⟩ => ⟨S4x16x256x256, .f32⟩
  | .local _ .vmem, ⟨0, _⟩ => ⟨S1x1x8x256x256, .bf16⟩
  | .local _ .vmem, ⟨1, _⟩ => ⟨S1x1x8x256x256, .bf16⟩
  | .local _ .vmem, ⟨2, _⟩ => ⟨S1x1x8x256x256, .bf16⟩
  | .local _ .vmem, ⟨3, _⟩ => ⟨S1x1x8x256x256, .bf16⟩
  | .local _ .vmem, ⟨4, _⟩ => ⟨S1x1x8x256x256, .bf16⟩
  | .local _ .vmem, ⟨5, _⟩ => ⟨S1x1x8x256x256, .bf16⟩
  | .local _ .vmem, ⟨6, _⟩ => ⟨S1x8x256x256, .f32⟩
  | .local _ .vmem, ⟨7, _⟩ => ⟨S1x8x256x256, .f32⟩
  | .local _ .vmem, ⟨8, _⟩ => ⟨S1x8x256x256, .f32⟩
  | .local _ .vmem, ⟨9, _⟩ => ⟨S1x8x256x256, .f32⟩
  | _, _ => ⟨S4x3x16x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def k0_mult1 (i : grid0.Coords) : BitVec 32 :=
  let arg2 : BitVec 32 := BitVec.ofNat 32 (i 2).val
  let c2_i32_8 : BitVec 32 := 2#32
  let v30 : BitVec 32 := Scalar.muli arg2 c2_i32_8
  let c0_i32_9 : BitVec 32 := 0#32
  let v31 : BitVec 32 := Scalar.addi v30 c0_i32_9
  let c1_i32_10 : BitVec 32 := 1#32
  let v32 : BitVec 32 := Scalar.subi v31 c1_i32_10
  let c0_i32_11 : BitVec 32 := 0#32
  let v33 : BitVec 32 := Scalar.maxsi v32 c0_i32_11
  let c128_i32 : BitVec 32 := 128#32
  let v34 : BitVec 32 := Scalar.muli v33 c128_i32
  v34
def k0_off1 (i : grid0.Coords) (c0_i32_9 : BitVec 32) : Fin 5 → Nat :=
  let c0_16 : Index := 0#32
  let c0_17 : Index := 0#32
  let c0_18 : Index := 0#32
  let arg2 : BitVec 32 := BitVec.ofNat 32 (i 2).val
  let c2_i32_8 : BitVec 32 := 2#32
  let v30 : BitVec 32 := Scalar.muli arg2 c2_i32_8
  let v31 : BitVec 32 := Scalar.addi v30 c0_i32_9
  let c1_i32_10 : BitVec 32 := 1#32
  let v32 : BitVec 32 := Scalar.subi v31 c1_i32_10
  let c0_i32_11 : BitVec 32 := 0#32
  let v33 : BitVec 32 := Scalar.maxsi v32 c0_i32_11
  let c128_i32 : BitVec 32 := 128#32
  let v34 : BitVec 32 := Scalar.muli v33 c128_i32
  let v35 : BitVec 32 := v34
  let v38 : Index := Scalar.indexCast v35
  let c0_19 : Index := 0#32
  ![0, 0, 0, v38.toNat, 0]
def k0_mult2 (i : grid0.Coords) : BitVec 32 :=
  let arg2 : BitVec 32 := BitVec.ofNat 32 (i 2).val
  let c2_i32_22 : BitVec 32 := 2#32
  let v49 : BitVec 32 := Scalar.muli arg2 c2_i32_22
  let c1_i32_23 : BitVec 32 := 1#32
  let v50 : BitVec 32 := Scalar.addi v49 c1_i32_23
  let c1_i32_24 : BitVec 32 := 1#32
  let v51 : BitVec 32 := Scalar.subi v50 c1_i32_24
  let c0_i32_25 : BitVec 32 := 0#32
  let v52 : BitVec 32 := Scalar.maxsi v51 c0_i32_25
  let c128_i32_26 : BitVec 32 := 128#32
  let v53 : BitVec 32 := Scalar.muli v52 c128_i32_26
  v53
def k0_mult3 (i : grid0.Coords) : BitVec 32 :=
  let arg2 : BitVec 32 := BitVec.ofNat 32 (i 2).val
  let c2_i32_36 : BitVec 32 := 2#32
  let v66 : BitVec 32 := Scalar.muli arg2 c2_i32_36
  let c0_i32_37 : BitVec 32 := 0#32
  let v67 : BitVec 32 := Scalar.addi v66 c0_i32_37
  let c1_i32_38 : BitVec 32 := 1#32
  let v68 : BitVec 32 := Scalar.subi v67 c1_i32_38
  let c0_i32_39 : BitVec 32 := 0#32
  let v69 : BitVec 32 := Scalar.maxsi v68 c0_i32_39
  let c128_i32_40 : BitVec 32 := 128#32
  let v70 : BitVec 32 := Scalar.muli v69 c128_i32_40
  v70
def k0_off2 (i : grid0.Coords) (c0_i32_37 : BitVec 32) : Fin 5 → Nat :=
  let c0_45 : Index := 0#32
  let c0_46 : Index := 0#32
  let c1_47 : Index := 1#32
  let arg2 : BitVec 32 := BitVec.ofNat 32 (i 2).val
  let c2_i32_36 : BitVec 32 := 2#32
  let v66 : BitVec 32 := Scalar.muli arg2 c2_i32_36
  let v67 : BitVec 32 := Scalar.addi v66 c0_i32_37
  let c1_i32_38 : BitVec 32 := 1#32
  let v68 : BitVec 32 := Scalar.subi v67 c1_i32_38
  let c0_i32_39 : BitVec 32 := 0#32
  let v69 : BitVec 32 := Scalar.maxsi v68 c0_i32_39
  let c128_i32_40 : BitVec 32 := 128#32
  let v70 : BitVec 32 := Scalar.muli v69 c128_i32_40
  let v71 : BitVec 32 := v70
  let v74 : Index := Scalar.indexCast v71
  let c0_48 : Index := 0#32
  ![0, 0, 1, v74.toNat, 0]
def k0_mult4 (i : grid0.Coords) : BitVec 32 :=
  let arg2 : BitVec 32 := BitVec.ofNat 32 (i 2).val
  let c2_i32_50 : BitVec 32 := 2#32
  let v83 : BitVec 32 := Scalar.muli arg2 c2_i32_50
  let c1_i32_51 : BitVec 32 := 1#32
  let v84 : BitVec 32 := Scalar.addi v83 c1_i32_51
  let c1_i32_52 : BitVec 32 := 1#32
  let v85 : BitVec 32 := Scalar.subi v84 c1_i32_52
  let c0_i32_53 : BitVec 32 := 0#32
  let v86 : BitVec 32 := Scalar.maxsi v85 c0_i32_53
  let c128_i32_54 : BitVec 32 := 128#32
  let v87 : BitVec 32 := Scalar.muli v86 c128_i32_54
  v87
def k0_mult5 (i : grid0.Coords) : BitVec 32 :=
  let arg2 : BitVec 32 := BitVec.ofNat 32 (i 2).val
  let c2_i32_65 : BitVec 32 := 2#32
  let v100 : BitVec 32 := Scalar.muli arg2 c2_i32_65
  let c0_i32_66 : BitVec 32 := 0#32
  let v101 : BitVec 32 := Scalar.addi v100 c0_i32_66
  let c1_i32_67 : BitVec 32 := 1#32
  let v102 : BitVec 32 := Scalar.subi v101 c1_i32_67
  let c0_i32_68 : BitVec 32 := 0#32
  let v103 : BitVec 32 := Scalar.maxsi v102 c0_i32_68
  let c128_i32_69 : BitVec 32 := 128#32
  let v104 : BitVec 32 := Scalar.muli v103 c128_i32_69
  v104
def k0_off3 (i : grid0.Coords) (c0_i32_66 : BitVec 32) : Fin 5 → Nat :=
  let c0_74 : Index := 0#32
  let c0_75 : Index := 0#32
  let c2_76 : Index := 2#32
  let arg2 : BitVec 32 := BitVec.ofNat 32 (i 2).val
  let c2_i32_65 : BitVec 32 := 2#32
  let v100 : BitVec 32 := Scalar.muli arg2 c2_i32_65
  let v101 : BitVec 32 := Scalar.addi v100 c0_i32_66
  let c1_i32_67 : BitVec 32 := 1#32
  let v102 : BitVec 32 := Scalar.subi v101 c1_i32_67
  let c0_i32_68 : BitVec 32 := 0#32
  let v103 : BitVec 32 := Scalar.maxsi v102 c0_i32_68
  let c128_i32_69 : BitVec 32 := 128#32
  let v104 : BitVec 32 := Scalar.muli v103 c128_i32_69
  let v105 : BitVec 32 := v104
  let v108 : Index := Scalar.indexCast v105
  let c0_77 : Index := 0#32
  ![0, 0, 2, v108.toNat, 0]
def k0_mult6 (i : grid0.Coords) : BitVec 32 :=
  let arg2 : BitVec 32 := BitVec.ofNat 32 (i 2).val
  let c2_i32_79 : BitVec 32 := 2#32
  let v117 : BitVec 32 := Scalar.muli arg2 c2_i32_79
  let c1_i32_80 : BitVec 32 := 1#32
  let v118 : BitVec 32 := Scalar.addi v117 c1_i32_80
  let c1_i32_81 : BitVec 32 := 1#32
  let v119 : BitVec 32 := Scalar.subi v118 c1_i32_81
  let c0_i32_82 : BitVec 32 := 0#32
  let v120 : BitVec 32 := Scalar.maxsi v119 c0_i32_82
  let c128_i32_83 : BitVec 32 := 128#32
  let v121 : BitVec 32 := Scalar.muli v120 c128_i32_83
  v121
def k0_mult7 (i : grid0.Coords) : BitVec 32 :=
  let arg2 : BitVec 32 := BitVec.ofNat 32 (i 2).val
  let c2_i32_94 : BitVec 32 := 2#32
  let v134 : BitVec 32 := Scalar.muli arg2 c2_i32_94
  let c0_i32_95 : BitVec 32 := 0#32
  let v135 : BitVec 32 := Scalar.addi v134 c0_i32_95
  let c1_i32_96 : BitVec 32 := 1#32
  let v136 : BitVec 32 := Scalar.subi v135 c1_i32_96
  let c0_i32_97 : BitVec 32 := 0#32
  let v137 : BitVec 32 := Scalar.maxsi v136 c0_i32_97
  let c128_i32_98 : BitVec 32 := 128#32
  let v138 : BitVec 32 := Scalar.muli v137 c128_i32_98
  v138
def k0_off4 (i : grid0.Coords) (c0_i32_95 : BitVec 32) : Fin 5 → Nat :=
  let c0_103 : Index := 0#32
  let c0_104 : Index := 0#32
  let c3_105 : Index := 3#32
  let arg2 : BitVec 32 := BitVec.ofNat 32 (i 2).val
  let c2_i32_94 : BitVec 32 := 2#32
  let v134 : BitVec 32 := Scalar.muli arg2 c2_i32_94
  let v135 : BitVec 32 := Scalar.addi v134 c0_i32_95
  let c1_i32_96 : BitVec 32 := 1#32
  let v136 : BitVec 32 := Scalar.subi v135 c1_i32_96
  let c0_i32_97 : BitVec 32 := 0#32
  let v137 : BitVec 32 := Scalar.maxsi v136 c0_i32_97
  let c128_i32_98 : BitVec 32 := 128#32
  let v138 : BitVec 32 := Scalar.muli v137 c128_i32_98
  let v139 : BitVec 32 := v138
  let v142 : Index := Scalar.indexCast v139
  let c0_106 : Index := 0#32
  ![0, 0, 3, v142.toNat, 0]
def k0_mult8 (i : grid0.Coords) : BitVec 32 :=
  let arg2 : BitVec 32 := BitVec.ofNat 32 (i 2).val
  let c2_i32_108 : BitVec 32 := 2#32
  let v151 : BitVec 32 := Scalar.muli arg2 c2_i32_108
  let c1_i32_109 : BitVec 32 := 1#32
  let v152 : BitVec 32 := Scalar.addi v151 c1_i32_109
  let c1_i32_110 : BitVec 32 := 1#32
  let v153 : BitVec 32 := Scalar.subi v152 c1_i32_110
  let c0_i32_111 : BitVec 32 := 0#32
  let v154 : BitVec 32 := Scalar.maxsi v153 c0_i32_111
  let c128_i32_112 : BitVec 32 := 128#32
  let v155 : BitVec 32 := Scalar.muli v154 c128_i32_112
  v155
def k0_mult9 (i : grid0.Coords) : BitVec 32 :=
  let arg2 : BitVec 32 := BitVec.ofNat 32 (i 2).val
  let c2_i32_123 : BitVec 32 := 2#32
  let v168 : BitVec 32 := Scalar.muli arg2 c2_i32_123
  let c0_i32_124 : BitVec 32 := 0#32
  let v169 : BitVec 32 := Scalar.addi v168 c0_i32_124
  let c1_i32_125 : BitVec 32 := 1#32
  let v170 : BitVec 32 := Scalar.subi v169 c1_i32_125
  let c0_i32_126 : BitVec 32 := 0#32
  let v171 : BitVec 32 := Scalar.maxsi v170 c0_i32_126
  let c128_i32_127 : BitVec 32 := 128#32
  let v172 : BitVec 32 := Scalar.muli v171 c128_i32_127
  v172
def k0_off5 (i : grid0.Coords) (c0_i32_124 : BitVec 32) : Fin 5 → Nat :=
  let c0_132 : Index := 0#32
  let c0_133 : Index := 0#32
  let c4_134 : Index := 4#32
  let arg2 : BitVec 32 := BitVec.ofNat 32 (i 2).val
  let c2_i32_123 : BitVec 32 := 2#32
  let v168 : BitVec 32 := Scalar.muli arg2 c2_i32_123
  let v169 : BitVec 32 := Scalar.addi v168 c0_i32_124
  let c1_i32_125 : BitVec 32 := 1#32
  let v170 : BitVec 32 := Scalar.subi v169 c1_i32_125
  let c0_i32_126 : BitVec 32 := 0#32
  let v171 : BitVec 32 := Scalar.maxsi v170 c0_i32_126
  let c128_i32_127 : BitVec 32 := 128#32
  let v172 : BitVec 32 := Scalar.muli v171 c128_i32_127
  let v173 : BitVec 32 := v172
  let v176 : Index := Scalar.indexCast v173
  let c0_135 : Index := 0#32
  ![0, 0, 4, v176.toNat, 0]
def k0_mult10 (i : grid0.Coords) : BitVec 32 :=
  let arg2 : BitVec 32 := BitVec.ofNat 32 (i 2).val
  let c2_i32_137 : BitVec 32 := 2#32
  let v185 : BitVec 32 := Scalar.muli arg2 c2_i32_137
  let c1_i32_138 : BitVec 32 := 1#32
  let v186 : BitVec 32 := Scalar.addi v185 c1_i32_138
  let c1_i32_139 : BitVec 32 := 1#32
  let v187 : BitVec 32 := Scalar.subi v186 c1_i32_139
  let c0_i32_140 : BitVec 32 := 0#32
  let v188 : BitVec 32 := Scalar.maxsi v187 c0_i32_140
  let c128_i32_141 : BitVec 32 := 128#32
  let v189 : BitVec 32 := Scalar.muli v188 c128_i32_141
  v189
def k0_mult11 (i : grid0.Coords) : BitVec 32 :=
  let arg2 : BitVec 32 := BitVec.ofNat 32 (i 2).val
  let c2_i32_152 : BitVec 32 := 2#32
  let v202 : BitVec 32 := Scalar.muli arg2 c2_i32_152
  let c0_i32_153 : BitVec 32 := 0#32
  let v203 : BitVec 32 := Scalar.addi v202 c0_i32_153
  let c1_i32_154 : BitVec 32 := 1#32
  let v204 : BitVec 32 := Scalar.subi v203 c1_i32_154
  let c0_i32_155 : BitVec 32 := 0#32
  let v205 : BitVec 32 := Scalar.maxsi v204 c0_i32_155
  let c128_i32_156 : BitVec 32 := 128#32
  let v206 : BitVec 32 := Scalar.muli v205 c128_i32_156
  v206
def k0_off6 (i : grid0.Coords) (c0_i32_153 : BitVec 32) : Fin 5 → Nat :=
  let c0_161 : Index := 0#32
  let c0_162 : Index := 0#32
  let c5_163 : Index := 5#32
  let arg2 : BitVec 32 := BitVec.ofNat 32 (i 2).val
  let c2_i32_152 : BitVec 32 := 2#32
  let v202 : BitVec 32 := Scalar.muli arg2 c2_i32_152
  let v203 : BitVec 32 := Scalar.addi v202 c0_i32_153
  let c1_i32_154 : BitVec 32 := 1#32
  let v204 : BitVec 32 := Scalar.subi v203 c1_i32_154
  let c0_i32_155 : BitVec 32 := 0#32
  let v205 : BitVec 32 := Scalar.maxsi v204 c0_i32_155
  let c128_i32_156 : BitVec 32 := 128#32
  let v206 : BitVec 32 := Scalar.muli v205 c128_i32_156
  let v207 : BitVec 32 := v206
  let v210 : Index := Scalar.indexCast v207
  let c0_164 : Index := 0#32
  ![0, 0, 5, v210.toNat, 0]
def k0_mult12 (i : grid0.Coords) : BitVec 32 :=
  let arg2 : BitVec 32 := BitVec.ofNat 32 (i 2).val
  let c2_i32_166 : BitVec 32 := 2#32
  let v219 : BitVec 32 := Scalar.muli arg2 c2_i32_166
  let c1_i32_167 : BitVec 32 := 1#32
  let v220 : BitVec 32 := Scalar.addi v219 c1_i32_167
  let c1_i32_168 : BitVec 32 := 1#32
  let v221 : BitVec 32 := Scalar.subi v220 c1_i32_168
  let c0_i32_169 : BitVec 32 := 0#32
  let v222 : BitVec 32 := Scalar.maxsi v221 c0_i32_169
  let c128_i32_170 : BitVec 32 := 128#32
  let v223 : BitVec 32 := Scalar.muli v222 c128_i32_170
  v223
def k0_mult13 (i : grid0.Coords) : BitVec 32 :=
  let arg2 : BitVec 32 := BitVec.ofNat 32 (i 2).val
  let c2_i32_181 : BitVec 32 := 2#32
  let v236 : BitVec 32 := Scalar.muli arg2 c2_i32_181
  let c0_i32_182 : BitVec 32 := 0#32
  let v237 : BitVec 32 := Scalar.addi v236 c0_i32_182
  let c1_i32_183 : BitVec 32 := 1#32
  let v238 : BitVec 32 := Scalar.subi v237 c1_i32_183
  let c0_i32_184 : BitVec 32 := 0#32
  let v239 : BitVec 32 := Scalar.maxsi v238 c0_i32_184
  let c128_i32_185 : BitVec 32 := 128#32
  let v240 : BitVec 32 := Scalar.muli v239 c128_i32_185
  v240
def k0_off7 (i : grid0.Coords) (c0_i32_182 : BitVec 32) : Fin 5 → Nat :=
  let c0_190 : Index := 0#32
  let c0_191 : Index := 0#32
  let c6_192 : Index := 6#32
  let arg2 : BitVec 32 := BitVec.ofNat 32 (i 2).val
  let c2_i32_181 : BitVec 32 := 2#32
  let v236 : BitVec 32 := Scalar.muli arg2 c2_i32_181
  let v237 : BitVec 32 := Scalar.addi v236 c0_i32_182
  let c1_i32_183 : BitVec 32 := 1#32
  let v238 : BitVec 32 := Scalar.subi v237 c1_i32_183
  let c0_i32_184 : BitVec 32 := 0#32
  let v239 : BitVec 32 := Scalar.maxsi v238 c0_i32_184
  let c128_i32_185 : BitVec 32 := 128#32
  let v240 : BitVec 32 := Scalar.muli v239 c128_i32_185
  let v241 : BitVec 32 := v240
  let v244 : Index := Scalar.indexCast v241
  let c0_193 : Index := 0#32
  ![0, 0, 6, v244.toNat, 0]
def k0_mult14 (i : grid0.Coords) : BitVec 32 :=
  let arg2 : BitVec 32 := BitVec.ofNat 32 (i 2).val
  let c2_i32_195 : BitVec 32 := 2#32
  let v253 : BitVec 32 := Scalar.muli arg2 c2_i32_195
  let c1_i32_196 : BitVec 32 := 1#32
  let v254 : BitVec 32 := Scalar.addi v253 c1_i32_196
  let c1_i32_197 : BitVec 32 := 1#32
  let v255 : BitVec 32 := Scalar.subi v254 c1_i32_197
  let c0_i32_198 : BitVec 32 := 0#32
  let v256 : BitVec 32 := Scalar.maxsi v255 c0_i32_198
  let c128_i32_199 : BitVec 32 := 128#32
  let v257 : BitVec 32 := Scalar.muli v256 c128_i32_199
  v257
def k0_mult15 (i : grid0.Coords) : BitVec 32 :=
  let arg2 : BitVec 32 := BitVec.ofNat 32 (i 2).val
  let c2_i32_210 : BitVec 32 := 2#32
  let v270 : BitVec 32 := Scalar.muli arg2 c2_i32_210
  let c0_i32_211 : BitVec 32 := 0#32
  let v271 : BitVec 32 := Scalar.addi v270 c0_i32_211
  let c1_i32_212 : BitVec 32 := 1#32
  let v272 : BitVec 32 := Scalar.subi v271 c1_i32_212
  let c0_i32_213 : BitVec 32 := 0#32
  let v273 : BitVec 32 := Scalar.maxsi v272 c0_i32_213
  let c128_i32_214 : BitVec 32 := 128#32
  let v274 : BitVec 32 := Scalar.muli v273 c128_i32_214
  v274
def k0_off8 (i : grid0.Coords) (c0_i32_211 : BitVec 32) : Fin 5 → Nat :=
  let c0_219 : Index := 0#32
  let c0_220 : Index := 0#32
  let c7_221 : Index := 7#32
  let arg2 : BitVec 32 := BitVec.ofNat 32 (i 2).val
  let c2_i32_210 : BitVec 32 := 2#32
  let v270 : BitVec 32 := Scalar.muli arg2 c2_i32_210
  let v271 : BitVec 32 := Scalar.addi v270 c0_i32_211
  let c1_i32_212 : BitVec 32 := 1#32
  let v272 : BitVec 32 := Scalar.subi v271 c1_i32_212
  let c0_i32_213 : BitVec 32 := 0#32
  let v273 : BitVec 32 := Scalar.maxsi v272 c0_i32_213
  let c128_i32_214 : BitVec 32 := 128#32
  let v274 : BitVec 32 := Scalar.muli v273 c128_i32_214
  let v275 : BitVec 32 := v274
  let v278 : Index := Scalar.indexCast v275
  let c0_222 : Index := 0#32
  ![0, 0, 7, v278.toNat, 0]
def k0_mult16 (i : grid0.Coords) : BitVec 32 :=
  let arg2 : BitVec 32 := BitVec.ofNat 32 (i 2).val
  let c2_i32_224 : BitVec 32 := 2#32
  let v287 : BitVec 32 := Scalar.muli arg2 c2_i32_224
  let c1_i32_225 : BitVec 32 := 1#32
  let v288 : BitVec 32 := Scalar.addi v287 c1_i32_225
  let c1_i32_226 : BitVec 32 := 1#32
  let v289 : BitVec 32 := Scalar.subi v288 c1_i32_226
  let c0_i32_227 : BitVec 32 := 0#32
  let v290 : BitVec 32 := Scalar.maxsi v289 c0_i32_227
  let c128_i32_228 : BitVec 32 := 128#32
  let v291 : BitVec 32 := Scalar.muli v290 c128_i32_228
  v291
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band16Ideal.lean ====
variable {F : FTy → Type} [FloatOps F] [Named F]
def κ : String → Option EReal := fun
  | "ln2" => some ((Real.log 2 : ℝ) : EReal)
  | "mask" => some ⊥
  | "slope0" => some (((1 / 4) * (Real.log 2)⁻¹ : ℝ) : EReal)
  | "slope1" => some (((1321123 / 8388608) * (Real.log 2)⁻¹ : ℝ) : EReal)
  | "slope2" => some (((13316085 / 134217728) * (Real.log 2)⁻¹ : ℝ) : EReal)
  | "slope3" => some (((1 / 16) * (Real.log 2)⁻¹ : ℝ) : EReal)
  | _ => none
-- ==== Band16RefIdeal.lean ====
abbrev S4x3x16x256x256 : Shape := ⟨5, ![4, 3, 16, 256, 256]⟩
abbrev S4x1x16x256x256 : Shape := ⟨5, ![4, 1, 16, 256, 256]⟩
abbrev S4x16x256x256 : Shape := ⟨4, ![4, 16, 256, 256]⟩
abbrev S4x16x256x4x64 : Shape := ⟨5, ![4, 16, 256, 4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x16x4x256x256 : Shape := ⟨5, ![4, 16, 4, 256, 256]⟩
abbrev S1 : Shape := ⟨1, ![1]⟩
abbrev S4 : Shape := ⟨1, ![4]⟩
abbrev S4x1x1 : Shape := ⟨3, ![4, 1, 1]⟩
abbrev S1x256x256 : Shape := ⟨3, ![1, 256, 256]⟩
abbrev S4x256x256 : Shape := ⟨3, ![4, 256, 256]⟩
abbrev S1x1x4x256x256 : Shape := ⟨5, ![1, 1, 4, 256, 256]⟩
abbrev S4x16x4x256 : Shape := ⟨4, ![4, 16, 4, 256]⟩
abbrev S4x16x4x256x1 : Shape := ⟨5, ![4, 16, 4, 256, 1]⟩
abbrev S4x16x4x64x256 : Shape := ⟨5, ![4, 16, 4, 64, 256]⟩
abbrev S4x16x256x4x1 : Shape := ⟨5, ![4, 16, 256, 4, 1]⟩

abbrev nBuf : Space → Nat
  | .hbm => 85
  | .vmem => 0
  | .smem => 0
  | _ => 0

abbrev bufTy : (tb : Table) → Fin (tcTables nBuf tb) → BufTy
  | .hbm, ⟨0, _⟩ => ⟨S4x3x16x256x256, .bf16⟩
  | .hbm, ⟨1, _⟩ => ⟨S4x1x16x256x256, .bf16⟩
  | .hbm, ⟨2, _⟩ => ⟨S4x16x256x256, .bf16⟩
  | .hbm, ⟨3, _⟩ => ⟨S4x16x256x256, .f32⟩
  | .hbm, ⟨4, _⟩ => ⟨S4x16x256x4x64, .f32⟩
  | .hbm, ⟨5, _⟩ => ⟨S4x1x16x256x256, .bf16⟩
  | .hbm, ⟨6, _⟩ => ⟨S4x16x256x256, .bf16⟩
  | .hbm, ⟨7, _⟩ => ⟨S4x16x256x256, .f32⟩
  | .hbm, ⟨8, _⟩ => ⟨S4x16x256x4x64, .f32⟩
  | .hbm, ⟨9, _⟩ => ⟨S4x1x16x256x256, .bf16⟩
  | .hbm, ⟨10, _⟩ => ⟨S4x16x256x256, .bf16⟩
  | .hbm, ⟨11, _⟩ => ⟨S4x16x256x256, .f32⟩
  | .hbm, ⟨12, _⟩ => ⟨S4x16x256x4x64, .f32⟩
  | .hbm, ⟨13, _⟩ => ⟨S256, .i32⟩
  | .hbm, ⟨14, _⟩ => ⟨S256x1, .i32⟩
  | .hbm, ⟨15, _⟩ => ⟨S256, .i32⟩
  | .hbm, ⟨16, _⟩ => ⟨S1x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S256x256, .i32⟩
  | .hbm, ⟨28, _⟩ => ⟨S256x256, .i1⟩
  | .hbm, ⟨29, _⟩ => ⟨S256x256, .i1⟩
  | .hbm, ⟨30, _⟩ => ⟨S_, .f32⟩
  | .hbm, ⟨31, _⟩ => ⟨S_, .f32⟩
  | .hbm, ⟨32, _⟩ => ⟨S4x16x256x4x64, .f32⟩
  | .hbm, ⟨33, _⟩ => ⟨S4x16x256x4x64, .f32⟩
  | .hbm, ⟨34, _⟩ => ⟨S4x16x4x256x256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S4, .f32⟩
  | .hbm, ⟨44, _⟩ => ⟨S4x1x1, .f32⟩
  | .hbm, ⟨45, _⟩ => ⟨S256x256, .f32⟩
  | .hbm, ⟨46, _⟩ => ⟨S1x256x256, .f32⟩
  | .hbm, ⟨47, _⟩ => ⟨S4x256x256, .f32⟩
  | .hbm, ⟨48, _⟩ => ⟨S4x256x256, .f32⟩
  | .hbm, ⟨49, _⟩ => ⟨S4x256x256, .f32⟩
  | .hbm, ⟨50, _⟩ => ⟨S1x1x4x256x256, .f32⟩
  | .hbm, ⟨51, _⟩ => ⟨S4x16x4x256x256, .f32⟩
  | .hbm, ⟨52, _⟩ => ⟨S4x16x4x256x256, .f32⟩
  | .hbm, ⟨53, _⟩ => ⟨S_, .f32⟩
  | .hbm, ⟨54, _⟩ => ⟨S_, .f32⟩
  | .hbm, ⟨55, _⟩ => ⟨S4x16x4x256x256, .i1⟩
  | .hbm, ⟨56, _⟩ => ⟨S4x16x4x256x256, .f32⟩
  | .hbm, ⟨57, _⟩ => ⟨S4x16x4x256x256, .f32⟩
  | .hbm, ⟨58, _⟩ => ⟨S_, .f32⟩
  | .hbm, ⟨59, _⟩ => ⟨S4x16x4x256, .f32⟩
  | .hbm, ⟨60, _⟩ => ⟨S4x16x4x256x1, .f32⟩
  | .hbm, ⟨61, _⟩ => ⟨S4x16x4x256x256, .f32⟩
  | .hbm, ⟨62, _⟩ => ⟨S4x16x4x256x256, .f32⟩
  | .hbm, ⟨63, _⟩ => ⟨S4x16x4x256x256, .f32⟩
  | .hbm, ⟨64, _⟩ => ⟨S_, .f32⟩
  | .hbm, ⟨65, _⟩ => ⟨S_, .f32⟩
  | .hbm, ⟨66, _⟩ => ⟨S4x16x4x256x256, .i1⟩
  | .hbm, ⟨67, _⟩ => ⟨S4x16x4x256x256, .f32⟩
  | .hbm, ⟨68, _⟩ => ⟨S4x16x4x256x256, .f32⟩
  | .hbm, ⟨69, _⟩ => ⟨S_, .f32⟩
  | .hbm, ⟨70, _⟩ => ⟨S4x16x4x256, .f32⟩
  | .hbm, ⟨71, _⟩ => ⟨S4x16x4x256x1, .f32⟩
  | .hbm, ⟨72, _⟩ => ⟨S_, .f32⟩
  | .hbm, ⟨73, _⟩ => ⟨S4x16x4x256x1, .f32⟩
  | .hbm, ⟨74, _⟩ => ⟨S4x16x4x256x1, .f32⟩
  | .hbm, ⟨75, _⟩ => ⟨S4x16x4x256x256, .f32⟩
  | .hbm, ⟨76, _⟩ => ⟨S4x16x4x256x256, .f32⟩
  | .hbm, ⟨77, _⟩ => ⟨S4x16x4x64x256, .f32⟩
  | .hbm, ⟨78, _⟩ => ⟨S4x16x256x4x64, .f32⟩
  | .hbm, ⟨79, _⟩ => ⟨S4x16x4x256x1, .f32⟩
  | .hbm, ⟨80, _⟩ => ⟨S4x16x4x256x1, .f32⟩
  | .hbm, ⟨81, _⟩ => ⟨S4x16x256x4x1, .f32⟩
  | .hbm, ⟨82, _⟩ => ⟨S4x16x256x4x64, .f32⟩
  | .hbm, ⟨83, _⟩ => ⟨S4x16x256x256, .f32⟩
  | .hbm, ⟨84, _⟩ => ⟨S4x16x256x256, .f32⟩
  | _, _ => ⟨S4x3x16x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_c : Ref sig .tc := ⟨.hbm, 20, rfl⟩
abbrev main_v19 : Ref sig .tc := ⟨.hbm, 21, rfl⟩
abbrev main_v20 : Ref sig .tc := ⟨.hbm, 22, rfl⟩
abbrev main_c_0 : Ref sig .tc := ⟨.hbm, 23, rfl⟩
abbrev main_v21 : Ref sig .tc := ⟨.hbm, 24, rfl⟩
abbrev main_v22 : Ref sig .tc := ⟨.hbm, 25, rfl⟩
abbrev main_c_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_cst_3 : Ref sig .tc := ⟨.hbm, 36, rfl⟩
abbrev main_cst_4 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Proof.BandMath.lean ====
/- A softmax over the unmasked keys, taken in base e over all keys, and taken in base two over a window of the keys that
holds every unmasked one: the weights and the normaliser agree. -/
module
public import Idealize.ShloMosaic.PureOps.Ideal
@[expose] public section
noncomputable section
namespace Cert.BandMath
open Idealize.ShloMosaic

/-- The natural logarithm of two. -/
abbrev L : EReal := ((Real.log 2 : ℝ) : EReal)

/-- The logarithm of two is positive. -/
theorem L_pos : 0 < Real.log 2 := Real.log_pos (by norm_num)

/-- A real factor that is not negative distributes over a sum. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A real factor that is not negative distributes over a difference. -/
theorem coe_mul_sub {a : ℝ} (ha : 0 ≤ a) (x y : EReal) : (a : EReal) * (x - y) = a * x - a * y := by
  rw [sub_eq_add_neg, coe_mul_add ha, sub_eq_add_neg, mul_neg]

/-- A real factor that is not negative distributes over a finite sum. -/
theorem coe_mul_sum {ι : Type} (s : Finset ι) {a : ℝ} (ha : 0 ≤ a) (f : ι → EReal) :
    (a : EReal) * ∑ x ∈ s, f x = ∑ x ∈ s, (a : EReal) * f x := by
  classical
  induction s using Finset.induction_on with
  | empty => simp
  | insert x s hx ih => rw [Finset.sum_insert hx, Finset.sum_insert hx, coe_mul_add ha, ih]

/-- Two to a power is e to the power times the logarithm of two. -/
theorem exp2_eq (x : EReal) : Ideal.exp2 x = Ideal.exp (L * x) := by
  induction x with
  | bot => rw [EReal.coe_mul_bot_of_pos L_pos]; rfl
  | top => rw [EReal.coe_mul_top_of_pos L_pos]; rfl
  | coe r =>
    rw [← EReal.coe_mul, Ideal.exp_coe, Ideal.exp2_coe]
    congr 1
    exact Real.rpow_def_of_pos (by norm_num) r

/-- The largest of scaled values is the largest value, scaled. -/
theorem mul_sup {ι : Type} (s : Finset ι) {a : ℝ} (ha : 0 < a) (f : ι → EReal) :
    (a : EReal) * s.fold max ⊥ f = s.fold max ⊥ (fun x => (a : EReal) * f x) := by
  classical
  have hm : Monotone (fun x : EReal => (a : EReal) * x) := fun x y h =>
    mul_le_mul_of_nonneg_left h (by exact_mod_cast ha.le)
  induction s using Finset.induction_on with
  | empty => simp [EReal.coe_mul_bot_of_pos ha]
  | insert x s hx ih => rw [Finset.fold_insert hx, Finset.fold_insert hx, ← ih]; exact hm.map_max

/-- The largest of some values is at least each. -/
theorem le_sup {ι : Type} (s : Finset ι) (f : ι → EReal) (x : ι) (hx : x ∈ s) : f x ≤ s.fold max ⊥ f :=
  Finset.le_sup (f := f) hx

/-- A maximum over all keys of values that are ⊥ outside a window is the maximum over the window. -/
theorem sup_window {J K : Type} [Fintype J] [Fintype K] (emb : K → J) (f : J → EReal) (g : K → EReal)
    (h0 : ∀ j, j ∉ Set.range emb → f j = ⊥) (h1 : ∀ k, g k = f (emb k)) :
    Finset.univ.fold max ⊥ f = Finset.univ.fold max ⊥ g := by
  apply le_antisymm
  · show Finset.univ.sup f ≤ _
    refine Finset.sup_le fun j _ => ?_
    by_cases hj : j ∈ Set.range emb
    · obtain ⟨k, rfl⟩ := hj
      rw [← h1]; exact le_sup _ _ _ (Finset.mem_univ _)
    · rw [h0 j hj]; exact bot_le
  · show Finset.univ.sup g ≤ _
    refine Finset.sup_le fun k _ => ?_
    rw [h1]; exact le_sup _ _ _ (Finset.mem_univ _)

/-- A finite sum of reals is the real sum. -/
theorem coe_sum {ι : Type} (s : Finset ι) (f : ι → ℝ) : ((∑ x ∈ s, f x : ℝ) : EReal) = ∑ x ∈ s, (f x : EReal) := by
  classical
  induction s using Finset.induction_on with
  | empty => simp
  | insert x s hx ih => rw [Finset.sum_insert hx, Finset.sum_insert hx, EReal.coe_add, ih]

section
variable {K : Type} [Fintype K] (t : K → EReal)

/-- The weights in base two. -/
def w (k : K) : EReal := Ideal.exp2 (t k - Finset.univ.fold max ⊥ t)

/-- Each weight is a real number that is not negative. -/
theorem w_real (k : K) : ∃ r : ℝ, 0 ≤ r ∧ w t k = (r : EReal) := by
  unfold w
  have h := le_sup Finset.univ t k (Finset.mem_univ k)
  generalize Finset.univ.fold max ⊥ t = M at h ⊢
  generalize t k = x at h ⊢
  induction M with
  | bot => rw [le_bot_iff.mp h]; exact ⟨0, le_rfl, by simp⟩
  | top => rw [EReal.sub_top]; exact ⟨0, le_rfl, by simp⟩
  | coe m =>
    induction x with
    | bot => rw [EReal.bot_sub]; exact ⟨0, le_rfl, by simp⟩
    | top => exact absurd h (by simp)
    | coe r => rw [← EReal.coe_sub, Ideal.exp2_coe]; exact ⟨_, Real.rpow_nonneg (by norm_num) _, rfl⟩

/-- The weights are all zero, or their sum is a real number of at least one. -/
theorem den_cases [Nonempty K] : (∀ k, w t k = 0) ∨ ∃ r : ℝ, 1 ≤ r ∧ ∑ k, w t k = (r : EReal) := by
  classical
  obtain ⟨k₀, -, hk⟩ := Finset.exists_mem_eq_sup Finset.univ Finset.univ_nonempty t
  have hM : Finset.univ.fold max ⊥ t = t k₀ := hk
  by_cases hb : t k₀ = ⊥
  · left; intro k; unfold w; rw [hM, hb]
    have := le_sup Finset.univ t k (Finset.mem_univ k)
    rw [hM, hb, le_bot_iff] at this
    rw [this]; simp
  by_cases ht : t k₀ = ⊤
  · left; intro k; unfold w; rw [hM, ht, EReal.sub_top]; simp
  · right
    choose r hr hw using w_real t
    refine ⟨∑ k, r k, ?_, ?_⟩
    · have h1 : r k₀ = 1 := by
        have := hw k₀
        unfold w at this
        rw [hM, EReal.sub_self ht hb] at this
        have h2 : Ideal.exp2 0 = ((1 : ℝ) : EReal) := by
          have := Ideal.exp2_coe (r := 0); simpa using this
        rw [h2] at this
        exact (EReal.coe_eq_coe_iff.mp this).symm
      rw [← h1]
      exact Finset.single_le_sum (fun i _ => hr i) (Finset.mem_univ _)
    · rw [coe_sum]; exact Finset.sum_congr rfl fun k _ => hw k
end

section
variable {J K : Type} [Fintype J] [Fintype K] [Nonempty K] (emb : K → J) (inj : Function.Injective emb)
  (mask : J → Prop) [DecidablePred mask] (s : J → EReal) (t : K → EReal)
  (h0 : ∀ j, j ∉ Set.range emb → ¬ mask j)
  (h1 : ∀ k, mask (emb k) → s (emb k) = L * t k) (h2 : ∀ k, ¬ mask (emb k) → t k = ⊥)

/-- The masked scores. -/
def ms (j : J) : EReal := if mask j then s j else ⊥

/-- The largest unmasked score. -/
def mx : EReal := Finset.univ.fold max ⊥ (ms mask s)

/-- The weights in base e, zero where masked. -/
def p (j : J) : EReal := if mask j then Ideal.exp (ms mask s j - mx mask s) else 0

include h0 h1 h2 in
/-- The largest score in base e is the largest score in base two times the logarithm of two. -/
theorem mx_eq : mx mask s = Finset.univ.fold max ⊥ t * L := by
  rw [mul_comm, mul_sup _ L_pos]
  refine sup_window emb _ _ (fun j hj => if_neg (h0 j hj)) fun k => ?_
  by_cases hm : mask (emb k)
  · rw [ms, if_pos hm, h1 k hm]
  · rw [ms, if_neg hm, h2 k hm, EReal.coe_mul_bot_of_pos L_pos]

include h0 h1 h2 in
/-- The weights agree at the keys of the window. -/
theorem p_eq (k : K) : p mask s (emb k) = w t k := by
  unfold p w
  by_cases hm : mask (emb k)
  · rw [if_pos hm, mx_eq emb mask s t h0 h1 h2, ms, if_pos hm, h1 k hm, exp2_eq, coe_mul_sub L_pos.le, mul_comm _ L]
  · rw [if_neg hm, h2 k hm, EReal.bot_sub]; rfl

include h0 in
/-- Outside the window the weights are zero. -/
theorem p_out (j : J) (hj : j ∉ Set.range emb) : p mask s j = 0 := if_neg (h0 j hj)

include inj h0 h1 h2 in
/-- The normalisers agree. -/
theorem den_eq : ∑ j, p mask s j = ∑ k, w t k :=
  (Fintype.sum_of_injective emb inj _ _ (p_out emb mask s h0) fun k => (p_eq emb mask s t h0 h1 h2 k).symm).symm

include inj h0 h1 h2 in
/-- The weighted means agree, `c` being any positive real of at most one that the normaliser is kept above. -/
theorem out_eq (v : J → EReal) {c : ℝ} (hc : 0 < c) (hc1 : c ≤ 1) :
    ∑ j, v j * Ideal.div (p mask s j) (max (∑ j, p mask s j) (c : EReal)) =
      (∑ k, w t k * v (emb k)) * Ideal.div 1 (∑ k, w t k) := by
  have step : ∑ j, v j * Ideal.div (p mask s j) (max (∑ j, p mask s j) (c : EReal)) =
      ∑ k, v (emb k) * Ideal.div (w t k) (max (∑ k, w t k) (c : EReal)) := by
    rw [den_eq emb inj mask s t h0 h1 h2]
    refine (Fintype.sum_of_injective emb inj _ _ (fun j hj => ?_) fun k => ?_).symm
    · rw [p_out emb mask s h0 j hj, Ideal.div]
      have : max (∑ k, w t k) (c : EReal) ≠ 0 :=
        (lt_of_lt_of_le (by exact_mod_cast hc) (le_max_right _ _)).ne'
      rw [if_neg this, zero_mul, mul_zero]
    · rw [p_eq emb mask s t h0 h1 h2]
  rw [step]
  rcases den_cases t with hz | ⟨r, hr, hd⟩
  · have hs : ∑ k, w t k = 0 := Finset.sum_eq_zero fun k _ => hz k
    have hm : max (0 : EReal) (c : EReal) = (c : EReal) := max_eq_right (by exact_mod_cast hc.le)
    rw [hs, hm, Finset.sum_eq_zero, Finset.sum_eq_zero, zero_mul]
    · intro k _; rw [hz, zero_mul]
    · intro k _; rw [hz, Ideal.div_coe hc.ne', zero_mul, mul_zero]
  · have hr0 : r ≠ 0 := by linarith
    have hm : max (r : EReal) (c : EReal) = (r : EReal) := max_eq_left (by exact_mod_cast hc1.trans hr)
    rw [hd, hm, Ideal.div_coe hr0, one_mul, mul_comm, coe_mul_sum _ (by positivity)]
    refine Finset.sum_congr rfl fun k _ => ?_
    rw [Ideal.div_coe hr0, mul_comm (w t k), mul_left_comm, mul_comm (v (emb k))]
end
end Cert.BandMath
-- ==== Proof.BandChunk.lean ====
/- One sub-problem of the dilated attention as the kernel computes it: 128 query rows against 256 key rows of the same
class, four heads side by side in the lanes; and what it holds at an index. -/
module
public import proofs.«01_k».proof.Proof.Gen.Band4Ideal.Skeleton
public import proofs.«01_k».proof.Proof.BandMath
public import Idealize.ShloMosaic.Lib.Pointwise
public import Idealize.ShloMosaic.Lib.WordCmp
@[expose] public section
set_option maxRecDepth 16384
noncomputable section
namespace Cert.BandChunk
open Cert.Band4Ideal Cert.Band4Ideal.Gen Idealize.ShloMosaic Idealize.ShloMosaic.TcCoe Idealize.SL.Sem
variable [Facts₀] [Facts]

/-- The head each lane of a row belongs to. -/
def laneHead : IVec S256x256 32 := shrui (iota .tc S256x256 32 [1] iota_S256x256_d1_w32) (broadcast S256x256 6#32)

/-- One in the lanes of head `h`, zero in the others. -/
def keep (h : BitVec 32) : FVec Ideal S256x256 .bf16 :=
  truncf .bf16 (select (cmpi .eq laneHead (broadcast S256x256 h)) (broadcast S256x256 (Scalar.ofBits (F := Ideal) .f32 0x3F800000#32))
    (broadcast S256x256 (Scalar.ofBits (F := Ideal) .f32 0x00000000#32))) bitsLt_bf16_f32

/-- Four copies of the rows, the one of head `h` with the other heads' lanes set to zero. -/
def perHead (a : Vec Ideal S1x1x1x256x256 .bf16) : FVec Ideal S1024x256 .bf16 :=
  concatenate S1024x256 0 [
    ⟨S256x256, mulf (shapeCast S256x256 a shapeCasts_S1x1x1x256x256_S256x256) (keep 0#32)⟩,
    ⟨S256x256, mulf (shapeCast S256x256 a shapeCasts_S1x1x1x256x256_S256x256) (keep 1#32)⟩,
    ⟨S256x256, mulf (shapeCast S256x256 a shapeCasts_S1x1x1x256x256_S256x256) (keep 2#32)⟩,
    ⟨S256x256, mulf (shapeCast S256x256 a shapeCasts_S1x1x1x256x256_S256x256) (keep 3#32)⟩]
    concatenates_S256x256_S256x256_S256x256_S256x256_S1024x256_d0

/-- The products of the queries with the keys of each head. -/
def scores (q : Vec Ideal S1x1x1x128x256 .bf16) (k : Vec Ideal S1x1x1x256x256 .bf16) : FVec Ideal S128x1024 .f32 :=
  matmul dot_S128x256_S1024x256_S128x1024_1_1_0_0_n_n none (shapeCast S128x256 q shapeCasts_S1x1x1x128x256_S128x256 : FVec Ideal S128x256 .bf16) (perHead k)
    (constant S128x1024 .f32 0x00000000#32)

/-- The greatest value of each row. -/
def rowMax (x : FVec Ideal S128x256 .f32) : FVec Ideal S128x1 .f32 :=
  shapeCast S128x1 (multiReduction .maximumf [1] S128 x 0xFF800000#32 reduces_S128x256_S128 (.inl rfl) rfl) shapeCasts_S128_S128x1

/-- Two to the power of each value's distance from the row's greatest. -/
def weight (x : FVec Ideal S128x256 .f32) : FVec Ideal S128x256 .f32 :=
  exp2 (subf x (broadcastTo S128x256 (rowMax x) broadcasts_S128x1_S128x256))

/-- The sum of each row's weights. -/
def rowSum (x : FVec Ideal S128x256 .f32) : FVec Ideal S128x1 .f32 :=
  shapeCast S128x1 (multiReduction .add [1] S128 (weight x) 0x00000000#32 reduces_S128x256_S128 (.inl rfl) rfl) shapeCasts_S128_S128x1

/-- The head each lane of a row of results belongs to. -/
def rowHead : IVec S128x256 32 := shrui (iota .tc S128x256 32 [1] iota_S128x256_d1_w32) (broadcast S128x256 6#32)

/-- A column spread over the lanes. -/
def spread (a : FVec Ideal S128x1 .f32) : FVec Ideal S128x256 .f32 :=
  broadcastTo S128x256 (shapeCast S128x1 a shapeCasts_S128x1_S128x1) broadcasts_S128x1_S128x256

/-- Each head's column in the head's lanes. -/
def lanes (a0 a1 a2 a3 : FVec Ideal S128x1 .f32) : FVec Ideal S128x256 .f32 :=
  select (cmpi .eq rowHead (broadcast S128x256 0#32)) (spread a0)
    (select (cmpi .eq rowHead (broadcast S128x256 1#32)) (spread a1)
      (select (cmpi .eq rowHead (broadcast S128x256 2#32)) (spread a2) (spread a3)))

section
variable (q : Vec Ideal S1x1x1x128x256 .bf16) (k v : Vec Ideal S1x1x1x256x256 .bf16) (b0 b1 b2 b3 : FVec Ideal S128x256 .f32)

/-- The first head's scores with its bias. -/
def sc0 : FVec Ideal S128x256 .f32 := addf (extractStridedSlice S128x256 ![0, 0] (scores q k) slices_S128x1024_o0_0_S128x256) b0
/-- The second head's scores with its bias. -/
def sc1 : FVec Ideal S128x256 .f32 := addf (extractStridedSlice S128x256 ![0, 256] (scores q k) slices_S128x1024_o0_256_S128x256) b1
/-- The third head's scores with its bias. -/
def sc2 : FVec Ideal S128x256 .f32 := addf (extractStridedSlice S128x256 ![0, 512] (scores q k) slices_S128x1024_o0_512_S128x256) b2
/-- The fourth head's scores with its bias. -/
def sc3 : FVec Ideal S128x256 .f32 := addf (extractStridedSlice S128x256 ![0, 768] (scores q k) slices_S128x1024_o0_768_S128x256) b3

/-- The normalisers, each in its head's lanes. -/
def den : FVec Ideal S128x256 .f32 := lanes (rowSum (sc0 q k b0)) (rowSum (sc1 q k b1)) (rowSum (sc2 q k b2)) (rowSum (sc3 q k b3))

/-- The greatest scores, each in its head's lanes. -/
def top : FVec Ideal S128x256 .f32 := lanes (rowMax (sc0 q k b0)) (rowMax (sc1 q k b1)) (rowMax (sc2 q k b2)) (rowMax (sc3 q k b3))

/-- The four heads' weights side by side. -/
def probs : FVec Ideal S128x1024 .bf16 :=
  concatenate S128x1024 1 [⟨S128x256, truncf .bf16 (weight (sc0 q k b0)) bitsLt_bf16_f32⟩, ⟨S128x256, truncf .bf16 (weight (sc1 q k b1)) bitsLt_bf16_f32⟩,
    ⟨S128x256, truncf .bf16 (weight (sc2 q k b2)) bitsLt_bf16_f32⟩, ⟨S128x256, truncf .bf16 (weight (sc3 q k b3)) bitsLt_bf16_f32⟩]
    concatenates_S128x256_S128x256_S128x256_S128x256_S128x1024_d1

/-- The sub-problem's weighted means. -/
def outO : FVec Ideal S1x1x128x256 .f32 :=
  shapeCast S1x1x128x256 (mulf (matmul dot_S128x1024_S1024x256_S128x256_1_0_0_1_n_n none (probs q k b0 b1 b2 b3) (perHead v) (constant S128x256 .f32 0x00000000#32))
    (divf (broadcast S128x256 (Scalar.ofBits (F := Ideal) .f32 0x3F800000#32)) (den q k b0 b1 b2 b3))) shapeCasts_S128x256_S1x1x128x256

/-- The sub-problem's logarithms of the normalisers. -/
def outL (ln2 : Ideal .f32) : FVec Ideal S1x1x128x256 .f32 :=
  shapeCast S1x1x128x256 (addf (mulf (top q k b0 b1 b2 b3) (broadcast S128x256 ln2)) (log (den q k b0 b1 b2 b3))) shapeCasts_S128x256_S1x1x128x256
end

/-- The head of a lane, as a word. -/
theorem head_word (l : Fin 256) : (IntOp.shrui .vector (BitVec.ofNat 32 ↑l) 6#32).toNat = l.val / 64 := by
  revert l; decide +kernel

/-- The word of minus infinity. -/
theorem neg_inf : Ideal.ofBits FTy.f32 4286578688#32 = (⊥ : EReal) := by
  simp [Ideal.ofBits, Ideal.ieee]

/-- Row `x` of the four copies, at a lane. -/
theorem perHead_apply (a : Vec Ideal S1x1x1x256x256 .bf16) (x : Fin 1024) (l : Fin 256) :
    perHead a (ix2 x l) = if x.val / 256 = l.val / 64 then a (ix5 0 0 0 ⟨x.val % 256, by omega⟩ l) else 0 := by
  have hl : l.val / 64 < 4 := by omega
  have pick : ∀ (y : Fin 256) (n : ℕ) , n = x.val / 256 → y.val = x.val % 256 →
      a (ix5 0 0 0 y l) * (if l.val / 64 = n then (1 : EReal) else 0) =
        if x.val / 256 = l.val / 64 then a (ix5 0 0 0 ⟨x.val % 256, by omega⟩ l) else 0 := by
    intro y n hn hy
    rw [show y = (⟨x.val % 256, Nat.mod_lt _ (by norm_num)⟩ : Fin 256) from Fin.ext hy]
    subst hn
    by_cases h : x.val / 256 = l.val / 64
    · rw [if_pos h, if_pos h.symm, mul_one]
    · rw [if_neg h, if_neg (fun c => h c.symm), mul_zero]
  pointwise [perHead, keep, laneHead, hlo_ix]
  rw [head_word]
  by_cases h0 : x.val < 256
  · rw [dif_pos h0]; exact pick _ 0 (by omega) (by show x.val = _; omega)
  rw [dif_neg h0]
  by_cases h1 : x.val - 256 < 256
  · rw [dif_pos h1]; exact pick _ 1 (by omega) (by show x.val - 256 = _; omega)
  rw [dif_neg h1]
  by_cases h2 : x.val - 256 - 256 < 256
  · rw [dif_pos h2]; exact pick _ 2 (by omega) (by show x.val - 256 - 256 = _; omega)
  rw [dif_neg h2]; exact pick _ 3 (by omega) (by show x.val - 256 - 256 - 256 = _; omega)

/-- A row's greatest value. -/
theorem rowMax_apply (x : FVec Ideal S128x256 .f32) (i : Fin 128) :
    rowMax x (ix2 i 0) = Finset.univ.fold max ⊥ (fun j => x (ix2 i j)) := by
  pointwise [rowMax]
  rw [neg_inf]

/-- A row's weight. -/
theorem weight_apply (x : FVec Ideal S128x256 .f32) (i : Fin 128) (j : Fin 256) :
    weight x (ix2 i j) = BandMath.w (fun j => x (ix2 i j)) j := by
  pointwise [weight, rowMax]
  rw [neg_inf]
  rfl

/-- A row's sum of weights. -/
theorem rowSum_apply (x : FVec Ideal S128x256 .f32) (i : Fin 128) :
    rowSum x (ix2 i 0) = ∑ j, BandMath.w (fun j => x (ix2 i j)) j := by
  pointwise [rowSum]
  exact Finset.sum_congr rfl fun j _ => weight_apply x i j

/-- One of four things, by the head. -/
def sel {α : Type} (a0 a1 a2 a3 : α) (h : ℕ) : α := if h = 0 then a0 else if h = 1 then a1 else if h = 2 then a2 else a3

/-- Each lane reads its head's column. -/
theorem lanes_apply (a0 a1 a2 a3 : FVec Ideal S128x1 .f32) (i : Fin 128) (l : Fin 256) :
    lanes a0 a1 a2 a3 (ix2 i l) = sel (a0 (ix2 i 0)) (a1 (ix2 i 0)) (a2 (ix2 i 0)) (a3 (ix2 i 0)) (l.val / 64) := by
  pointwise [lanes, spread, rowHead, hlo_ix]
  rw [head_word]; rfl

/-- The score of query row `i` for key row `j` in head `h`, its bias added. -/
def t (q : Vec Ideal S1x1x1x128x256 .bf16) (k : Vec Ideal S1x1x1x256x256 .bf16) (b : FVec Ideal S128x256 .f32) (h : Fin 4)
    (i : Fin 128) (j : Fin 256) : EReal :=
  ∑ d : Fin 64, q (ix5 0 0 0 i ⟨h.val * 64 + d.val, by omega⟩) * k (ix5 0 0 0 j ⟨h.val * 64 + d.val, by omega⟩) + b (ix2 i j)

/-- A product of a query with a key, over the lanes of the head. -/
theorem scores_apply (q : Vec Ideal S1x1x1x128x256 .bf16) (k : Vec Ideal S1x1x1x256x256 .bf16) (h : Fin 4) (i : Fin 128) (j : Fin 256) (x : Fin 1024)
    (hx : x.val = h.val * 256 + j.val) :
    scores q k (ix2 i x) = ∑ d : Fin 64, q (ix5 0 0 0 i ⟨h.val * 64 + d.val, by omega⟩) * k (ix5 0 0 0 j ⟨h.val * 64 + d.val, by omega⟩) := by
  pointwise [scores]
  symm
  refine Fintype.sum_of_injective (fun d : Fin 64 => (⟨h.val * 64 + d.val, by omega⟩ : Fin 256)) ?_ _ _ ?_ ?_
  · intro d d' e; have := congrArg Fin.val e; simp only at this; exact Fin.ext (by omega)
  · intro l hl
    rw [perHead_apply, if_neg, mul_zero]
    intro c
    refine hl ⟨⟨l.val % 64, by omega⟩, Fin.ext ?_⟩
    show h.val * 64 + l.val % 64 = l.val
    omega
  · intro d
    rw [perHead_apply, if_pos (by show x.val / 256 = (h.val * 64 + d.val) / 64; omega)]
    congr 2
    exact congrArg (fun z => ix5 0 0 0 z _) (Fin.ext (by show j.val = x.val % 256; omega))

section
variable (q : Vec Ideal S1x1x1x128x256 .bf16) (k v : Vec Ideal S1x1x1x256x256 .bf16) (b0 b1 b2 b3 : FVec Ideal S128x256 .f32)

/-- The first head's scores. -/
theorem sc0_apply (i : Fin 128) (j : Fin 256) : sc0 q k b0 (ix2 i j) = t q k b0 0 i j := by
  pointwise [sc0]; rw [scores_apply q k 0 i j _ (by simp)]; rfl
/-- The second head's scores. -/
theorem sc1_apply (i : Fin 128) (j : Fin 256) : sc1 q k b1 (ix2 i j) = t q k b1 1 i j := by
  pointwise [sc1]; rw [scores_apply q k 1 i j _ (by simp)]; rfl
/-- The third head's scores. -/
theorem sc2_apply (i : Fin 128) (j : Fin 256) : sc2 q k b2 (ix2 i j) = t q k b2 2 i j := by
  pointwise [sc2]; rw [scores_apply q k 2 i j _ (by simp)]; rfl
/-- The fourth head's scores. -/
theorem sc3_apply (i : Fin 128) (j : Fin 256) : sc3 q k b3 (ix2 i j) = t q k b3 3 i j := by
  pointwise [sc3]; rw [scores_apply q k 3 i j _ (by simp)]; rfl

/-- The scores of one query row in head `h`. -/
abbrev row (h : Fin 4) (i : Fin 128) : Fin 256 → EReal := t q k (sel b0 b1 b2 b3 h.val) h i

/-- The normaliser of a row at a lane. -/
theorem den_apply (h : Fin 4) (i : Fin 128) (l : Fin 256) (hl : l.val / 64 = h.val) :
    den q k b0 b1 b2 b3 (ix2 i l) = ∑ j, BandMath.w (row q k b0 b1 b2 b3 h i) j := by
  rw [den, lanes_apply, hl]
  simp only [rowSum_apply, sc0_apply, sc1_apply, sc2_apply, sc3_apply]
  fin_cases h <;> rfl

/-- The greatest score of a row at a lane. -/
theorem top_apply (h : Fin 4) (i : Fin 128) (l : Fin 256) (hl : l.val / 64 = h.val) :
    top q k b0 b1 b2 b3 (ix2 i l) = Finset.univ.fold max ⊥ (row q k b0 b1 b2 b3 h i) := by
  rw [top, lanes_apply, hl]
  simp only [rowMax_apply, sc0_apply, sc1_apply, sc2_apply, sc3_apply]
  fin_cases h <;> rfl

/-- The weights side by side, read at head `h` and key `j`. -/
theorem probs_apply (h : Fin 4) (i : Fin 128) (j : Fin 256) (x : Fin 1024) (hx : x.val = h.val * 256 + j.val) :
    probs q k b0 b1 b2 b3 (ix2 i x) = BandMath.w (row q k b0 b1 b2 b3 h i) j := by
  pointwise [probs]
  simp only [weight_apply, sc0_apply, sc1_apply, sc2_apply, sc3_apply]
  fin_cases h <;> simp only at hx
  · rw [dif_pos (show x.val < 256 by omega)]
    exact congrArg _ (Fin.ext (by show x.val = _; omega))
  · rw [dif_neg (show ¬ x.val < 256 by omega), dif_pos (show x.val - 256 < 256 by omega)]
    exact congrArg _ (Fin.ext (by show x.val - 256 = _; omega))
  · rw [dif_neg (show ¬ x.val < 256 by omega), dif_neg (show ¬ x.val - 256 < 256 by omega), dif_pos (show x.val - 256 - 256 < 256 by omega)]
    exact congrArg _ (Fin.ext (by show x.val - 256 - 256 = _; omega))
  · rw [dif_neg (show ¬ x.val < 256 by omega), dif_neg (show ¬ x.val - 256 < 256 by omega), dif_neg (show ¬ x.val - 256 - 256 < 256 by omega)]
    exact congrArg _ (Fin.ext (by show x.val - 256 - 256 - 256 = _; omega))

/-- The weighted mean at a row and a lane of head `h`. -/
theorem outO_apply (h : Fin 4) (i : Fin 128) (l : Fin 256) (hl : l.val / 64 = h.val) :
    outO q k v b0 b1 b2 b3 (ix4 0 0 i l) =
      (∑ j, BandMath.w (row q k b0 b1 b2 b3 h i) j * v (ix5 0 0 0 j l)) * Ideal.div 1 (∑ j, BandMath.w (row q k b0 b1 b2 b3 h i) j) := by
  pointwise [outO]
  rw [den_apply q k b0 b1 b2 b3 h i l hl]
  congr 1
  symm
  refine Fintype.sum_of_injective (fun j : Fin 256 => (⟨h.val * 256 + j.val, by omega⟩ : Fin 1024)) ?_ _ _ ?_ ?_
  · intro d d' e; have := congrArg Fin.val e; simp only at this; exact Fin.ext (by omega)
  · intro x hx
    rw [perHead_apply, if_neg, mul_zero]
    intro c
    refine hx ⟨⟨x.val % 256, by omega⟩, Fin.ext ?_⟩
    show h.val * 256 + x.val % 256 = x.val
    omega
  · intro j
    rw [probs_apply q k b0 b1 b2 b3 h i j _ rfl, perHead_apply, if_pos (by show (h.val * 256 + j.val) / 256 = l.val / 64; omega)]
    congr 2
    exact congrArg (fun z => ix5 0 0 0 z _) (Fin.ext (by show j.val = (h.val * 256 + j.val) % 256; omega))

/-- The logarithm of the normaliser at a row and a lane of head `h`. -/
theorem outL_apply (c : Ideal .f32) (h : Fin 4) (i : Fin 128) (l : Fin 256) (hl : l.val / 64 = h.val) :
    outL q k b0 b1 b2 b3 c (ix4 0 0 i l) =
      Finset.univ.fold max ⊥ (row q k b0 b1 b2 b3 h i) * c + Ideal.log (∑ j, BandMath.w (row q k b0 b1 b2 b3 h i) j) := by
  pointwise [outL]
  rw [den_apply q k b0 b1 b2 b3 h i l hl, top_apply q k b0 b1 b2 b3 h i l hl]
end
end Cert.BandChunk
-- ==== Proof.BandSpec.lean ====
/- What one query row of the dilated attention is to be: the softmax in base e over the keys of its class in its window. -/
module
public import proofs.«01_k».proof.Proof.BandMath
@[expose] public section
noncomputable section
namespace Cert.BandSpec
open Idealize.ShloMosaic
variable {n : ℕ}

/-- Key row `j` of a class is in the window of query row `i`: at most 128 rows behind it. -/
def window (i j : Fin n) : Prop := j.val ≤ i.val ∧ i.val ≤ j.val + 128
instance (i : Fin n) : DecidablePred (window i) := fun j => by unfold window; infer_instance

/-- The score of key row `j` for query row `i` in head `h`: the product of the rows, whose factor `log₂ e` is taken off
again, less the slope times the distance of the tokens, which is `r` times that of the rows. -/
def score (q k : Fin n → Fin 256 → EReal) (sl r : ℝ) (h : Fin 4) (i j : Fin n) : EReal :=
  ∑ d : Fin 64, q i ⟨h.val * 64 + d.val, by omega⟩ * BandMath.L * k j ⟨h.val * 64 + d.val, by omega⟩ -
    ((sl * (r * ((i.val : ℝ) - (j.val : ℝ))) : ℝ) : EReal)

/-- The weighted mean of the values, at a lane of head `h`. -/
def mean (q k v : Fin n → Fin 256 → EReal) (sl r : ℝ) (h : Fin 4) (i : Fin n) (l : Fin 256) : EReal :=
  ∑ j, v j l * Ideal.div (BandMath.p (window i) (score q k sl r h i) j)
    (max (∑ j, BandMath.p (window i) (score q k sl r h i) j) (Ideal.ofBits .f32 228737632#32))

/-- The logarithm of the sum of the exponentials, by way of the greatest score. -/
def lse (q k : Fin n → Fin 256 → EReal) (sl r : ℝ) (h : Fin 4) (i : Fin n) : EReal :=
  BandMath.mx (window i) (score q k sl r h i) + Ideal.log (∑ j, BandMath.p (window i) (score q k sl r h i) j)

/-- The least value the normaliser is kept above is a positive real of at most one. -/
theorem tiny : ∃ c : ℝ, 0 < c ∧ c ≤ 1 ∧ Ideal.ofBits .f32 228737632#32 = (c : EReal) := by
  refine ⟨10633824 * (2 : ℝ) ^ (-123 : ℤ), by positivity, by norm_num, ?_⟩
  simp [Ideal.ofBits, Ideal.ieee, -EReal.coe_mul]

/-- The word of two, whose logarithm takes the factor `log₂ e` off the queries. -/
theorem log_two : Ideal.log (Ideal.ofBits .f32 1073741824#32) = BandMath.L := by
  have h : Ideal.ofBits .f32 1073741824#32 = ((2 : ℝ) : EReal) := by
    simp [Ideal.ofBits, Ideal.ieee, -EReal.coe_mul]; norm_num
  rw [h]; exact if_neg (by norm_num)
end Cert.BandSpec
-- ==== Proof.BandCore.lean ====
/- One sub-problem of the dilated attention agrees with the specification on its 128 query rows. -/
module
public import proofs.«01_k».proof.Proof.BandChunk
public import proofs.«01_k».proof.Proof.BandSpec
public import Idealize.ShloMosaic.Lib.Affine
@[expose] public section
set_option maxRecDepth 16384
noncomputable section
namespace Cert.BandCore
open Cert.Band4Ideal Cert.Band4Ideal.Gen Idealize.ShloMosaic Idealize.ShloMosaic.TcCoe Idealize.SL.Sem
open Idealize.ShloMosaic.WordCmp Idealize.ShloMosaic.Affine
variable [Facts₀] [Facts]

/-- What is added to the scores: the slope times the distance, negated, and minus infinity outside the window. -/
def bias (D : IVec S128x256 32) (σ top : Ideal .f32) : FVec Ideal S128x256 .f32 :=
  addf (mulf (broadcast S128x256 σ) (subf (broadcast S128x256 (Scalar.ofBits (F := Ideal) .f32 0x00000000#32)) (sitofp .f32 D)))
    (select (andi (cmpi .sge D (broadcast S128x256 0#32)) (cmpi .sle D (broadcast S128x256 128#32)))
      (broadcast S128x256 (Scalar.ofBits (F := Ideal) .f32 0x00000000#32)) (broadcast S128x256 top))

/-- It, at an index where the distance word holds `e`. -/
theorem bias_apply (D : IVec S128x256 32) (σ : ℝ) (i : Fin 128) (j : Fin 256) (e : ℤ) (hD : (D (ix2 i j)).toInt = e) :
    bias D (σ : EReal) (⊥ : EReal) (ix2 i j) = ((σ * -(e : ℝ) : ℝ) : EReal) + if 0 ≤ e ∧ e ≤ 128 then 0 else ⊥ := by
  pointwise [bias]
  rw [cmpi_sge_eq, cmpi_sle_eq, andi_ofBool, hD, ← Bool.decide_and]
  rw [show (0#32 : BitVec 32).toInt = 0 from rfl, show (128#32 : BitVec 32).toInt = 128 from rfl]
  congr 1
  · rw [show (FloatOps.sitofp (F := Ideal) .f32 (D (ix2 i j)) : EReal) = (((D (ix2 i j)).toInt : ℝ) : EReal) from rfl, hD, EReal.coe_mul, EReal.coe_neg]
    congr 1
    exact zero_sub _
  · by_cases h : 0 ≤ e ∧ e ≤ 128
    · rw [if_pos h, decide_eq_true h]; rfl
    · rw [if_neg h, decide_eq_false h]; rfl

/-- The row of the class a query row of the block is. -/
def qrow {n : ℕ} (I0 : ℕ) (hI : I0 + 128 ≤ n) (i : Fin 128) : Fin n := ⟨I0 + i.val, by omega⟩

/-- The row of the class a key row of the block is. -/
def emb {n : ℕ} (K0 : ℕ) (hK : K0 + 256 ≤ n) (j : Fin 256) : Fin n := ⟨K0 + j.val, by omega⟩

/-- Different key rows are different rows. -/
theorem emb_inj {n : ℕ} (K0 : ℕ) (hK : K0 + 256 ≤ n) : Function.Injective (emb K0 hK) := fun a b h => by
  have := congrArg Fin.val h; simp only [emb] at this; exact Fin.ext (by omega)

section
variable {n : ℕ} (q k v : Fin n → Fin 256 → EReal) (sl : Fin 4 → ℝ) (r : ℝ)
variable (qb : Vec Ideal S1x1x1x128x256 .bf16) (kb vb : Vec Ideal S1x1x1x256x256 .bf16) (b0 b1 b2 b3 : FVec Ideal S128x256 .f32)
variable (I0 K0 : ℕ) (hI : I0 + 128 ≤ n) (hK : K0 + 256 ≤ n)
variable (hoff : I0 = K0 + 128 ∨ (I0 = 0 ∧ K0 = 0))
variable (hq : ∀ (i : Fin 128) l, qb (ix5 0 0 0 i l) = q (qrow I0 hI i) l)
variable (hk : ∀ (j : Fin 256) l, kb (ix5 0 0 0 j l) = k (emb K0 hK j) l)
variable (hv : ∀ (j : Fin 256) l, vb (ix5 0 0 0 j l) = v (emb K0 hK j) l)
variable (hb : ∀ (h : Fin 4) (i : Fin 128) (j : Fin 256), BandChunk.sel b0 b1 b2 b3 h.val (ix2 i j) =
  ((sl h * r * (Real.log 2)⁻¹ * -(((I0 + i.val : ℕ) : ℤ) - ((K0 + j.val : ℕ) : ℤ) : ℤ) : ℝ) : EReal) +
    if 0 ≤ ((I0 + i.val : ℕ) : ℤ) - ((K0 + j.val : ℕ) : ℤ) ∧ ((I0 + i.val : ℕ) : ℤ) - ((K0 + j.val : ℕ) : ℤ) ≤ 128 then 0 else ⊥)

include hoff in
/-- Keys outside the block are outside the window. -/
theorem outside (i : Fin 128) (j : Fin n) (hj : j ∉ Set.range (emb K0 hK)) : ¬ BandSpec.window (qrow I0 hI i) j := by
  rintro ⟨h1, h2⟩
  simp only [qrow] at h1 h2
  exact hj ⟨⟨j.val - K0, by omega⟩, Fin.ext (by simp only [emb]; omega)⟩

include hq hk hb in
/-- In the window the specification's score is `ln 2` times the kernel's. -/
theorem inside (h : Fin 4) (i : Fin 128) (j : Fin 256) (hm : BandSpec.window (qrow I0 hI i) (emb K0 hK j)) :
    BandSpec.score q k (sl h) r h (qrow I0 hI i) (emb K0 hK j) = BandMath.L * BandChunk.row qb kb b0 b1 b2 b3 h i j := by
  have hl : (0 : ℝ) < Real.log 2 := Real.log_pos (by norm_num)
  unfold BandChunk.row BandChunk.t
  rw [hb, if_pos (by unfold BandSpec.window emb qrow at hm; simp only at hm; omega), add_zero]
  unfold BandMath.L
  rw [BandMath.coe_mul_add hl.le, BandMath.coe_mul_sum _ hl.le, ← EReal.coe_mul]
  unfold BandSpec.score
  rw [sub_eq_add_neg, ← EReal.coe_neg]
  congr 1
  · refine Finset.sum_congr rfl fun d _ => ?_
    rw [hq, hk, mul_comm (q _ _) BandMath.L, mul_assoc]; try rfl
  · congr 1
    simp only [emb, qrow]
    push_cast
    field_simp
    try ring

include hb in
/-- Outside the window the kernel's score is minus infinity. -/
theorem masked (h : Fin 4) (i : Fin 128) (j : Fin 256) (hm : ¬ BandSpec.window (qrow I0 hI i) (emb K0 hK j)) :
    BandChunk.row qb kb b0 b1 b2 b3 h i j = ⊥ := by
  unfold BandChunk.row BandChunk.t
  rw [hb, if_neg (by unfold BandSpec.window emb qrow at hm; simp only at hm; omega), EReal.add_bot, EReal.add_bot]

include hoff hq hk hv hb in
/-- The weighted means. -/
theorem mean_eq (h : Fin 4) (i : Fin 128) (l : Fin 256) (hl : l.val / 64 = h.val) :
    BandChunk.outO qb kb vb b0 b1 b2 b3 (ix4 0 0 i l) = BandSpec.mean q k v (sl h) r h (qrow I0 hI i) l := by
  obtain ⟨c, hc, hc1, e⟩ := BandSpec.tiny
  rw [BandChunk.outO_apply qb kb vb b0 b1 b2 b3 h i l hl]
  unfold BandSpec.mean
  rw [e, BandMath.out_eq (emb K0 hK) (emb_inj K0 hK) _ _ (BandChunk.row qb kb b0 b1 b2 b3 h i) (outside I0 K0 hI hK hoff i)
    (inside q k sl r qb kb b0 b1 b2 b3 I0 K0 hI hK hq hk hb h i) (masked sl r qb kb b0 b1 b2 b3 I0 K0 hI hK hb h i) (fun j => v j l) hc hc1]
  simp only [hv]

include hoff hq hk hb in
/-- The logarithms of the sums. -/
theorem lse_eq (h : Fin 4) (i : Fin 128) (l : Fin 256) (hl : l.val / 64 = h.val) :
    BandChunk.outL qb kb b0 b1 b2 b3 BandMath.L (ix4 0 0 i l) = BandSpec.lse q k (sl h) r h (qrow I0 hI i) := by
  rw [BandChunk.outL_apply qb kb b0 b1 b2 b3 BandMath.L h i l hl]
  unfold BandSpec.lse
  rw [BandMath.mx_eq (emb K0 hK) _ _ (BandChunk.row qb kb b0 b1 b2 b3 h i) (outside I0 K0 hI hK hoff i)
    (inside q k sl r qb kb b0 b1 b2 b3 I0 K0 hI hK hq hk hb h i) (masked sl r qb kb b0 b1 b2 b3 I0 K0 hI hK hb h i),
    BandMath.den_eq (emb K0 hK) (emb_inj K0 hK) _ _ (BandChunk.row qb kb b0 b1 b2 b3 h i) (outside I0 K0 hI hK hoff i)
    (inside q k sl r qb kb b0 b1 b2 b3 I0 K0 hI hK hq hk hb h i) (masked sl r qb kb b0 b1 b2 b3 I0 K0 hI hK hb h i)]
end
end Cert.BandCore
-- ==== Proof.BandFinal.lean ====
/- The two results of the dilated attention's kernel after the run, as the specification over the argument. -/
module
public import proofs.«01_k».proof.Proof.Gen.Band4Ideal.Value
public import proofs.«01_k».proof.Proof.BandCore
public import Idealize.ShloMosaic.Lib.Pipeline.ValueKit
@[expose] public section
set_option maxRecDepth 16384
noncomputable section
namespace Cert.Band4Ideal.Val
open Cert.Band4Ideal Cert.Band4Ideal.Gen Idealize.ShloMosaic Idealize.ShloMosaic.TcCoe Idealize.SL.Sem
open Idealize.ShloMosaic.WordCmp Idealize.ShloMosaic.Affine
open Idealize.ShloMosaic.Pipeline (Dat)
variable (m : (ℓ : Loc nD τ sig) → Buf (Elt Ideal) ℓ)

/-- Every window's block index at a grid point. -/
theorem idx : ∀ t : Fin cfg0.N, win0_0.index t = ![(grid0.coords t 0).val, 0, (grid0.coords t 1).val, 0, 0]
    ∧ win0_1.index t = ![(grid0.coords t 0).val, 1, (grid0.coords t 1).val, 0, 0]
    ∧ win0_2.index t = ![(grid0.coords t 0).val, 2, (grid0.coords t 1).val, 0, 0]
    ∧ win0_3.index t = ![(grid0.coords t 0).val, (grid0.coords t 1).val, 0, 0] ∧ win0_4.index t = ![(grid0.coords t 0).val, (grid0.coords t 1).val, 0, 0] :=
  (by decide +kernel : ∀ t : Fin grid0.N, _)

/-- The distance of a sub-problem's first row from its first key row, for the first of a point. -/
def firstOff (i : grid0.Coords) : BitVec 32 :=
  Scalar.subi (Scalar.muli (Scalar.addi (Scalar.muli (BitVec.ofNat 32 (i 2).val) 8#32) 0#32) 128#32)
    (Scalar.muli (Scalar.maxsi (Scalar.subi (Scalar.addi (Scalar.muli (BitVec.ofNat 32 (i 2).val) 8#32) 0#32) 1#32) 0#32) 128#32)

/-- Where the keys of each sub-problem start, and that first distance. -/
theorem off : ∀ (t : Fin cfg0.N) (s : Fin 8), k0_off1 (grid0.coords t) (BitVec.ofNat 32 s.val) = ![0, 0, 0, (s.val - 1) * 128, 0]
    ∧ k0_off2 (grid0.coords t) (BitVec.ofNat 32 s.val) = ![0, 0, 1, (s.val - 1) * 128, 0] ∧ (firstOff (grid0.coords t)).toInt = 0 :=
  (by decide +kernel : ∀ (t : Fin grid0.N) (s : Fin 8), _)

/-- The four heads' slopes. -/
def slope (h : Fin 4) : ℝ :=
  if h.val < 1 then 13316085 / 2 ^ 27 else if h.val - 1 < 1 then 1 / 16 else if h.val - 1 - 1 < 1 then 1321123 / 2 ^ 25 else 13316085 / 2 ^ 29

/-- The rows of the queries, the keys and the values of one class. -/
def rows (x0 : Vec Ideal S4x3x4x1024x256 .bf16) (b c : Fin 4) (a : Fin 3) (i : Fin 1024) (l : Fin 256) : EReal := x0 (ix5 b a c i l)

/-- The argument. -/
abbrev arg (c : Dev nD) : Vec Ideal S4x3x4x1024x256 .bf16 := m ((c : Thread nD τ).loc main_arg0)

/-- The weighted mean at an index. -/
def specO (c : Dev nD) (b e : Fin 4) (i : Fin 1024) (l : Fin 256) : EReal :=
  BandSpec.mean (rows (arg m c) b e 0) (rows (arg m c) b e 1) (rows (arg m c) b e 2) (slope ⟨l.val / 64, by omega⟩) 4 ⟨l.val / 64, by omega⟩ i l

/-- The logarithm of the sum at an index. -/
def specL (c : Dev nD) (b e : Fin 4) (i : Fin 1024) (l : Fin 256) : EReal :=
  BandSpec.lse (rows (arg m c) b e 0) (rows (arg m c) b e 1) (slope ⟨l.val / 64, by omega⟩) 4 ⟨l.val / 64, by omega⟩ i

/-- The two result arrays the run leaves. -/
abbrev arrO (c : Dev nD) : FVec Ideal S4x4x1024x256 .f32 := fun j => specO m c (j 0) (j 1) (j 2) (j 3)
/-- The second of them. -/
abbrev arrL (c : Dev nD) : FVec Ideal S4x4x1024x256 .f32 := fun j => specL m c (j 0) (j 1) (j 2) (j 3)

/-- The staged rows of a point are its two classes' rows of the argument. -/
theorem blk_q (c : Dev nD) (t : Fin cfg0.N) (b : Fin 4) (g : ℕ) (hg : g < 2) (hb : (grid0.coords t 0 : ℕ) = b) (hg' : (grid0.coords t 1 : ℕ) = g)
    (e : Fin 2) (r : Fin 1024) (x : Fin 256) :
    (iblk m c 0 t : Vec Ideal S1x1x2x1024x256 .bf16) (ix5 0 0 e r x) = arg m c (ix5 b 0 ⟨2 * g + e.val, by omega⟩ r x) := by
  blk_ext [iblk, V, idx t]
/-- The keys. -/
theorem blk_k (c : Dev nD) (t : Fin cfg0.N) (b : Fin 4) (g : ℕ) (hg : g < 2) (hb : (grid0.coords t 0 : ℕ) = b) (hg' : (grid0.coords t 1 : ℕ) = g)
    (e : Fin 2) (r : Fin 1024) (x : Fin 256) :
    (iblk m c 1 t : Vec Ideal S1x1x2x1024x256 .bf16) (ix5 0 0 e r x) = arg m c (ix5 b 1 ⟨2 * g + e.val, by omega⟩ r x) := by
  blk_ext [iblk, V, idx t]
/-- The values. -/
theorem blk_v (c : Dev nD) (t : Fin cfg0.N) (b : Fin 4) (g : ℕ) (hg : g < 2) (hb : (grid0.coords t 0 : ℕ) = b) (hg' : (grid0.coords t 1 : ℕ) = g)
    (e : Fin 2) (r : Fin 1024) (x : Fin 256) :
    (iblk m c 2 t : Vec Ideal S1x1x2x1024x256 .bf16) (ix5 0 0 e r x) = arg m c (ix5 b 2 ⟨2 * g + e.val, by omega⟩ r x) := by
  blk_ext [iblk, V, idx t]

/-- A sub-problem's query rows within the block. -/
theorem ld_q (e : Fin 2) (Q : ℕ) (x : Vec Ideal S1x1x2x1024x256 .bf16) (inb : ∀ a, ![0, 0, e.val, Q, 0] a + S1x1x1x128x256.size a ≤ S1x1x2x1024x256.size a)
    (hQ : Q + 128 ≤ 1024) (i : Fin 128) (l : Fin 256) :
    View.ld x (Rect.unit ![0, 0, e.val, Q, 0] S1x1x1x128x256.size inb) (ix5 0 0 0 i l) = x (ix5 0 0 e ⟨Q + i.val, by omega⟩ l) := by
  pointwise

/-- A sub-problem's key rows within the block. -/
theorem ld_k (e : Fin 2) (K : ℕ) (x : Vec Ideal S1x1x2x1024x256 .bf16) (o : Fin 5 → ℕ) (inb : ∀ a, o a + S1x1x1x256x256.size a ≤ S1x1x2x1024x256.size a)
    (hK : K + 256 ≤ 1024) (ho : o = ![0, 0, e.val, K, 0]) (j : Fin 256) (l : Fin 256) :
    View.ld x (Rect.unit o S1x1x1x256x256.size inb) (ix5 0 0 0 j l) = x (ix5 0 0 e ⟨K + j.val, by omega⟩ l) := by
  subst ho
  pointwise

/-- The words of the distances within a sub-problem. -/
def dist (w : BitVec 32) : IVec S128x256 32 :=
  addi (broadcast S128x256 w) (subi (iota .tc S128x256 32 [0] iota_S128x256_d0_w32) (iota .tc S128x256 32 [1] iota_S128x256_d1_w32))

/-- They hold the distance of the rows. -/
theorem dist_toInt (w : BitVec 32) (n : ℕ) (hn : n ≤ 128) (hw : w.toInt = n) (i : Fin 128) (j : Fin 256) :
    (dist w (ix2 i j)).toInt = (n : ℤ) + ((i.val : ℤ) - (j.val : ℤ)) := by
  have e : dist w (ix2 i j) = IntOp.addi w (IntOp.subi (BitVec.ofNat 32 i.val) (BitVec.ofNat 32 j.val)) := by
    pointwise [dist]
  have hw' : IsInt w n := by unfold IsInt; exact hw
  have h : IsInt (dist w (ix2 i j)) ((n : ℤ) + ((i.val : ℤ) - (j.val : ℤ))) := by
    rw [e]
    exact Affine.addi hw' (Affine.subi (Affine.ofNat (e := (i.val : ℤ)) i.val (by omega)) (Affine.ofNat (e := (j.val : ℤ)) j.val (by omega)) ⟨rfl, by omega, by omega⟩)
      ⟨rfl, by omega, by omega⟩
  unfold IsInt at h; exact h

/-- The four heads' biases of a sub-problem. -/
def bias0 (w : BitVec 32) := BandCore.bias (dist w) (Named.named (F := Ideal) κ "slope0" 0x3F129195#32) (Named.named (F := Ideal) κ "mask" 0xF149F2CA#32)
/-- The second head's. -/
def bias1 (w : BitVec 32) := BandCore.bias (dist w) (Named.named (F := Ideal) κ "slope1" 0x3EB8AA3B#32) (Named.named (F := Ideal) κ "mask" 0xF149F2CA#32)
/-- The third head's. -/
def bias2 (w : BitVec 32) := BandCore.bias (dist w) (Named.named (F := Ideal) κ "slope2" 0x3E68A9CD#32) (Named.named (F := Ideal) κ "mask" 0xF149F2CA#32)
/-- The fourth head's. -/
def bias3 (w : BitVec 32) := BandCore.bias (dist w) (Named.named (F := Ideal) κ "slope3" 0x3E129195#32) (Named.named (F := Ideal) κ "mask" 0xF149F2CA#32)

/-- The biases at an index. -/
theorem bias_eq (w : BitVec 32) (I0 K0 : ℕ) (n : ℕ) (hn : n ≤ 128) (hw : w.toInt = n) (hI : I0 = K0 + n) (h : Fin 4) (i : Fin 128) (j : Fin 256) :
    BandChunk.sel (bias0 w) (bias1 w) (bias2 w) (bias3 w) h.val (ix2 i j) =
  ((slope h * 4 * (Real.log 2)⁻¹ * -(((I0 + i.val : ℕ) : ℤ) - ((K0 + j.val : ℕ) : ℤ) : ℤ) : ℝ) : EReal) +
    if 0 ≤ ((I0 + i.val : ℕ) : ℤ) - ((K0 + j.val : ℕ) : ℤ) ∧ ((I0 + i.val : ℕ) : ℤ) - ((K0 + j.val : ℕ) : ℤ) ≤ 128 then 0 else ⊥ := by
  have hd : (dist w (ix2 i j)).toInt = ((I0 + i.val : ℕ) : ℤ) - ((K0 + j.val : ℕ) : ℤ) := by
    rw [dist_toInt w n hn hw]; push_cast; omega
  generalize ((I0 + i.val : ℕ) : ℤ) - ((K0 + j.val : ℕ) : ℤ) = e at hd ⊢
  have main : ∀ σ : ℝ, BandCore.bias (dist w) (σ : EReal) (⊥ : EReal) (ix2 i j) = ((σ * -(e : ℝ) : ℝ) : EReal) + if 0 ≤ e ∧ e ≤ 128 then 0 else ⊥ :=
    fun σ => BandCore.bias_apply (dist w) σ i j e hd
  fin_cases h
  · refine (main (13316085 / 33554432 * (Real.log 2)⁻¹)).trans ?_
    congr 2; unfold slope; norm_num
  · refine (main (1 / 4 * (Real.log 2)⁻¹)).trans ?_
    congr 2; unfold slope; norm_num
  · refine (main (1321123 / 8388608 * (Real.log 2)⁻¹)).trans ?_
    congr 2; unfold slope; norm_num
  · refine (main (13316085 / 134217728 * (Real.log 2)⁻¹)).trans ?_
    congr 2; unfold slope; norm_num

/-- The first output of a sub-problem. -/
def outOAt (w : BitVec 32) (q : Vec Ideal S1x1x1x128x256 .bf16) (k v : Vec Ideal S1x1x1x256x256 .bf16) : FVec Ideal S1x1x128x256 .f32 :=
  BandChunk.outO q k v (bias0 w) (bias1 w) (bias2 w) (bias3 w)
/-- The second. -/
def outLAt (w : BitVec 32) (q : Vec Ideal S1x1x1x128x256 .bf16) (k : Vec Ideal S1x1x1x256x256 .bf16) : FVec Ideal S1x1x128x256 .f32 :=
  BandChunk.outL q k (bias0 w) (bias1 w) (bias2 w) (bias3 w) (Named.named (F := Ideal) κ "ln2" 0x3F317218#32)

section
variable (c : Dev nD) (t : Fin cfg0.N) (b : Fin 4) (g : ℕ) (hg : g < 2) (hb : (grid0.coords t 0 : ℕ) = b) (hg' : (grid0.coords t 1 : ℕ) = g)
    (e : Fin 2) (s : ℕ) (hs : s < 8) (w : BitVec 32) (hw : w.toInt = ((if s = 0 then 0 else 128 : ℕ) : ℤ))
    (q : Vec Ideal S1x1x1x128x256 .bf16) (k v : Vec Ideal S1x1x1x256x256 .bf16)
    (hq : ∀ i l, q (ix5 0 0 0 i l) = (iblk m c 0 t : Vec Ideal S1x1x2x1024x256 .bf16) (ix5 0 0 e ⟨s * 128 + i.val, by omega⟩ l))
    (hk : ∀ j l, k (ix5 0 0 0 j l) = (iblk m c 1 t : Vec Ideal S1x1x2x1024x256 .bf16) (ix5 0 0 e ⟨(s - 1) * 128 + j.val, by omega⟩ l))
include hg hb hg' hs hw hq hk

/-- What a point stores for a sub-problem in the first output. -/
theorem pieceO (hv : ∀ j l, v (ix5 0 0 0 j l) = (iblk m c 2 t : Vec Ideal S1x1x2x1024x256 .bf16) (ix5 0 0 e ⟨(s - 1) * 128 + j.val, by omega⟩ l))
    (y0 y1 : Fin 1) (y2 : Fin 128) (y3 : Fin 256) (x1 : Fin 2) (x2 : Fin 1024) (x3 : Fin 256)
    (h1 : (x1 : ℕ) = e) (h2 : (x2 : ℕ) = s * 128 + y2) (h3 : (x3 : ℕ) = y3) :
    outOAt w q k v (ix4 y0 y1 y2 y3) = specO m c b ⟨2 * g + x1.val, by omega⟩ x2 x3 := by
  obtain rfl : x1 = e := Fin.ext h1
  obtain rfl : x3 = y3 := Fin.ext h3
  obtain rfl : y0 = 0 := Subsingleton.elim _ _
  obtain rfl : y1 = 0 := Subsingleton.elim _ _
  rw [show x2 = ⟨s * 128 + y2.val, by omega⟩ from Fin.ext h2]
  exact BandCore.mean_eq (n := 1024) _ _ _ slope 4 q k v (bias0 w) (bias1 w) (bias2 w) (bias3 w) (s * 128) ((s - 1) * 128) (by omega) (by omega) (by omega)
    (fun i l => (hq i l).trans (blk_q m c t b g hg hb hg' x1 _ _)) (fun j l => (hk j l).trans (blk_k m c t b g hg hb hg' x1 _ _))
    (fun j l => (hv j l).trans (blk_v m c t b g hg hb hg' x1 _ _))
    (bias_eq w _ _ _ (by split_ifs <;> omega) hw (by split_ifs <;> omega)) ⟨x3.val / 64, by omega⟩ y2 x3 rfl

/-- What a point stores for a sub-problem in the second output. -/
theorem pieceL (y0 y1 : Fin 1) (y2 : Fin 128) (y3 : Fin 256) (x1 : Fin 2) (x2 : Fin 1024) (x3 : Fin 256)
    (h1 : (x1 : ℕ) = e) (h2 : (x2 : ℕ) = s * 128 + y2) (h3 : (x3 : ℕ) = y3) :
    outLAt w q k (ix4 y0 y1 y2 y3) = specL m c b ⟨2 * g + x1.val, by omega⟩ x2 x3 := by
  obtain rfl : x1 = e := Fin.ext h1
  obtain rfl : x3 = y3 := Fin.ext h3
  obtain rfl : y0 = 0 := Subsingleton.elim _ _
  obtain rfl : y1 = 0 := Subsingleton.elim _ _
  rw [show x2 = ⟨s * 128 + y2.val, by omega⟩ from Fin.ext h2]
  exact BandCore.lse_eq (n := 1024) _ _ slope 4 q k (bias0 w) (bias1 w) (bias2 w) (bias3 w) (s * 128) ((s - 1) * 128) (by omega) (by omega) (by omega)
    (fun i l => (hq i l).trans (blk_q m c t b g hg hb hg' x1 _ _)) (fun j l => (hk j l).trans (blk_k m c t b g hg hb hg' x1 _ _))
    (bias_eq w _ _ _ (by split_ifs <;> omega) hw (by split_ifs <;> omega)) ⟨x3.val / 64, by omega⟩ y2 x3 rfl
end
set_option maxHeartbeats 4000000 in
/-- What a point leaves in the first output's block. -/
theorem pointO (c : Dev nD) (t : Fin cfg0.N) (b : Fin 4) (g : ℕ) (hg : g < 2) (hb : (grid0.coords t 0 : ℕ) = b) (hg' : (grid0.coords t 1 : ℕ) = g)
    (z : Fin 1) (x1 : Fin 2) (x2 : Fin 1024) (x3 : Fin 256) : ((outsAt0 m c t).1 : Vec Ideal S1x2x1024x256 .f32) (ix4 z x1 x2 x3) =
      specO m c b ⟨2 * g + x1.val, by omega⟩ x2 x3 := by
  unfold outsAt0 out0_A_3
  dsimp only
  rw [View.read_writes_eq_canon _ _ _ (cover0_A_3 c _ _ _ _ _ _ _ _ _ _ _ _ _ _)]
  unfold kernelRun0_A; dsimp only; sl_unfold_words
  simp only [View.readAt_eq_ld]
  rw [(hs0_0 t).read_unread (iblk m c 0 t), (hs0_1 t).read_unread (iblk m c 1 t), (hs0_2 t).read_unread (iblk m c 2 t)]
  canon_tiles y h
  all_goals idx_vars y
  case piece0 =>
    refine Eq.trans (b := outOAt 128#32
        (View.ld (iblk m c 0 t) (Rect.unit ![0, 0, 1, 896, 0] S1x1x1x128x256.size inb_S1x1x2x1024x256_S1x1x1x128x256_0_0_1_896_0))
        (View.ld (iblk m c 1 t) (Rect.unit (k0_off2 (grid0.coords t) 7#32) S1x1x1x256x256.size (k0_off2_inb (grid0.coords t) 7)))
        (View.ld (iblk m c 2 t) (Rect.unit (k0_off2 (grid0.coords t) 7#32) S1x1x1x256x256.size (k0_off2_inb (grid0.coords t) 7))) (ix4 y0 y1 y2 y3)) ?_ (pieceO m c t b g hg hb hg' 1 7 (by decide) 128#32 rfl _ _ _ (fun i l => ld_q 1 896 _ _ (by decide) i l) (fun j l => ld_k 1 768 _ _ _ (by decide) (off t 7).2.1 j l) (fun j l => ld_k 1 768 _ _ _ (by decide) (off t 7).2.1 j l) y0 y1 y2 y3 x1 x2 x3 (by simpa using h1) (by simpa using h2) (by simpa using h3))
    exact congrFun rfl (ix4 y0 y1 y2 y3)
  case piece1 =>
    refine Eq.trans (b := outOAt 128#32
        (View.ld (iblk m c 0 t) (Rect.unit ![0, 0, 1, 768, 0] S1x1x1x128x256.size inb_S1x1x2x1024x256_S1x1x1x128x256_0_0_1_768_0))
        (View.ld (iblk m c 1 t) (Rect.unit (k0_off2 (grid0.coords t) 6#32) S1x1x1x256x256.size (k0_off2_inb (grid0.coords t) 6)))
        (View.ld (iblk m c 2 t) (Rect.unit (k0_off2 (grid0.coords t) 6#32) S1x1x1x256x256.size (k0_off2_inb (grid0.coords t) 6))) (ix4 y0 y1 y2 y3)) ?_ (pieceO m c t b g hg hb hg' 1 6 (by decide) 128#32 rfl _ _ _ (fun i l => ld_q 1 768 _ _ (by decide) i l) (fun j l => ld_k 1 640 _ _ _ (by decide) (off t 6).2.1 j l) (fun j l => ld_k 1 640 _ _ _ (by decide) (off t 6).2.1 j l) y0 y1 y2 y3 x1 x2 x3 (by simpa using h1) (by simpa using h2) (by simpa using h3))
    exact congrFun rfl (ix4 y0 y1 y2 y3)
  case piece2 =>
    refine Eq.trans (b := outOAt 128#32
        (View.ld (iblk m c 0 t) (Rect.unit ![0, 0, 1, 640, 0] S1x1x1x128x256.size inb_S1x1x2x1024x256_S1x1x1x128x256_0_0_1_640_0))
        (View.ld (iblk m c 1 t) (Rect.unit (k0_off2 (grid0.coords t) 5#32) S1x1x1x256x256.size (k0_off2_inb (grid0.coords t) 5)))
        (View.ld (iblk m c 2 t) (Rect.unit (k0_off2 (grid0.coords t) 5#32) S1x1x1x256x256.size (k0_off2_inb (grid0.coords t) 5))) (ix4 y0 y1 y2 y3)) ?_ (pieceO m c t b g hg hb hg' 1 5 (by decide) 128#32 rfl _ _ _ (fun i l => ld_q 1 640 _ _ (by decide) i l) (fun j l => ld_k 1 512 _ _ _ (by decide) (off t 5).2.1 j l) (fun j l => ld_k 1 512 _ _ _ (by decide) (off t 5).2.1 j l) y0 y1 y2 y3 x1 x2 x3 (by simpa using h1) (by simpa using h2) (by simpa using h3))
    exact congrFun rfl (ix4 y0 y1 y2 y3)
  case piece3 =>
    refine Eq.trans (b := outOAt 128#32
        (View.ld (iblk m c 0 t) (Rect.unit ![0, 0, 1, 512, 0] S1x1x1x128x256.size inb_S1x1x2x1024x256_S1x1x1x128x256_0_0_1_512_0))
        (View.ld (iblk m c 1 t) (Rect.unit (k0_off2 (grid0.coords t) 4#32) S1x1x1x256x256.size (k0_off2_inb (grid0.coords t) 4)))
        (View.ld (iblk m c 2 t) (Rect.unit (k0_off2 (grid0.coords t) 4#32) S1x1x1x256x256.size (k0_off2_inb (grid0.coords t) 4))) (ix4 y0 y1 y2 y3)) ?_ (pieceO m c t b g hg hb hg' 1 4 (by decide) 128#32 rfl _ _ _ (fun i l => ld_q 1 512 _ _ (by decide) i l) (fun j l => ld_k 1 384 _ _ _ (by decide) (off t 4).2.1 j l) (fun j l => ld_k 1 384 _ _ _ (by decide) (off t 4).2.1 j l) y0 y1 y2 y3 x1 x2 x3 (by simpa using h1) (by simpa using h2) (by simpa using h3))
    exact congrFun rfl (ix4 y0 y1 y2 y3)
  case piece4 =>
    refine Eq.trans (b := outOAt 128#32
        (View.ld (iblk m c 0 t) (Rect.unit ![0, 0, 1, 384, 0] S1x1x1x128x256.size inb_S1x1x2x1024x256_S1x1x1x128x256_0_0_1_384_0))
        (View.ld (iblk m c 1 t) (Rect.unit (k0_off2 (grid0.coords t) 3#32) S1x1x1x256x256.size (k0_off2_inb (grid0.coords t) 3)))
        (View.ld (iblk m c 2 t) (Rect.unit (k0_off2 (grid0.coords t) 3#32) S1x1x1x256x256.size (k0_off2_inb (grid0.coords t) 3))) (ix4 y0 y1 y2 y3)) ?_ (pieceO m c t b g hg hb hg' 1 3 (by decide) 128#32 rfl _ _ _ (fun i l => ld_q 1 384 _ _ (by decide) i l) (fun j l => ld_k 1 256 _ _ _ (by decide) (off t 3).2.1 j l) (fun j l => ld_k 1 256 _ _ _ (by decide) (off t 3).2.1 j l) y0 y1 y2 y3 x1 x2 x3 (by simpa using h1) (by simpa using h2) (by simpa using h3))
    exact congrFun rfl (ix4 y0 y1 y2 y3)
  case piece5 =>
    refine Eq.trans (b := outOAt 128#32
        (View.ld (iblk m c 0 t) (Rect.unit ![0, 0, 1, 256, 0] S1x1x1x128x256.size inb_S1x1x2x1024x256_S1x1x1x128x256_0_0_1_256_0))
        (View.ld (iblk m c 1 t) (Rect.unit (k0_off2 (grid0.coords t) 2#32) S1x1x1x256x256.size (k0_off2_inb (grid0.coords t) 2)))
        (View.ld (iblk m c 2 t) (Rect.unit (k0_off2 (grid0.coords t) 2#32) S1x1x1x256x256.size (k0_off2_inb (grid0.coords t) 2))) (ix4 y0 y1 y2 y3)) ?_ (pieceO m c t b g hg hb hg' 1 2 (by decide) 128#32 rfl _ _ _ (fun i l => ld_q 1 256 _ _ (by decide) i l) (fun j l => ld_k 1 128 _ _ _ (by decide) (off t 2).2.1 j l) (fun j l => ld_k 1 128 _ _ _ (by decide) (off t 2).2.1 j l) y0 y1 y2 y3 x1 x2 x3 (by simpa using h1) (by simpa using h2) (by simpa using h3))
    exact congrFun rfl (ix4 y0 y1 y2 y3)
  case piece6 =>
    refine Eq.trans (b := outOAt 128#32
        (View.ld (iblk m c 0 t) (Rect.unit ![0, 0, 1, 128, 0] S1x1x1x128x256.size inb_S1x1x2x1024x256_S1x1x1x128x256_0_0_1_128_0))
        (View.ld (iblk m c 1 t) (Rect.unit (k0_off2 (grid0.coords t) 1#32) S1x1x1x256x256.size (k0_off2_inb (grid0.coords t) 1)))
        (View.ld (iblk m c 2 t) (Rect.unit (k0_off2 (grid0.coords t) 1#32) S1x1x1x256x256.size (k0_off2_inb (grid0.coords t) 1))) (ix4 y0 y1 y2 y3)) ?_ (pieceO m c t b g hg hb hg' 1 1 (by decide) 128#32 rfl _ _ _ (fun i l => ld_q 1 128 _ _ (by decide) i l) (fun j l => ld_k 1 0 _ _ _ (by decide) (off t 1).2.1 j l) (fun j l => ld_k 1 0 _ _ _ (by decide) (off t 1).2.1 j l) y0 y1 y2 y3 x1 x2 x3 (by simpa using h1) (by simpa using h2) (by simpa using h3))
    exact congrFun rfl (ix4 y0 y1 y2 y3)
  case piece7 =>
    refine Eq.trans (b := outOAt (firstOff (grid0.coords t))
        (View.ld (iblk m c 0 t) (Rect.unit ![0, 0, 1, 0, 0] S1x1x1x128x256.size inb_S1x1x2x1024x256_S1x1x1x128x256_0_0_1_0_0))
        (View.ld (iblk m c 1 t) (Rect.unit (k0_off2 (grid0.coords t) 0#32) S1x1x1x256x256.size (k0_off2_inb (grid0.coords t) 0)))
        (View.ld (iblk m c 2 t) (Rect.unit (k0_off2 (grid0.coords t) 0#32) S1x1x1x256x256.size (k0_off2_inb (grid0.coords t) 0))) (ix4 y0 y1 y2 y3)) ?_ (pieceO m c t b g hg hb hg' 1 0 (by decide) (firstOff (grid0.coords t)) (off t 0).2.2 _ _ _ (fun i l => ld_q 1 0 _ _ (by decide) i l) (fun j l => ld_k 1 0 _ _ _ (by decide) (off t 0).2.1 j l) (fun j l => ld_k 1 0 _ _ _ (by decide) (off t 0).2.1 j l) y0 y1 y2 y3 x1 x2 x3 (by simpa using h1) (by simpa using h2) (by simpa using h3))
    exact congrFun rfl (ix4 y0 y1 y2 y3)
  case piece8 =>
    refine Eq.trans (b := outOAt 128#32
        (View.ld (iblk m c 0 t) (Rect.unit ![0, 0, 0, 896, 0] S1x1x1x128x256.size inb_S1x1x2x1024x256_S1x1x1x128x256_0_0_0_896_0))
        (View.ld (iblk m c 1 t) (Rect.unit (k0_off1 (grid0.coords t) 7#32) S1x1x1x256x256.size (k0_off1_inb (grid0.coords t) 7)))
        (View.ld (iblk m c 2 t) (Rect.unit (k0_off1 (grid0.coords t) 7#32) S1x1x1x256x256.size (k0_off1_inb (grid0.coords t) 7))) (ix4 y0 y1 y2 y3)) ?_ (pieceO m c t b g hg hb hg' 0 7 (by decide) 128#32 rfl _ _ _ (fun i l => ld_q 0 896 _ _ (by decide) i l) (fun j l => ld_k 0 768 _ _ _ (by decide) (off t 7).1 j l) (fun j l => ld_k 0 768 _ _ _ (by decide) (off t 7).1 j l) y0 y1 y2 y3 x1 x2 x3 (by simpa using h1) (by simpa using h2) (by simpa using h3))
    exact congrFun rfl (ix4 y0 y1 y2 y3)
  case piece9 =>
    refine Eq.trans (b := outOAt 128#32
        (View.ld (iblk m c 0 t) (Rect.unit ![0, 0, 0, 768, 0] S1x1x1x128x256.size inb_S1x1x2x1024x256_S1x1x1x128x256_0_0_0_768_0))
        (View.ld (iblk m c 1 t) (Rect.unit (k0_off1 (grid0.coords t) 6#32) S1x1x1x256x256.size (k0_off1_inb (grid0.coords t) 6)))
        (View.ld (iblk m c 2 t) (Rect.unit (k0_off1 (grid0.coords t) 6#32) S1x1x1x256x256.size (k0_off1_inb (grid0.coords t) 6))) (ix4 y0 y1 y2 y3)) ?_ (pieceO m c t b g hg hb hg' 0 6 (by decide) 128#32 rfl _ _ _ (fun i l => ld_q 0 768 _ _ (by decide) i l) (fun j l => ld_k 0 640 _ _ _ (by decide) (off t 6).1 j l) (fun j l => ld_k 0 640 _ _ _ (by decide) (off t 6).1 j l) y0 y1 y2 y3 x1 x2 x3 (by simpa using h1) (by simpa using h2) (by simpa using h3))
    exact congrFun rfl (ix4 y0 y1 y2 y3)
  case piece10 =>
    refine Eq.trans (b := outOAt 128#32
        (View.ld (iblk m c 0 t) (Rect.unit ![0, 0, 0, 640, 0] S1x1x1x128x256.size inb_S1x1x2x1024x256_S1x1x1x128x256_0_0_0_640_0))
        (View.ld (iblk m c 1 t) (Rect.unit (k0_off1 (grid0.coords t) 5#32) S1x1x1x256x256.size (k0_off1_inb (grid0.coords t) 5)))
        (View.ld (iblk m c 2 t) (Rect.unit (k0_off1 (grid0.coords t) 5#32) S1x1x1x256x256.size (k0_off1_inb (grid0.coords t) 5))) (ix4 y0 y1 y2 y3)) ?_ (pieceO m c t b g hg hb hg' 0 5 (by decide) 128#32 rfl _ _ _ (fun i l => ld_q 0 640 _ _ (by decide) i l) (fun j l => ld_k 0 512 _ _ _ (by decide) (off t 5).1 j l) (fun j l => ld_k 0 512 _ _ _ (by decide) (off t 5).1 j l) y0 y1 y2 y3 x1 x2 x3 (by simpa using h1) (by simpa using h2) (by simpa using h3))
    exact congrFun rfl (ix4 y0 y1 y2 y3)
  case piece11 =>
    refine Eq.trans (b := outOAt 128#32
        (View.ld (iblk m c 0 t) (Rect.unit ![0, 0, 0, 512, 0] S1x1x1x128x256.size inb_S1x1x2x1024x256_S1x1x1x128x256_0_0_0_512_0))
        (View.ld (iblk m c 1 t) (Rect.unit (k0_off1 (grid0.coords t) 4#32) S1x1x1x256x256.size (k0_off1_inb (grid0.coords t) 4)))
        (View.ld (iblk m c 2 t) (Rect.unit (k0_off1 (grid0.coords t) 4#32) S1x1x1x256x256.size (k0_off1_inb (grid0.coords t) 4))) (ix4 y0 y1 y2 y3)) ?_ (pieceO m c t b g hg hb hg' 0 4 (by decide) 128#32 rfl _ _ _ (fun i l => ld_q 0 512 _ _ (by decide) i l) (fun j l => ld_k 0 384 _ _ _ (by decide) (off t 4).1 j l) (fun j l => ld_k 0 384 _ _ _ (by decide) (off t 4).1 j l) y0 y1 y2 y3 x1 x2 x3 (by simpa using h1) (by simpa using h2) (by simpa using h3))
    exact congrFun rfl (ix4 y0 y1 y2 y3)
  case piece12 =>
    refine Eq.trans (b := outOAt 128#32
        (View.ld (iblk m c 0 t) (Rect.unit ![0, 0, 0, 384, 0] S1x1x1x128x256.size inb_S1x1x2x1024x256_S1x1x1x128x256_0_0_0_384_0))
        (View.ld (iblk m c 1 t) (Rect.unit (k0_off1 (grid0.coords t) 3#32) S1x1x1x256x256.size (k0_off1_inb (grid0.coords t) 3)))
        (View.ld (iblk m c 2 t) (Rect.unit (k0_off1 (grid0.coords t) 3#32) S1x1x1x256x256.size (k0_off1_inb (grid0.coords t) 3))) (ix4 y0 y1 y2 y3)) ?_ (pieceO m c t b g hg hb hg' 0 3 (by decide) 128#32 rfl _ _ _ (fun i l => ld_q 0 384 _ _ (by decide) i l) (fun j l => ld_k 0 256 _ _ _ (by decide) (off t 3).1 j l) (fun j l => ld_k 0 256 _ _ _ (by decide) (off t 3).1 j l) y0 y1 y2 y3 x1 x2 x3 (by simpa using h1) (by simpa using h2) (by simpa using h3))
    exact congrFun rfl (ix4 y0 y1 y2 y3)
  case piece13 =>
    refine Eq.trans (b := outOAt 128#32
        (View.ld (iblk m c 0 t) (Rect.unit ![0, 0, 0, 256, 0] S1x1x1x128x256.size inb_S1x1x2x1024x256_S1x1x1x128x256_0_0_0_256_0))
        (View.ld (iblk m c 1 t) (Rect.unit (k0_off1 (grid0.coords t) 2#32) S1x1x1x256x256.size (k0_off1_inb (grid0.coords t) 2)))
        (View.ld (iblk m c 2 t) (Rect.unit (k0_off1 (grid0.coords t) 2#32) S1x1x1x256x256.size (k0_off1_inb (grid0.coords t) 2))) (ix4 y0 y1 y2 y3)) ?_ (pieceO m c t b g hg hb hg' 0 2 (by decide) 128#32 rfl _ _ _ (fun i l => ld_q 0 256 _ _ (by decide) i l) (fun j l => ld_k 0 128 _ _ _ (by decide) (off t 2).1 j l) (fun j l => ld_k 0 128 _ _ _ (by decide) (off t 2).1 j l) y0 y1 y2 y3 x1 x2 x3 (by simpa using h1) (by simpa using h2) (by simpa using h3))
    exact congrFun rfl (ix4 y0 y1 y2 y3)
  case piece14 =>
    refine Eq.trans (b := outOAt 128#32
        (View.ld (iblk m c 0 t) (Rect.unit ![0, 0, 0, 128, 0] S1x1x1x128x256.size inb_S1x1x2x1024x256_S1x1x1x128x256_0_0_0_128_0))
        (View.ld (iblk m c 1 t) (Rect.unit (k0_off1 (grid0.coords t) 1#32) S1x1x1x256x256.size (k0_off1_inb (grid0.coords t) 1)))
        (View.ld (iblk m c 2 t) (Rect.unit (k0_off1 (grid0.coords t) 1#32) S1x1x1x256x256.size (k0_off1_inb (grid0.coords t) 1))) (ix4 y0 y1 y2 y3)) ?_ (pieceO m c t b g hg hb hg' 0 1 (by decide) 128#32 rfl _ _ _ (fun i l => ld_q 0 128 _ _ (by decide) i l) (fun j l => ld_k 0 0 _ _ _ (by decide) (off t 1).1 j l) (fun j l => ld_k 0 0 _ _ _ (by decide) (off t 1).1 j l) y0 y1 y2 y3 x1 x2 x3 (by simpa using h1) (by simpa using h2) (by simpa using h3))
    exact congrFun rfl (ix4 y0 y1 y2 y3)
  case piece15 =>
    refine Eq.trans (b := outOAt (firstOff (grid0.coords t))
        (View.ld (iblk m c 0 t) (Rect.unit ![0, 0, 0, 0, 0] S1x1x1x128x256.size inb_S1x1x2x1024x256_S1x1x1x128x256_0_0_0_0_0))
        (View.ld (iblk m c 1 t) (Rect.unit (k0_off1 (grid0.coords t) 0#32) S1x1x1x256x256.size (k0_off1_inb (grid0.coords t) 0)))
        (View.ld (iblk m c 2 t) (Rect.unit (k0_off1 (grid0.coords t) 0#32) S1x1x1x256x256.size (k0_off1_inb (grid0.coords t) 0))) (ix4 y0 y1 y2 y3)) ?_ (pieceO m c t b g hg hb hg' 0 0 (by decide) (firstOff (grid0.coords t)) (off t 0).2.2 _ _ _ (fun i l => ld_q 0 0 _ _ (by decide) i l) (fun j l => ld_k 0 0 _ _ _ (by decide) (off t 0).1 j l) (fun j l => ld_k 0 0 _ _ _ (by decide) (off t 0).1 j l) y0 y1 y2 y3 x1 x2 x3 (by simpa using h1) (by simpa using h2) (by simpa using h3))
    exact congrFun rfl (ix4 y0 y1 y2 y3)

set_option maxHeartbeats 4000000 in
/-- What a point leaves in the second output's block. -/
theorem pointL (c : Dev nD) (t : Fin cfg0.N) (b : Fin 4) (g : ℕ) (hg : g < 2) (hb : (grid0.coords t 0 : ℕ) = b) (hg' : (grid0.coords t 1 : ℕ) = g)
    (z : Fin 1) (x1 : Fin 2) (x2 : Fin 1024) (x3 : Fin 256) : ((outsAt0 m c t).2 : Vec Ideal S1x2x1024x256 .f32) (ix4 z x1 x2 x3) =
      specL m c b ⟨2 * g + x1.val, by omega⟩ x2 x3 := by
  unfold outsAt0 out0_A_4
  dsimp only
  rw [View.read_writes_eq_canon _ _ _ (cover0_A_4 c _ _ _ _ _ _ _ _ _ _ _ _ _ _)]
  unfold kernelRun0_A; dsimp only; sl_unfold_words
  simp only [View.readAt_eq_ld]
  rw [(hs0_0 t).read_unread (iblk m c 0 t), (hs0_1 t).read_unread (iblk m c 1 t)]
  canon_tiles y h
  all_goals idx_vars y
  case piece0 =>
    refine Eq.trans (b := outLAt 128#32
        (View.ld (iblk m c 0 t) (Rect.unit ![0, 0, 1, 896, 0] S1x1x1x128x256.size inb_S1x1x2x1024x256_S1x1x1x128x256_0_0_1_896_0))
        (View.ld (iblk m c 1 t) (Rect.unit (k0_off2 (grid0.coords t) 7#32) S1x1x1x256x256.size (k0_off2_inb (grid0.coords t) 7))) (ix4 y0 y1 y2 y3)) ?_ (pieceL m c t b g hg hb hg' 1 7 (by decide) 128#32 rfl _ _ (fun i l => ld_q 1 896 _ _ (by decide) i l) (fun j l => ld_k 1 768 _ _ _ (by decide) (off t 7).2.1 j l) y0 y1 y2 y3 x1 x2 x3 (by simpa using h1) (by simpa using h2) (by simpa using h3))
    exact congrFun rfl (ix4 y0 y1 y2 y3)
  case piece1 =>
    refine Eq.trans (b := outLAt 128#32
        (View.ld (iblk m c 0 t) (Rect.unit ![0, 0, 1, 768, 0] S1x1x1x128x256.size inb_S1x1x2x1024x256_S1x1x1x128x256_0_0_1_768_0))
        (View.ld (iblk m c 1 t) (Rect.unit (k0_off2 (grid0.coords t) 6#32) S1x1x1x256x256.size (k0_off2_inb (grid0.coords t) 6))) (ix4 y0 y1 y2 y3)) ?_ (pieceL m c t b g hg hb hg' 1 6 (by decide) 128#32 rfl _ _ (fun i l => ld_q 1 768 _ _ (by decide) i l) (fun j l => ld_k 1 640 _ _ _ (by decide) (off t 6).2.1 j l) y0 y1 y2 y3 x1 x2 x3 (by simpa using h1) (by simpa using h2) (by simpa using h3))
    exact congrFun rfl (ix4 y0 y1 y2 y3)
  case piece2 =>
    refine Eq.trans (b := outLAt 128#32
        (View.ld (iblk m c 0 t) (Rect.unit ![0, 0, 1, 640, 0] S1x1x1x128x256.size inb_S1x1x2x1024x256_S1x1x1x128x256_0_0_1_640_0))
        (View.ld (iblk m c 1 t) (Rect.unit (k0_off2 (grid0.coords t) 5#32) S1x1x1x256x256.size (k0_off2_inb (grid0.coords t) 5))) (ix4 y0 y1 y2 y3)) ?_ (pieceL m c t b g hg hb hg' 1 5 (by decide) 128#32 rfl _ _ (fun i l => ld_q 1 640 _ _ (by decide) i l) (fun j l => ld_k 1 512 _ _ _ (by decide) (off t 5).2.1 j l) y0 y1 y2 y3 x1 x2 x3 (by simpa using h1) (by simpa using h2) (by simpa using h3))
    exact congrFun rfl (ix4 y0 y1 y2 y3)
  case piece3 =>
    refine Eq.trans (b := outLAt 128#32
        (View.ld (iblk m c 0 t) (Rect.unit ![0, 0, 1, 512, 0] S1x1x1x128x256.size inb_S1x1x2x1024x256_S1x1x1x128x256_0_0_1_512_0))
        (View.ld (iblk m c 1 t) (Rect.unit (k0_off2 (grid0.coords t) 4#32) S1x1x1x256x256.size (k0_off2_inb (grid0.coords t) 4))) (ix4 y0 y1 y2 y3)) ?_ (pieceL m c t b g hg hb hg' 1 4 (by decide) 128#32 rfl _ _ (fun i l => ld_q 1 512 _ _ (by decide) i l) (fun j l => ld_k 1 384 _ _ _ (by decide) (off t 4).2.1 j l) y0 y1 y2 y3 x1 x2 x3 (by simpa using h1) (by simpa using h2) (by simpa using h3))
    exact congrFun rfl (ix4 y0 y1 y2 y3)
  case piece4 =>
    refine Eq.trans (b := outLAt 128#32
        (View.ld (iblk m c 0 t) (Rect.unit ![0, 0, 1, 384, 0] S1x1x1x128x256.size inb_S1x1x2x1024x256_S1x1x1x128x256_0_0_1_384_0))
        (View.ld (iblk m c 1 t) (Rect.unit (k0_off2 (grid0.coords t) 3#32) S1x1x1x256x256.size (k0_off2_inb (grid0.coords t) 3))) (ix4 y0 y1 y2 y3)) ?_ (pieceL m c t b g hg hb hg' 1 3 (by decide) 128#32 rfl _ _ (fun i l => ld_q 1 384 _ _ (by decide) i l) (fun j l => ld_k 1 256 _ _ _ (by decide) (off t 3).2.1 j l) y0 y1 y2 y3 x1 x2 x3 (by simpa using h1) (by simpa using h2) (by simpa using h3))
    exact congrFun rfl (ix4 y0 y1 y2 y3)
  case piece5 =>
    refine Eq.trans (b := outLAt 128#32
        (View.ld (iblk m c 0 t) (Rect.unit ![0, 0, 1, 256, 0] S1x1x1x128x256.size inb_S1x1x2x1024x256_S1x1x1x128x256_0_0_1_256_0))
        (View.ld (iblk m c 1 t) (Rect.unit (k0_off2 (grid0.coords t) 2#32) S1x1x1x256x256.size (k0_off2_inb (grid0.coords t) 2))) (ix4 y0 y1 y2 y3)) ?_ (pieceL m c t b g hg hb hg' 1 2 (by decide) 128#32 rfl _ _ (fun i l => ld_q 1 256 _ _ (by decide) i l) (fun j l => ld_k 1 128 _ _ _ (by decide) (off t 2).2.1 j l) y0 y1 y2 y3 x1 x2 x3 (by simpa using h1) (by simpa using h2) (by simpa using h3))
    exact congrFun rfl (ix4 y0 y1 y2 y3)
  case piece6 =>
    refine Eq.trans (b := outLAt 128#32
        (View.ld (iblk m c 0 t) (Rect.unit ![0, 0, 1, 128, 0] S1x1x1x128x256.size inb_S1x1x2x1024x256_S1x1x1x128x256_0_0_1_128_0))
        (View.ld (iblk m c 1 t) (Rect.unit (k0_off2 (grid0.coords t) 1#32) S1x1x1x256x256.size (k0_off2_inb (grid0.coords t) 1))) (ix4 y0 y1 y2 y3)) ?_ (pieceL m c t b g hg hb hg' 1 1 (by decide) 128#32 rfl _ _ (fun i l => ld_q 1 128 _ _ (by decide) i l) (fun j l => ld_k 1 0 _ _ _ (by decide) (off t 1).2.1 j l) y0 y1 y2 y3 x1 x2 x3 (by simpa using h1) (by simpa using h2) (by simpa using h3))
    exact congrFun rfl (ix4 y0 y1 y2 y3)
  case piece7 =>
    refine Eq.trans (b := outLAt (firstOff (grid0.coords t))
        (View.ld (iblk m c 0 t) (Rect.unit ![0, 0, 1, 0, 0] S1x1x1x128x256.size inb_S1x1x2x1024x256_S1x1x1x128x256_0_0_1_0_0))
        (View.ld (iblk m c 1 t) (Rect.unit (k0_off2 (grid0.coords t) 0#32) S1x1x1x256x256.size (k0_off2_inb (grid0.coords t) 0))) (ix4 y0 y1 y2 y3)) ?_ (pieceL m c t b g hg hb hg' 1 0 (by decide) (firstOff (grid0.coords t)) (off t 0).2.2 _ _ (fun i l => ld_q 1 0 _ _ (by decide) i l) (fun j l => ld_k 1 0 _ _ _ (by decide) (off t 0).2.1 j l) y0 y1 y2 y3 x1 x2 x3 (by simpa using h1) (by simpa using h2) (by simpa using h3))
    exact congrFun rfl (ix4 y0 y1 y2 y3)
  case piece8 =>
    refine Eq.trans (b := outLAt 128#32
        (View.ld (iblk m c 0 t) (Rect.unit ![0, 0, 0, 896, 0] S1x1x1x128x256.size inb_S1x1x2x1024x256_S1x1x1x128x256_0_0_0_896_0))
        (View.ld (iblk m c 1 t) (Rect.unit (k0_off1 (grid0.coords t) 7#32) S1x1x1x256x256.size (k0_off1_inb (grid0.coords t) 7))) (ix4 y0 y1 y2 y3)) ?_ (pieceL m c t b g hg hb hg' 0 7 (by decide) 128#32 rfl _ _ (fun i l => ld_q 0 896 _ _ (by decide) i l) (fun j l => ld_k 0 768 _ _ _ (by decide) (off t 7).1 j l) y0 y1 y2 y3 x1 x2 x3 (by simpa using h1) (by simpa using h2) (by simpa using h3))
    exact congrFun rfl (ix4 y0 y1 y2 y3)
  case piece9 =>
    refine Eq.trans (b := outLAt 128#32
        (View.ld (iblk m c 0 t) (Rect.unit ![0, 0, 0, 768, 0] S1x1x1x128x256.size inb_S1x1x2x1024x256_S1x1x1x128x256_0_0_0_768_0))
        (View.ld (iblk m c 1 t) (Rect.unit (k0_off1 (grid0.coords t) 6#32) S1x1x1x256x256.size (k0_off1_inb (grid0.coords t) 6))) (ix4 y0 y1 y2 y3)) ?_ (pieceL m c t b g hg hb hg' 0 6 (by decide) 128#32 rfl _ _ (fun i l => ld_q 0 768 _ _ (by decide) i l) (fun j l => ld_k 0 640 _ _ _ (by decide) (off t 6).1 j l) y0 y1 y2 y3 x1 x2 x3 (by simpa using h1) (by simpa using h2) (by simpa using h3))
    exact congrFun rfl (ix4 y0 y1 y2 y3)
  case piece10 =>
    refine Eq.trans (b := outLAt 128#32
        (View.ld (iblk m c 0 t) (Rect.unit ![0, 0, 0, 640, 0] S1x1x1x128x256.size inb_S1x1x2x1024x256_S1x1x1x128x256_0_0_0_640_0))
        (View.ld (iblk m c 1 t) (Rect.unit (k0_off1 (grid0.coords t) 5#32) S1x1x1x256x256.size (k0_off1_inb (grid0.coords t) 5))) (ix4 y0 y1 y2 y3)) ?_ (pieceL m c t b g hg hb hg' 0 5 (by decide) 128#32 rfl _ _ (fun i l => ld_q 0 640 _ _ (by decide) i l) (fun j l => ld_k 0 512 _ _ _ (by decide) (off t 5).1 j l) y0 y1 y2 y3 x1 x2 x3 (by simpa using h1) (by simpa using h2) (by simpa using h3))
    exact congrFun rfl (ix4 y0 y1 y2 y3)
  case piece11 =>
    refine Eq.trans (b := outLAt 128#32
        (View.ld (iblk m c 0 t) (Rect.unit ![0, 0, 0, 512, 0] S1x1x1x128x256.size inb_S1x1x2x1024x256_S1x1x1x128x256_0_0_0_512_0))
        (View.ld (iblk m c 1 t) (Rect.unit (k0_off1 (grid0.coords t) 4#32) S1x1x1x256x256.size (k0_off1_inb (grid0.coords t) 4))) (ix4 y0 y1 y2 y3)) ?_ (pieceL m c t b g hg hb hg' 0 4 (by decide) 128#32 rfl _ _ (fun i l => ld_q 0 512 _ _ (by decide) i l) (fun j l => ld_k 0 384 _ _ _ (by decide) (off t 4).1 j l) y0 y1 y2 y3 x1 x2 x3 (by simpa using h1) (by simpa using h2) (by simpa using h3))
    exact congrFun rfl (ix4 y0 y1 y2 y3)
  case piece12 =>
    refine Eq.trans (b := outLAt 128#32
        (View.ld (iblk m c 0 t) (Rect.unit ![0, 0, 0, 384, 0] S1x1x1x128x256.size inb_S1x1x2x1024x256_S1x1x1x128x256_0_0_0_384_0))
        (View.ld (iblk m c 1 t) (Rect.unit (k0_off1 (grid0.coords t) 3#32) S1x1x1x256x256.size (k0_off1_inb (grid0.coords t) 3))) (ix4 y0 y1 y2 y3)) ?_ (pieceL m c t b g hg hb hg' 0 3 (by decide) 128#32 rfl _ _ (fun i l => ld_q 0 384 _ _ (by decide) i l) (fun j l => ld_k 0 256 _ _ _ (by decide) (off t 3).1 j l) y0 y1 y2 y3 x1 x2 x3 (by simpa using h1) (by simpa using h2) (by simpa using h3))
    exact congrFun rfl (ix4 y0 y1 y2 y3)
  case piece13 =>
    refine Eq.trans (b := outLAt 128#32
        (View.ld (iblk m c 0 t) (Rect.unit ![0, 0, 0, 256, 0] S1x1x1x128x256.size inb_S1x1x2x1024x256_S1x1x1x128x256_0_0_0_256_0))
        (View.ld (iblk m c 1 t) (Rect.unit (k0_off1 (grid0.coords t) 2#32) S1x1x1x256x256.size (k0_off1_inb (grid0.coords t) 2))) (ix4 y0 y1 y2 y3)) ?_ (pieceL m c t b g hg hb hg' 0 2 (by decide) 128#32 rfl _ _ (fun i l => ld_q 0 256 _ _ (by decide) i l) (fun j l => ld_k 0 128 _ _ _ (by decide) (off t 2).1 j l) y0 y1 y2 y3 x1 x2 x3 (by simpa using h1) (by simpa using h2) (by simpa using h3))
    exact congrFun rfl (ix4 y0 y1 y2 y3)
  case piece14 =>
    refine Eq.trans (b := outLAt 128#32
        (View.ld (iblk m c 0 t) (Rect.unit ![0, 0, 0, 128, 0] S1x1x1x128x256.size inb_S1x1x2x1024x256_S1x1x1x128x256_0_0_0_128_0))
        (View.ld (iblk m c 1 t) (Rect.unit (k0_off1 (grid0.coords t) 1#32) S1x1x1x256x256.size (k0_off1_inb (grid0.coords t) 1))) (ix4 y0 y1 y2 y3)) ?_ (pieceL m c t b g hg hb hg' 0 1 (by decide) 128#32 rfl _ _ (fun i l => ld_q 0 128 _ _ (by decide) i l) (fun j l => ld_k 0 0 _ _ _ (by decide) (off t 1).1 j l) y0 y1 y2 y3 x1 x2 x3 (by simpa using h1) (by simpa using h2) (by simpa using h3))
    exact congrFun rfl (ix4 y0 y1 y2 y3)
  case piece15 =>
    refine Eq.trans (b := outLAt (firstOff (grid0.coords t))
        (View.ld (iblk m c 0 t) (Rect.unit ![0, 0, 0, 0, 0] S1x1x1x128x256.size inb_S1x1x2x1024x256_S1x1x1x128x256_0_0_0_0_0))
        (View.ld (iblk m c 1 t) (Rect.unit (k0_off1 (grid0.coords t) 0#32) S1x1x1x256x256.size (k0_off1_inb (grid0.coords t) 0))) (ix4 y0 y1 y2 y3)) ?_ (pieceL m c t b g hg hb hg' 0 0 (by decide) (firstOff (grid0.coords t)) (off t 0).2.2 _ _ (fun i l => ld_q 0 0 _ _ (by decide) i l) (fun j l => ld_k 0 0 _ _ _ (by decide) (off t 0).1 j l) y0 y1 y2 y3 x1 x2 x3 (by simpa using h1) (by simpa using h2) (by simpa using h3))
    exact congrFun rfl (ix4 y0 y1 y2 y3)

/-- The first output's block at a point is its part of the result. -/
theorem point_at3 (c : Dev nD) (t : Fin cfg0.N) (y : S1x2x1024x256.Idx) (j : S4x4x1024x256.Idx) (h0 : (j 0 : ℕ) = (grid0.coords t 0 : ℕ))
    (h1 : (j 1 : ℕ) = (grid0.coords t 1 : ℕ) * 2 + (y 1 : ℕ)) (h2 : (j 2 : ℕ) = y 2) (h3 : (j 3 : ℕ) = y 3) : (outsAt0 m c t).1 y = arrO m c j := by
  have hn : (grid0.coords t 1 : ℕ) < 2 := (grid0.coords t 1).isLt
  idx_vars y
  idx_vars j
  refine (pointO m c t j0 _ hn h0.symm rfl y0 y1 y2 y3).trans ?_
  have hy1 : (y1 : ℕ) < 2 := y1.isLt
  have e1 : j1 = ⟨2 * (grid0.coords t 1 : ℕ) + y1, by omega⟩ := Fin.ext (by show (j1 : ℕ) = 2 * _ + _; rw [h1]; exact congrArg (· + (y1 : ℕ)) (Nat.mul_comm _ _))
  have e2 : j2 = y2 := Fin.ext h2
  have e3 : j3 = y3 := Fin.ext h3
  rw [e1, e2, e3]
  rfl

/-- The second output's block. -/
theorem point_at4 (c : Dev nD) (t : Fin cfg0.N) (y : S1x2x1024x256.Idx) (j : S4x4x1024x256.Idx) (h0 : (j 0 : ℕ) = (grid0.coords t 0 : ℕ))
    (h1 : (j 1 : ℕ) = (grid0.coords t 1 : ℕ) * 2 + (y 1 : ℕ)) (h2 : (j 2 : ℕ) = y 2) (h3 : (j 3 : ℕ) = y 3) : (outsAt0 m c t).2 y = arrL m c j := by
  have hn : (grid0.coords t 1 : ℕ) < 2 := (grid0.coords t 1).isLt
  idx_vars y
  idx_vars j
  refine (pointL m c t j0 _ hn h0.symm rfl y0 y1 y2 y3).trans ?_
  have hy1 : (y1 : ℕ) < 2 := y1.isLt
  have e1 : j1 = ⟨2 * (grid0.coords t 1 : ℕ) + y1, by omega⟩ := Fin.ext (by show (j1 : ℕ) = 2 * _ + _; rw [h1]; exact congrArg (· + (y1 : ℕ)) (Nat.mul_comm _ _))
  have e2 : j2 = y2 := Fin.ext h2
  have e3 : j3 = y3 := Fin.ext h3
  rw [e1, e2, e3]
  rfl

/-- The first result array after the run. -/
theorem final3 (c : Dev nD) : (dats m 0 c).arrAt 3 (cfgs 0).N = arrO m c := by
  refine (dats m 0 c).arrAt_eq_of_covers 3 _ (by decide +kernel) fun t _ y => ?_
  blk_simp
  rw [after0_3]
  have hy : ((y 0 : Fin 1) : ℕ) < 1 := (y 0 : Fin 1).isLt
  refine point_at3 m c t y _ ?_ ?_ ?_ ?_
  all_goals (blk_simp [idx t] <;> try omega)

/-- The second result array after the run. -/
theorem final4 (c : Dev nD) : (dats m 0 c).arrAt 4 (cfgs 0).N = arrL m c := by
  refine (dats m 0 c).arrAt_eq_of_covers 4 _ (by decide +kernel) fun t _ y => ?_
  blk_simp
  rw [after0_4]
  have hy : ((y 0 : Fin 1) : ℕ) < 1 := (y 0 : Fin 1).isLt
  refine point_at4 m c t y _ ?_ ?_ ?_ ?_
  all_goals (blk_simp [idx t] <;> try omega)

/-- The kernel's run: the result arrays are the specification over the argument, which ends unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = arrO m c
      ∧ r.2.mem ((c : Thread nD τ).loc main_v0_1) = arrL m c
      ∧ r.2.mem ((c : Thread nD τ).loc main_arg0) = m ((c : Thread nD τ).loc main_arg0) :=
  (θ_run defs _ _).mono (fun _ h c => ⟨((h c).1).trans (final3 m c), ((h c).2.1).trans (final4 m c), (h c).2.2⟩) (Value.run_blocks m ρ)
end Cert.Band4Ideal.Val
-- ==== Proof.BandRef.lean ====
/- The reference of the dilated attention, read at an index: the row softmax of the specification. -/
module
public import proofs.«01_k».proof.Proof.Gen.Band4RefIdeal.Read
public import proofs.«01_k».proof.Proof.BandSpec
public import Idealize.ShloMosaic.Lib.Pointwise
public import Idealize.ShloMosaic.Lib.WordCmp
public import Idealize.ShloMosaic.Lib.Affine
@[expose] public section
set_option maxRecDepth 16384
noncomputable section
namespace Cert.Band4RefIdeal.Val
open Cert.Band4RefIdeal Cert.Band4RefIdeal.Gen Cert.Band4RefIdeal.Read Idealize.ShloMosaic Idealize.ShloMosaic.TcCoe Idealize.SL.Sem
open Idealize.ShloMosaic.WordCmp Idealize.ShloMosaic.Affine

/-- The distance of two rows' tokens, as a word and as an integer. -/
def dist (i j : Fin 1024) : BitVec 32 := IntOp.muli 4#32 (IntOp.subi (BitVec.ofNat 32 i) (BitVec.ofNat 32 j))

/-- The distance word holds four times the distance of the rows. -/
theorem dist_toInt (i j : Fin 1024) : (dist i j).toInt = 4 * ((i.val : ℤ) - (j.val : ℤ)) := by
  have h : IsInt (dist i j) (4 * ((i.val : ℤ) - (j.val : ℤ))) :=
    Affine.muli (Affine.ofNat (e := 4) 4 (by omega)) (Affine.subi (Affine.ofNat (e := (i.val : ℤ)) i.val (by omega)) (Affine.ofNat (e := (j.val : ℤ)) j.val (by omega)) ⟨rfl, by omega, by omega⟩)
      ⟨rfl, by omega, by omega⟩
  unfold IsInt at h; exact h

/-- The mask bit says whether the key is in the window. -/
theorem mask_eq (i j : Fin 1024) :
    val_main_v25 (F := Ideal) (ix2 i j) = BitVec.ofBool (decide (BandSpec.window i j)) := by
  have h : val_main_v25 (F := Ideal) (ix2 i j) = IntOp.andi (IntOp.cmpi .sge (dist i j) 0#32) (IntOp.cmpi .sle (dist i j) 512#32) := by
    pointwise [val_main_v25, val_main_v24, val_main_v23, val_main_c_1, val_main_v22, val_main_v21, val_main_c_0, val_main_v20, val_main_v19, val_main_c, val_main_v18, val_main_v17, val_main_v16, val_main_v15, val_main_v14, val_main_v13, val_main_v12, hlo_ix]
    rfl
  rw [h, cmpi_sge_eq, cmpi_sle_eq, andi_ofBool, dist_toInt, ← Bool.decide_and]
  congr 1
  refine decide_eq_decide.mpr ?_
  unfold BandSpec.window
  rw [show (0#32 : BitVec 32).toInt = 0 from rfl, show (512#32 : BitVec 32).toInt = 512 from rfl]
  omega

/-- A choice by the mask bit is a choice by the window. -/
theorem mask_select {α : Type} (i j : Fin 1024) (a b : α) :
    Scalar.select (val_main_v25 (F := Ideal) (ix2 i j)) a b = if BandSpec.window i j then a else b := by
  rw [mask_eq]; by_cases h : BandSpec.window i j <;> simp [h, Scalar.select]

/-- The four heads' slopes. -/
def slope (h : Fin 4) : ℝ :=
  if h.val < 1 then 13316085 / 2 ^ 27 else if h.val - 1 < 1 then 1 / 16 else if h.val - 1 - 1 < 1 then 1321123 / 2 ^ 25 else 13316085 / 2 ^ 29

section
variable (x0 : Vec Ideal S4x3x4x1024x256 .bf16) (b c : Fin 4)
/-- The rows of the queries, the keys and the values of one class. -/
def rows (a : Fin 3) (i : Fin 1024) (l : Fin 256) : EReal := x0 (ix5 b a c i l)

/-- The scores. -/
theorem score_eq (h : Fin 4) (i j : Fin 1024) :
    val_main_v43 (F := Ideal) x0 (ix5 b c h i j) = BandSpec.score (rows x0 b c 0) (rows x0 b c 1) (slope h) 4 h i j := by
  pointwise [val_main_v43, val_main_v42, val_main_v41, val_main_v40, val_main_v39, val_main_v38, val_main_v37, val_main_v36, val_main_v35, val_main_v34, val_main_v33, val_main_v32, val_main_v31, val_main_v30, val_main_cst_5, val_main_cst_4, val_main_cst_3, val_main_cst_2, val_main_v29, val_main_v28, val_main_v27, val_main_v26, val_main_cst, val_main_v20, val_main_v19, val_main_c, val_main_v18, val_main_v17, val_main_v16, val_main_v15, val_main_v14, val_main_v13, val_main_v12, val_main_v7, val_main_v6, val_main_v5, val_main_v4, val_main_v3, val_main_v2, val_main_v1, val_main_v0]
  rw [BandSpec.log_two]
  unfold BandSpec.score rows
  congr 1
  change _ * (((dist i j).toInt : ℝ) : EReal) = _
  have e1 : Ideal.ofBits .f32 1036726261#32 = ((13316085 / 2 ^ 27 : ℝ) : EReal) := by simp [Ideal.ofBits, Ideal.ieee, -EReal.coe_mul]; norm_num
  have e2 : Ideal.ofBits .f32 1031798784#32 = ((1 / 16 : ℝ) : EReal) := by simp [Ideal.ofBits, Ideal.ieee, -EReal.coe_mul]; norm_num
  have e3 : Ideal.ofBits .f32 1025590552#32 = ((1321123 / 2 ^ 25 : ℝ) : EReal) := by simp [Ideal.ofBits, Ideal.ieee, -EReal.coe_mul]; norm_num
  have e4 : Ideal.ofBits .f32 1019949045#32 = ((13316085 / 2 ^ 29 : ℝ) : EReal) := by simp [Ideal.ofBits, Ideal.ieee, -EReal.coe_mul]; norm_num
  rw [e1, e2, e3, e4, dist_toInt, EReal.coe_mul]
  congr 1
  · unfold slope; split_ifs <;> rfl
  · push_cast; rfl

/-- The masked scores. -/
theorem masked_eq (h : Fin 4) (i j : Fin 1024) :
    val_main_v44 (F := Ideal) x0 (ix5 b c h i j) =
      BandMath.ms (BandSpec.window i) (BandSpec.score (rows x0 b c 0) (rows x0 b c 1) (slope h) 4 h i) j := by
  pointwise [val_main_v44, val_main_call0_v2, val_main_call0_v1, val_main_call0_v0, val_main_cst_6]
  rw [mask_select, score_eq]
  unfold BandMath.ms
  rw [show (id (constant (F := Ideal) S_ .f32 4286578688#32) ix0 : EReal) = ⊥ from by
    show Ideal.ofBits .f32 4286578688#32 = ⊥
    simp [Ideal.ofBits, Ideal.ieee]]

/-- The greatest score of a row. -/
theorem max_eq (h : Fin 4) (i : Fin 1024) :
    val_main_v45 (F := Ideal) x0 (ix4 b c h i) =
      BandMath.mx (BandSpec.window i) (BandSpec.score (rows x0 b c 0) (rows x0 b c 1) (slope h) 4 h i) := by
  pointwise [val_main_v45, val_main_cst_7]
  simp only [masked_eq]
  rw [show Ideal.ofBits .f32 4286578688#32 = ⊥ from by simp [Ideal.ofBits, Ideal.ieee]]; rfl

/-- The weights. -/
theorem p_eq (h : Fin 4) (i j : Fin 1024) :
    val_main_v50 (F := Ideal) x0 (ix5 b c h i j) =
      BandMath.p (BandSpec.window i) (BandSpec.score (rows x0 b c 0) (rows x0 b c 1) (slope h) 4 h i) j := by
  have e : val_main_v49 (F := Ideal) x0 (ix5 b c h i j) = Ideal.exp (val_main_v44 (F := Ideal) x0 (ix5 b c h i j) - val_main_v45 (F := Ideal) x0 (ix4 b c h i)) := by
    pointwise [val_main_v49, val_main_v48, val_main_v47, val_main_v46]
  pointwise [val_main_v50, val_main_call1_v2, val_main_call1_v1, val_main_call1_v0, val_main_cst_8]
  rw [mask_select, e, masked_eq, max_eq]
  unfold BandMath.p
  rw [show (id (constant (F := Ideal) S_ .f32 0#32) ix0 : EReal) = 0 from Ideal.ofBits_zero_f32]

/-- The normaliser of a row. -/
theorem den_eq (h : Fin 4) (i : Fin 1024) :
    val_main_v51 (F := Ideal) x0 (ix4 b c h i) =
      ∑ j, BandMath.p (BandSpec.window i) (BandSpec.score (rows x0 b c 0) (rows x0 b c 1) (slope h) 4 h i) j := by
  pointwise [val_main_v51, val_main_cst_9]
  simp only [p_eq]

/-- The normalised weights. -/
theorem prob_eq (h : Fin 4) (i j : Fin 1024) :
    val_main_v56 (F := Ideal) x0 (ix5 b c h i j) =
      Ideal.div (BandMath.p (BandSpec.window i) (BandSpec.score (rows x0 b c 0) (rows x0 b c 1) (slope h) 4 h i) j)
        (max (∑ j, BandMath.p (BandSpec.window i) (BandSpec.score (rows x0 b c 0) (rows x0 b c 1) (slope h) 4 h i) j) (Ideal.ofBits .f32 228737632#32)) := by
  pointwise [val_main_v56, val_main_v55, val_main_v54, val_main_v53, val_main_v52, val_main_cst_10]
  rw [p_eq, den_eq]

/-- The first result. -/
theorem o_eq (i : Fin 1024) (l : Fin 256) (h : Fin 4) (hl : l.val / 64 = h.val) :
    val_main_v63 (F := Ideal) x0 (ix4 b c i l) = BandSpec.mean (rows x0 b c 0) (rows x0 b c 1) (rows x0 b c 2) (slope h) 4 h i l := by
  pointwise [val_main_v63, val_main_v58, val_main_v57, val_main_v11, val_main_v10, val_main_v9, val_main_v8]
  unfold BandSpec.mean
  refine Finset.sum_congr rfl fun j _ => ?_
  rw [← prob_eq]
  congr 3
  exact Fin.ext hl

end
end Cert.Band4RefIdeal.Val
-- ==== Proof.BandRefLse.lean ====
/- The second result of the reference of the dilated attention, read at an index. -/
module
public import proofs.«01_k».proof.Proof.Gen.Band4RefIdeal.Read
public import proofs.«01_k».proof.Proof.BandRef
public import Idealize.ShloMosaic.Lib.Pointwise
@[expose] public section
set_option maxRecDepth 16384
noncomputable section
namespace Cert.Band4RefIdeal.Val
open Cert.Band4RefIdeal Cert.Band4RefIdeal.Gen Cert.Band4RefIdeal.Read Idealize.ShloMosaic Idealize.ShloMosaic.TcCoe Idealize.SL.Sem
open Idealize.ShloMosaic.WordCmp Idealize.ShloMosaic.Affine

section
variable (x0 : Vec Ideal S4x3x4x1024x256 .bf16) (b c : Fin 4)
/-- The logarithm of the sum, before it is laid out. -/
theorem r60 (h : Fin 4) (i : Fin 1024) : val_main_v60 (F := Ideal) x0 (ix5 b c h i 0) =
    val_main_v46 (F := Ideal) x0 (ix5 b c h i 0) + Ideal.log (val_main_v52 (F := Ideal) x0 (ix5 b c h i 0)) := by
  have e : ∀ x y : EReal, FloatOps.addf (F := Ideal) (φ := .f32) x (FloatOps.hostUnary (F := Ideal) (φ := .f32) .log y) = x + Ideal.log y := fun _ _ => rfl
  rw [val_main_v60_apply, val_main_v59_apply]; exact e _ _
/-- The greatest score as a column. -/
theorem r46 (h : Fin 4) (i : Fin 1024) : val_main_v46 (F := Ideal) x0 (ix5 b c h i 0) = val_main_v45 (F := Ideal) x0 (ix4 b c h i) := by
  pointwise [val_main_v46]
/-- The normaliser as a column. -/
theorem r52 (h : Fin 4) (i : Fin 1024) : val_main_v52 (F := Ideal) x0 (ix5 b c h i 0) = val_main_v51 (F := Ideal) x0 (ix4 b c h i) := by
  pointwise [val_main_v52]
/-- The heads moved behind the rows. -/
theorem r61 (h : Fin 4) (i : Fin 1024) : val_main_v61 (F := Ideal) x0 (ix5 b c i h 0) = val_main_v60 (F := Ideal) x0 (ix5 b c h i 0) := by
  pointwise [val_main_v61]
/-- A column repeated along the lanes of its head. -/
theorem r62 (h : Fin 4) (i : Fin 1024) (d : Fin 64) : val_main_v62 (F := Ideal) x0 (ix5 b c i h d) = val_main_v61 (F := Ideal) x0 (ix5 b c i h 0) := by
  pointwise [val_main_v62]
/-- The heads side by side. -/
theorem r64 (i : Fin 1024) (l : Fin 256) : val_main_v64 (F := Ideal) x0 (ix4 b c i l) = val_main_v62 (F := Ideal) x0 (ix5 b c i ⟨l.val / 64, by omega⟩ ⟨l.val % 64, by omega⟩) := by
  pointwise [val_main_v64]
/-- The second result. -/
theorem lse_eq (i : Fin 1024) (l : Fin 256) (h : Fin 4) (hl : l.val / 64 = h.val) :
    val_main_v64 (F := Ideal) x0 (ix4 b c i l) = BandSpec.lse (rows x0 b c 0) (rows x0 b c 1) (slope h) 4 h i := by
  rw [r64, r62, r61, show (⟨l.val / 64, by omega⟩ : Fin 4) = h from Fin.ext hl, r60, r46, r52, max_eq, den_eq]; rfl
end
end Cert.Band4RefIdeal.Val
-- ==== Proof.BandClaim.lean ====
/- The claims about the dilated attention: the named constants stand for what they replace, and kernel and reference agree. -/
module
public import proofs.«01_k».proof.Defs
public import proofs.«01_k».proof.Proof.Gen.Band4RefIdeal.Run
public import proofs.«01_k».proof.Proof.BandFinal
public import proofs.«01_k».proof.Proof.BandRefLse
@[expose] public section
noncomputable section
namespace Cert.Proof
open Idealize.ShloMosaic Idealize.SL.Sem

/-- Each named constant is what its table says. -/
theorem band_preserves : Cert.preserves_Band4_Band4Ideal :=
  ⟨IdealRules.named_const.statement Cert.Band4Ideal.κ "mask" .f32 0xF149F2CA#32 ⊥ rfl,
   IdealRules.named_const.statement Cert.Band4Ideal.κ "slope0" .f32 0x3F129195#32 (((13316085 / 33554432) * (Real.log 2)⁻¹ : ℝ) : EReal) rfl,
   IdealRules.named_const.statement Cert.Band4Ideal.κ "slope1" .f32 0x3EB8AA3B#32 (((1 / 4) * (Real.log 2)⁻¹ : ℝ) : EReal) rfl,
   IdealRules.named_const.statement Cert.Band4Ideal.κ "slope2" .f32 0x3E68A9CD#32 (((1321123 / 8388608) * (Real.log 2)⁻¹ : ℝ) : EReal) rfl,
   IdealRules.named_const.statement Cert.Band4Ideal.κ "slope3" .f32 0x3E129195#32 (((13316085 / 134217728) * (Real.log 2)⁻¹ : ℝ) : EReal) rfl,
   IdealRules.named_const.statement Cert.Band4Ideal.κ "ln2" .f32 0x3F317218#32 ((Real.log 2 : ℝ) : EReal) rfl⟩

/-- The kernel and the reference leave the same two arrays: the row softmax of `BandSpec`. -/
theorem band_algebraic : Cert.algebraic_Band4Ideal_Band4RefIdeal := by
  intro m g m' g' _ ha
  refine ⟨fun c => Cert.Band4Ideal.Val.arrO m c, fun c => Cert.Band4Ideal.Val.arrL m c, ?_, ?_⟩
  · exact Cert.Band4Ideal.Val.run m g
  · refine (θ_run _ _ _).mono (fun r h c => ⟨?_, ?_, (h c).2.2⟩) (Cert.Band4RefIdeal.Value.run m' g')
    · rw [(h c).1, Cert.Band4RefIdeal.Read.val_main_v63_eq, ha c]
      funext j
      rw [eq_ix4 j]
      exact Cert.Band4RefIdeal.Val.o_eq _ _ _ _ _ ⟨(j 3).val / 64, _⟩ rfl
    · rw [(h c).2.1, Cert.Band4RefIdeal.Read.val_main_v64_eq, ha c]
      funext j
      rw [eq_ix4 j]
      exact Cert.Band4RefIdeal.Val.lse_eq _ _ _ _ _ ⟨(j 3).val / 64, _⟩ rfl
end Cert.Proof
end
-- ==== Proof.MergeSlab.lean ====
/- Reading the staged plane back: a plane written one class at a time, each class's rows a fixed step apart, holds at a row the row's class. -/
module
public import proofs.«01_k».proof.Proof.Gen.MergeIdeal.Skeleton
public import Idealize.ShloMosaic.Lib.Pointwise
public import Idealize.ShloMosaic.Lib.WordCmp
public import Idealize.ShloMosaic.Lib.Pipeline.ValueKit
@[expose] public section
set_option maxRecDepth 16384
noncomputable section
namespace Cert.MergeIdeal.Val
open Cert.MergeIdeal Cert.MergeIdeal.Gen Idealize.ShloMosaic Idealize.ShloMosaic.TcCoe Idealize.SL.Sem

/-- The rows `c`, `c + q`, `c + 2 q`, … of plane `p`. -/
abbrev rowsOf (p c q n : ℕ) (hp : p < 2) (hn : c + q * (n - 1) < 1024) (hq : 0 < q) : Rect S2x1024x128 where
  off := ![p, c, 0]
  size := ![1, n, 128]
  stride := ![1, q, 1]
  inb := by
    intro a; fin_cases a
    · right; show p + 1 * (1 - 1) < 2; omega
    · right; show c + q * (n - 1) < 1024; omega
    · right; show 0 + 1 * (128 - 1) < 128; omega
  stride_pos := by
    intro a; fin_cases a
    · show 0 < 1; omega
    · show 0 < q; omega
    · show 0 < 1; omega

/-- After the last store, a row of its class holds the store's row, and any other what was there before. -/
theorem canon_step (p c q n : ℕ) (hp : p < 2) (hn : c + q * (n - 1) < 1024) (hq : 0 < q) (hc : c < q)
    (w : (rowsOf p c q n hp hn hq).shape.Idx → Elt Ideal .f32) (L : List (View.Piece (Elt Ideal) S2x1024x128 .f32)) (y : S2x1024x128.Idx) :
    ((y 0 : ℕ) = p → (y 1 : ℕ) % q = c → ∀ h : (y 1 : ℕ) / q < n,
      View.canon (⟨rowsOf p c q n hp hn hq, w⟩ :: L) y = w (ix3 (n0 := 1) (n1 := n) (n2 := 128) 0 ⟨(y 1 : ℕ) / q, h⟩ (y 2)))
    ∧ ((y 1 : ℕ) % q ≠ c → View.canon (⟨rowsOf p c q n hp hn hq, w⟩ :: L) y = View.canon L y) := by
  constructor
  · intro h0 h1 h
    have e : (rowsOf p c q n hp hn hq).emb (ix3 (n0 := 1) (n1 := n) (n2 := 128) 0 ⟨(y 1 : ℕ) / q, h⟩ (y 2)) = y := by
      funext a
      fin_cases a
      · apply Fin.ext; rw [Rect.emb_apply]; show p + 1 * 0 = (y 0 : ℕ); omega
      · apply Fin.ext; rw [Rect.emb_apply]; show c + q * ((y 1 : ℕ) / q) = (y 1 : ℕ); rw [← h1]; exact Nat.mod_add_div _ _
      · apply Fin.ext; rw [Rect.emb_apply]; show 0 + 1 * (y 2 : ℕ) = (y 2 : ℕ); omega
    conv_lhs => rw [← e]
    exact View.canon_cons_emb _ _ _ _
  · intro h1
    refine View.canon_cons_of_not_mem _ _ fun hm => h1 ?_
    obtain ⟨x, hx⟩ := (rowsOf p c q n hp hn hq).exists_idx_of_mem hm
    have := congrArg (fun z : S2x1024x128.Idx => (z 1 : ℕ)) hx
    rw [← hx]
    show (c + q * (x 1 : ℕ)) % q = c
    rw [Nat.add_mul_mod_self_left, Nat.mod_eq_of_lt hc]

/-- A class's rows laid flat and put back under a unit axis, at one of them. -/
theorem cast_at256 (Z : S1x1x256x128.Idx → Elt Ideal .f32) (u : Fin 256) (l : Fin 128) :
    (shapeCast S1x256x128 (shapeCast S256x128 Z shapeCasts_S1x1x256x128_S256x128) shapeCasts_S256x128_S1x256x128 : S1x256x128.Idx → Elt Ideal .f32) (ix3 0 u l) = Z (ix4 0 0 u l) := by
  pointwise

/-- Class `c` of a group of step 4 as it is staged in plane 0. -/
abbrev cls4_0 (X : S1x4x256x256.Idx → Elt Ideal .f32) (c : ℕ) (hc : c < 4) : View.Piece (Elt Ideal) S2x1024x128 .f32 :=
  ⟨rowsOf 0 c 4 256 (by decide) (by omega) (by decide), shapeCast S1x256x128 (shapeCast S256x128
    (View.ld (Val := Elt Ideal) (e' := .f32) X (Rect.unit ![0, c, 0, 0] ![1, 1, 256, 128] (by intro a; fin_cases a <;> simp <;> omega))) shapeCasts_S1x1x256x128_S256x128) shapeCasts_S256x128_S1x256x128⟩

/-- Such a class at one of its rows. -/
theorem cls_at4_0 (X : S1x4x256x256.Idx → Elt Ideal .f32) (c : ℕ) (hc : c < 4) (j : S1x1024x128.Idx) (u : Fin 256) (l : Fin 128)
    (h1 : (j 1 : ℕ) % 4 = c) (hu : (u : ℕ) = (j 1 : ℕ) / 4) (hl : (l : ℕ) = (j 2 : ℕ)) :
    (cls4_0 X c hc).2 (ix3 (n0 := 1) (n1 := 256) (n2 := 128) 0 u l)
    = X (ix4 0 ⟨(j 1 : ℕ) % 4, Nat.mod_lt _ (by decide)⟩ ⟨(j 1 : ℕ) / 4, by have := (j 1).isLt; change (j 1 : ℕ) < 1024 at this; omega⟩
        ⟨0 + (j 2 : ℕ), by have := (j 2).isLt; change (j 2 : ℕ) < 128 at this; omega⟩) := by
  refine (cast_at256 (View.ld (Val := Elt Ideal) (e' := .f32) X (Rect.unit ![0, c, 0, 0] ![1, 1, 256, 128] (by intro a; fin_cases a <;> simp <;> omega))) u l).trans ?_
  refine congrArg X (funext fun a => ?_)
  fin_cases a
  · apply Fin.ext; rfl
  · apply Fin.ext; show c + 1 * 0 = (j 1 : ℕ) % 4; omega
  · apply Fin.ext; show 0 + 1 * (u : ℕ) = (j 1 : ℕ) / 4; omega
  · apply Fin.ext; show 0 + 1 * (l : ℕ) = 0 + (j 2 : ℕ); omega

/-- The tokens of a group of step 4 in token order, lanes 0 to 0 + 127. -/
def row4_0 (X : S1x4x256x256.Idx → Elt Ideal .f32) : S1x1024x128.Idx → Elt Ideal .f32 := fun j : S1x1024x128.Idx => X (ix4 0 ⟨(j 1 : ℕ) % 4, Nat.mod_lt _ (by decide)⟩ ⟨(j 1 : ℕ) / 4, by have := (j 1).isLt; change (j 1 : ℕ) < 1024 at this; omega⟩
        ⟨0 + (j 2 : ℕ), by have := (j 2).isLt; change (j 2 : ℕ) < 128 at this; omega⟩)

/-- The staged plane 0 holds the tokens of a group of step 4 in token order. -/
theorem slab4_0 {sig : RefSig} {κ : Kind} {sp : Space} (v : View sig κ sp S2x1024x128 .f32) (X : S1x4x256x256.Idx → Elt Ideal .f32)
    (L : List (View.Piece (Elt Ideal) S2x1024x128 .f32)) (inb : ∀ a, (![0, 0, 0] : Fin 3 → ℕ) a + (![1, 1024, 128] : Fin 3 → ℕ) a ≤ S2x1024x128.size a) :
    v.readCov (cls4_0 X 3 (by decide) :: cls4_0 X 2 (by decide) :: cls4_0 X 1 (by decide) :: cls4_0 X 0 (by decide) :: L)
      (Rect.unit ![0, 0, 0] ![1, 1024, 128] inb).toLoadRect
    = row4_0 X := by
  rw [View.readCov_eq_canon']
  funext j
  have hj : (j 1 : ℕ) < 1024 := (j 1).isLt
  generalize hy : (Rect.unit (s := S2x1024x128) ![0, 0, 0] ![1, 1024, 128] inb).toLoadRect.idx j = y
  have hj0 : (j 0 : ℕ) < 1 := (j 0).isLt
  have y0 : (y 0 : ℕ) = 0 := by rw [← hy]; show 0 + 1 * (j 0 : ℕ) = 0; omega
  have y1 : (y 1 : ℕ) = (j 1 : ℕ) := by rw [← hy]; show 0 + 1 * (j 1 : ℕ) = (j 1 : ℕ); omega
  have y2 : (y 2 : ℕ) = (j 2 : ℕ) := by rw [← hy]; show 0 + 1 * (j 2 : ℕ) = (j 2 : ℕ); omega
  have hq : (y 1 : ℕ) / 4 < 256 := by omega
  by_cases h3 : (y 1 : ℕ) % 4 = 3
  · rw [(canon_step _ _ _ _ _ _ _ (by decide) _ _ y).1 y0 h3 hq]; exact cls_at4_0 X 3 (by decide) j _ _ (y1 ▸ h3) (congrArg (fun z : ℕ => z / 4) y1) y2
  rw [(canon_step _ _ _ _ _ _ _ (by decide) _ _ y).2 h3]
  by_cases h2 : (y 1 : ℕ) % 4 = 2
  · rw [(canon_step _ _ _ _ _ _ _ (by decide) _ _ y).1 y0 h2 hq]; exact cls_at4_0 X 2 (by decide) j _ _ (y1 ▸ h2) (congrArg (fun z : ℕ => z / 4) y1) y2
  rw [(canon_step _ _ _ _ _ _ _ (by decide) _ _ y).2 h2]
  by_cases h1 : (y 1 : ℕ) % 4 = 1
  · rw [(canon_step _ _ _ _ _ _ _ (by decide) _ _ y).1 y0 h1 hq]; exact cls_at4_0 X 1 (by decide) j _ _ (y1 ▸ h1) (congrArg (fun z : ℕ => z / 4) y1) y2
  rw [(canon_step _ _ _ _ _ _ _ (by decide) _ _ y).2 h1]
  by_cases h0 : (y 1 : ℕ) % 4 = 0
  · rw [(canon_step _ _ _ _ _ _ _ (by decide) _ _ y).1 y0 h0 hq]; exact cls_at4_0 X 0 (by decide) j _ _ (y1 ▸ h0) (congrArg (fun z : ℕ => z / 4) y1) y2
  exfalso
  omega

/-- Class `c` of a group of step 4 as it is staged in plane 1. -/
abbrev cls4_1 (X : S1x4x256x256.Idx → Elt Ideal .f32) (c : ℕ) (hc : c < 4) : View.Piece (Elt Ideal) S2x1024x128 .f32 :=
  ⟨rowsOf 1 c 4 256 (by decide) (by omega) (by decide), shapeCast S1x256x128 (shapeCast S256x128
    (View.ld (Val := Elt Ideal) (e' := .f32) X (Rect.unit ![0, c, 0, 128] ![1, 1, 256, 128] (by intro a; fin_cases a <;> simp <;> omega))) shapeCasts_S1x1x256x128_S256x128) shapeCasts_S256x128_S1x256x128⟩

/-- Such a class at one of its rows. -/
theorem cls_at4_1 (X : S1x4x256x256.Idx → Elt Ideal .f32) (c : ℕ) (hc : c < 4) (j : S1x1024x128.Idx) (u : Fin 256) (l : Fin 128)
    (h1 : (j 1 : ℕ) % 4 = c) (hu : (u : ℕ) = (j 1 : ℕ) / 4) (hl : (l : ℕ) = (j 2 : ℕ)) :
    (cls4_1 X c hc).2 (ix3 (n0 := 1) (n1 := 256) (n2 := 128) 0 u l)
    = X (ix4 0 ⟨(j 1 : ℕ) % 4, Nat.mod_lt _ (by decide)⟩ ⟨(j 1 : ℕ) / 4, by have := (j 1).isLt; change (j 1 : ℕ) < 1024 at this; omega⟩
        ⟨128 + (j 2 : ℕ), by have := (j 2).isLt; change (j 2 : ℕ) < 128 at this; omega⟩) := by
  refine (cast_at256 (View.ld (Val := Elt Ideal) (e' := .f32) X (Rect.unit ![0, c, 0, 128] ![1, 1, 256, 128] (by intro a; fin_cases a <;> simp <;> omega))) u l).trans ?_
  refine congrArg X (funext fun a => ?_)
  fin_cases a
  · apply Fin.ext; rfl
  · apply Fin.ext; show c + 1 * 0 = (j 1 : ℕ) % 4; omega
  · apply Fin.ext; show 0 + 1 * (u : ℕ) = (j 1 : ℕ) / 4; omega
  · apply Fin.ext; show 128 + 1 * (l : ℕ) = 128 + (j 2 : ℕ); omega

/-- The tokens of a group of step 4 in token order, lanes 128 to 128 + 127. -/
def row4_1 (X : S1x4x256x256.Idx → Elt Ideal .f32) : S1x1024x128.Idx → Elt Ideal .f32 := fun j : S1x1024x128.Idx => X (ix4 0 ⟨(j 1 : ℕ) % 4, Nat.mod_lt _ (by decide)⟩ ⟨(j 1 : ℕ) / 4, by have := (j 1).isLt; change (j 1 : ℕ) < 1024 at this; omega⟩
        ⟨128 + (j 2 : ℕ), by have := (j 2).isLt; change (j 2 : ℕ) < 128 at this; omega⟩)

/-- The staged plane 1 holds the tokens of a group of step 4 in token order. -/
theorem slab4_1 {sig : RefSig} {κ : Kind} {sp : Space} (v : View sig κ sp S2x1024x128 .f32) (X : S1x4x256x256.Idx → Elt Ideal .f32)
    (L : List (View.Piece (Elt Ideal) S2x1024x128 .f32)) (inb : ∀ a, (![1, 0, 0] : Fin 3 → ℕ) a + (![1, 1024, 128] : Fin 3 → ℕ) a ≤ S2x1024x128.size a) :
    v.readCov (cls4_1 X 3 (by decide) :: cls4_1 X 2 (by decide) :: cls4_1 X 1 (by decide) :: cls4_1 X 0 (by decide) :: L)
      (Rect.unit ![1, 0, 0] ![1, 1024, 128] inb).toLoadRect
    = row4_1 X := by
  rw [View.readCov_eq_canon']
  funext j
  have hj : (j 1 : ℕ) < 1024 := (j 1).isLt
  generalize hy : (Rect.unit (s := S2x1024x128) ![1, 0, 0] ![1, 1024, 128] inb).toLoadRect.idx j = y
  have hj0 : (j 0 : ℕ) < 1 := (j 0).isLt
  have y0 : (y 0 : ℕ) = 1 := by rw [← hy]; show 1 + 1 * (j 0 : ℕ) = 1; omega
  have y1 : (y 1 : ℕ) = (j 1 : ℕ) := by rw [← hy]; show 0 + 1 * (j 1 : ℕ) = (j 1 : ℕ); omega
  have y2 : (y 2 : ℕ) = (j 2 : ℕ) := by rw [← hy]; show 0 + 1 * (j 2 : ℕ) = (j 2 : ℕ); omega
  have hq : (y 1 : ℕ) / 4 < 256 := by omega
  by_cases h3 : (y 1 : ℕ) % 4 = 3
  · rw [(canon_step _ _ _ _ _ _ _ (by decide) _ _ y).1 y0 h3 hq]; exact cls_at4_1 X 3 (by decide) j _ _ (y1 ▸ h3) (congrArg (fun z : ℕ => z / 4) y1) y2
  rw [(canon_step _ _ _ _ _ _ _ (by decide) _ _ y).2 h3]
  by_cases h2 : (y 1 : ℕ) % 4 = 2
  · rw [(canon_step _ _ _ _ _ _ _ (by decide) _ _ y).1 y0 h2 hq]; exact cls_at4_1 X 2 (by decide) j _ _ (y1 ▸ h2) (congrArg (fun z : ℕ => z / 4) y1) y2
  rw [(canon_step _ _ _ _ _ _ _ (by decide) _ _ y).2 h2]
  by_cases h1 : (y 1 : ℕ) % 4 = 1
  · rw [(canon_step _ _ _ _ _ _ _ (by decide) _ _ y).1 y0 h1 hq]; exact cls_at4_1 X 1 (by decide) j _ _ (y1 ▸ h1) (congrArg (fun z : ℕ => z / 4) y1) y2
  rw [(canon_step _ _ _ _ _ _ _ (by decide) _ _ y).2 h1]
  by_cases h0 : (y 1 : ℕ) % 4 = 0
  · rw [(canon_step _ _ _ _ _ _ _ (by decide) _ _ y).1 y0 h0 hq]; exact cls_at4_1 X 0 (by decide) j _ _ (y1 ▸ h0) (congrArg (fun z : ℕ => z / 4) y1) y2
  exfalso
  omega

/-- A class's rows laid flat and put back under a unit axis, at one of them. -/
theorem cast_at64 (Z : S1x1x64x128.Idx → Elt Ideal .f32) (u : Fin 64) (l : Fin 128) :
    (shapeCast S1x64x128 (shapeCast S64x128 Z shapeCasts_S1x1x64x128_S64x128) shapeCasts_S64x128_S1x64x128 : S1x64x128.Idx → Elt Ideal .f32) (ix3 0 u l) = Z (ix4 0 0 u l) := by
  pointwise

/-- Class `c` of a group of step 16 as it is staged in plane 0. -/
abbrev cls16_0 (X : S1x16x64x256.Idx → Elt Ideal .f32) (c : ℕ) (hc : c < 16) : View.Piece (Elt Ideal) S2x1024x128 .f32 :=
  ⟨rowsOf 0 c 16 64 (by decide) (by omega) (by decide), shapeCast S1x64x128 (shapeCast S64x128
    (View.ld (Val := Elt Ideal) (e' := .f32) X (Rect.unit ![0, c, 0, 0] ![1, 1, 64, 128] (by intro a; fin_cases a <;> simp <;> omega))) shapeCasts_S1x1x64x128_S64x128) shapeCasts_S64x128_S1x64x128⟩

/-- Such a class at one of its rows. -/
theorem cls_at16_0 (X : S1x16x64x256.Idx → Elt Ideal .f32) (c : ℕ) (hc : c < 16) (j : S1x1024x128.Idx) (u : Fin 64) (l : Fin 128)
    (h1 : (j 1 : ℕ) % 16 = c) (hu : (u : ℕ) = (j 1 : ℕ) / 16) (hl : (l : ℕ) = (j 2 : ℕ)) :
    (cls16_0 X c hc).2 (ix3 (n0 := 1) (n1 := 64) (n2 := 128) 0 u l)
    = X (ix4 0 ⟨(j 1 : ℕ) % 16, Nat.mod_lt _ (by decide)⟩ ⟨(j 1 : ℕ) / 16, by have := (j 1).isLt; change (j 1 : ℕ) < 1024 at this; omega⟩
        ⟨0 + (j 2 : ℕ), by have := (j 2).isLt; change (j 2 : ℕ) < 128 at this; omega⟩) := by
  refine (cast_at64 (View.ld (Val := Elt Ideal) (e' := .f32) X (Rect.unit ![0, c, 0, 0] ![1, 1, 64, 128] (by intro a; fin_cases a <;> simp <;> omega))) u l).trans ?_
  refine congrArg X (funext fun a => ?_)
  fin_cases a
  · apply Fin.ext; rfl
  · apply Fin.ext; show c + 1 * 0 = (j 1 : ℕ) % 16; omega
  · apply Fin.ext; show 0 + 1 * (u : ℕ) = (j 1 : ℕ) / 16; omega
  · apply Fin.ext; show 0 + 1 * (l : ℕ) = 0 + (j 2 : ℕ); omega

/-- The tokens of a group of step 16 in token order, lanes 0 to 0 + 127. -/
def row16_0 (X : S1x16x64x256.Idx → Elt Ideal .f32) : S1x1024x128.Idx → Elt Ideal .f32 := fun j : S1x1024x128.Idx => X (ix4 0 ⟨(j 1 : ℕ) % 16, Nat.mod_lt _ (by decide)⟩ ⟨(j 1 : ℕ) / 16, by have := (j 1).isLt; change (j 1 : ℕ) < 1024 at this; omega⟩
        ⟨0 + (j 2 : ℕ), by have := (j 2).isLt; change (j 2 : ℕ) < 128 at this; omega⟩)

/-- The staged plane 0 holds the tokens of a group of step 16 in token order. -/
theorem slab16_0 {sig : RefSig} {κ : Kind} {sp : Space} (v : View sig κ sp S2x1024x128 .f32) (X : S1x16x64x256.Idx → Elt Ideal .f32)
    (L : List (View.Piece (Elt Ideal) S2x1024x128 .f32)) (inb : ∀ a, (![0, 0, 0] : Fin 3 → ℕ) a + (![1, 1024, 128] : Fin 3 → ℕ) a ≤ S2x1024x128.size a) :
    v.readCov (cls16_0 X 15 (by decide) :: cls16_0 X 14 (by decide) :: cls16_0 X 13 (by decide) :: cls16_0 X 12 (by decide) :: cls16_0 X 11 (by decide) :: cls16_0 X 10 (by decide) :: cls16_0 X 9 (by decide) :: cls16_0 X 8 (by decide) :: cls16_0 X 7 (by decide) :: cls16_0 X 6 (by decide) :: cls16_0 X 5 (by decide) :: cls16_0 X 4 (by decide) :: cls16_0 X 3 (by decide) :: cls16_0 X 2 (by decide) :: cls16_0 X 1 (by decide) :: cls16_0 X 0 (by decide) :: L)
      (Rect.unit ![0, 0, 0] ![1, 1024, 128] inb).toLoadRect
    = row16_0 X := by
  rw [View.readCov_eq_canon']
  funext j
  have hj : (j 1 : ℕ) < 1024 := (j 1).isLt
  generalize hy : (Rect.unit (s := S2x1024x128) ![0, 0, 0] ![1, 1024, 128] inb).toLoadRect.idx j = y
  have hj0 : (j 0 : ℕ) < 1 := (j 0).isLt
  have y0 : (y 0 : ℕ) = 0 := by rw [← hy]; show 0 + 1 * (j 0 : ℕ) = 0; omega
  have y1 : (y 1 : ℕ) = (j 1 : ℕ) := by rw [← hy]; show 0 + 1 * (j 1 : ℕ) = (j 1 : ℕ); omega
  have y2 : (y 2 : ℕ) = (j 2 : ℕ) := by rw [← hy]; show 0 + 1 * (j 2 : ℕ) = (j 2 : ℕ); omega
  have hq : (y 1 : ℕ) / 16 < 64 := by omega
  by_cases h15 : (y 1 : ℕ) % 16 = 15
  · rw [(canon_step _ _ _ _ _ _ _ (by decide) _ _ y).1 y0 h15 hq]; exact cls_at16_0 X 15 (by decide) j _ _ (y1 ▸ h15) (congrArg (fun z : ℕ => z / 16) y1) y2
  rw [(canon_step _ _ _ _ _ _ _ (by decide) _ _ y).2 h15]
  by_cases h14 : (y 1 : ℕ) % 16 = 14
  · rw [(canon_step _ _ _ _ _ _ _ (by decide) _ _ y).1 y0 h14 hq]; exact cls_at16_0 X 14 (by decide) j _ _ (y1 ▸ h14) (congrArg (fun z : ℕ => z / 16) y1) y2
  rw [(canon_step _ _ _ _ _ _ _ (by decide) _ _ y).2 h14]
  by_cases h13 : (y 1 : ℕ) % 16 = 13
  · rw [(canon_step _ _ _ _ _ _ _ (by decide) _ _ y).1 y0 h13 hq]; exact cls_at16_0 X 13 (by decide) j _ _ (y1 ▸ h13) (congrArg (fun z : ℕ => z / 16) y1) y2
  rw [(canon_step _ _ _ _ _ _ _ (by decide) _ _ y).2 h13]
  by_cases h12 : (y 1 : ℕ) % 16 = 12
  · rw [(canon_step _ _ _ _ _ _ _ (by decide) _ _ y).1 y0 h12 hq]; exact cls_at16_0 X 12 (by decide) j _ _ (y1 ▸ h12) (congrArg (fun z : ℕ => z / 16) y1) y2
  rw [(canon_step _ _ _ _ _ _ _ (by decide) _ _ y).2 h12]
  by_cases h11 : (y 1 : ℕ) % 16 = 11
  · rw [(canon_step _ _ _ _ _ _ _ (by decide) _ _ y).1 y0 h11 hq]; exact cls_at16_0 X 11 (by decide) j _ _ (y1 ▸ h11) (congrArg (fun z : ℕ => z / 16) y1) y2
  rw [(canon_step _ _ _ _ _ _ _ (by decide) _ _ y).2 h11]
  by_cases h10 : (y 1 : ℕ) % 16 = 10
  · rw [(canon_step _ _ _ _ _ _ _ (by decide) _ _ y).1 y0 h10 hq]; exact cls_at16_0 X 10 (by decide) j _ _ (y1 ▸ h10) (congrArg (fun z : ℕ => z / 16) y1) y2
  rw [(canon_step _ _ _ _ _ _ _ (by decide) _ _ y).2 h10]
  by_cases h9 : (y 1 : ℕ) % 16 = 9
  · rw [(canon_step _ _ _ _ _ _ _ (by decide) _ _ y).1 y0 h9 hq]; exact cls_at16_0 X 9 (by decide) j _ _ (y1 ▸ h9) (congrArg (fun z : ℕ => z / 16) y1) y2
  rw [(canon_step _ _ _ _ _ _ _ (by decide) _ _ y).2 h9]
  by_cases h8 : (y 1 : ℕ) % 16 = 8
  · rw [(canon_step _ _ _ _ _ _ _ (by decide) _ _ y).1 y0 h8 hq]; exact cls_at16_0 X 8 (by decide) j _ _ (y1 ▸ h8) (congrArg (fun z : ℕ => z / 16) y1) y2
  rw [(canon_step _ _ _ _ _ _ _ (by decide) _ _ y).2 h8]
  by_cases h7 : (y 1 : ℕ) % 16 = 7
  · rw [(canon_step _ _ _ _ _ _ _ (by decide) _ _ y).1 y0 h7 hq]; exact cls_at16_0 X 7 (by decide) j _ _ (y1 ▸ h7) (congrArg (fun z : ℕ => z / 16) y1) y2
  rw [(canon_step _ _ _ _ _ _ _ (by decide) _ _ y).2 h7]
  by_cases h6 : (y 1 : ℕ) % 16 = 6
  · rw [(canon_step _ _ _ _ _ _ _ (by decide) _ _ y).1 y0 h6 hq]; exact cls_at16_0 X 6 (by decide) j _ _ (y1 ▸ h6) (congrArg (fun z : ℕ => z / 16) y1) y2
  rw [(canon_step _ _ _ _ _ _ _ (by decide) _ _ y).2 h6]
  by_cases h5 : (y 1 : ℕ) % 16 = 5
  · rw [(canon_step _ _ _ _ _ _ _ (by decide) _ _ y).1 y0 h5 hq]; exact cls_at16_0 X 5 (by decide) j _ _ (y1 ▸ h5) (congrArg (fun z : ℕ => z / 16) y1) y2
  rw [(canon_step _ _ _ _ _ _ _ (by decide) _ _ y).2 h5]
  by_cases h4 : (y 1 : ℕ) % 16 = 4
  · rw [(canon_step _ _ _ _ _ _ _ (by decide) _ _ y).1 y0 h4 hq]; exact cls_at16_0 X 4 (by decide) j _ _ (y1 ▸ h4) (congrArg (fun z : ℕ => z / 16) y1) y2
  rw [(canon_step _ _ _ _ _ _ _ (by decide) _ _ y).2 h4]
  by_cases h3 : (y 1 : ℕ) % 16 = 3
  · rw [(canon_step _ _ _ _ _ _ _ (by decide) _ _ y).1 y0 h3 hq]; exact cls_at16_0 X 3 (by decide) j _ _ (y1 ▸ h3) (congrArg (fun z : ℕ => z / 16) y1) y2
  rw [(canon_step _ _ _ _ _ _ _ (by decide) _ _ y).2 h3]
  by_cases h2 : (y 1 : ℕ) % 16 = 2
  · rw [(canon_step _ _ _ _ _ _ _ (by decide) _ _ y).1 y0 h2 hq]; exact cls_at16_0 X 2 (by decide) j _ _ (y1 ▸ h2) (congrArg (fun z : ℕ => z / 16) y1) y2
  rw [(canon_step _ _ _ _ _ _ _ (by decide) _ _ y).2 h2]
  by_cases h1 : (y 1 : ℕ) % 16 = 1
  · rw [(canon_step _ _ _ _ _ _ _ (by decide) _ _ y).1 y0 h1 hq]; exact cls_at16_0 X 1 (by decide) j _ _ (y1 ▸ h1) (congrArg (fun z : ℕ => z / 16) y1) y2
  rw [(canon_step _ _ _ _ _ _ _ (by decide) _ _ y).2 h1]
  by_cases h0 : (y 1 : ℕ) % 16 = 0
  · rw [(canon_step _ _ _ _ _ _ _ (by decide) _ _ y).1 y0 h0 hq]; exact cls_at16_0 X 0 (by decide) j _ _ (y1 ▸ h0) (congrArg (fun z : ℕ => z / 16) y1) y2
  exfalso
  omega

/-- Class `c` of a group of step 16 as it is staged in plane 1. -/
abbrev cls16_1 (X : S1x16x64x256.Idx → Elt Ideal .f32) (c : ℕ) (hc : c < 16) : View.Piece (Elt Ideal) S2x1024x128 .f32 :=
  ⟨rowsOf 1 c 16 64 (by decide) (by omega) (by decide), shapeCast S1x64x128 (shapeCast S64x128
    (View.ld (Val := Elt Ideal) (e' := .f32) X (Rect.unit ![0, c, 0, 128] ![1, 1, 64, 128] (by intro a; fin_cases a <;> simp <;> omega))) shapeCasts_S1x1x64x128_S64x128) shapeCasts_S64x128_S1x64x128⟩

/-- Such a class at one of its rows. -/
theorem cls_at16_1 (X : S1x16x64x256.Idx → Elt Ideal .f32) (c : ℕ) (hc : c < 16) (j : S1x1024x128.Idx) (u : Fin 64) (l : Fin 128)
    (h1 : (j 1 : ℕ) % 16 = c) (hu : (u : ℕ) = (j 1 : ℕ) / 16) (hl : (l : ℕ) = (j 2 : ℕ)) :
    (cls16_1 X c hc).2 (ix3 (n0 := 1) (n1 := 64) (n2 := 128) 0 u l)
    = X (ix4 0 ⟨(j 1 : ℕ) % 16, Nat.mod_lt _ (by decide)⟩ ⟨(j 1 : ℕ) / 16, by have := (j 1).isLt; change (j 1 : ℕ) < 1024 at this; omega⟩
        ⟨128 + (j 2 : ℕ), by have := (j 2).isLt; change (j 2 : ℕ) < 128 at this; omega⟩) := by
  refine (cast_at64 (View.ld (Val := Elt Ideal) (e' := .f32) X (Rect.unit ![0, c, 0, 128] ![1, 1, 64, 128] (by intro a; fin_cases a <;> simp <;> omega))) u l).trans ?_
  refine congrArg X (funext fun a => ?_)
  fin_cases a
  · apply Fin.ext; rfl
  · apply Fin.ext; show c + 1 * 0 = (j 1 : ℕ) % 16; omega
  · apply Fin.ext; show 0 + 1 * (u : ℕ) = (j 1 : ℕ) / 16; omega
  · apply Fin.ext; show 128 + 1 * (l : ℕ) = 128 + (j 2 : ℕ); omega

/-- The tokens of a group of step 16 in token order, lanes 128 to 128 + 127. -/
def row16_1 (X : S1x16x64x256.Idx → Elt Ideal .f32) : S1x1024x128.Idx → Elt Ideal .f32 := fun j : S1x1024x128.Idx => X (ix4 0 ⟨(j 1 : ℕ) % 16, Nat.mod_lt _ (by decide)⟩ ⟨(j 1 : ℕ) / 16, by have := (j 1).isLt; change (j 1 : ℕ) < 1024 at this; omega⟩
        ⟨128 + (j 2 : ℕ), by have := (j 2).isLt; change (j 2 : ℕ) < 128 at this; omega⟩)

/-- The staged plane 1 holds the tokens of a group of step 16 in token order. -/
theorem slab16_1 {sig : RefSig} {κ : Kind} {sp : Space} (v : View sig κ sp S2x1024x128 .f32) (X : S1x16x64x256.Idx → Elt Ideal .f32)
    (L : List (View.Piece (Elt Ideal) S2x1024x128 .f32)) (inb : ∀ a, (![1, 0, 0] : Fin 3 → ℕ) a + (![1, 1024, 128] : Fin 3 → ℕ) a ≤ S2x1024x128.size a) :
    v.readCov (cls16_1 X 15 (by decide) :: cls16_1 X 14 (by decide) :: cls16_1 X 13 (by decide) :: cls16_1 X 12 (by decide) :: cls16_1 X 11 (by decide) :: cls16_1 X 10 (by decide) :: cls16_1 X 9 (by decide) :: cls16_1 X 8 (by decide) :: cls16_1 X 7 (by decide) :: cls16_1 X 6 (by decide) :: cls16_1 X 5 (by decide) :: cls16_1 X 4 (by decide) :: cls16_1 X 3 (by decide) :: cls16_1 X 2 (by decide) :: cls16_1 X 1 (by decide) :: cls16_1 X 0 (by decide) :: L)
      (Rect.unit ![1, 0, 0] ![1, 1024, 128] inb).toLoadRect
    = row16_1 X := by
  rw [View.readCov_eq_canon']
  funext j
  have hj : (j 1 : ℕ) < 1024 := (j 1).isLt
  generalize hy : (Rect.unit (s := S2x1024x128) ![1, 0, 0] ![1, 1024, 128] inb).toLoadRect.idx j = y
  have hj0 : (j 0 : ℕ) < 1 := (j 0).isLt
  have y0 : (y 0 : ℕ) = 1 := by rw [← hy]; show 1 + 1 * (j 0 : ℕ) = 1; omega
  have y1 : (y 1 : ℕ) = (j 1 : ℕ) := by rw [← hy]; show 0 + 1 * (j 1 : ℕ) = (j 1 : ℕ); omega
  have y2 : (y 2 : ℕ) = (j 2 : ℕ) := by rw [← hy]; show 0 + 1 * (j 2 : ℕ) = (j 2 : ℕ); omega
  have hq : (y 1 : ℕ) / 16 < 64 := by omega
  by_cases h15 : (y 1 : ℕ) % 16 = 15
  · rw [(canon_step _ _ _ _ _ _ _ (by decide) _ _ y).1 y0 h15 hq]; exact cls_at16_1 X 15 (by decide) j _ _ (y1 ▸ h15) (congrArg (fun z : ℕ => z / 16) y1) y2
  rw [(canon_step _ _ _ _ _ _ _ (by decide) _ _ y).2 h15]
  by_cases h14 : (y 1 : ℕ) % 16 = 14
  · rw [(canon_step _ _ _ _ _ _ _ (by decide) _ _ y).1 y0 h14 hq]; exact cls_at16_1 X 14 (by decide) j _ _ (y1 ▸ h14) (congrArg (fun z : ℕ => z / 16) y1) y2
  rw [(canon_step _ _ _ _ _ _ _ (by decide) _ _ y).2 h14]
  by_cases h13 : (y 1 : ℕ) % 16 = 13
  · rw [(canon_step _ _ _ _ _ _ _ (by decide) _ _ y).1 y0 h13 hq]; exact cls_at16_1 X 13 (by decide) j _ _ (y1 ▸ h13) (congrArg (fun z : ℕ => z / 16) y1) y2
  rw [(canon_step _ _ _ _ _ _ _ (by decide) _ _ y).2 h13]
  by_cases h12 : (y 1 : ℕ) % 16 = 12
  · rw [(canon_step _ _ _ _ _ _ _ (by decide) _ _ y).1 y0 h12 hq]; exact cls_at16_1 X 12 (by decide) j _ _ (y1 ▸ h12) (congrArg (fun z : ℕ => z / 16) y1) y2
  rw [(canon_step _ _ _ _ _ _ _ (by decide) _ _ y).2 h12]
  by_cases h11 : (y 1 : ℕ) % 16 = 11
  · rw [(canon_step _ _ _ _ _ _ _ (by decide) _ _ y).1 y0 h11 hq]; exact cls_at16_1 X 11 (by decide) j _ _ (y1 ▸ h11) (congrArg (fun z : ℕ => z / 16) y1) y2
  rw [(canon_step _ _ _ _ _ _ _ (by decide) _ _ y).2 h11]
  by_cases h10 : (y 1 : ℕ) % 16 = 10
  · rw [(canon_step _ _ _ _ _ _ _ (by decide) _ _ y).1 y0 h10 hq]; exact cls_at16_1 X 10 (by decide) j _ _ (y1 ▸ h10) (congrArg (fun z : ℕ => z / 16) y1) y2
  rw [(canon_step _ _ _ _ _ _ _ (by decide) _ _ y).2 h10]
  by_cases h9 : (y 1 : ℕ) % 16 = 9
  · rw [(canon_step _ _ _ _ _ _ _ (by decide) _ _ y).1 y0 h9 hq]; exact cls_at16_1 X 9 (by decide) j _ _ (y1 ▸ h9) (congrArg (fun z : ℕ => z / 16) y1) y2
  rw [(canon_step _ _ _ _ _ _ _ (by decide) _ _ y).2 h9]
  by_cases h8 : (y 1 : ℕ) % 16 = 8
  · rw [(canon_step _ _ _ _ _ _ _ (by decide) _ _ y).1 y0 h8 hq]; exact cls_at16_1 X 8 (by decide) j _ _ (y1 ▸ h8) (congrArg (fun z : ℕ => z / 16) y1) y2
  rw [(canon_step _ _ _ _ _ _ _ (by decide) _ _ y).2 h8]
  by_cases h7 : (y 1 : ℕ) % 16 = 7
  · rw [(canon_step _ _ _ _ _ _ _ (by decide) _ _ y).1 y0 h7 hq]; exact cls_at16_1 X 7 (by decide) j _ _ (y1 ▸ h7) (congrArg (fun z : ℕ => z / 16) y1) y2
  rw [(canon_step _ _ _ _ _ _ _ (by decide) _ _ y).2 h7]
  by_cases h6 : (y 1 : ℕ) % 16 = 6
  · rw [(canon_step _ _ _ _ _ _ _ (by decide) _ _ y).1 y0 h6 hq]; exact cls_at16_1 X 6 (by decide) j _ _ (y1 ▸ h6) (congrArg (fun z : ℕ => z / 16) y1) y2
  rw [(canon_step _ _ _ _ _ _ _ (by decide) _ _ y).2 h6]
  by_cases h5 : (y 1 : ℕ) % 16 = 5
  · rw [(canon_step _ _ _ _ _ _ _ (by decide) _ _ y).1 y0 h5 hq]; exact cls_at16_1 X 5 (by decide) j _ _ (y1 ▸ h5) (congrArg (fun z : ℕ => z / 16) y1) y2
  rw [(canon_step _ _ _ _ _ _ _ (by decide) _ _ y).2 h5]
  by_cases h4 : (y 1 : ℕ) % 16 = 4
  · rw [(canon_step _ _ _ _ _ _ _ (by decide) _ _ y).1 y0 h4 hq]; exact cls_at16_1 X 4 (by decide) j _ _ (y1 ▸ h4) (congrArg (fun z : ℕ => z / 16) y1) y2
  rw [(canon_step _ _ _ _ _ _ _ (by decide) _ _ y).2 h4]
  by_cases h3 : (y 1 : ℕ) % 16 = 3
  · rw [(canon_step _ _ _ _ _ _ _ (by decide) _ _ y).1 y0 h3 hq]; exact cls_at16_1 X 3 (by decide) j _ _ (y1 ▸ h3) (congrArg (fun z : ℕ => z / 16) y1) y2
  rw [(canon_step _ _ _ _ _ _ _ (by decide) _ _ y).2 h3]
  by_cases h2 : (y 1 : ℕ) % 16 = 2
  · rw [(canon_step _ _ _ _ _ _ _ (by decide) _ _ y).1 y0 h2 hq]; exact cls_at16_1 X 2 (by decide) j _ _ (y1 ▸ h2) (congrArg (fun z : ℕ => z / 16) y1) y2
  rw [(canon_step _ _ _ _ _ _ _ (by decide) _ _ y).2 h2]
  by_cases h1 : (y 1 : ℕ) % 16 = 1
  · rw [(canon_step _ _ _ _ _ _ _ (by decide) _ _ y).1 y0 h1 hq]; exact cls_at16_1 X 1 (by decide) j _ _ (y1 ▸ h1) (congrArg (fun z : ℕ => z / 16) y1) y2
  rw [(canon_step _ _ _ _ _ _ _ (by decide) _ _ y).2 h1]
  by_cases h0 : (y 1 : ℕ) % 16 = 0
  · rw [(canon_step _ _ _ _ _ _ _ (by decide) _ _ y).1 y0 h0 hq]; exact cls_at16_1 X 0 (by decide) j _ _ (y1 ▸ h0) (congrArg (fun z : ℕ => z / 16) y1) y2
  exfalso
  omega
end Cert.MergeIdeal.Val
-- ==== Proof.MergeSpec.lean ====
/- The gated merge in plain sums over the extended reals: the formula both programs are read down to. -/
module
public import Idealize.ShloMosaic.Lib.Pointwise
@[expose] public section
noncomputable section
namespace Cert.MergeSpec
open Idealize.ShloMosaic

/-- A row scaled by the reciprocal of its root mean square and by the weights `g`. -/
def rms (x g : Fin 1024 → EReal) (d : Fin 1024) : EReal :=
  x d * Ideal.rsqrt (Ideal.div (∑ e : Fin 1024, x e * x e) (Ideal.ofBits .f32 1149239296#32) + Ideal.ofBits .f32 897988541#32) * g d

/-- One over one plus the exponential of minus the argument. -/
def gate (z : EReal) : EReal := Ideal.div 1 (1 + Ideal.exp (-z))

/-- The largest of the three groups' log-denominators. -/
def top (a b c : EReal) : EReal := max (max a b) c

/-- One over the sum of the three groups' exponentials. -/
def inv (a b c : EReal) : EReal :=
  Ideal.div 1 (Ideal.exp (a - top a b c) + Ideal.exp (b - top a b c) + Ideal.exp (c - top a b c))

/-- Three outputs mixed with the softmax of their log-denominators. -/
def mix3 (u v w a b c : EReal) : EReal :=
  u * (Ideal.exp (a - top a b c) * inv a b c) + v * (Ideal.exp (b - top a b c) * inv a b c) + w * (Ideal.exp (c - top a b c) * inv a b c)

variable (x : FVec Ideal ⟨3, ![4, 4096, 1024]⟩ .f32) (oa : FVec Ideal ⟨3, ![4, 4096, 512]⟩ .bf16)
  (o0 : FVec Ideal ⟨4, ![4, 1, 4096, 256]⟩ .f32) (o1 : FVec Ideal ⟨4, ![4, 4, 1024, 256]⟩ .f32) (o2 : FVec Ideal ⟨4, ![4, 16, 256, 256]⟩ .f32)
  (l0 : FVec Ideal ⟨4, ![4, 1, 4096, 256]⟩ .f32) (l1 : FVec Ideal ⟨4, ![4, 4, 1024, 256]⟩ .f32) (l2 : FVec Ideal ⟨4, ![4, 16, 256, 256]⟩ .f32)
  (gm : FVec Ideal ⟨2, ![1, 1024]⟩ .f32) (wm : FVec Ideal ⟨2, ![2048, 1024]⟩ .f32) (wn : FVec Ideal ⟨2, ![512, 1024]⟩ .f32)
  (wd : FVec Ideal ⟨2, ![256, 1024]⟩ .f32) (wo : FVec Ideal ⟨2, ![1024, 1024]⟩ .f32) (gf : FVec Ideal ⟨2, ![1, 1024]⟩ .f32)

/-- Token `s` of a group of step four: row `s / 4` of class `s % 4`. -/
def tok4 (a : FVec Ideal ⟨4, ![4, 4, 1024, 256]⟩ .f32) (b : Fin 4) (s : Fin 4096) (l : Fin 256) : EReal :=
  a (ix4 b ⟨s.val % 4, by omega⟩ ⟨s.val / 4, by omega⟩ l)

/-- Token `s` of a group of step sixteen: row `s / 16` of class `s % 16`. -/
def tok16 (a : FVec Ideal ⟨4, ![4, 16, 256, 256]⟩ .f32) (b : Fin 4) (s : Fin 4096) (l : Fin 256) : EReal :=
  a (ix4 b ⟨s.val % 16, by omega⟩ ⟨s.val / 16, by omega⟩ l)

/-- The dilated attention's output at token `s`: its three groups mixed. -/
def ob (b : Fin 4) (s : Fin 4096) (l : Fin 256) : EReal :=
  mix3 (o0 (ix4 b 0 s l)) (tok4 o1 b s l) (tok16 o2 b s l) (l0 (ix4 b 0 s l)) (tok4 l1 b s l) (tok16 l2 b s l)

/-- Row `q` of the gate's weights against the normalised tokens. -/
def gates (b : Fin 4) (s : Fin 4096) (q : Fin 2048) : EReal :=
  gate (∑ e : Fin 1024, rms (fun e => x (ix3 b s e)) (fun e => gm (ix2 0 e)) e * wm (ix2 q e))

/-- The two attentions' projections, each under its gate. -/
def mixed (b : Fin 4) (s : Fin 4096) (d : Fin 1024) : EReal :=
  gates x gm wm b s ⟨d.val, by omega⟩ * (∑ k : Fin 512, oa (ix3 b s k) * wn (ix2 k d))
    + gates x gm wm b s ⟨1024 + d.val, by omega⟩ * (∑ k : Fin 256, ob o0 o1 o2 l0 l1 l2 b s k * wd (ix2 k d))

/-- The residual stream after the merge. -/
def res (b : Fin 4) (s : Fin 4096) (d : Fin 1024) : EReal :=
  x (ix3 b s d) + ∑ q : Fin 1024, mixed x oa o0 o1 o2 l0 l1 l2 gm wm wn wd b s q * wo (ix2 q d)

/-- The normalised tokens the feed-forward block starts from. -/
def out (b : Fin 4) (s : Fin 4096) (d : Fin 1024) : EReal :=
  rms (fun e => res x oa o0 o1 o2 l0 l1 l2 gm wm wn wd wo b s e) (fun e => gf (ix2 0 e)) d

end Cert.MergeSpec
-- ==== Proof.MergeChunk.lean ====
/- The pieces of the merge kernel's body — the normalised tokens, the dilated attention's mixed halves, a block of 256 columns of the
   mixed projections, and its two last stores — as the formulas of `MergeSpec`. -/
module
public import proofs.«01_k».proof.Proof.Gen.MergeIdeal.Skeleton
public import proofs.«01_k».proof.Proof.MergeSpec
public import Idealize.ShloMosaic.Lib.WordCmp
@[expose] public section
set_option maxRecDepth 16384
noncomputable section
namespace Cert.MergeIdeal.Val
open Cert.MergeIdeal Cert.MergeIdeal.Gen Idealize.ShloMosaic Idealize.ShloMosaic.TcCoe Idealize.SL.Sem

/-- The normalised tokens of a block. -/
theorem norm_apply (x : Vec Ideal S1x1024x1024 .f32) (g : Vec Ideal S1x1024 .f32) (r d : Fin 1024) :
    k0_pay3 x g (ix2 r d) = MergeSpec.rms (fun e => x (ix3 0 r e)) (fun e => g (ix2 0 e)) d := by
  unfold_payloads
  pointwise [hlo_ix, MergeSpec.rms]

/-- Half a block of the mixed groups, from the six staged reads. -/
def half (l0 : Vec Ideal S1x1x1024x128 .f32) (l1 l2 : Vec Ideal S1x1024x128 .f32)
    (o0 : Vec Ideal S1x1x1024x128 .f32) (o1 o2 : Vec Ideal S1x1024x128 .f32) : FVec Ideal S1024x128 .bf16 :=
  k0_pay60 (k0_pay33 (k0_pay4 l0) (k0_pay9 l1) l2) (k0_pay34 (k0_pay4 l0) (k0_pay9 l1) l2) (k0_pay35 (k0_pay4 l0) (k0_pay9 l1) l2)
    (k0_pay36 o0) (k0_pay42 o1) o2

/-- A half at a row is the three groups mixed. -/
theorem half_apply (l0 : Vec Ideal S1x1x1024x128 .f32) (l1 l2 : Vec Ideal S1x1024x128 .f32)
    (o0 : Vec Ideal S1x1x1024x128 .f32) (o1 o2 : Vec Ideal S1x1024x128 .f32) (r : Fin 1024) (l : Fin 128) :
    half l0 l1 l2 o0 o1 o2 (ix2 r l) = MergeSpec.mix3 (o0 (ix4 0 0 r l)) (o1 (ix3 0 r l)) (o2 (ix3 0 r l))
      (l0 (ix4 0 0 r l)) (l1 (ix3 0 r l)) (l2 (ix3 0 r l)) := by
  unfold half
  unfold_payloads
  pointwise [hlo_ix, MergeSpec.mix3, MergeSpec.inv, MergeSpec.top]

/-- The two halves side by side. -/
def both (a : FVec Ideal S1024x128 .bf16) (l0 : Vec Ideal S1x1x1024x128 .f32) (l1 l2 : Vec Ideal S1x1024x128 .f32)
    (o0 : Vec Ideal S1x1x1024x128 .f32) (o1 o2 : Vec Ideal S1x1024x128 .f32) : FVec Ideal S1024x256 .bf16 :=
  k0_pay116 a (k0_pay90 (k0_pay61 l0) (k0_pay66 l1) l2) (k0_pay91 (k0_pay61 l0) (k0_pay66 l1) l2) (k0_pay92 (k0_pay61 l0) (k0_pay66 l1) l2)
    (k0_pay93 o0) (k0_pay98 o1) o2

/-- The two halves at a row: the first below column 128, the second from there. -/
theorem both_apply (a : FVec Ideal S1024x128 .bf16) (l0 : Vec Ideal S1x1x1024x128 .f32) (l1 l2 : Vec Ideal S1x1024x128 .f32)
    (o0 : Vec Ideal S1x1x1024x128 .f32) (o1 o2 : Vec Ideal S1x1024x128 .f32) (G : Fin 1024 → Fin 256 → EReal)
    (ha : ∀ (r : Fin 1024) (l : Fin 128), a (ix2 r l) = G r ⟨l, by omega⟩)
    (hb : ∀ (r : Fin 1024) (l : Fin 128), MergeSpec.mix3 (o0 (ix4 0 0 r l)) (o1 (ix3 0 r l)) (o2 (ix3 0 r l))
      (l0 (ix4 0 0 r l)) (l1 (ix3 0 r l)) (l2 (ix3 0 r l)) = G r ⟨128 + l, by omega⟩) (r : Fin 1024) (k : Fin 256) :
    both a l0 l1 l2 o0 o1 o2 (ix2 r k) = G r k := by
  unfold both
  unfold_payloads
  pointwise [hlo_ix, ha]
  split
  · rfl
  · rename_i hk
    have h := hb r ⟨k - 128, by omega⟩
    unfold MergeSpec.mix3 MergeSpec.inv MergeSpec.top at h
    refine h.trans ?_
    congr 1; apply Fin.ext; show 128 + (k.val - 128) = k.val; omega

/-- A block of 256 columns of the mixed projections. -/
def chunk (h : FVec Ideal S1024x1024 .bf16) (ob : FVec Ideal S1024x256 .bf16) (oa : FVec Ideal S1024x512 .bf16)
    (wa wb : Vec Ideal S256x1024 .bf16) (wn : Vec Ideal S512x256 .bf16) (wd : Vec Ideal S256x256 .bf16) : FVec Ideal S1024x256 .bf16 :=
  k0_pay120 h ob oa (k0_pay118 h wa) (k0_pay119 wb) wn wd

/-- A block of columns at a row and a column. -/
theorem chunk_apply (h : FVec Ideal S1024x1024 .bf16) (ob : FVec Ideal S1024x256 .bf16) (oa : FVec Ideal S1024x512 .bf16)
    (wa wb : Vec Ideal S256x1024 .bf16) (wn : Vec Ideal S512x256 .bf16) (wd : Vec Ideal S256x256 .bf16) (r : Fin 1024) (q : Fin 256) :
    chunk h ob oa wa wb wn wd (ix2 r q) = MergeSpec.gate (∑ e : Fin 1024, h (ix2 r e) * wa (ix2 q e)) * (∑ k : Fin 512, oa (ix2 r k) * wn (ix2 k q))
      + MergeSpec.gate (∑ e : Fin 1024, h (ix2 r e) * wb (ix2 q e)) * (∑ k : Fin 256, ob (ix2 r k) * wd (ix2 k q)) := by
  unfold chunk
  unfold_payloads
  pointwise [hlo_ix, MergeSpec.gate]
  simp only [zero_sub]

/-- The residual's last store at a row and a channel. -/
theorem last_apply (x : Vec Ideal S1x1024x1024 .f32) (mx : Vec Ideal S1024x1024 .bf16) (wo : Vec Ideal S1024x1024 .bf16) (z : Fin 1) (r d : Fin 1024) :
    k0_pay132 (k0_pay2 x) mx wo (ix3 z r d) = x (ix3 0 r d) + ∑ q : Fin 1024, mx (ix2 r q) * wo (ix2 q d) := by
  unfold_payloads
  pointwise [hlo_ix]

/-- The normalised tokens' last store at a row and a channel. -/
theorem out_apply (x : Vec Ideal S1x1024x1024 .f32) (mx : Vec Ideal S1024x1024 .bf16) (wo : Vec Ideal S1024x1024 .bf16) (g : Vec Ideal S1x1024 .f32)
    (z : Fin 1) (r d : Fin 1024) :
    k0_pay1 (k0_pay131 (k0_pay2 x) mx wo) g (k0_pay133 (k0_pay2 x) mx wo) (ix3 z r d)
    = MergeSpec.rms (fun e => x (ix3 0 r e) + ∑ q : Fin 1024, mx (ix2 r q) * wo (ix2 q e)) (fun e => g (ix2 0 e)) d := by
  unfold_payloads
  pointwise [hlo_ix, MergeSpec.rms]

end Cert.MergeIdeal.Val
-- ==== Proof.MergeFinal.lean ====
/- The merge kernel's two result arrays after the run, as the formulas of `MergeSpec` over the arguments. -/
module
public import proofs.«01_k».proof.Proof.Gen.MergeIdeal.Value
public import proofs.«01_k».proof.Proof.MergeSlab
public import proofs.«01_k».proof.Proof.MergeChunk
public import Idealize.ShloMosaic.Lib.Pipeline.ValueKit
@[expose] public section
set_option maxRecDepth 16384
noncomputable section
namespace Cert.MergeIdeal.Val
open Cert.MergeIdeal Cert.MergeIdeal.Gen Idealize.ShloMosaic Idealize.ShloMosaic.TcCoe Idealize.SL.Sem
open Idealize.ShloMosaic.Pipeline (Dat)
variable (m : (ℓ : Loc nD τ sig) → Buf (Elt Ideal) ℓ)

/-- Every window's block index at a grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, 0, (grid0.coords t 1).val, 0]
    ∧ win0_3.index t = ![(grid0.coords t 0).val, 0, (grid0.coords t 1).val, 0]
    ∧ win0_4.index t = ![(grid0.coords t 0).val, 0, (grid0.coords t 1).val, 0]
    ∧ win0_5.index t = ![(grid0.coords t 0).val, 0, (grid0.coords t 1).val, 0]
    ∧ win0_6.index t = ![(grid0.coords t 0).val, 0, (grid0.coords t 1).val, 0]
    ∧ win0_7.index t = ![(grid0.coords t 0).val, 0, (grid0.coords t 1).val, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![(grid0.coords t 0).val, (grid0.coords t 1).val, 0]
    ∧ win0_15.index t = ![(grid0.coords t 0).val, (grid0.coords t 1).val, 0] :=
  (by decide +kernel : ∀ t : Fin grid0.N, _)

/-- The first result array the run leaves. -/
abbrev arrX (c : Dev nD) : FVec Ideal S4x4096x1024 .f32 := fun j =>
  MergeSpec.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (j 0) (j 1) (j 2)
/-- The second of them. -/
abbrev arrH (c : Dev nD) : FVec Ideal S4x4096x1024 .bf16 := fun j =>
  MergeSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (j 0) (j 1) (j 2)

section
variable (c : Dev nD) (t : Fin cfg0.N)

/-- The gate's weights, whole at every point. -/
theorem blk_wm (q : Fin 2048) (e : Fin 1024) :
    (iblk m c 9 t : Vec Ideal S2048x1024 .bf16) (ix2 q e) = ((m ((c : Thread nD τ).loc main_arg9)) : Vec Ideal S2048x1024 .f32) (ix2 q e) := by
  blk_point [iblk, idx t]
/-- The first projection's weights, whole at every point. -/
theorem blk_wn (q : Fin 512) (e : Fin 1024) :
    (iblk m c 10 t : Vec Ideal S512x1024 .bf16) (ix2 q e) = ((m ((c : Thread nD τ).loc main_arg10)) : Vec Ideal S512x1024 .f32) (ix2 q e) := by
  blk_point [iblk, idx t]
/-- The second projection's weights, whole at every point. -/
theorem blk_wd (q : Fin 256) (e : Fin 1024) :
    (iblk m c 11 t : Vec Ideal S256x1024 .bf16) (ix2 q e) = ((m ((c : Thread nD τ).loc main_arg11)) : Vec Ideal S256x1024 .f32) (ix2 q e) := by
  blk_point [iblk, idx t]
/-- The output projection's weights, whole at every point. -/
theorem blk_wo (q : Fin 1024) (e : Fin 1024) :
    (iblk m c 12 t : Vec Ideal S1024x1024 .bf16) (ix2 q e) = ((m ((c : Thread nD τ).loc main_arg12)) : Vec Ideal S1024x1024 .f32) (ix2 q e) := by
  blk_point [iblk, idx t]
/-- The mixing normalisation's weights, whole at every point. -/
theorem blk_gm (e : Fin 1024) :
    (iblk m c 8 t : Vec Ideal S1x1024 .f32) (ix2 0 e) = ((m ((c : Thread nD τ).loc main_arg8)) : Vec Ideal S1x1024 .f32) (ix2 0 e) := by
  blk_ext [iblk, V, idx t]
/-- The last normalisation's weights, whole at every point. -/
theorem blk_gf (e : Fin 1024) :
    (iblk m c 13 t : Vec Ideal S1x1024 .f32) (ix2 0 e) = ((m ((c : Thread nD τ).loc main_arg13)) : Vec Ideal S1x1024 .f32) (ix2 0 e) := by
  blk_ext [iblk, V, idx t]

variable (b : Fin 4) (n : ℕ) (hn : n < 4) (hb : (grid0.coords t 0 : ℕ) = b) (hi : (grid0.coords t 1 : ℕ) = n)
include hn hb hi

/-- The residual rows of a point. -/
theorem blk_x (r : Fin 1024) (e : Fin 1024) :
    (iblk m c 0 t : Vec Ideal S1x1024x1024 .f32) (ix3 0 r e) = ((m ((c : Thread nD τ).loc main_arg0)) : Vec Ideal S4x4096x1024 .f32) (ix3 b ⟨n * 1024 + r, by omega⟩ e) := by
  blk_ext [iblk, V, idx t]
/-- The first attention's rows of a point. -/
theorem blk_oa (r : Fin 1024) (e : Fin 512) :
    (iblk m c 1 t : Vec Ideal S1x1024x512 .bf16) (ix3 0 r e) = ((m ((c : Thread nD τ).loc main_arg1)) : Vec Ideal S4x4096x512 .bf16) (ix3 b ⟨n * 1024 + r, by omega⟩ e) := by
  blk_ext [iblk, V, idx t]
/-- The rows of a point of a group of step one. -/
theorem blk_o0 (r : Fin 1024) (l : Fin 256) :
    (iblk m c 2 t : Vec Ideal S1x1x1024x256 .f32) (ix4 0 0 r l) = ((m ((c : Thread nD τ).loc main_arg2)) : Vec Ideal S4x1x4096x256 .f32) (ix4 b 0 ⟨n * 1024 + r, by omega⟩ l) := by
  blk_ext [iblk, V, idx t]
/-- The rows of a point of a group of step one. -/
theorem blk_l0 (r : Fin 1024) (l : Fin 256) :
    (iblk m c 5 t : Vec Ideal S1x1x1024x256 .f32) (ix4 0 0 r l) = ((m ((c : Thread nD τ).loc main_arg5)) : Vec Ideal S4x1x4096x256 .f32) (ix4 b 0 ⟨n * 1024 + r, by omega⟩ l) := by
  blk_ext [iblk, V, idx t]
/-- The classes of a point of a group of step four. -/
theorem blk_o1 (q : Fin 4) (r : Fin 256) (l : Fin 256) :
    (iblk m c 3 t : Vec Ideal S1x4x256x256 .f32) (ix4 0 q r l) = ((m ((c : Thread nD τ).loc main_arg3)) : Vec Ideal S4x4x1024x256 .f32) (ix4 b q ⟨n * 256 + r, by omega⟩ l) := by
  blk_ext [iblk, V, idx t]
/-- The classes of a point of a group of step four. -/
theorem blk_l1 (q : Fin 4) (r : Fin 256) (l : Fin 256) :
    (iblk m c 6 t : Vec Ideal S1x4x256x256 .f32) (ix4 0 q r l) = ((m ((c : Thread nD τ).loc main_arg6)) : Vec Ideal S4x4x1024x256 .f32) (ix4 b q ⟨n * 256 + r, by omega⟩ l) := by
  blk_ext [iblk, V, idx t]
/-- The classes of a point of a group of step sixteen. -/
theorem blk_o2 (q : Fin 16) (r : Fin 64) (l : Fin 256) :
    (iblk m c 4 t : Vec Ideal S1x16x64x256 .f32) (ix4 0 q r l) = ((m ((c : Thread nD τ).loc main_arg4)) : Vec Ideal S4x16x256x256 .f32) (ix4 b q ⟨n * 64 + r, by omega⟩ l) := by
  blk_ext [iblk, V, idx t]
/-- The classes of a point of a group of step sixteen. -/
theorem blk_l2 (q : Fin 16) (r : Fin 64) (l : Fin 256) :
    (iblk m c 7 t : Vec Ideal S1x16x64x256 .f32) (ix4 0 q r l) = ((m ((c : Thread nD τ).loc main_arg7)) : Vec Ideal S4x16x256x256 .f32) (ix4 b q ⟨n * 64 + r, by omega⟩ l) := by
  blk_ext [iblk, V, idx t]
/-- Such a group's staged rows are its tokens. -/
theorem row_o1_0 (r : Fin 1024) (l : Fin 128) :
    row4_0 (iblk m c 3 t) (ix3 0 r l) = MergeSpec.tok4 (m ((c : Thread nD τ).loc main_arg3)) b ⟨n * 1024 + r, by omega⟩ ⟨0 + l, by omega⟩ := by
  refine (blk_o1 m c t b n hn hb hi _ _ _).trans ?_
  unfold MergeSpec.tok4
  congr 2 <;> (apply Fin.ext; first | (show r.val % 4 = (n * 1024 + r.val) % 4; omega) | (show n * 256 + r.val / 4 = (n * 1024 + r.val) / 4; omega))
/-- Such a group's staged rows are its tokens. -/
theorem row_l1_0 (r : Fin 1024) (l : Fin 128) :
    row4_0 (iblk m c 6 t) (ix3 0 r l) = MergeSpec.tok4 (m ((c : Thread nD τ).loc main_arg6)) b ⟨n * 1024 + r, by omega⟩ ⟨0 + l, by omega⟩ := by
  refine (blk_l1 m c t b n hn hb hi _ _ _).trans ?_
  unfold MergeSpec.tok4
  congr 2 <;> (apply Fin.ext; first | (show r.val % 4 = (n * 1024 + r.val) % 4; omega) | (show n * 256 + r.val / 4 = (n * 1024 + r.val) / 4; omega))
/-- Such a group's staged rows are its tokens. -/
theorem row_o2_0 (r : Fin 1024) (l : Fin 128) :
    row16_0 (iblk m c 4 t) (ix3 0 r l) = MergeSpec.tok16 (m ((c : Thread nD τ).loc main_arg4)) b ⟨n * 1024 + r, by omega⟩ ⟨0 + l, by omega⟩ := by
  refine (blk_o2 m c t b n hn hb hi _ _ _).trans ?_
  unfold MergeSpec.tok16
  congr 2 <;> (apply Fin.ext; first | (show r.val % 16 = (n * 1024 + r.val) % 16; omega) | (show n * 64 + r.val / 16 = (n * 1024 + r.val) / 16; omega))
/-- Such a group's staged rows are its tokens. -/
theorem row_l2_0 (r : Fin 1024) (l : Fin 128) :
    row16_0 (iblk m c 7 t) (ix3 0 r l) = MergeSpec.tok16 (m ((c : Thread nD τ).loc main_arg7)) b ⟨n * 1024 + r, by omega⟩ ⟨0 + l, by omega⟩ := by
  refine (blk_l2 m c t b n hn hb hi _ _ _).trans ?_
  unfold MergeSpec.tok16
  congr 2 <;> (apply Fin.ext; first | (show r.val % 16 = (n * 1024 + r.val) % 16; omega) | (show n * 64 + r.val / 16 = (n * 1024 + r.val) / 16; omega))
/-- Such a group's staged rows are its tokens. -/
theorem row_o1_1 (r : Fin 1024) (l : Fin 128) :
    row4_1 (iblk m c 3 t) (ix3 0 r l) = MergeSpec.tok4 (m ((c : Thread nD τ).loc main_arg3)) b ⟨n * 1024 + r, by omega⟩ ⟨128 + l, by omega⟩ := by
  refine (blk_o1 m c t b n hn hb hi _ _ _).trans ?_
  unfold MergeSpec.tok4
  congr 2 <;> (apply Fin.ext; first | (show r.val % 4 = (n * 1024 + r.val) % 4; omega) | (show n * 256 + r.val / 4 = (n * 1024 + r.val) / 4; omega))
/-- Such a group's staged rows are its tokens. -/
theorem row_l1_1 (r : Fin 1024) (l : Fin 128) :
    row4_1 (iblk m c 6 t) (ix3 0 r l) = MergeSpec.tok4 (m ((c : Thread nD τ).loc main_arg6)) b ⟨n * 1024 + r, by omega⟩ ⟨128 + l, by omega⟩ := by
  refine (blk_l1 m c t b n hn hb hi _ _ _).trans ?_
  unfold MergeSpec.tok4
  congr 2 <;> (apply Fin.ext; first | (show r.val % 4 = (n * 1024 + r.val) % 4; omega) | (show n * 256 + r.val / 4 = (n * 1024 + r.val) / 4; omega))
/-- Such a group's staged rows are its tokens. -/
theorem row_o2_1 (r : Fin 1024) (l : Fin 128) :
    row16_1 (iblk m c 4 t) (ix3 0 r l) = MergeSpec.tok16 (m ((c : Thread nD τ).loc main_arg4)) b ⟨n * 1024 + r, by omega⟩ ⟨128 + l, by omega⟩ := by
  refine (blk_o2 m c t b n hn hb hi _ _ _).trans ?_
  unfold MergeSpec.tok16
  congr 2 <;> (apply Fin.ext; first | (show r.val % 16 = (n * 1024 + r.val) % 16; omega) | (show n * 64 + r.val / 16 = (n * 1024 + r.val) / 16; omega))
/-- Such a group's staged rows are its tokens. -/
theorem row_l2_1 (r : Fin 1024) (l : Fin 128) :
    row16_1 (iblk m c 7 t) (ix3 0 r l) = MergeSpec.tok16 (m ((c : Thread nD τ).loc main_arg7)) b ⟨n * 1024 + r, by omega⟩ ⟨128 + l, by omega⟩ := by
  refine (blk_l2 m c t b n hn hb hi _ _ _).trans ?_
  unfold MergeSpec.tok16
  congr 2 <;> (apply Fin.ext; first | (show r.val % 16 = (n * 1024 + r.val) % 16; omega) | (show n * 64 + r.val / 16 = (n * 1024 + r.val) / 16; omega))
end

/-- The normalised tokens of a point. -/
def hB (c : Dev nD) (t : Fin cfg0.N) : FVec Ideal S1024x1024 .bf16 := k0_pay3 (View.ld (iblk m c 0 t) (Rect.unit ![0, 0, 0] ![1, 1024, 1024] inb_S1x1024x1024_S1x1024x1024_0_0_0))
  (View.ld (iblk m c 8 t) (Rect.unit ![0, 0] ![1, 1024] inb_S1x1024_S1x1024_0_0))
/-- The dilated attention of a point. -/
def obB (c : Dev nD) (t : Fin cfg0.N) : FVec Ideal S1024x256 .bf16 := both (half (View.ld (iblk m c 5 t) (Rect.unit ![0, 0, 0, 0] ![1, 1, 1024, 128] inb_S1x1x1024x256_S1x1x1024x128_0_0_0_0)) (row4_0 (iblk m c 6 t)) (row16_0 (iblk m c 7 t))
    (View.ld (iblk m c 2 t) (Rect.unit ![0, 0, 0, 0] ![1, 1, 1024, 128] inb_S1x1x1024x256_S1x1x1024x128_0_0_0_0)) (row4_0 (iblk m c 3 t)) (row16_0 (iblk m c 4 t)))
    (View.ld (iblk m c 5 t) (Rect.unit ![0, 0, 0, 128] ![1, 1, 1024, 128] inb_S1x1x1024x256_S1x1x1024x128_0_0_0_128)) (row4_1 (iblk m c 6 t)) (row16_1 (iblk m c 7 t))
    (View.ld (iblk m c 2 t) (Rect.unit ![0, 0, 0, 128] ![1, 1, 1024, 128] inb_S1x1x1024x256_S1x1x1024x128_0_0_0_128)) (row4_1 (iblk m c 3 t)) (row16_1 (iblk m c 4 t))
/-- The first attention of a point. -/
def oaB (c : Dev nD) (t : Fin cfg0.N) : FVec Ideal S1024x512 .bf16 :=
  k0_pay117 (View.ld (iblk m c 1 t) (Rect.unit ![0, 0, 0] ![1, 1024, 512] inb_S1x1024x512_S1x1024x512_0_0_0))

section
variable (c : Dev nD) (t : Fin cfg0.N) (b : Fin 4) (n : ℕ) (hn : n < 4) (hb : (grid0.coords t 0 : ℕ) = b) (hi : (grid0.coords t 1 : ℕ) = n)
include hn hb hi

/-- They are the tokens' rows scaled. -/
theorem hB_at (r d : Fin 1024) : hB m c t (ix2 r d) = MergeSpec.rms (fun e => ((m ((c : Thread nD τ).loc main_arg0)) : Vec Ideal S4x4096x1024 .f32) (ix3 b ⟨n * 1024 + r, by omega⟩ e))
    (fun e => ((m ((c : Thread nD τ).loc main_arg8)) : Vec Ideal S1x1024 .f32) (ix2 0 e)) d := by
  unfold hB
  rw [norm_apply]
  congr 1 <;> funext e
  · exact (show _ = (iblk m c 0 t : Vec Ideal S1x1024x1024 .f32) (ix3 0 r e) by pointwise).trans (blk_x m c t b n hn hb hi r e)
  · exact (show _ = (iblk m c 8 t : Vec Ideal S1x1024 .f32) (ix2 0 e) by pointwise).trans (blk_gm m c t e)

/-- It is its rows. -/
theorem oaB_at (r : Fin 1024) (e : Fin 512) : oaB m c t (ix2 r e) = ((m ((c : Thread nD τ).loc main_arg1)) : Vec Ideal S4x4096x512 .bf16) (ix3 b ⟨n * 1024 + r, by omega⟩ e) := by
  unfold oaB
  refine (show _ = (iblk m c 1 t : Vec Ideal S1x1024x512 .bf16) (ix3 0 r e) by unfold_payloads; pointwise).trans (blk_oa m c t b n hn hb hi r e)

/-- The rows of step one, lanes 0 to 127. -/
theorem ld_o0_0 (r : Fin 1024) (l : Fin 128) : (View.ld (iblk m c 2 t) (Rect.unit ![0, 0, 0, 0] ![1, 1, 1024, 128] inb_S1x1x1024x256_S1x1x1024x128_0_0_0_0)) (ix4 0 0 r l)
    = ((m ((c : Thread nD τ).loc main_arg2)) : Vec Ideal S4x1x4096x256 .f32) (ix4 b 0 ⟨n * 1024 + r, by omega⟩ ⟨0 + l, by omega⟩) := by
  refine (show _ = (iblk m c 2 t : Vec Ideal S1x1x1024x256 .f32) (ix4 0 0 r ⟨0 + l, by omega⟩) by pointwise).trans (blk_o0 m c t b n hn hb hi r _)

/-- The rows of step one, lanes 0 to 127. -/
theorem ld_l0_0 (r : Fin 1024) (l : Fin 128) : (View.ld (iblk m c 5 t) (Rect.unit ![0, 0, 0, 0] ![1, 1, 1024, 128] inb_S1x1x1024x256_S1x1x1024x128_0_0_0_0)) (ix4 0 0 r l)
    = ((m ((c : Thread nD τ).loc main_arg5)) : Vec Ideal S4x1x4096x256 .f32) (ix4 b 0 ⟨n * 1024 + r, by omega⟩ ⟨0 + l, by omega⟩) := by
  refine (show _ = (iblk m c 5 t : Vec Ideal S1x1x1024x256 .f32) (ix4 0 0 r ⟨0 + l, by omega⟩) by pointwise).trans (blk_l0 m c t b n hn hb hi r _)

/-- The rows of step one, lanes 128 to 255. -/
theorem ld_o0_1 (r : Fin 1024) (l : Fin 128) : (View.ld (iblk m c 2 t) (Rect.unit ![0, 0, 0, 128] ![1, 1, 1024, 128] inb_S1x1x1024x256_S1x1x1024x128_0_0_0_128)) (ix4 0 0 r l)
    = ((m ((c : Thread nD τ).loc main_arg2)) : Vec Ideal S4x1x4096x256 .f32) (ix4 b 0 ⟨n * 1024 + r, by omega⟩ ⟨128 + l, by omega⟩) := by
  refine (show _ = (iblk m c 2 t : Vec Ideal S1x1x1024x256 .f32) (ix4 0 0 r ⟨128 + l, by omega⟩) by pointwise).trans (blk_o0 m c t b n hn hb hi r _)

/-- The rows of step one, lanes 128 to 255. -/
theorem ld_l0_1 (r : Fin 1024) (l : Fin 128) : (View.ld (iblk m c 5 t) (Rect.unit ![0, 0, 0, 128] ![1, 1, 1024, 128] inb_S1x1x1024x256_S1x1x1024x128_0_0_0_128)) (ix4 0 0 r l)
    = ((m ((c : Thread nD τ).loc main_arg5)) : Vec Ideal S4x1x4096x256 .f32) (ix4 b 0 ⟨n * 1024 + r, by omega⟩ ⟨128 + l, by omega⟩) := by
  refine (show _ = (iblk m c 5 t : Vec Ideal S1x1x1024x256 .f32) (ix4 0 0 r ⟨128 + l, by omega⟩) by pointwise).trans (blk_l0 m c t b n hn hb hi r _)

/-- It is the groups mixed at its rows. -/
theorem obB_at (r : Fin 1024) (l : Fin 256) : obB m c t (ix2 r l) = MergeSpec.ob (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b ⟨n * 1024 + r, by omega⟩ l := by
  unfold obB
  refine both_apply _ _ _ _ _ _ _ (fun r l => MergeSpec.ob (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b ⟨n * 1024 + r, by omega⟩ l) ?_ ?_ r l
  · intro r l
    rw [half_apply, ld_o0_0 m c t b n hn hb hi r l, row_o1_0 m c t b n hn hb hi r l, row_o2_0 m c t b n hn hb hi r l, ld_l0_0 m c t b n hn hb hi r l, row_l1_0 m c t b n hn hb hi r l, row_l2_0 m c t b n hn hb hi r l]
    unfold MergeSpec.ob
    rw [show (⟨0 + l.val, by omega⟩ : Fin 256) = ⟨l.val, by omega⟩ from Fin.ext (Nat.zero_add _)]
  · intro r l
    rw [ld_o0_1 m c t b n hn hb hi r l, row_o1_1 m c t b n hn hb hi r l, row_o2_1 m c t b n hn hb hi r l, ld_l0_1 m c t b n hn hb hi r l, row_l1_1 m c t b n hn hb hi r l, row_l2_1 m c t b n hn hb hi r l]
    rfl

/-- What a point stages of a block of 256 columns is the two projections under their gates. -/
theorem piece (k : ℕ) (hk : k < 4) (wa wb : Vec Ideal S256x1024 .bf16) (wn : Vec Ideal S512x256 .bf16) (wd : Vec Ideal S256x256 .bf16)
    (y : S1024x256.Idx) (r q : Fin 1024) (hr : (r : ℕ) = y 0) (hq : (q : ℕ) = 256 * k + y 1)
    (ea : ∀ (q : Fin 256) (e : Fin 1024), wa (ix2 q e) = (iblk m c 9 t : Vec Ideal S2048x1024 .bf16) (ix2 ⟨256 * k + q, by omega⟩ e))
    (eb : ∀ (q : Fin 256) (e : Fin 1024), wb (ix2 q e) = (iblk m c 9 t : Vec Ideal S2048x1024 .bf16) (ix2 ⟨1024 + 256 * k + q, by omega⟩ e))
    (en : ∀ (e : Fin 512) (q : Fin 256), wn (ix2 e q) = (iblk m c 10 t : Vec Ideal S512x1024 .bf16) (ix2 e ⟨256 * k + q, by omega⟩))
    (ed : ∀ (e : Fin 256) (q : Fin 256), wd (ix2 e q) = (iblk m c 11 t : Vec Ideal S256x1024 .bf16) (ix2 e ⟨256 * k + q, by omega⟩)) :
    chunk (hB m c t) (obB m c t) (oaB m c t) wa wb wn wd y = MergeSpec.mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b ⟨n * 1024 + r, by omega⟩ q := by
  idx_vars y
  obtain rfl : r = y0 := Fin.ext hr
  have hy : (y1 : ℕ) < 256 := y1.isLt
  rw [show q = ⟨256 * k + y1, by omega⟩ from Fin.ext hq]
  refine (chunk_apply _ _ _ _ _ _ _ r y1).trans ?_
  unfold MergeSpec.mixed MergeSpec.gates
  refine congrArg₂ (· + ·) (congrArg₂ (· * ·) (congrArg MergeSpec.gate ?_) ?_) (congrArg₂ (· * ·) (congrArg MergeSpec.gate ?_) ?_)
  · refine Finset.sum_congr rfl fun e _ => ?_
    exact congrArg₂ (· * ·) (hB_at m c t b n hn hb hi r e) ((ea y1 e).trans (blk_wm m c t _ e))
  · refine Finset.sum_congr rfl fun e _ => ?_
    exact congrArg₂ (· * ·) (oaB_at m c t b n hn hb hi r e) ((en e y1).trans (blk_wn m c t e _))
  · refine Finset.sum_congr rfl fun e _ => ?_
    have h1 : (⟨1024 + 256 * k + y1, by omega⟩ : Fin 2048) = ⟨1024 + (256 * k + y1), by omega⟩ := Fin.ext (Nat.add_assoc _ _ _)
    have h2 := (eb y1 e).trans (blk_wm m c t _ e)
    rw [h1] at h2
    exact congrArg₂ (· * ·) (hB_at m c t b n hn hb hi r e) h2
  · refine Finset.sum_congr rfl fun e _ => ?_
    exact congrArg₂ (· * ·) (obB_at m c t b n hn hb hi r e) ((ed e y1).trans (blk_wd m c t e _))
end

set_option maxHeartbeats 4000000 in
/-- What a point leaves in the first result's block. -/
theorem pointX (c : Dev nD) (t : Fin cfg0.N) (b : Fin 4) (n : ℕ) (hn : n < 4) (hb : (grid0.coords t 0 : ℕ) = b) (hi : (grid0.coords t 1 : ℕ) = n)
    (z : Fin 1) (r d : Fin 1024) : ((outsAt0 m c t).1 : Vec Ideal S1x1024x1024 .f32) (ix3 z r d) =
      MergeSpec.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b ⟨n * 1024 + r, by omega⟩ d := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
  canon_tiles x h
  simp only [k0_pay5, k0_pay6, k0_pay7, k0_pay8, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay37, k0_pay38, k0_pay39, k0_pay40, k0_pay41, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay62, k0_pay63, k0_pay64, k0_pay65, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay94, k0_pay95, k0_pay96, k0_pay97, k0_pay99, k0_pay100, k0_pay101, k0_pay102, k0_pay103, k0_pay104, k0_pay105, k0_pay106, k0_pay107, k0_pay108, k0_pay109, k0_pay110, k0_pay111, k0_pay112, k0_pay113, k0_pay114, k0_pay115]
  rw [slab4_0 (X := iblk m c 6 t), slab16_0 (X := iblk m c 7 t), slab4_0 (X := iblk m c 3 t), slab16_0 (X := iblk m c 4 t), slab4_1 (X := iblk m c 6 t), slab16_1 (X := iblk m c 7 t), slab4_1 (X := iblk m c 3 t), slab16_1 (X := iblk m c 4 t)]
  idx_vars x
  obtain rfl : x1 = r := Fin.ext (by simpa using h1.symm)
  obtain rfl : x2 = d := Fin.ext (by simpa using h2.symm)
  refine (last_apply (View.ld (iblk m c 0 t) (Rect.unit ![0, 0, 0] ![1, 1024, 1024] inb_S1x1024x1024_S1x1024x1024_0_0_0)) _ _ x0 x1 x2).trans ?_
  unfold MergeSpec.res
  refine congrArg₂ (· + ·) ((show _ = (iblk m c 0 t : Vec Ideal S1x1024x1024 .f32) (ix3 0 x1 x2) by pointwise).trans (blk_x m c t b n hn hb hi x1 x2)) (Finset.sum_congr rfl fun q _ => ?_)
  refine congrArg₂ (· * ·) ?_ ((show _ = (iblk m c 12 t : Vec Ideal S1024x1024 .bf16) (ix2 q x2) by pointwise).trans (blk_wo m c t q x2))
  generalize x1 = r
  rw [View.readCov_eq_canon']
  canon_tiles y k
  case piece0 =>
    refine Eq.trans (b := chunk (hB m c t) (obB m c t) (oaB m c t)
      (View.ld (iblk m c 9 t) (Rect.unit ![768, 0] ![256, 1024] inb_S2048x1024_S256x1024_768_0))
      (View.ld (iblk m c 9 t) (Rect.unit ![1792, 0] ![256, 1024] inb_S2048x1024_S256x1024_1792_0))
      (View.ld (iblk m c 10 t) (Rect.unit ![0, 768] ![512, 256] inb_S512x1024_S512x256_0_768))
      (View.ld (iblk m c 11 t) (Rect.unit ![0, 768] ![256, 256] inb_S256x1024_S256x256_0_768)) y) ?_
      (piece m c t b n hn hb hi 3 (by decide) _ _ _ _ y r q (by simpa using k0) (by simpa using k1)
        (fun q e => by pointwise) (fun q e => by pointwise) (fun e q => by pointwise) (fun e q => by pointwise))
    exact congrFun rfl y
  case piece1 =>
    refine Eq.trans (b := chunk (hB m c t) (obB m c t) (oaB m c t)
      (View.ld (iblk m c 9 t) (Rect.unit ![512, 0] ![256, 1024] inb_S2048x1024_S256x1024_512_0))
      (View.ld (iblk m c 9 t) (Rect.unit ![1536, 0] ![256, 1024] inb_S2048x1024_S256x1024_1536_0))
      (View.ld (iblk m c 10 t) (Rect.unit ![0, 512] ![512, 256] inb_S512x1024_S512x256_0_512))
      (View.ld (iblk m c 11 t) (Rect.unit ![0, 512] ![256, 256] inb_S256x1024_S256x256_0_512)) y) ?_
      (piece m c t b n hn hb hi 2 (by decide) _ _ _ _ y r q (by simpa using k0) (by simpa using k1)
        (fun q e => by pointwise) (fun q e => by pointwise) (fun e q => by pointwise) (fun e q => by pointwise))
    exact congrFun rfl y
  case piece2 =>
    refine Eq.trans (b := chunk (hB m c t) (obB m c t) (oaB m c t)
      (View.ld (iblk m c 9 t) (Rect.unit ![256, 0] ![256, 1024] inb_S2048x1024_S256x1024_256_0))
      (View.ld (iblk m c 9 t) (Rect.unit ![1280, 0] ![256, 1024] inb_S2048x1024_S256x1024_1280_0))
      (View.ld (iblk m c 10 t) (Rect.unit ![0, 256] ![512, 256] inb_S512x1024_S512x256_0_256))
      (View.ld (iblk m c 11 t) (Rect.unit ![0, 256] ![256, 256] inb_S256x1024_S256x256_0_256)) y) ?_
      (piece m c t b n hn hb hi 1 (by decide) _ _ _ _ y r q (by simpa using k0) (by simpa using k1)
        (fun q e => by pointwise) (fun q e => by pointwise) (fun e q => by pointwise) (fun e q => by pointwise))
    exact congrFun rfl y
  case piece3 =>
    refine Eq.trans (b := chunk (hB m c t) (obB m c t) (oaB m c t)
      (View.ld (iblk m c 9 t) (Rect.unit ![0, 0] ![256, 1024] inb_S2048x1024_S256x1024_0_0))
      (View.ld (iblk m c 9 t) (Rect.unit ![1024, 0] ![256, 1024] inb_S2048x1024_S256x1024_1024_0))
      (View.ld (iblk m c 10 t) (Rect.unit ![0, 0] ![512, 256] inb_S512x1024_S512x256_0_0))
      (View.ld (iblk m c 11 t) (Rect.unit ![0, 0] ![256, 256] inb_S256x1024_S256x256_0_0)) y) ?_
      (piece m c t b n hn hb hi 0 (by decide) _ _ _ _ y r q (by simpa using k0) (by simpa using k1)
        (fun q e => by pointwise) (fun q e => by pointwise) (fun e q => by pointwise) (fun e q => by pointwise))
    exact congrFun rfl y

set_option maxHeartbeats 4000000 in
/-- What a point leaves in the second result's block. -/
theorem pointH (c : Dev nD) (t : Fin cfg0.N) (b : Fin 4) (n : ℕ) (hn : n < 4) (hb : (grid0.coords t 0 : ℕ) = b) (hi : (grid0.coords t 1 : ℕ) = n)
    (z : Fin 1) (r d : Fin 1024) : ((outsAt0 m c t).2 : Vec Ideal S1x1024x1024 .bf16) (ix3 z r d) =
      MergeSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b ⟨n * 1024 + r, by omega⟩ d := by
  unfold outsAt0 out0_A_15
  dsimp only
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
  canon_tiles x h
  simp only [k0_pay5, k0_pay6, k0_pay7, k0_pay8, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay37, k0_pay38, k0_pay39, k0_pay40, k0_pay41, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay62, k0_pay63, k0_pay64, k0_pay65, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay94, k0_pay95, k0_pay96, k0_pay97, k0_pay99, k0_pay100, k0_pay101, k0_pay102, k0_pay103, k0_pay104, k0_pay105, k0_pay106, k0_pay107, k0_pay108, k0_pay109, k0_pay110, k0_pay111, k0_pay112, k0_pay113, k0_pay114, k0_pay115]
  rw [slab4_0 (X := iblk m c 6 t), slab16_0 (X := iblk m c 7 t), slab4_0 (X := iblk m c 3 t), slab16_0 (X := iblk m c 4 t), slab4_1 (X := iblk m c 6 t), slab16_1 (X := iblk m c 7 t), slab4_1 (X := iblk m c 3 t), slab16_1 (X := iblk m c 4 t)]
  idx_vars x
  obtain rfl : x1 = r := Fin.ext (by simpa using h1.symm)
  obtain rfl : x2 = d := Fin.ext (by simpa using h2.symm)
  refine (out_apply (View.ld (iblk m c 0 t) (Rect.unit ![0, 0, 0] ![1, 1024, 1024] inb_S1x1024x1024_S1x1024x1024_0_0_0)) _ _ _ x0 x1 x2).trans ?_
  unfold MergeSpec.out
  have hg : ∀ e : Fin 1024, View.ld (iblk m c 13 t) (Rect.unit ![0, 0] ![1, 1024] inb_S1x1024_S1x1024_0_0) (ix2 0 e) = ((m ((c : Thread nD τ).loc main_arg13)) : Vec Ideal S1x1024 .f32) (ix2 0 e) :=
    fun e => (show _ = (iblk m c 13 t : Vec Ideal S1x1024 .f32) (ix2 0 e) by pointwise).trans (blk_gf m c t e)
  refine congrArg₂ (fun u v => MergeSpec.rms u v x2) (funext fun e => ?_) (funext hg)
  unfold MergeSpec.res
  refine congrArg₂ (· + ·) ((show _ = (iblk m c 0 t : Vec Ideal S1x1024x1024 .f32) (ix3 0 x1 e) by pointwise).trans (blk_x m c t b n hn hb hi x1 e)) (Finset.sum_congr rfl fun q _ => ?_)
  refine congrArg₂ (· * ·) ?_ ((show _ = (iblk m c 12 t : Vec Ideal S1024x1024 .bf16) (ix2 q e) by pointwise).trans (blk_wo m c t q e))
  generalize x1 = r
  rw [View.readCov_eq_canon']
  canon_tiles y k
  case piece0 =>
    refine Eq.trans (b := chunk (hB m c t) (obB m c t) (oaB m c t)
      (View.ld (iblk m c 9 t) (Rect.unit ![768, 0] ![256, 1024] inb_S2048x1024_S256x1024_768_0))
      (View.ld (iblk m c 9 t) (Rect.unit ![1792, 0] ![256, 1024] inb_S2048x1024_S256x1024_1792_0))
      (View.ld (iblk m c 10 t) (Rect.unit ![0, 768] ![512, 256] inb_S512x1024_S512x256_0_768))
      (View.ld (iblk m c 11 t) (Rect.unit ![0, 768] ![256, 256] inb_S256x1024_S256x256_0_768)) y) ?_
      (piece m c t b n hn hb hi 3 (by decide) _ _ _ _ y r q (by simpa using k0) (by simpa using k1)
        (fun q e => by pointwise) (fun q e => by pointwise) (fun e q => by pointwise) (fun e q => by pointwise))
    exact congrFun rfl y
  case piece1 =>
    refine Eq.trans (b := chunk (hB m c t) (obB m c t) (oaB m c t)
      (View.ld (iblk m c 9 t) (Rect.unit ![512, 0] ![256, 1024] inb_S2048x1024_S256x1024_512_0))
      (View.ld (iblk m c 9 t) (Rect.unit ![1536, 0] ![256, 1024] inb_S2048x1024_S256x1024_1536_0))
      (View.ld (iblk m c 10 t) (Rect.unit ![0, 512] ![512, 256] inb_S512x1024_S512x256_0_512))
      (View.ld (iblk m c 11 t) (Rect.unit ![0, 512] ![256, 256] inb_S256x1024_S256x256_0_512)) y) ?_
      (piece m c t b n hn hb hi 2 (by decide) _ _ _ _ y r q (by simpa using k0) (by simpa using k1)
        (fun q e => by pointwise) (fun q e => by pointwise) (fun e q => by pointwise) (fun e q => by pointwise))
    exact congrFun rfl y
  case piece2 =>
    refine Eq.trans (b := chunk (hB m c t) (obB m c t) (oaB m c t)
      (View.ld (iblk m c 9 t) (Rect.unit ![256, 0] ![256, 1024] inb_S2048x1024_S256x1024_256_0))
      (View.ld (iblk m c 9 t) (Rect.unit ![1280, 0] ![256, 1024] inb_S2048x1024_S256x1024_1280_0))
      (View.ld (iblk m c 10 t) (Rect.unit ![0, 256] ![512, 256] inb_S512x1024_S512x256_0_256))
      (View.ld (iblk m c 11 t) (Rect.unit ![0, 256] ![256, 256] inb_S256x1024_S256x256_0_256)) y) ?_
      (piece m c t b n hn hb hi 1 (by decide) _ _ _ _ y r q (by simpa using k0) (by simpa using k1)
        (fun q e => by pointwise) (fun q e => by pointwise) (fun e q => by pointwise) (fun e q => by pointwise))
    exact congrFun rfl y
  case piece3 =>
    refine Eq.trans (b := chunk (hB m c t) (obB m c t) (oaB m c t)
      (View.ld (iblk m c 9 t) (Rect.unit ![0, 0] ![256, 1024] inb_S2048x1024_S256x1024_0_0))
      (View.ld (iblk m c 9 t) (Rect.unit ![1024, 0] ![256, 1024] inb_S2048x1024_S256x1024_1024_0))
      (View.ld (iblk m c 10 t) (Rect.unit ![0, 0] ![512, 256] inb_S512x1024_S512x256_0_0))
      (View.ld (iblk m c 11 t) (Rect.unit ![0, 0] ![256, 256] inb_S256x1024_S256x256_0_0)) y) ?_
      (piece m c t b n hn hb hi 0 (by decide) _ _ _ _ y r q (by simpa using k0) (by simpa using k1)
        (fun q e => by pointwise) (fun q e => by pointwise) (fun e q => by pointwise) (fun e q => by pointwise))
    exact congrFun rfl y

/-- The same, at an index of the result whose coordinates are those of the block's. -/
theorem point_atX (c : Dev nD) (t : Fin cfg0.N) (y : S1x1024x1024.Idx) (j : S4x4096x1024.Idx) (h0 : (j 0 : ℕ) = (grid0.coords t 0 : ℕ))
    (h1 : (j 1 : ℕ) = (grid0.coords t 1 : ℕ) * 1024 + (y 1 : ℕ)) (h2 : (j 2 : ℕ) = y 2) : (outsAt0 m c t).1 y = arrX m c j := by
  have hn : (grid0.coords t 1 : ℕ) < 4 := (grid0.coords t 1).isLt
  idx_vars y
  idx_vars j
  refine (pointX m c t j0 _ hn h0.symm rfl y0 y1 y2).trans ?_
  have hy1 : (y1 : ℕ) < 1024 := y1.isLt
  have e1 : j1 = ⟨(grid0.coords t 1 : ℕ) * 1024 + y1, by omega⟩ := Fin.ext h1
  have e2 : j2 = y2 := Fin.ext h2
  rw [e1, e2]
  rfl

/-- The result array after the run. -/
theorem finalX (c : Dev nD) : (dats m 0 c).arrAt 14 (cfgs 0).N = arrX m c := by
  refine (dats m 0 c).arrAt_eq_of_covers 14 _ (by decide +kernel) fun t _ y => ?_
  blk_simp
  rw [after0_14]
  have hy : ((y 0 : Fin 1) : ℕ) < 1 := (y 0 : Fin 1).isLt
  refine point_atX m c t y _ ?_ ?_ ?_
  all_goals (blk_simp [idx t] <;> try omega)

/-- The same, at an index of the result whose coordinates are those of the block's. -/
theorem point_atH (c : Dev nD) (t : Fin cfg0.N) (y : S1x1024x1024.Idx) (j : S4x4096x1024.Idx) (h0 : (j 0 : ℕ) = (grid0.coords t 0 : ℕ))
    (h1 : (j 1 : ℕ) = (grid0.coords t 1 : ℕ) * 1024 + (y 1 : ℕ)) (h2 : (j 2 : ℕ) = y 2) : (outsAt0 m c t).2 y = arrH m c j := by
  have hn : (grid0.coords t 1 : ℕ) < 4 := (grid0.coords t 1).isLt
  idx_vars y
  idx_vars j
  refine (pointH m c t j0 _ hn h0.symm rfl y0 y1 y2).trans ?_
  have hy1 : (y1 : ℕ) < 1024 := y1.isLt
  have e1 : j1 = ⟨(grid0.coords t 1 : ℕ) * 1024 + y1, by omega⟩ := Fin.ext h1
  have e2 : j2 = y2 := Fin.ext h2
  rw [e1, e2]
  rfl

/-- The result array after the run. -/
theorem finalH (c : Dev nD) : (dats m 0 c).arrAt 15 (cfgs 0).N = arrH m c := by
  refine (dats m 0 c).arrAt_eq_of_covers 15 _ (by decide +kernel) fun t _ y => ?_
  blk_simp
  rw [after0_15]
  have hy : ((y 0 : Fin 1) : ℕ) < 1 := (y 0 : Fin 1).isLt
  refine point_atH m c t y _ ?_ ?_ ?_
  all_goals (blk_simp [idx t] <;> try omega)

/-- The kernel's run: the result arrays are the formulas over the arguments, which end unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = arrX m c
      ∧ r.2.mem ((c : Thread nD τ).loc main_v4_1) = arrH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨((h c).1).trans (finalX m c), ((h c).2.1).trans (finalH m c), (h c).2.2⟩) (Value.run_blocks m ρ)
end Cert.MergeIdeal.Val
-- ==== Proof.MergeRef.lean ====
/- The plain merge reference, read at an index, is the formula of `MergeSpec`. -/
module
public import proofs.«01_k».proof.Proof.Gen.MergeRefIdeal.Read
public import proofs.«01_k».proof.Proof.MergeSpec
@[expose] public section
set_option maxRecDepth 16384
noncomputable section
namespace Cert.MergeRefIdeal.Val
open Cert.MergeRefIdeal Cert.MergeRefIdeal.Gen Cert.MergeRefIdeal.Read Idealize.ShloMosaic Idealize.ShloMosaic.TcCoe Idealize.SL.Sem

/-- Outputs of the groups in token order. -/
theorem o0_eq (x2 : Vec Ideal S4x1x4096x256 .f32) (b : Fin 4) (s : Fin 4096) (l : Fin 256) : val_main_v1 (F := Ideal) x2 (ix3 b s l) = x2 (ix4 b 0 s l) := by
  pointwise [val_main_v1, val_main_v0]
theorem o1_eq (x3 : Vec Ideal S4x4x1024x256 .f32) (b : Fin 4) (s : Fin 4096) (l : Fin 256) : val_main_v3 (F := Ideal) x3 (ix3 b s l) = MergeSpec.tok4 x3 b s l := by
  pointwise [val_main_v3, val_main_v2]
  rfl
theorem o2_eq (x4 : Vec Ideal S4x16x256x256 .f32) (b : Fin 4) (s : Fin 4096) (l : Fin 256) : val_main_v5 (F := Ideal) x4 (ix3 b s l) = MergeSpec.tok16 x4 b s l := by
  pointwise [val_main_v5, val_main_v4]
  rfl
/-- The log-denominators, stacked. -/
theorem l0_eq (x5 : Vec Ideal S4x1x4096x256 .f32) (x6 : Vec Ideal S4x4x1024x256 .f32) (x7 : Vec Ideal S4x16x256x256 .f32) (b : Fin 4) (s : Fin 4096) (l : Fin 256) : val_main_v15 (F := Ideal) x5 x6 x7 (ix4 0 b s l) = x5 (ix4 b 0 s l) := by
  pointwise [val_main_v15, val_main_v14, val_main_v13, val_main_v12, val_main_v7, val_main_v6]
theorem l1_eq (x5 : Vec Ideal S4x1x4096x256 .f32) (x6 : Vec Ideal S4x4x1024x256 .f32) (x7 : Vec Ideal S4x16x256x256 .f32) (b : Fin 4) (s : Fin 4096) (l : Fin 256) : val_main_v15 (F := Ideal) x5 x6 x7 (ix4 1 b s l) = MergeSpec.tok4 x6 b s l := by
  pointwise [val_main_v15, val_main_v14, val_main_v13, val_main_v12, val_main_v9, val_main_v8]
  rfl
theorem l2_eq (x5 : Vec Ideal S4x1x4096x256 .f32) (x6 : Vec Ideal S4x4x1024x256 .f32) (x7 : Vec Ideal S4x16x256x256 .f32) (b : Fin 4) (s : Fin 4096) (l : Fin 256) : val_main_v15 (F := Ideal) x5 x6 x7 (ix4 2 b s l) = MergeSpec.tok16 x7 b s l := by
  pointwise [val_main_v15, val_main_v14, val_main_v13, val_main_v12, val_main_v11, val_main_v10]
  rfl
/-- Minus infinity's word. -/
theorem bot_word : Ideal.ofBits .f32 0xFF800000#32 = (⊥ : EReal) := by
  simp [Ideal.ofBits, Ideal.ieee]
/-- The largest of three values, folded from below. -/
theorem fold3 (f : Fin 3 → EReal) : Finset.univ.fold max (⊥ : EReal) f = MergeSpec.top (f 0) (f 1) (f 2) := by
  rw [show (Finset.univ : Finset (Fin 3)) = insert 0 (insert 1 (insert 2 ∅)) from by decide]
  rw [Finset.fold_insert (by decide), Finset.fold_insert (by decide), Finset.fold_insert (by decide), Finset.fold_empty]
  unfold MergeSpec.top
  rw [max_eq_left (bot_le : ⊥ ≤ f 2), max_assoc]
/-- The exponentials of the log-denominators less their largest. -/
theorem e_eq (x5 : Vec Ideal S4x1x4096x256 .f32) (x6 : Vec Ideal S4x4x1024x256 .f32) (x7 : Vec Ideal S4x16x256x256 .f32) (g : Fin 3) (b : Fin 4) (s : Fin 4096) (l : Fin 256) : val_main_v20 (F := Ideal) x5 x6 x7 (ix4 g b s l)
    = Ideal.exp (val_main_v15 (F := Ideal) x5 x6 x7 (ix4 g b s l) - MergeSpec.top (x5 (ix4 b 0 s l)) (MergeSpec.tok4 x6 b s l) (MergeSpec.tok16 x7 b s l)) := by
  pointwise [val_main_v20, val_main_v19, val_main_v18, val_main_v17, val_main_v16, val_main_cst]
  rw [bot_word, fold3, l0_eq, l1_eq, l2_eq]
/-- Their sum's reciprocal. -/
theorem inv_eq (x5 : Vec Ideal S4x1x4096x256 .f32) (x6 : Vec Ideal S4x4x1024x256 .f32) (x7 : Vec Ideal S4x16x256x256 .f32) (b : Fin 4) (s : Fin 4096) (l : Fin 256) : val_main_v23 (F := Ideal) x5 x6 x7 (ix3 b s l)
    = MergeSpec.inv (x5 (ix4 b 0 s l)) (MergeSpec.tok4 x6 b s l) (MergeSpec.tok16 x7 b s l) := by
  pointwise [val_main_v23, val_main_v22, val_main_v21, val_main_cst_0, val_main_cst_1]
  simp only [Fin.sum_univ_three, e_eq, l0_eq, l1_eq, l2_eq]
  rfl
/-- The dilated attention's output. -/
theorem ob_eq (x2 : Vec Ideal S4x1x4096x256 .f32) (x3 : Vec Ideal S4x4x1024x256 .f32) (x4 : Vec Ideal S4x16x256x256 .f32) (x5 : Vec Ideal S4x1x4096x256 .f32) (x6 : Vec Ideal S4x4x1024x256 .f32) (x7 : Vec Ideal S4x16x256x256 .f32) (b : Fin 4) (s : Fin 4096) (l : Fin 256) : val_main_v37 (F := Ideal) x2 x3 x4 x5 x6 x7 (ix3 b s l)
    = MergeSpec.ob x2 x3 x4 x5 x6 x7 b s l := by
  pointwise [val_main_v37, val_main_v36, val_main_v35, val_main_v34, val_main_v33, val_main_v32, val_main_v31, val_main_v30, val_main_v29, val_main_v28, val_main_v27, val_main_v26, val_main_v25, val_main_v24]
  simp only [o0_eq, o1_eq, o2_eq, e_eq, inv_eq, l0_eq, l1_eq, l2_eq]
  rfl
/-- The gates. -/
theorem gates_eq (x0 : Vec Ideal S4x4096x1024 .f32) (x8 : Vec Ideal S1x1024 .f32) (x9 : Vec Ideal S2048x1024 .f32) (b : Fin 4) (s : Fin 4096) (q : Fin 2048) : val_main_v59 (F := Ideal) x0 x8 x9 (ix3 b s q)
    = MergeSpec.gates x0 x8 x9 b s q := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst_2, val_main_cst_3, val_main_cst_4, val_main_cst_5, val_main_cst_6]
  rfl
/-- The residual stream. -/
theorem res_eq (x0 : Vec Ideal S4x4096x1024 .f32) (x1 : Vec Ideal S4x4096x512 .bf16) (x2 : Vec Ideal S4x1x4096x256 .f32) (x3 : Vec Ideal S4x4x1024x256 .f32) (x4 : Vec Ideal S4x16x256x256 .f32) (x5 : Vec Ideal S4x1x4096x256 .f32) (x6 : Vec Ideal S4x4x1024x256 .f32) (x7 : Vec Ideal S4x16x256x256 .f32) (x8 : Vec Ideal S1x1024 .f32) (x9 : Vec Ideal S2048x1024 .f32) (x10 : Vec Ideal S512x1024 .f32) (x11 : Vec Ideal S256x1024 .f32) (x12 : Vec Ideal S1024x1024 .f32) (b : Fin 4) (s : Fin 4096) (d : Fin 1024) : val_main_v69 (F := Ideal) x0 x1 x2 x3 x4 x5 x6 x7 x8 x9 x10 x11 x12 (ix3 b s d)
    = MergeSpec.res x0 x1 x2 x3 x4 x5 x6 x7 x8 x9 x10 x11 x12 b s d := by
  pointwise [val_main_v69, val_main_v68, val_main_v67, val_main_v66, val_main_v65, val_main_v64, val_main_v63, val_main_v62, val_main_v61, val_main_v60]
  simp only [gates_eq, ob_eq]
  rfl
/-- The normalised tokens. -/
theorem out_eq (x0 : Vec Ideal S4x4096x1024 .f32) (x1 : Vec Ideal S4x4096x512 .bf16) (x2 : Vec Ideal S4x1x4096x256 .f32) (x3 : Vec Ideal S4x4x1024x256 .f32) (x4 : Vec Ideal S4x16x256x256 .f32) (x5 : Vec Ideal S4x1x4096x256 .f32) (x6 : Vec Ideal S4x4x1024x256 .f32) (x7 : Vec Ideal S4x16x256x256 .f32) (x8 : Vec Ideal S1x1024 .f32) (x9 : Vec Ideal S2048x1024 .f32) (x10 : Vec Ideal S512x1024 .f32) (x11 : Vec Ideal S256x1024 .f32) (x12 : Vec Ideal S1024x1024 .f32) (x13 : Vec Ideal S1x1024 .f32) (b : Fin 4) (s : Fin 4096) (d : Fin 1024) : val_main_v84 (F := Ideal) x0 x1 x2 x3 x4 x5 x6 x7 x8 x9 x10 x11 x12 x13 (ix3 b s d)
    = MergeSpec.out x0 x1 x2 x3 x4 x5 x6 x7 x8 x9 x10 x11 x12 x13 b s d := by
  pointwise [val_main_v84, val_main_v83, val_main_v82, val_main_v81, val_main_v80, val_main_v79, val_main_v78, val_main_v77, val_main_v76, val_main_v75, val_main_v74, val_main_v73, val_main_v72, val_main_v71, val_main_v70, val_main_cst_7, val_main_cst_8, val_main_cst_9]
  simp only [res_eq]
  rfl
end Cert.MergeRefIdeal.Val
-- ==== Proof.MergeClaim.lean ====
/- The claim about the gated merge: kernel and reference leave the same two arrays. -/
module
public import proofs.«01_k».proof.Defs
public import proofs.«01_k».proof.Proof.Gen.MergeRefIdeal.Run
public import proofs.«01_k».proof.Proof.MergeFinal
public import proofs.«01_k».proof.Proof.MergeRef
@[expose] public section
noncomputable section
namespace Cert.Proof
open Idealize.ShloMosaic Idealize.SL.Sem

/-- The kernel and the reference leave the same two arrays: the residual stream and its normalised tokens, as `MergeSpec` has them. -/
theorem merge_algebraic : Cert.algebraic_MergeIdeal_MergeRefIdeal := by
  intro m g m' g' _ ha
  refine ⟨fun c => Cert.MergeIdeal.Val.arrX m c, fun c => Cert.MergeIdeal.Val.arrH m c, ?_, ?_⟩
  · exact Cert.MergeIdeal.Val.run m g
  · refine (θ_run _ _ _).mono (fun r h c => ⟨?_, ?_, (h c).2.2⟩) (Cert.MergeRefIdeal.Value.run m' g')
    · obtain ⟨h0, h1, h2, h3, h4, h5, h6, h7, h8, h9, h10, h11, h12, h13⟩ := ha c
      rw [(h c).1, Cert.MergeRefIdeal.Read.val_main_v69_eq, h0, h1, h2, h3, h4, h5, h6, h7, h8, h9, h10, h11, h12]
      funext j
      rw [eq_ix3 j]
      exact Cert.MergeRefIdeal.Val.res_eq _ _ _ _ _ _ _ _ _ _ _ _ _ _ _ _
    · obtain ⟨h0, h1, h2, h3, h4, h5, h6, h7, h8, h9, h10, h11, h12, h13⟩ := ha c
      rw [(h c).2.1, Cert.MergeRefIdeal.Read.val_main_v84_eq, h0, h1, h2, h3, h4, h5, h6, h7, h8, h9, h10, h11, h12, h13]
      funext j
      rw [eq_ix3 j]
      exact Cert.MergeRefIdeal.Val.out_eq _ _ _ _ _ _ _ _ _ _ _ _ _ _ _ _ _
end Cert.Proof
end
-- ==== Proof.InProjSpec.lean ====
/- The in-projection in plain sums over the extended reals: the formulas both programs are read down to. -/
module
public import proofs.«01_k».proof.Proof.MergeSpec
@[expose] public section
noncomputable section
namespace Cert.InProjSpec
open Idealize.ShloMosaic Cert.MergeSpec

/-- The factor on the queries. -/
def scal : EReal := Ideal.ofBits .f32 0x3E38AA3B#32

/-- It is a real number that is not negative. -/
theorem scal_real : ∃ r : ℝ, 0 ≤ r ∧ scal = (r : EReal) := by
  refine ⟨12102203 / 67108864, by norm_num, ?_⟩
  unfold scal
  simp [Ideal.ofBits, Ideal.ieee, -EReal.coe_mul]
  norm_num

/-- It may be taken off each summand of a sum of products. -/
theorem sum_scal (f w : Fin 1024 → EReal) : (∑ e : Fin 1024, f e * (w e * scal)) = (∑ e : Fin 1024, f e * w e) * scal := by
  obtain ⟨r, h0, hr⟩ := scal_real
  rw [hr, mul_comm]
  have h : ∀ s : Finset (Fin 1024), (r : EReal) * ∑ e ∈ s, f e * w e = ∑ e ∈ s, f e * (w e * (r : EReal)) := by
    classical
    intro s
    induction s using Finset.induction_on with
    | empty => simp
    | insert x s hx ih =>
      rw [Finset.sum_insert hx, Finset.sum_insert hx,
        EReal.left_distrib_of_nonneg_of_ne_top (by exact_mod_cast h0) (EReal.coe_ne_top r), ih]
      congr 1
      rw [mul_comm, mul_assoc]
  exact (h Finset.univ).symm

/-- What stands in column `l` beside the keys of the token at position `p`. -/
def col (p : BitVec 32) (l : ℕ) : EReal :=
  if l < 8 then (if (p >>> 6) &&& 7#32 = BitVec.ofNat 32 l then 1 else 0)
  else if l = 8 ∨ l = 10 then (((p - (p &&& 127#32)).toInt : ℝ) : EReal)
  else if l = 9 ∨ l = 11 then (((p &&& 127#32).toInt : ℝ) : EReal)
  else 0

variable (x : FVec Ideal ⟨3, ![4, 4096, 1024]⟩ .f32) (g : FVec Ideal ⟨2, ![1, 1024]⟩ .f32) (w : FVec Ideal ⟨2, ![1024, 5656]⟩ .f32)

/-- Column `q` of the projection of token `s`. -/
def proj (b : Fin 4) (s : Fin 4096) (q : Fin 5656) : EReal :=
  ∑ e : Fin 1024, rms (fun e => x (ix3 b s e)) (fun e => g (ix2 0 e)) e * w (ix2 e q)

/-- Stream `k` of the keys and values. -/
def kv (k : Fin 6) (b : Fin 4) (s : Fin 4096) (l : Fin 128) : EReal := proj x g w b s ⟨512 + 128 * k + l, by omega⟩

/-- The keys of stream `k` with their position columns. -/
def keys (k : Fin 6) (b : Fin 4) (h : Fin 2) (s : Fin 4096) (l : Fin 128) : EReal :=
  if hl : l.val < 64 then kv x g w k b s ⟨64 * h + l, by omega⟩ else col (BitVec.ofNat 32 s) (l - 64)

/-- The values of stream `k` over a row of ones and rows of zeros. -/
def values (k : Fin 6) (b : Fin 4) (h : Fin 2) (d : Fin 80) (s : Fin 4096) : EReal :=
  if hd : d.val < 64 then kv x g w k b s ⟨64 * h + d, by omega⟩ else if d.val = 64 then 1 else 0

/-- The queries, keys and values of the dilated attention, in token order. -/
def dil (b : Fin 4) (v : Fin 3) (s : Fin 4096) (q : Fin 768) : EReal :=
  if v.val = 0 then proj x g w b s ⟨1304 + 768 * v + q, by omega⟩ * scal else proj x g w b s ⟨1304 + 768 * v + q, by omega⟩

/-- The queries of the sparse attention. -/
def qt (b : Fin 4) (q : Fin 512) (s : Fin 4096) : EReal := proj x g w b s ⟨q, by omega⟩ * scal

/-- Its gates, four rows of each sixteen being padding. -/
def gates (b : Fin 4) (j : Fin 32) (s : Fin 4096) : EReal :=
  gate (if h : j.val % 16 < 12 then proj x g w b s ⟨1280 + 12 * (j / 16) + j % 16, by omega⟩ else 0)

end Cert.InProjSpec
-- ==== Proof.InProjChunk.lean ====
/- The pieces of the in-projection kernel's body as the formulas of `InProjSpec`. -/
module
public import proofs.«01_k».proof.Proof.Gen.InProjIdeal.Skeleton
public import proofs.«01_k».proof.Proof.InProjSpec
public import Idealize.ShloMosaic.Lib.WordCmp
@[expose] public section
set_option maxRecDepth 16384
noncomputable section
namespace Cert.InProjIdeal.Val
open Cert.InProjIdeal Cert.InProjIdeal.Gen Idealize.ShloMosaic Idealize.ShloMosaic.TcCoe Idealize.SL.Sem
open Cert.InProjSpec

/-- The normalised tokens of a block. -/
theorem norm_apply (x : Vec Ideal S1x1024x1024 .f32) (g : Vec Ideal S1x1024 .f32) (r d : Fin 1024) :
    k0_pay2 x g (ix2 r d) = MergeSpec.rms (fun e => x (ix3 0 r e)) (fun e => g (ix2 0 e)) d := by
  unfold_payloads
  pointwise [hlo_ix, MergeSpec.rms]

section
variable (x : Vec Ideal S1x1024x1024 .f32) (g : Vec Ideal S1x1024 .f32) (h : FVec Ideal S1024x1024 .bf16)

/-- The first columns for the compression. -/
theorem pay4_apply (w : Vec Ideal S256x1024 .bf16) (r : Fin 1024) (l : Fin 128) :
    k0_pay4 x g w (ix3 0 r l) = ∑ e : Fin 1024, k0_pay2 x g (ix2 r e) * w (ix2 ⟨l, by omega⟩ e) := by
  unfold k0_pay4 k0_pay3
  pointwise [hlo_ix]
/-- The second columns for the compression. -/
theorem pay5_apply (w : Vec Ideal S256x1024 .bf16) (r : Fin 1024) (l : Fin 128) :
    k0_pay5 x g w (ix3 0 r l) = ∑ e : Fin 1024, k0_pay2 x g (ix2 r e) * w (ix2 ⟨128 + l, by omega⟩ e) := by
  unfold k0_pay5 k0_pay3
  pointwise [hlo_ix]
/-- The keys of the selected blocks. -/
theorem pay6_apply (w : Vec Ideal S128x1024 .bf16) (r : Fin 1024) (l : Fin 128) :
    k0_pay6 x g w (ix2 r l) = ∑ e : Fin 1024, k0_pay2 x g (ix2 r e) * w (ix2 l e) := by
  unfold k0_pay6
  pointwise [hlo_ix]
/-- The keys of the window. -/
theorem pay8_apply (w : Vec Ideal S128x1024 .bf16) (r : Fin 1024) (l : Fin 128) :
    k0_pay8 h (k0_pay7 w) (constant S1024x128 .f32 0x00000000#32) (ix2 r l) = ∑ e : Fin 1024, h (ix2 r e) * w (ix2 l e) := by
  unfold k0_pay8 k0_pay7
  pointwise [hlo_ix]
/-- A position without its last seven bits. -/
theorem hi_word : ∀ n : Fin 4096, (BitVec.ofNat 32 n.val >>> 7) <<< 7 = BitVec.ofNat 32 n.val - (BitVec.ofNat 32 n.val &&& 127#32) := by
  decide +kernel
/-- The position columns beside the keys. -/
theorem pay9_apply (i : Fin 4) (r : Fin 1024) (l : Fin 64) :
    k0_pay9 (F := Ideal) (BitVec.ofNat 32 i) (ix2 r l) = col (BitVec.ofNat 32 (i.val * 1024 + r.val)) l := by
  unfold k0_pay9
  pointwise [hlo_ix]
  have hp : IntOp.addi (Scalar.muli (BitVec.ofNat 32 i) 1024#32) (IntOp.muli 1#32 (BitVec.ofNat 32 r)) = BitVec.ofNat 32 (i.val * 1024 + r.val) := by
    apply BitVec.eq_of_toNat_eq
    simp [IntOp.addi, IntOp.muli, Scalar.muli]
  rw [hp]
  have hl : (BitVec.ofNat 32 l.val).toNat = l.val := by simp; omega
  have h8 : IntOp.cmpi CmpIPredicate.slt (BitVec.ofNat 32 l.val) 8#32 = BitVec.ofBool (decide (l.val < 8)) :=
    (by decide +kernel : ∀ l : Fin 64, IntOp.cmpi CmpIPredicate.slt (BitVec.ofNat 32 l.val) 8#32 = BitVec.ofBool (decide (l.val < 8))) l
  have hw := hi_word ⟨i.val * 1024 + r.val, by omega⟩
  rw [h8, hl]
  generalize hq : BitVec.ofNat 32 (i.val * 1024 + r.val) = p at *
  have h6 : IntOp.andi (IntOp.shrui ArithUnit.vector p 6#32) 7#32 = (p >>> 6) &&& 7#32 := by simp [IntOp.andi, IntOp.shrui, ArithUnit.vector]
  have h7 : IntOp.shli ArithUnit.vector (IntOp.shrui ArithUnit.vector p 7#32) 7#32 = p - (p &&& 127#32) := by
    rw [← hw]; simp [IntOp.shli, IntOp.shrui, ArithUnit.vector]
  have h9 : IntOp.andi p 127#32 = p &&& 127#32 := rfl
  rw [h6, h7, h9]
  unfold col
  by_cases a : l.val < 8
  · rw [if_pos a]
    by_cases e : (p >>> 6) &&& 7#32 = BitVec.ofNat 32 l.val
    · rw [if_pos e, e, hl]
      simp [a, IntOp.andi, Scalar.select]
    · have e' : ¬((p >>> 6) &&& 7#32).toNat = l.val := fun h => e (BitVec.eq_of_toNat_eq (h.trans hl.symm))
      rw [if_neg e]
      rw [if_neg (show ¬(l.val = 8 ∨ l.val = 10) by omega), if_neg (show ¬(l.val = 9 ∨ l.val = 11) by omega)]
      rw [decide_eq_false e', decide_eq_true a]
      rfl
  · rw [if_neg a]
    have hs : ∀ (c : BitVec 1) (u v : EReal), Scalar.select (IntOp.andi (BitVec.ofBool (decide (l.val < 8))) c) u v = v := by
      intro c u v
      rw [decide_eq_false a]
      have h0 : IntOp.andi (BitVec.ofBool false) c = 0#1 := by simp [IntOp.andi]
      rw [h0]
      rfl
    refine (hs _ _ _).trans ?_
    rfl
/-- The keys of one head beside their positions. -/
theorem pay11_apply (i : BitVec 32) (k : FVec Ideal S1024x128 .bf16) (r : Fin 1024) (l : Fin 128) :
    k0_pay11 (k0_pay10 i k) (ix4 0 0 r l) = if hl : l.val < 64 then k (ix2 r ⟨l, by omega⟩) else k0_pay9 (F := Ideal) i (ix2 r ⟨l - 64, by omega⟩) := by
  unfold k0_pay11 k0_pay10
  pointwise [hlo_ix]
/-- The first head's keys of the window beside their positions. -/
theorem pay12_apply (p : FVec Ideal S1024x64 .bf16) (k : FVec Ideal S1024x128 .bf16) (r : Fin 1024) (l : Fin 128) :
    k0_pay12 k p (ix4 0 0 r l) = if hl : l.val < 64 then k (ix2 r ⟨l, by omega⟩) else p (ix2 r ⟨l - 64, by omega⟩) := by
  unfold k0_pay12
  pointwise [hlo_ix]
/-- The second head's keys of the selected blocks beside their positions. -/
theorem pay13_apply (p : FVec Ideal S1024x64 .bf16) (k : FVec Ideal S1024x128 .bf16) (r : Fin 1024) (l : Fin 128) :
    k0_pay13 k p (ix4 0 0 r l) = if hl : l.val < 64 then k (ix2 r ⟨64 + l, by omega⟩) else p (ix2 r ⟨l - 64, by omega⟩) := by
  unfold k0_pay13
  pointwise [hlo_ix]
/-- The second head's keys of the window beside their positions. -/
theorem pay14_apply (p : FVec Ideal S1024x64 .bf16) (k : FVec Ideal S1024x128 .bf16) (r : Fin 1024) (l : Fin 128) :
    k0_pay14 k p (ix4 0 0 r l) = if hl : l.val < 64 then k (ix2 r ⟨64 + l, by omega⟩) else p (ix2 r ⟨l - 64, by omega⟩) := by
  unfold k0_pay14
  pointwise [hlo_ix]
/-- The dilated attention's columns: step 1 stored at once, steps 4 and 16 staged by halves. -/
theorem pay16_apply (w : Vec Ideal S768x1024 .bf16) (r : Fin 1024) (l : Fin 256) :
    k0_pay16 h w (ix5 0 0 0 r l) = ∑ e : Fin 1024, h (ix2 r e) * w (ix2 ⟨l, by omega⟩ e) := by
  unfold k0_pay16 k0_pay15
  pointwise [hlo_ix]
/-- The first half of the columns of step 4. -/
theorem pay18_apply (w : Vec Ideal S768x1024 .bf16) (r : Fin 1024) (l : Fin 128) :
    k0_pay18 h w (ix3 0 r l) = ∑ e : Fin 1024, h (ix2 r e) * w (ix2 ⟨256 + l, by omega⟩ e) := by
  unfold k0_pay18 k0_pay17 k0_pay15
  pointwise [hlo_ix]
/-- The second half of the columns of step 4. -/
theorem pay19_apply (w : Vec Ideal S768x1024 .bf16) (r : Fin 1024) (l : Fin 128) :
    k0_pay19 (k0_pay17 h w) (ix3 0 r l) = ∑ e : Fin 1024, h (ix2 r e) * w (ix2 ⟨384 + l, by omega⟩ e) := by
  unfold k0_pay19 k0_pay17 k0_pay15
  pointwise [hlo_ix]
  exact Finset.sum_congr rfl fun e _ => congrArg (fun q => h (ix2 r e) * w (ix2 q e)) (Fin.ext (by show 256 + (128 + l.val) = 384 + l.val; omega))
/-- The first half of the columns of step 16. -/
theorem pay26_apply (w : Vec Ideal S768x1024 .bf16) (r : Fin 1024) (l : Fin 128) :
    k0_pay26 (k0_pay15 h w) (ix3 0 r l) = ∑ e : Fin 1024, h (ix2 r e) * w (ix2 ⟨512 + l, by omega⟩ e) := by
  unfold k0_pay26 k0_pay25 k0_pay15
  pointwise [hlo_ix]
/-- The second half of the columns of step 16. -/
theorem pay27_apply (w : Vec Ideal S768x1024 .bf16) (r : Fin 1024) (l : Fin 128) :
    k0_pay27 (k0_pay15 h w) (ix3 0 r l) = ∑ e : Fin 1024, h (ix2 r e) * w (ix2 ⟨640 + l, by omega⟩ e) := by
  unfold k0_pay27 k0_pay25 k0_pay15
  pointwise [hlo_ix]
  exact Finset.sum_congr rfl fun e _ => congrArg (fun q => h (ix2 r e) * w (ix2 q e)) (Fin.ext (by show 512 + (128 + l.val) = 640 + l.val; omega))
/-- Two staged halves side by side, step 4. -/
theorem pay20_apply (a b : Vec Ideal S1x256x128 .f32) (r : Fin 256) (l : Fin 256) :
    k0_pay20 a b (ix5 0 0 0 r l) = if hl : l.val < 128 then a (ix3 0 r ⟨l, hl⟩) else b (ix3 0 r ⟨l - 128, by omega⟩) := by
  unfold k0_pay20
  pointwise [hlo_ix]
/-- Two staged halves side by side, step 16. -/
theorem pay31_apply (a b : Vec Ideal S1x64x128 .f32) (r : Fin 64) (l : Fin 256) :
    k0_pay31 a b (ix5 0 0 0 r l) = if hl : l.val < 128 then a (ix3 0 r ⟨l, hl⟩) else b (ix3 0 r ⟨l - 128, by omega⟩) := by
  unfold k0_pay31
  pointwise [hlo_ix]
/-- The columns whose tokens lie along the lanes. -/
theorem pay118_apply (w : Vec Ideal S800x1024 .bf16) (q : Fin 800) (r : Fin 1024) :
    k0_pay118 h w (ix2 q r) = ∑ e : Fin 1024, h (ix2 r e) * w (ix2 q e) := by
  unfold k0_pay118
  pointwise [hlo_ix]
  exact Finset.sum_congr rfl fun e _ => mul_comm _ _
/-- The queries. -/
theorem pay119_apply (w : Vec Ideal S800x1024 .bf16) (q : Fin 512) (r : Fin 1024) :
    k0_pay119 h w (ix3 0 q r) = ∑ e : Fin 1024, h (ix2 r e) * w (ix2 ⟨q, by omega⟩ e) := by
  unfold k0_pay119
  pointwise [hlo_ix]
  exact pay118_apply h w ⟨q, by omega⟩ r
/-- A row of ones over fifteen rows of zeros. -/
theorem pay120_apply (q : Fin 16) (r : Fin 1024) : k0_pay120 (F := Ideal) (ix2 q r) = if q.val = 0 then 1 else 0 := by
  unfold k0_pay120
  pointwise [hlo_ix]
  rw [show (BitVec.ofNat 32 q.val).toNat = q.val from by simp; omega]
/-- The first head's values of the selected blocks over the row of ones. -/
theorem pay122_apply (w : Vec Ideal S800x1024 .bf16) (d : Fin 80) (r : Fin 1024) :
    k0_pay122 h w (ix4 0 0 d r) = if hd : d.val < 64 then ∑ e : Fin 1024, h (ix2 r e) * w (ix2 ⟨512 + d, by omega⟩ e) else if d.val = 64 then 1 else 0 := by
  unfold k0_pay122 k0_pay121
  pointwise [hlo_ix, pay118_apply, pay120_apply]
  by_cases hd : d.val < 64
  · rw [dif_pos hd, dif_pos hd]
  · rw [dif_neg hd, dif_neg hd]
    exact if_congr (by omega) rfl rfl
/-- The second head's values of the selected blocks over the row of ones. -/
theorem pay123_apply (w : Vec Ideal S800x1024 .bf16) (d : Fin 80) (r : Fin 1024) :
    k0_pay123 h w (ix4 0 0 d r) = if hd : d.val < 64 then ∑ e : Fin 1024, h (ix2 r e) * w (ix2 ⟨576 + d, by omega⟩ e) else if d.val = 64 then 1 else 0 := by
  unfold k0_pay123 k0_pay121
  pointwise [hlo_ix, pay118_apply, pay120_apply]
  by_cases hd : d.val < 64
  · rw [dif_pos hd, dif_pos hd]
    exact Finset.sum_congr rfl fun e _ => congrArg (fun q => h (ix2 r e) * w (ix2 q e)) (Fin.ext (by show 512 + (64 + d.val) = 576 + d.val; omega))
  · rw [dif_neg hd, dif_neg hd]
    exact if_congr (by omega) rfl rfl
/-- The first head's values of the window over the row of ones. -/
theorem pay126_apply (w : Vec Ideal S800x1024 .bf16) (d : Fin 80) (r : Fin 1024) :
    k0_pay126 (k0_pay125 h w) (ix4 0 0 d r) = if hd : d.val < 64 then ∑ e : Fin 1024, h (ix2 r e) * w (ix2 ⟨640 + d, by omega⟩ e) else if d.val = 64 then 1 else 0 := by
  unfold k0_pay126 k0_pay125 k0_pay124
  pointwise [hlo_ix, pay118_apply, pay120_apply]
  by_cases hd : d.val < 64
  · rw [dif_pos hd, dif_pos hd]
  · rw [dif_neg hd, dif_neg hd]
    exact if_congr (by omega) rfl rfl
/-- The second head's values of the window over the row of ones. -/
theorem pay127_apply (w : Vec Ideal S800x1024 .bf16) (d : Fin 80) (r : Fin 1024) :
    k0_pay127 k0_pay120 (k0_pay124 h w) (ix4 0 0 d r) = if hd : d.val < 64 then ∑ e : Fin 1024, h (ix2 r e) * w (ix2 ⟨704 + d, by omega⟩ e) else if d.val = 64 then 1 else 0 := by
  unfold k0_pay127 k0_pay124
  pointwise [hlo_ix, pay118_apply, pay120_apply]
  by_cases hd : d.val < 64
  · rw [dif_pos hd, dif_pos hd]
    exact Finset.sum_congr rfl fun e _ => congrArg (fun q => h (ix2 r e) * w (ix2 q e)) (Fin.ext (by show 640 + (64 + d.val) = 704 + d.val; omega))
  · rw [dif_neg hd, dif_neg hd]
    exact if_congr (by omega) rfl rfl
/-- The gates. -/
theorem pay128_apply (w : Vec Ideal S800x1024 .bf16) (j : Fin 32) (r : Fin 1024) :
    k0_pay1 (k0_pay128 (k0_pay118 h w)) (ix3 0 j r) = MergeSpec.gate (∑ e : Fin 1024, h (ix2 r e) * w (ix2 ⟨768 + j, by omega⟩ e)) := by
  unfold k0_pay1 k0_pay128
  pointwise [hlo_ix, pay118_apply]
  rw [zero_sub]
  rfl
end
end Cert.InProjIdeal.Val
-- ==== Proof.InProjBlocks.lean ====
/- The blocks the in-projection kernel's points take, as the arguments' entries. -/
module
public import proofs.«01_k».proof.Proof.Gen.InProjIdeal.Value
public import proofs.«01_k».proof.Proof.InProjChunk
public import Idealize.ShloMosaic.Lib.Pipeline.ValueKit
@[expose] public section
set_option maxRecDepth 16384
noncomputable section
namespace Cert.InProjIdeal.Val
open Cert.InProjIdeal Cert.InProjIdeal.Gen Idealize.ShloMosaic Idealize.ShloMosaic.TcCoe Idealize.SL.Sem
open Idealize.ShloMosaic.Pipeline (Dat)
open Cert.InProjSpec
variable (m : (ℓ : Loc nD τ sig) → Buf (Elt Ideal) ℓ)

/-- Every window's block index at a grid point. -/
theorem idx : ∀ t : Fin cfg0.N, win0_0.index t = ![(grid0.coords t 0).val, (grid0.coords t 1).val, 0]
    ∧ win0_1.index t = ![0, 0]
    ∧ win0_2.index t = ![0, 0]
    ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, 0, (grid0.coords t 1).val, 0]
    ∧ win0_7.index t = ![(grid0.coords t 0).val, 0, (grid0.coords t 1).val, 0]
    ∧ win0_8.index t = ![(grid0.coords t 0).val, 0, 0, (grid0.coords t 1).val, 0]
    ∧ win0_9.index t = ![(grid0.coords t 0).val, 0, 0, (grid0.coords t 1).val, 0]
    ∧ win0_10.index t = ![(grid0.coords t 0).val, 0, 0, (grid0.coords t 1).val, 0]
    ∧ win0_11.index t = ![(grid0.coords t 0).val, 0, (grid0.coords t 1).val]
    ∧ win0_12.index t = ![(grid0.coords t 0).val, 0, 0, (grid0.coords t 1).val]
    ∧ win0_13.index t = ![(grid0.coords t 0).val, 0, 0, (grid0.coords t 1).val]
    ∧ win0_14.index t = ![(grid0.coords t 0).val, 0, (grid0.coords t 1).val] :=
  (by decide +kernel : ∀ t : Fin grid0.N, _)

/-- The weight with its columns in rows. -/
def h0 (w : FVec Ideal S1024x5656 .f32) : FVec Ideal S5656x1024 .f32 := transpose S5656x1024 [1, 0] w transposes_S1024x5656_S5656x1024_1_0
/-- Its keys and values. -/
def h1 (w : FVec Ideal S1024x5656 .f32) : FVec Ideal S768x1024 .f32 := extractStridedSlice S768x1024 ![512, 0] (h0 w) slices_S5656x1024_S768x1024_512_0
/-- Its dilated columns. -/
def h2 (w : FVec Ideal S1024x5656 .f32) : FVec Ideal S2304x1024 .f32 := extractStridedSlice S2304x1024 ![1304, 0] (h0 w) slices_S5656x1024_S2304x1024_1304_0
/-- The dilated columns with the queries scaled. -/
def h7 (w : FVec Ideal S1024x5656 .f32) : FVec Ideal S2304x1024 .f32 :=
  concatenate S2304x1024 0 [⟨S768x1024, mulf (extractStridedSlice S768x1024 ![0, 0] (h2 w) slices_S2304x1024_S768x1024_0_0) (broadcastInDim S768x1024 ![] bcast_S_S768x1024 (constant (F := Ideal) S_ .f32 0x3E38AA3B#32))⟩, ⟨S1536x1024, extractStridedSlice S1536x1024 ![768, 0] (h2 w) slices_S2304x1024_S1536x1024_768_0⟩] concatenates_S768x1024_S1536x1024_S2304x1024_d0
/-- The weights whose columns lie along the lanes. -/
def h13 (w : FVec Ideal S1024x5656 .f32) : FVec Ideal S2816x1024 .bf16 :=
  truncf .bf16 (concatenate S2816x1024 0 [⟨S128x1024, extractStridedSlice S128x1024 ![0, 0] (h1 w) slices_S768x1024_S128x1024_0_0⟩, ⟨S128x1024, extractStridedSlice S128x1024 ![128, 0] (h1 w) slices_S768x1024_S128x1024_128_0⟩, ⟨S128x1024, extractStridedSlice S128x1024 ![256, 0] (h1 w) slices_S768x1024_S128x1024_256_0⟩, ⟨S128x1024, extractStridedSlice S128x1024 ![512, 0] (h1 w) slices_S768x1024_S128x1024_512_0⟩, ⟨S2304x1024, h7 w⟩] concatenates_S128x1024_S128x1024_S128x1024_S128x1024_S2304x1024_S2816x1024_d0 : FVec Ideal S2816x1024 .f32) bitsLt_bf16_f32
/-- The gate's columns, each group of twelve padded to sixteen. -/
def h17 (w : FVec Ideal S1024x5656 .f32) : FVec Ideal S32x1024 .f32 :=
  shapeCast S32x1024 (pad S2x16x1024 ![0, 0, 0] ![0, 4, 0] ![0, 0, 0] (shapeCast S2x12x1024 (extractStridedSlice S24x1024 ![1280, 0] (h0 w) slices_S5656x1024_S24x1024_1280_0) shapeCasts_S24x1024_S2x12x1024) (sitofp (F := Ideal) .f32 (constantI S_ 32 0#32)) pads_S2x12x1024_S2x16x1024_000_040_000 h_S_) shapeCasts_S2x16x1024_S32x1024
/-- The weights whose tokens lie along the lanes. -/
def h24 (w : FVec Ideal S1024x5656 .f32) : FVec Ideal S800x1024 .bf16 :=
  truncf .bf16 (concatenate S800x1024 0 [⟨S512x1024, mulf (extractStridedSlice S512x1024 ![0, 0] (h0 w) slices_S5656x1024_S512x1024_0_0) (broadcastInDim S512x1024 ![] bcast_S_S512x1024 (constant (F := Ideal) S_ .f32 0x3E38AA3B#32))⟩, ⟨S128x1024, extractStridedSlice S128x1024 ![384, 0] (h1 w) slices_S768x1024_S128x1024_384_0⟩, ⟨S128x1024, extractStridedSlice S128x1024 ![640, 0] (h1 w) slices_S768x1024_S128x1024_640_0⟩, ⟨S32x1024, h17 w⟩] concatenates_S512x1024_S128x1024_S128x1024_S32x1024_S800x1024_d0 : FVec Ideal S800x1024 .f32) bitsLt_bf16_f32

/-- What the host hands the kernel as the first weight. -/
theorem V13 (c : Dev nD) : V m c main_v13 = h13 (m ((c : Thread nD τ).loc main_arg2)) := rfl

set_option maxHeartbeats 4000000 in
/-- What the host hands the kernel as the second weight. -/
theorem V24 (c : Dev nD) : V m c main_v24 = h24 (m ((c : Thread nD τ).loc main_arg2)) := rfl

/-- The first weight, entry by entry. -/
theorem h13_apply (w : FVec Ideal S1024x5656 .f32) (q : Fin 2816) (e : Fin 1024) : h13 w (ix2 q e) =
    if q.val < 384 then w (ix2 e ⟨512 + q, by omega⟩) else
      if q.val < 512 then w (ix2 e ⟨640 + q, by omega⟩) else
      if q.val < 1280 then w (ix2 e ⟨792 + q, by omega⟩) * scal else w (ix2 e ⟨792 + q, by omega⟩) := by
  pointwise [h13, h7, h2, h1, h0, hlo_ix]
  have hc : ∀ (a b : Fin 5656), a.val = b.val → w (ix2 e a) = w (ix2 e b) := fun a b h => by rw [Fin.ext h]
  by_cases a1 : q.val < 128
  · exact (dif_pos a1).trans (if_pos (by omega)).symm
  refine (dif_neg a1).trans ?_
  by_cases a2 : q.val - 128 < 128
  · exact (dif_pos a2).trans ((hc _ _ (by dsimp only; omega)).trans (if_pos (by omega)).symm)
  refine (dif_neg a2).trans ?_
  by_cases a3 : q.val - 128 - 128 < 128
  · exact (dif_pos a3).trans ((hc _ _ (by dsimp only; omega)).trans (if_pos (by omega)).symm)
  refine (dif_neg a3).trans (Eq.trans ?_ (if_neg (by omega)).symm)
  by_cases a4 : q.val - 128 - 128 - 128 < 128
  · exact (dif_pos a4).trans ((hc _ _ (by dsimp only; omega)).trans (if_pos (by omega)).symm)
  refine (dif_neg a4).trans (Eq.trans ?_ (if_neg (by omega)).symm)
  by_cases a5 : q.val - 128 - 128 - 128 - 128 < 768
  · exact (dif_pos a5).trans ((congrArg (· * scal) (hc _ _ (by dsimp only; omega))).trans (if_pos (by omega)).symm)
  · exact (dif_neg a5).trans ((hc _ _ (by dsimp only; omega)).trans (if_neg (by omega)).symm)

/-- The second weight, entry by entry. -/
theorem h24_apply (w : FVec Ideal S1024x5656 .f32) (q : Fin 800) (e : Fin 1024) : h24 w (ix2 q e) =
    if q.val < 512 then w (ix2 e ⟨q, by omega⟩) * scal else
      if q.val < 640 then w (ix2 e ⟨384 + q, by omega⟩) else
      if q.val < 768 then w (ix2 e ⟨512 + q, by omega⟩) else
      if h : (q.val - 768) % 16 < 12 then w (ix2 e ⟨1280 + 12 * ((q - 768) / 16) + (q - 768) % 16, by omega⟩) else 0 := by
  pointwise [h24, h17, h1, h0, hlo_ix]
  have hc : ∀ (a b : Fin 5656), a.val = b.val → w (ix2 e a) = w (ix2 e b) := fun a b h => by rw [Fin.ext h]
  by_cases a1 : q.val < 512
  · exact (dif_pos a1).trans (if_pos (by omega)).symm
  refine (dif_neg a1).trans (Eq.trans ?_ (if_neg (by omega)).symm)
  by_cases a2 : q.val - 512 < 128
  · exact (dif_pos a2).trans ((hc _ _ (by dsimp only; omega)).trans (if_pos (by omega)).symm)
  refine (dif_neg a2).trans (Eq.trans ?_ (if_neg (by omega)).symm)
  by_cases a3 : q.val - 512 - 128 < 128
  · exact (dif_pos a3).trans ((hc _ _ (by dsimp only; omega)).trans (if_pos (by omega)).symm)
  refine (dif_neg a3).trans (Eq.trans ?_ (if_neg (by omega)).symm)
  by_cases a4 : (q.val - 768) % 16 < 12
  · refine (dif_pos ⟨by omega, by omega⟩).trans (Eq.trans ?_ (dif_pos a4).symm)
    exact hc _ _ (by dsimp only; omega)
  · exact (dif_neg (by omega)).trans (Eq.trans (by simp [FloatOps.sitofp]) (dif_neg a4).symm)

attribute [local irreducible] h13 h24

/-- The three arguments. -/
abbrev aX (c : Dev nD) : FVec Ideal ⟨3, ![4, 4096, 1024]⟩ .f32 := m ((c : Thread nD τ).loc main_arg0)
/-- The norm's weights. -/
abbrev aG (c : Dev nD) : FVec Ideal ⟨2, ![1, 1024]⟩ .f32 := m ((c : Thread nD τ).loc main_arg1)
/-- The projection's weights. -/
abbrev aW (c : Dev nD) : FVec Ideal ⟨2, ![1024, 5656]⟩ .f32 := m ((c : Thread nD τ).loc main_arg2)

variable (c : Dev nD) (t : Fin cfg0.N)

/-- The normalisation's weights, whole at every point. -/
theorem blk_g (e : Fin 1024) : (iblk m c 1 t : Vec Ideal S1x1024 .f32) (ix2 0 e) = aG m c (ix2 0 e) := by
  blk_ext [iblk, V, idx t]
/-- The weights whose columns lie along the lanes, at every point. -/
theorem blk_wn (q : Fin 2816) (e : Fin 1024) :
    (iblk m c 2 t : Vec Ideal S2816x1024 .bf16) (ix2 q e) = h13 (aW m c) (ix2 q e) := by
  show V m c main_v13 ((win0_2.blk t).view.emb (ix2 q e)) = _
  rw [V13]
  refine congrArg _ (funext fun a => Fin.ext ?_)
  fin_cases a
  · blk_simp [idx t]
  · blk_simp [idx t]
/-- The weights whose tokens lie along the lanes, at every point. -/
theorem blk_wt (q : Fin 800) (e : Fin 1024) :
    (iblk m c 3 t : Vec Ideal S800x1024 .bf16) (ix2 q e) = h24 (aW m c) (ix2 q e) := by
  show V m c main_v24 ((win0_3.blk t).view.emb (ix2 q e)) = _
  rw [V24]
  refine congrArg _ (funext fun a => Fin.ext ?_)
  fin_cases a
  · blk_simp [idx t]
  · blk_simp [idx t]
/-- The tokens of a point. -/
theorem blk_x (b : Fin 4) (n : ℕ) (hn : n < 4) (hb : (grid0.coords t 0 : ℕ) = b) (hi : (grid0.coords t 1 : ℕ) = n) (r : Fin 1024) (e : Fin 1024) :
    (iblk m c 0 t : Vec Ideal S1x1024x1024 .f32) (ix3 0 r e) = aX m c (ix3 b ⟨n * 1024 + r, by omega⟩ e) := by
  blk_ext [iblk, V, idx t]
end Cert.InProjIdeal.Val
-- ==== Proof.InProjCore.lean ====
/- What the points of the in-projection kernel compute: the normalised tokens, their products with the weights' rows and
   the strided reads of the staged columns. -/
module
public import proofs.«01_k».proof.Proof.Gen.InProjIdeal.Value
public import proofs.«01_k».proof.Proof.InProjBlocks
public import Idealize.ShloMosaic.Lib.Pipeline.ValueKit
@[expose] public section
set_option maxRecDepth 16384
noncomputable section
namespace Cert.InProjIdeal.Val
open Cert.InProjIdeal Cert.InProjIdeal.Gen Idealize.ShloMosaic Idealize.ShloMosaic.TcCoe Idealize.SL.Sem
open Idealize.ShloMosaic.Pipeline (Dat)
open Cert.InProjSpec

section
variable {κ : Kind} {sp : Space} (v : View sig κ sp S2x1024x128 .f32) (A B : S1x1024x128.Idx → Elt Ideal .f32) (L : List (View.Piece (Elt Ideal) S2x1024x128 .f32))
variable (h1 : ∀ a, (![1, 0, 0] : Fin 3 → ℕ) a + (![1, 1024, 128] : Fin 3 → ℕ) a ≤ S2x1024x128.size a) (h0 : ∀ a, (![0, 0, 0] : Fin 3 → ℕ) a + (![1, 1024, 128] : Fin 3 → ℕ) a ≤ S2x1024x128.size a)

/-- The first staged plane is what was stored in it. -/
theorem plane0 (k : Fin 1024) (l : Fin 128) :
    View.canon (⟨Rect.unit (s := S2x1024x128) ![1, 0, 0] ![1, 1024, 128] h1, B⟩ :: ⟨Rect.unit (s := S2x1024x128) ![0, 0, 0] ![1, 1024, 128] h0, A⟩ :: L) (ix3 0 k l) = A (ix3 0 k l) := by
  rw [View.canon_cons_of_not_mem]
  · have e : (ix3 0 k l : S2x1024x128.Idx) = (Rect.unit (s := S2x1024x128) ![0, 0, 0] ![1, 1024, 128] h0).emb (ix3 0 k l) := by
      funext a
      match a with
      | ⟨0, _⟩ => rfl
      | ⟨1, _⟩ => exact Fin.ext (by show k.val = 0 + 1 * k.val; omega)
      | ⟨2, _⟩ => exact Fin.ext (by show l.val = 0 + 1 * l.val; omega)
    rw [e]
    exact View.canon_cons_emb (Rect.unit (s := S2x1024x128) ![0, 0, 0] ![1, 1024, 128] h0) A L (ix3 0 k l)
  · rw [Rect.mem_set_unit]
    intro h
    have h' : 1 ≤ 0 := (h 0).1
    omega

/-- The second one too. -/
theorem plane1 (k : Fin 1024) (l : Fin 128) :
    View.canon (⟨Rect.unit (s := S2x1024x128) ![1, 0, 0] ![1, 1024, 128] h1, B⟩ :: ⟨Rect.unit (s := S2x1024x128) ![0, 0, 0] ![1, 1024, 128] h0, A⟩ :: L) (ix3 1 k l) = B (ix3 0 k l) := by
  have e : (ix3 1 k l : S2x1024x128.Idx) = (Rect.unit (s := S2x1024x128) ![1, 0, 0] ![1, 1024, 128] h1).emb (ix3 0 k l) := by
    funext a
    match a with
    | ⟨0, _⟩ => rfl
    | ⟨1, _⟩ => exact Fin.ext (by show k.val = 0 + 1 * k.val; omega)
    | ⟨2, _⟩ => exact Fin.ext (by show l.val = 0 + 1 * l.val; omega)
  rw [e]
  exact View.canon_cons_emb (Rect.unit (s := S2x1024x128) ![1, 0, 0] ![1, 1024, 128] h1) B _ (ix3 0 k l)

/-- A load of every fourth row of the first plane. -/
theorem rd4_0 (cc : ℕ) (hcc : cc < 4) (h) (j : Fin 256) (l : Fin 128) :
    v.readCov (⟨Rect.unit (s := S2x1024x128) ![1, 0, 0] ![1, 1024, 128] h1, B⟩ :: ⟨Rect.unit (s := S2x1024x128) ![0, 0, 0] ![1, 1024, 128] h0, A⟩ :: L)
      (⟨![0, cc, 0], ![1, 256, 128], ![1, 4, 1], h⟩ : LoadRect S2x1024x128) (ix3 0 j l) = A (ix3 0 ⟨cc + 4 * j, by omega⟩ l) := by
  rw [View.readCov_eq_canon']
  refine Eq.trans (congrArg _ ?_) (plane0 A B L h1 h0 ⟨cc + 4 * j, by omega⟩ l)
  funext a
  match a with
  | ⟨0, _⟩ => rfl
  | ⟨1, _⟩ => rfl
  | ⟨2, _⟩ => exact Fin.ext (by show 0 + 1 * l.val = l.val; omega)
/-- A load of every fourth row of the second plane. -/
theorem rd4_1 (cc : ℕ) (hcc : cc < 4) (h) (j : Fin 256) (l : Fin 128) :
    v.readCov (⟨Rect.unit (s := S2x1024x128) ![1, 0, 0] ![1, 1024, 128] h1, B⟩ :: ⟨Rect.unit (s := S2x1024x128) ![0, 0, 0] ![1, 1024, 128] h0, A⟩ :: L)
      (⟨![1, cc, 0], ![1, 256, 128], ![1, 4, 1], h⟩ : LoadRect S2x1024x128) (ix3 0 j l) = B (ix3 0 ⟨cc + 4 * j, by omega⟩ l) := by
  rw [View.readCov_eq_canon']
  refine Eq.trans (congrArg _ ?_) (plane1 A B L h1 h0 ⟨cc + 4 * j, by omega⟩ l)
  funext a
  match a with
  | ⟨0, _⟩ => rfl
  | ⟨1, _⟩ => rfl
  | ⟨2, _⟩ => exact Fin.ext (by show 0 + 1 * l.val = l.val; omega)
/-- A load of every sixteenth row of the first plane. -/
theorem rd16_0 (cc : ℕ) (hcc : cc < 16) (h) (j : Fin 64) (l : Fin 128) :
    v.readCov (⟨Rect.unit (s := S2x1024x128) ![1, 0, 0] ![1, 1024, 128] h1, B⟩ :: ⟨Rect.unit (s := S2x1024x128) ![0, 0, 0] ![1, 1024, 128] h0, A⟩ :: L)
      (⟨![0, cc, 0], ![1, 64, 128], ![1, 16, 1], h⟩ : LoadRect S2x1024x128) (ix3 0 j l) = A (ix3 0 ⟨cc + 16 * j, by omega⟩ l) := by
  rw [View.readCov_eq_canon']
  refine Eq.trans (congrArg _ ?_) (plane0 A B L h1 h0 ⟨cc + 16 * j, by omega⟩ l)
  funext a
  match a with
  | ⟨0, _⟩ => rfl
  | ⟨1, _⟩ => rfl
  | ⟨2, _⟩ => exact Fin.ext (by show 0 + 1 * l.val = l.val; omega)
/-- A load of every sixteenth row of the second plane. -/
theorem rd16_1 (cc : ℕ) (hcc : cc < 16) (h) (j : Fin 64) (l : Fin 128) :
    v.readCov (⟨Rect.unit (s := S2x1024x128) ![1, 0, 0] ![1, 1024, 128] h1, B⟩ :: ⟨Rect.unit (s := S2x1024x128) ![0, 0, 0] ![1, 1024, 128] h0, A⟩ :: L)
      (⟨![1, cc, 0], ![1, 64, 128], ![1, 16, 1], h⟩ : LoadRect S2x1024x128) (ix3 0 j l) = B (ix3 0 ⟨cc + 16 * j, by omega⟩ l) := by
  rw [View.readCov_eq_canon']
  refine Eq.trans (congrArg _ ?_) (plane1 A B L h1 h0 ⟨cc + 16 * j, by omega⟩ l)
  funext a
  match a with
  | ⟨0, _⟩ => rfl
  | ⟨1, _⟩ => rfl
  | ⟨2, _⟩ => exact Fin.ext (by show 0 + 1 * l.val = l.val; omega)
end

variable (m : (ℓ : Loc nD τ sig) → Buf (Elt Ideal) ℓ) (c : Dev nD) (t : Fin cfg0.N)

/-- The normalised tokens of a point. -/
abbrev hB : FVec Ideal S1024x1024 .bf16 := k0_pay2 (View.ld (iblk m c 0 t) (Rect.unit ![0, 0, 0] ![1, 1024, 1024] inb_S1x1024x1024_S1x1024x1024_0_0_0))
  (View.ld (iblk m c 1 t) (Rect.unit ![0, 0] ![1, 1024] inb_S1x1024_S1x1024_0_0))

variable (b : Fin 4) (n : ℕ) (hn : n < 4) (hb : (grid0.coords t 0 : ℕ) = b) (hi : (grid0.coords t 1 : ℕ) = n)
include hn hb hi

/-- They are the tokens' rows scaled. -/
theorem hB_at (r d : Fin 1024) : hB m c t (ix2 r d) = MergeSpec.rms (fun e => aX m c (ix3 b ⟨n * 1024 + r, by omega⟩ e)) (fun e => aG m c (ix2 0 e)) d := by
  unfold hB
  rw [norm_apply]
  congr 1 <;> funext e
  · exact (show _ = (iblk m c 0 t : Vec Ideal S1x1024x1024 .f32) (ix3 0 r e) by pointwise).trans (blk_x m c t b n hn hb hi r e)
  · exact (show _ = (iblk m c 1 t : Vec Ideal S1x1024 .f32) (ix2 0 e) by pointwise).trans (blk_g m c t e)

/-- Their product with a row of the first weight. -/
theorem sumN (q : Fin 2816) (w : Fin 1024 → EReal) (r : Fin 1024) (hw : ∀ e, w e = (iblk m c 2 t : Vec Ideal S2816x1024 .bf16) (ix2 q e)) :
    (∑ e : Fin 1024, hB m c t (ix2 r e) * w e) = if q.val < 384 then proj (aX m c) (aG m c) (aW m c) b ⟨n * 1024 + r, by omega⟩ ⟨512 + q, by omega⟩ else
      if q.val < 512 then proj (aX m c) (aG m c) (aW m c) b ⟨n * 1024 + r, by omega⟩ ⟨640 + q, by omega⟩ else
      if q.val < 1280 then proj (aX m c) (aG m c) (aW m c) b ⟨n * 1024 + r, by omega⟩ ⟨792 + q, by omega⟩ * scal else
        proj (aX m c) (aG m c) (aW m c) b ⟨n * 1024 + r, by omega⟩ ⟨792 + q, by omega⟩ := by
  have hs : ∀ f : Fin 1024 → EReal, (∀ e, w e = f e) → (∑ e : Fin 1024, hB m c t (ix2 r e) * w e) =
      ∑ e : Fin 1024, MergeSpec.rms (fun e => aX m c (ix3 b ⟨n * 1024 + r, by omega⟩ e)) (fun e => aG m c (ix2 0 e)) e * f e := fun f hf =>
    Finset.sum_congr rfl fun e _ => congrArg₂ (· * ·) (hB_at m c t b n hn hb hi r e) (hf e)
  have hv : ∀ e, w e = _ := fun e => (hw e).trans ((blk_wn m c t q e).trans (h13_apply _ q e))
  by_cases a1 : q.val < 384
  · rw [if_pos a1]; exact hs _ fun e => (hv e).trans (if_pos a1)
  rw [if_neg a1]
  by_cases a2 : q.val < 512
  · rw [if_pos a2]; exact hs _ fun e => (hv e).trans ((if_neg a1).trans (if_pos a2))
  rw [if_neg a2]
  by_cases a3 : q.val < 1280
  · rw [if_pos a3]; exact (hs _ fun e => (hv e).trans ((if_neg a1).trans ((if_neg a2).trans (if_pos a3)))).trans (sum_scal _ _)
  · rw [if_neg a3]; exact hs _ fun e => (hv e).trans ((if_neg a1).trans ((if_neg a2).trans (if_neg a3)))

/-- Their product with a row of the second weight. -/
theorem sumT (q : Fin 800) (w : Fin 1024 → EReal) (r : Fin 1024) (hw : ∀ e, w e = (iblk m c 3 t : Vec Ideal S800x1024 .bf16) (ix2 q e)) :
    (∑ e : Fin 1024, hB m c t (ix2 r e) * w e) = if q.val < 512 then proj (aX m c) (aG m c) (aW m c) b ⟨n * 1024 + r, by omega⟩ ⟨q, by omega⟩ * scal else
      if q.val < 640 then proj (aX m c) (aG m c) (aW m c) b ⟨n * 1024 + r, by omega⟩ ⟨384 + q, by omega⟩ else
      if q.val < 768 then proj (aX m c) (aG m c) (aW m c) b ⟨n * 1024 + r, by omega⟩ ⟨512 + q, by omega⟩ else
      if h : (q.val - 768) % 16 < 12 then proj (aX m c) (aG m c) (aW m c) b ⟨n * 1024 + r, by omega⟩ ⟨1280 + 12 * ((q - 768) / 16) + (q - 768) % 16, by omega⟩ else 0 := by
  have hs : ∀ f : Fin 1024 → EReal, (∀ e, w e = f e) → (∑ e : Fin 1024, hB m c t (ix2 r e) * w e) =
      ∑ e : Fin 1024, MergeSpec.rms (fun e => aX m c (ix3 b ⟨n * 1024 + r, by omega⟩ e)) (fun e => aG m c (ix2 0 e)) e * f e := fun f hf =>
    Finset.sum_congr rfl fun e _ => congrArg₂ (· * ·) (hB_at m c t b n hn hb hi r e) (hf e)
  have hv : ∀ e, w e = _ := fun e => (hw e).trans ((blk_wt m c t q e).trans (h24_apply _ q e))
  by_cases a1 : q.val < 512
  · rw [if_pos a1]; exact (hs _ fun e => (hv e).trans (if_pos a1)).trans (sum_scal _ _)
  rw [if_neg a1]
  by_cases a2 : q.val < 640
  · rw [if_pos a2]; exact hs _ fun e => (hv e).trans ((if_neg a1).trans (if_pos a2))
  rw [if_neg a2]
  by_cases a3 : q.val < 768
  · rw [if_pos a3]; exact hs _ fun e => (hv e).trans ((if_neg a1).trans ((if_neg a2).trans (if_pos a3)))
  rw [if_neg a3]
  by_cases a4 : (q.val - 768) % 16 < 12
  · rw [dif_pos a4]; exact hs _ fun e => (hv e).trans ((if_neg a1).trans ((if_neg a2).trans ((if_neg a3).trans (dif_pos a4))))
  · rw [dif_neg a4]
    refine (hs (fun _ => 0) fun e => (hv e).trans ((if_neg a1).trans ((if_neg a2).trans ((if_neg a3).trans (dif_neg a4))))).trans ?_
    simp only [mul_zero, Finset.sum_const_zero]

/-- Their product with a column of the dilated attention's. -/
theorem sumD (W : Vec Ideal S768x1024 .bf16) (v : Fin 3)
    (hW : ∀ (q : Fin 768) (e : Fin 1024), W (ix2 q e) = (iblk m c 2 t : Vec Ideal S2816x1024 .bf16) (ix2 ⟨512 + 768 * v + q, by omega⟩ e)) (r : Fin 1024) (q : Fin 768) :
    (∑ e : Fin 1024, hB m c t (ix2 r e) * W (ix2 q e)) = dil (aX m c) (aG m c) (aW m c) b v ⟨n * 1024 + r, by omega⟩ q := by
  refine (sumN m c t b n hn hb hi ⟨512 + 768 * v + q, by omega⟩ _ r (fun e => hW q e)).trans ?_
  unfold dil
  have hc : ∀ (u u' : Fin 5656), u.val = u'.val → proj (aX m c) (aG m c) (aW m c) b ⟨n * 1024 + r, by omega⟩ u = proj (aX m c) (aG m c) (aW m c) b ⟨n * 1024 + r, by omega⟩ u' :=
    fun u u' h => by rw [Fin.ext h]
  have hq := q.isLt
  refine (if_neg (by dsimp only; omega)).trans ((if_neg (by dsimp only; omega)).trans ?_)
  by_cases a : v.val = 0
  · refine (if_pos (by dsimp only; omega)).trans (Eq.trans ?_ (if_pos a).symm)
    exact congrArg (· * scal) (hc _ _ (by dsimp only; omega))
  · refine (if_neg (by dsimp only; omega)).trans (Eq.trans ?_ (if_neg a).symm)
    exact hc _ _ (by dsimp only; omega)
end Cert.InProjIdeal.Val
-- ==== Proof.InProjDil.lean ====
/- What the points of the in-projection kernel leave in the blocks of the dilated attention's groups. -/
module
public import proofs.«01_k».proof.Proof.InProjCore
@[expose] public section
set_option maxRecDepth 16384
noncomputable section
namespace Cert.InProjIdeal.Val
open Cert.InProjIdeal Cert.InProjIdeal.Gen Idealize.ShloMosaic Idealize.ShloMosaic.TcCoe Idealize.SL.Sem
open Idealize.ShloMosaic.Pipeline (Dat)
open Cert.InProjSpec

variable (m : (ℓ : Loc nD τ sig) → Buf (Elt Ideal) ℓ) (c : Dev nD) (t : Fin cfg0.N)
variable (b : Fin 4) (n : ℕ) (hn : n < 4)

/-- A point's block of the group of step one. -/
def G8 : S1x3x1x1024x256.Idx → EReal := fun y =>
  dil (aX m c) (aG m c) (aW m c) b (y 1) ⟨n * 1024 + (y 3).val, by have h : (y 3).val < 1024 := (y 3).isLt; omega⟩ ⟨(y 4).val, by have h : (y 4).val < 256 := (y 4).isLt; omega⟩
/-- A point's block of the group of step four. -/
def G9 : S1x3x4x256x256.Idx → EReal := fun y =>
  dil (aX m c) (aG m c) (aW m c) b (y 1) ⟨n * 1024 + ((y 2).val + 4 * (y 3).val), by have h : (y 3).val < 256 := (y 3).isLt; have h' : (y 2).val < 4 := (y 2).isLt; omega⟩
    ⟨256 + (y 4).val, by have h : (y 4).val < 256 := (y 4).isLt; omega⟩
/-- A point's block of the group of step sixteen. -/
def G10 : S1x3x16x64x256.Idx → EReal := fun y =>
  dil (aX m c) (aG m c) (aW m c) b (y 1) ⟨n * 1024 + ((y 2).val + 16 * (y 3).val), by have h : (y 3).val < 64 := (y 3).isLt; have h' : (y 2).val < 16 := (y 2).isLt; omega⟩
    ⟨512 + (y 4).val, by have h : (y 4).val < 256 := (y 4).isLt; omega⟩

variable (hb : (grid0.coords t 0 : ℕ) = b) (hi : (grid0.coords t 1 : ℕ) = n)
include hb hi

omit hb hi in
/-- Equal coordinates give equal values. -/
theorem dil_congr {v v' : Fin 3} {s s' : Fin 4096} {q q' : Fin 768} (hv : v.val = v'.val) (hs : s.val = s'.val) (hq : q.val = q'.val) :
    dil (aX m c) (aG m c) (aW m c) b v s q = dil (aX m c) (aG m c) (aW m c) b v' s' q' := by
  rw [Fin.ext hv, Fin.ext hs, Fin.ext hq]

/-- A store of a block of the group of step one. -/
theorem piece8 (W : Vec Ideal S768x1024 .bf16) (v : Fin 3)
    (hW : ∀ (q : Fin 768) (e : Fin 1024), W (ix2 q e) = (iblk m c 2 t : Vec Ideal S2816x1024 .bf16) (ix2 ⟨512 + 768 * v + q, by omega⟩ e))
    (h) (x : S1x1x1x1024x256.Idx) :
    k0_pay16 (hB m c t) W x = G8 m c b n hn ((Rect.unit (s := S1x3x1x1024x256) ![0, v.val, 0, 0, 0] ![1, 1, 1, 1024, 256] h).emb x) := by
  idx_vars x
  obtain rfl : x0 = 0 := Subsingleton.elim _ _
  obtain rfl : x1 = 0 := Subsingleton.elim _ _
  obtain rfl : x2 = 0 := Subsingleton.elim _ _
  refine (pay16_apply _ W x3 x4).trans ((sumD m c t b n hn hb hi W v hW x3 ⟨x4, by omega⟩).trans ?_)
  exact dil_congr m c b (by show v.val = v.val + 1 * 0; omega) (by show n * 1024 + x3.val = n * 1024 + (0 + 1 * x3.val); omega) (by show x4.val = 0 + 1 * x4.val; omega)

section
variable {κ : Kind} {sp : Space} (V0 V1 : View sig κ sp S2x1024x128 .f32) (L L' : List (View.Piece (Elt Ideal) S2x1024x128 .f32))
variable (W : Vec Ideal S768x1024 .bf16) (v : Fin 3)
    (hW : ∀ (q : Fin 768) (e : Fin 1024), W (ix2 q e) = (iblk m c 2 t : Vec Ideal S2816x1024 .bf16) (ix2 ⟨512 + 768 * v + q, by omega⟩ e))
variable (cc : ℕ)
variable (e0 e1 e0' e1')
include hW

/-- A store of one class of a block of the group of step four. -/
theorem piece9 (hcc : cc < 4) (r0 r1) (h) (x : S1x1x1x256x256.Idx) :
    k0_pay20 (V0.readCov (⟨Rect.unit (s := S2x1024x128) ![1, 0, 0] ![1, 1024, 128] e1, k0_pay19 (k0_pay17 (hB m c t) W)⟩ :: ⟨Rect.unit (s := S2x1024x128) ![0, 0, 0] ![1, 1024, 128] e0, k0_pay18 (hB m c t) W⟩ :: L)
          (⟨![0, cc, 0], ![1, 256, 128], ![1, 4, 1], r0⟩ : LoadRect S2x1024x128))
        (V1.readCov (⟨Rect.unit (s := S2x1024x128) ![1, 0, 0] ![1, 1024, 128] e1', k0_pay19 (k0_pay17 (hB m c t) W)⟩ :: ⟨Rect.unit (s := S2x1024x128) ![0, 0, 0] ![1, 1024, 128] e0', k0_pay18 (hB m c t) W⟩ :: L')
          (⟨![1, cc, 0], ![1, 256, 128], ![1, 4, 1], r1⟩ : LoadRect S2x1024x128)) x
      = G9 m c b n hn ((Rect.unit (s := S1x3x4x256x256) ![0, v.val, cc, 0, 0] ![1, 1, 1, 256, 256] h).emb x) := by
  idx_vars x
  obtain rfl : x0 = 0 := Subsingleton.elim _ _
  obtain rfl : x1 = 0 := Subsingleton.elim _ _
  obtain rfl : x2 = 0 := Subsingleton.elim _ _
  have hx3 : x3.val < 256 := x3.isLt
  have hx4 : x4.val < 256 := x4.isLt
  refine (pay20_apply _ _ x3 x4).trans ?_
  by_cases hl : x4.val < 128
  · refine (dif_pos hl).trans ?_
    refine (rd4_0 V0 _ _ L e1 e0 cc hcc r0 x3 ⟨x4, hl⟩).trans ((pay18_apply _ W _ _).trans ((sumD m c t b n hn hb hi W v hW ⟨cc + 4 * x3, by omega⟩ ⟨256 + x4, by omega⟩).trans ?_))
    exact dil_congr m c b (by show v.val = v.val + 1 * 0; omega) (by show n * 1024 + (cc + 4 * x3.val) = n * 1024 + ((cc + 1 * 0) + 4 * (0 + 1 * x3.val)); omega) (by show 256 + x4.val = 256 + (0 + 1 * x4.val); omega)
  · refine (dif_neg hl).trans ?_
    refine (rd4_1 V1 _ _ L' e1' e0' cc hcc r1 x3 ⟨x4 - 128, by omega⟩).trans ((pay19_apply _ W _ _).trans ((sumD m c t b n hn hb hi W v hW ⟨cc + 4 * x3, by omega⟩ ⟨384 + (x4 - 128), by omega⟩).trans ?_))
    exact dil_congr m c b (by show v.val = v.val + 1 * 0; omega) (by show n * 1024 + (cc + 4 * x3.val) = n * 1024 + ((cc + 1 * 0) + 4 * (0 + 1 * x3.val)); omega) (by show 384 + (x4.val - 128) = 256 + (0 + 1 * x4.val); omega)

/-- A store of one class of a block of the group of step sixteen. -/
theorem piece10 (hcc : cc < 16) (r0 r1) (h) (x : S1x1x1x64x256.Idx) :
    k0_pay31 (V0.readCov (⟨Rect.unit (s := S2x1024x128) ![1, 0, 0] ![1, 1024, 128] e1, k0_pay27 (k0_pay15 (hB m c t) W)⟩ :: ⟨Rect.unit (s := S2x1024x128) ![0, 0, 0] ![1, 1024, 128] e0, k0_pay26 (k0_pay15 (hB m c t) W)⟩ :: L)
          (⟨![0, cc, 0], ![1, 64, 128], ![1, 16, 1], r0⟩ : LoadRect S2x1024x128))
        (V1.readCov (⟨Rect.unit (s := S2x1024x128) ![1, 0, 0] ![1, 1024, 128] e1', k0_pay27 (k0_pay15 (hB m c t) W)⟩ :: ⟨Rect.unit (s := S2x1024x128) ![0, 0, 0] ![1, 1024, 128] e0', k0_pay26 (k0_pay15 (hB m c t) W)⟩ :: L')
          (⟨![1, cc, 0], ![1, 64, 128], ![1, 16, 1], r1⟩ : LoadRect S2x1024x128)) x
      = G10 m c b n hn ((Rect.unit (s := S1x3x16x64x256) ![0, v.val, cc, 0, 0] ![1, 1, 1, 64, 256] h).emb x) := by
  idx_vars x
  obtain rfl : x0 = 0 := Subsingleton.elim _ _
  obtain rfl : x1 = 0 := Subsingleton.elim _ _
  obtain rfl : x2 = 0 := Subsingleton.elim _ _
  have hx3 : x3.val < 64 := x3.isLt
  have hx4 : x4.val < 256 := x4.isLt
  refine (pay31_apply _ _ x3 x4).trans ?_
  by_cases hl : x4.val < 128
  · refine (dif_pos hl).trans ?_
    refine (rd16_0 V0 _ _ L e1 e0 cc hcc r0 x3 ⟨x4, hl⟩).trans ((pay26_apply _ W _ _).trans ((sumD m c t b n hn hb hi W v hW ⟨cc + 16 * x3, by omega⟩ ⟨512 + x4, by omega⟩).trans ?_))
    exact dil_congr m c b (by show v.val = v.val + 1 * 0; omega) (by show n * 1024 + (cc + 16 * x3.val) = n * 1024 + ((cc + 1 * 0) + 16 * (0 + 1 * x3.val)); omega) (by show 512 + x4.val = 512 + (0 + 1 * x4.val); omega)
  · refine (dif_neg hl).trans ?_
    refine (rd16_1 V1 _ _ L' e1' e0' cc hcc r1 x3 ⟨x4 - 128, by omega⟩).trans ((pay27_apply _ W _ _).trans ((sumD m c t b n hn hb hi W v hW ⟨cc + 16 * x3, by omega⟩ ⟨640 + (x4 - 128), by omega⟩).trans ?_))
    exact dil_congr m c b (by show v.val = v.val + 1 * 0; omega) (by show n * 1024 + (cc + 16 * x3.val) = n * 1024 + ((cc + 1 * 0) + 16 * (0 + 1 * x3.val)); omega) (by show 640 + (x4.val - 128) = 512 + (0 + 1 * x4.val); omega)
end

/-- A block of the dilated columns of the first weight. -/
theorem ldW (o : ℕ) (v : Fin 3) (ho : o = 512 + 768 * v.val) (h) (q : Fin 768) (e : Fin 1024) :
    (View.ld (iblk m c 2 t) (Rect.unit (s := S2816x1024) ![o, 0] ![768, 1024] h) : Vec Ideal S768x1024 .bf16) (ix2 q e) = (iblk m c 2 t : Vec Ideal S2816x1024 .bf16) (ix2 ⟨512 + 768 * v + q, by omega⟩ e) := by
  subst ho
  refine congrArg (iblk m c 2 t : Vec Ideal S2816x1024 .bf16) (funext fun a => Fin.ext ?_)
  match a with
  | ⟨0, _⟩ => show (512 + 768 * v.val) + 1 * q.val = 512 + 768 * v.val + q.val; omega
  | ⟨1, _⟩ => show 0 + 1 * e.val = e.val; omega

set_option maxHeartbeats 4000000 in
/-- What a point leaves in the block of the group of step 1. -/
theorem point8 (y) : ((outsAt0 m c t).2.2.2.2.1) y = G8 m c b n hn y := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _ _ _ _ )]
  refine View.canon_apply_of_pieces (Val := Elt Ideal) (G8 m c b n hn) _ ?_ y (cover0_A_8 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece8 m c t b n hn hb hi _ 2 (ldW m c t b n hb hi _ 2 rfl (by decide)) (by decide) x
  rcases List.mem_cons.mp hpc with rfl | hpc
  · exact piece8 m c t b n hn hb hi _ 1 (ldW m c t b n hb hi _ 1 rfl (by decide)) (by decide) x
  rcases List.mem_cons.mp hpc with rfl | hpc
  · exact piece8 m c t b n hn hb hi _ 0 (ldW m c t b n hb hi _ 0 rfl (by decide)) (by decide) x
  nomatch hpc

set_option maxHeartbeats 4000000 in
/-- What a point leaves in the block of the group of step 4. -/
theorem point9 (y) : ((outsAt0 m c t).2.2.2.2.2.1) y = G9 m c b n hn y := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ )]
  refine View.canon_apply_of_pieces (Val := Elt Ideal) (G9 m c b n hn) _ ?_ y (cover0_A_9 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece9 m c t b n hn hb hi _ _ _ _ _ 2 (ldW m c t b n hb hi _ 2 rfl (by decide)) 3 (by decide) (by decide) (by decide) (by decide) (by decide) (by decide) (by decide) (by decide) x
  rcases List.mem_cons.mp hpc with rfl | hpc
  · exact piece9 m c t b n hn hb hi _ _ _ _ _ 2 (ldW m c t b n hb hi _ 2 rfl (by decide)) 2 (by decide) (by decide) (by decide) (by decide) (by decide) (by decide) (by decide) (by decide) x
  rcases List.mem_cons.mp hpc with rfl | hpc
  · exact piece9 m c t b n hn hb hi _ _ _ _ _ 2 (ldW m c t b n hb hi _ 2 rfl (by decide)) 1 (by decide) (by decide) (by decide) (by decide) (by decide) (by decide) (by decide) (by decide) x
  rcases List.mem_cons.mp hpc with rfl | hpc
  · exact piece9 m c t b n hn hb hi _ _ _ _ _ 2 (ldW m c t b n hb hi _ 2 rfl (by decide)) 0 (by decide) (by decide) (by decide) (by decide) (by decide) (by decide) (by decide) (by decide) x
  rcases List.mem_cons.mp hpc with rfl | hpc
  · exact piece9 m c t b n hn hb hi _ _ _ _ _ 1 (ldW m c t b n hb hi _ 1 rfl (by decide)) 3 (by decide) (by decide) (by decide) (by decide) (by decide) (by decide) (by decide) (by decide) x
  rcases List.mem_cons.mp hpc with rfl | hpc
  · exact piece9 m c t b n hn hb hi _ _ _ _ _ 1 (ldW m c t b n hb hi _ 1 rfl (by decide)) 2 (by decide) (by decide) (by decide) (by decide) (by decide) (by decide) (by decide) (by decide) x
  rcases List.mem_cons.mp hpc with rfl | hpc
  · exact piece9 m c t b n hn hb hi _ _ _ _ _ 1 (ldW m c t b n hb hi _ 1 rfl (by decide)) 1 (by decide) (by decide) (by decide) (by decide) (by decide) (by decide) (by decide) (by decide) x
  rcases List.mem_cons.mp hpc with rfl | hpc
  · exact piece9 m c t b n hn hb hi _ _ _ _ _ 1 (ldW m c t b n hb hi _ 1 rfl (by decide)) 0 (by decide) (by decide) (by decide) (by decide) (by decide) (by decide) (by decide) (by decide) x
  rcases List.mem_cons.mp hpc with rfl | hpc
  · exact piece9 m c t b n hn hb hi _ _ _ _ _ 0 (ldW m c t b n hb hi _ 0 rfl (by decide)) 3 (by decide) (by decide) (by decide) (by decide) (by decide) (by decide) (by decide) (by decide) x
  rcases List.mem_cons.mp hpc with rfl | hpc
  · exact piece9 m c t b n hn hb hi _ _ _ _ _ 0 (ldW m c t b n hb hi _ 0 rfl (by decide)) 2 (by decide) (by decide) (by decide) (by decide) (by decide) (by decide) (by decide) (by decide) x
  rcases List.mem_cons.mp hpc with rfl | hpc
  · exact piece9 m c t b n hn hb hi _ _ _ _ _ 0 (ldW m c t b n hb hi _ 0 rfl (by decide)) 1 (by decide) (by decide) (by decide) (by decide) (by decide) (by decide) (by decide) (by decide) x
  rcases List.mem_cons.mp hpc with rfl | hpc
  · exact piece9 m c t b n hn hb hi _ _ _ _ _ 0 (ldW m c t b n hb hi _ 0 rfl (by decide)) 0 (by decide) (by decide) (by decide) (by decide) (by decide) (by decide) (by decide) (by decide) x
  nomatch hpc

set_option maxHeartbeats 4000000 in
/-- What a point leaves in the block of the group of step 16. -/
theorem point10 (y) : ((outsAt0 m c t).2.2.2.2.2.2.1) y = G10 m c b n hn y := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ )]
  refine View.canon_apply_of_pieces (Val := Elt Ideal) (G10 m c b n hn) _ ?_ y (cover0_A_10 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece10 m c t b n hn hb hi _ _ _ _ _ 2 (ldW m c t b n hb hi _ 2 rfl (by decide)) 15 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 14 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 13 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 12 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 11 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 10 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 9 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 8 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 7 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 6 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 5 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 4 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 3 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 2 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 1 (by decide) (by decide) (by decide) (by decide) (by decide) (by decide) (by decide) (by decide) x
  rcases List.mem_cons.mp hpc with rfl | hpc
  · exact piece10 m c t b n hn hb hi _ _ _ _ _ 2 (ldW m c t b n hb hi _ 2 rfl (by decide)) 0 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 15 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 14 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 13 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 12 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 11 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 10 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 9 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 8 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 7 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 6 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 5 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 4 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 3 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 2 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 1 (by decide) (by decide) (by decide) (by decide) (by decide) (by decide) (by decide) (by decide) x
  rcases List.mem_cons.mp hpc with rfl | hpc
  · exact piece10 m c t b n hn hb hi _ _ _ _ _ 1 (ldW m c t b n hb hi _ 1 rfl (by decide)) 0 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 15 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 14 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 13 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 12 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 11 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 10 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 9 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 8 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 7 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 6 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 5 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 4 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 3 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 2 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 1 (by decide) (by decide) (by decide) (by decide) (by decide) (by decide) (by decide) (by decide) x
  rcases List.mem_cons.mp hpc with rfl | hpc
  · exact piece10 m c t b n hn hb hi _ _ _ _ _ 0 (ldW m c t b n hb hi _ 0 rfl (by decide)) 0 (by decide) (by decide) (by decide) (by decide) (by decide) (by decide) (by decide) (by decide) x
  nomatch hpc

end Cert.InProjIdeal.Val
-- ==== Proof.InProjFlat.lean ====
/- What the points of the in-projection kernel leave in the blocks of the sparse attention's operands. -/
module
public import proofs.«01_k».proof.Proof.InProjCore
@[expose] public section
set_option maxRecDepth 16384
noncomputable section
namespace Cert.InProjIdeal.Val
open Cert.InProjIdeal Cert.InProjIdeal.Gen Idealize.ShloMosaic Idealize.ShloMosaic.TcCoe Idealize.SL.Sem
open Idealize.ShloMosaic.Pipeline (Dat)
open Cert.InProjSpec

variable (m : (ℓ : Loc nD τ sig) → Buf (Elt Ideal) ℓ) (c : Dev nD) (t : Fin cfg0.N)

section
variable {b : Fin 4}
/-- Equal coordinates give equal values. -/
theorem proj_congr {s s' : Fin 4096} {q q' : Fin 5656} (hs : s.val = s'.val) (hq : q.val = q'.val) :
    proj (aX m c) (aG m c) (aW m c) b s q = proj (aX m c) (aG m c) (aW m c) b s' q' := by
  rw [Fin.ext hs, Fin.ext hq]
/-- Equal coordinates give equal values. -/
theorem kv_congr {k : Fin 6} {s s' : Fin 4096} {l l' : Fin 128} (hs : s.val = s'.val) (hl : l.val = l'.val) :
    kv (aX m c) (aG m c) (aW m c) k b s l = kv (aX m c) (aG m c) (aW m c) k b s' l' := by
  rw [Fin.ext hs, Fin.ext hl]
/-- Equal coordinates give equal values. -/
theorem keys_congr {k : Fin 6} {h h' : Fin 2} {s s' : Fin 4096} {l l' : Fin 128} (hh : h.val = h'.val) (hs : s.val = s'.val) (hl : l.val = l'.val) :
    keys (aX m c) (aG m c) (aW m c) k b h s l = keys (aX m c) (aG m c) (aW m c) k b h' s' l' := by
  rw [Fin.ext hh, Fin.ext hs, Fin.ext hl]
/-- Equal coordinates give equal values. -/
theorem values_congr {k : Fin 6} {h h' : Fin 2} {d d' : Fin 80} {s s' : Fin 4096} (hh : h.val = h'.val) (hd : d.val = d'.val) (hs : s.val = s'.val) :
    values (aX m c) (aG m c) (aW m c) k b h d s = values (aX m c) (aG m c) (aW m c) k b h' d' s' := by
  rw [Fin.ext hh, Fin.ext hs, Fin.ext hd]
/-- Equal coordinates give equal values. -/
theorem qt_congr {q q' : Fin 512} {s s' : Fin 4096} (hq : q.val = q'.val) (hs : s.val = s'.val) :
    qt (aX m c) (aG m c) (aW m c) b q s = qt (aX m c) (aG m c) (aW m c) b q' s' := by
  rw [Fin.ext hs, Fin.ext hq]
/-- Equal coordinates give equal values. -/
theorem gates_congr {q q' : Fin 32} {s s' : Fin 4096} (hq : q.val = q'.val) (hs : s.val = s'.val) :
    gates (aX m c) (aG m c) (aW m c) b q s = gates (aX m c) (aG m c) (aW m c) b q' s' := by
  rw [Fin.ext hs, Fin.ext hq]
end

variable (b : Fin 4) (n : ℕ) (hn : n < 4)

/-- A point's block of the keys of the compression. -/
def G4 : S1x1024x128.Idx → EReal := fun y => kv (aX m c) (aG m c) (aW m c) 0 b ⟨n * 1024 + (y 1).val, by have h : (y 1).val < 1024 := (y 1).isLt; omega⟩ (y 2)
/-- A point's block of the values of the compression. -/
def G5 : S1x1024x128.Idx → EReal := fun y => kv (aX m c) (aG m c) (aW m c) 1 b ⟨n * 1024 + (y 1).val, by have h : (y 1).val < 1024 := (y 1).isLt; omega⟩ (y 2)
/-- A point's block of the keys of the selected blocks. -/
def G6 : S1x2x1024x128.Idx → EReal := fun y => keys (aX m c) (aG m c) (aW m c) 2 b (y 1) ⟨n * 1024 + (y 2).val, by have h : (y 2).val < 1024 := (y 2).isLt; omega⟩ (y 3)
/-- A point's block of the keys of the window. -/
def G7 : S1x2x1024x128.Idx → EReal := fun y => keys (aX m c) (aG m c) (aW m c) 4 b (y 1) ⟨n * 1024 + (y 2).val, by have h : (y 2).val < 1024 := (y 2).isLt; omega⟩ (y 3)
/-- A point's block of the queries. -/
def G11 : S1x512x1024.Idx → EReal := fun y => qt (aX m c) (aG m c) (aW m c) b (y 1) ⟨n * 1024 + (y 2).val, by have h : (y 2).val < 1024 := (y 2).isLt; omega⟩
/-- A point's block of the values of the selected blocks. -/
def G12 : S1x2x80x1024.Idx → EReal := fun y => values (aX m c) (aG m c) (aW m c) 3 b (y 1) (y 2) ⟨n * 1024 + (y 3).val, by have h : (y 3).val < 1024 := (y 3).isLt; omega⟩
/-- A point's block of the values of the window. -/
def G13 : S1x2x80x1024.Idx → EReal := fun y => values (aX m c) (aG m c) (aW m c) 5 b (y 1) (y 2) ⟨n * 1024 + (y 3).val, by have h : (y 3).val < 1024 := (y 3).isLt; omega⟩
/-- A point's block of the gates. -/
def G14 : S1x32x1024.Idx → EReal := fun y => gates (aX m c) (aG m c) (aW m c) b (y 1) ⟨n * 1024 + (y 2).val, by have h : (y 2).val < 1024 := (y 2).isLt; omega⟩

variable (hb : (grid0.coords t 0 : ℕ) = b) (hi : (grid0.coords t 1 : ℕ) = n)

/-- A block of rows of the first weight. -/
theorem ldN (k o : ℕ) (h) (q : Fin k) (e : Fin 1024) (hq : o + q < 2816) :
    (View.ld (iblk m c 2 t) (Rect.unit (s := S2816x1024) ![o, 0] ![k, 1024] h)) (ix2 q e) = (iblk m c 2 t : Vec Ideal S2816x1024 .bf16) (ix2 ⟨o + q, hq⟩ e) := by
  refine congrArg (iblk m c 2 t : Vec Ideal S2816x1024 .bf16) (funext fun a => Fin.ext ?_)
  match a with
  | ⟨0, _⟩ => show o + 1 * q.val = o + q.val; omega
  | ⟨1, _⟩ => show 0 + 1 * e.val = e.val; omega

/-- The second weight, whole. -/
abbrev wT : Vec Ideal S800x1024 .bf16 := View.ld (iblk m c 3 t) (Rect.unit (s := S800x1024) ![0, 0] ![800, 1024] inb_S800x1024_S800x1024_0_0)

/-- Its entries. -/
theorem wT_at (q : Fin 800) (e : Fin 1024) : wT m c t (ix2 q e) = (iblk m c 3 t : Vec Ideal S800x1024 .bf16) (ix2 q e) := by
  refine congrArg (iblk m c 3 t : Vec Ideal S800x1024 .bf16) (funext fun a => Fin.ext ?_)
  match a with
  | ⟨0, _⟩ => show 0 + 1 * q.val = q.val; omega
  | ⟨1, _⟩ => show 0 + 1 * e.val = e.val; omega

include hn hb hi

/-- The rows of the first weight under the keys and values of one stream. -/
theorem sumK (w : Fin 1024 → EReal) (k : Fin 6) (o : ℕ) (r : Fin 1024) (l : Fin 128) (q : Fin 2816) (hq : q.val = o + l)
    (ho : k.val < 3 ∧ o = 128 * k.val ∨ k.val = 4 ∧ o = 384)
    (hw : ∀ e, w e = (iblk m c 2 t : Vec Ideal S2816x1024 .bf16) (ix2 q e)) :
    (∑ e : Fin 1024, hB m c t (ix2 r e) * w e) = kv (aX m c) (aG m c) (aW m c) k b ⟨n * 1024 + r, by omega⟩ l := by
  refine (sumN m c t b n hn hb hi q _ r hw).trans ?_
  unfold kv
  rcases ho with ⟨hk, ho⟩ | ⟨hk, ho⟩
  · exact (if_pos (by omega)).trans (proj_congr m c rfl (by dsimp only <;> omega))
  · exact (if_neg (by omega)).trans ((if_pos (by omega)).trans (proj_congr m c rfl (by dsimp only <;> omega)))

/-- The rows of the second weight under the values of one stream. -/
theorem sumV (k : Fin 6) (o : ℕ) (r : Fin 1024) (l : Fin 128) (q : Fin 800) (hq : q.val = o + l)
    (ho : k.val = 3 ∧ o = 512 ∨ k.val = 5 ∧ o = 640) :
    (∑ e : Fin 1024, hB m c t (ix2 r e) * wT m c t (ix2 q e)) = kv (aX m c) (aG m c) (aW m c) k b ⟨n * 1024 + r, by omega⟩ l := by
  refine (sumT m c t b n hn hb hi q _ r fun e => wT_at m c t q e).trans ((if_neg (by omega)).trans ?_)
  unfold kv
  rcases ho with ⟨hk, ho⟩ | ⟨hk, ho⟩
  · exact (if_pos (by omega)).trans (proj_congr m c rfl (by dsimp only <;> omega))
  · exact (if_neg (by omega)).trans ((if_pos (by omega)).trans (proj_congr m c rfl (by dsimp only <;> omega)))

/-- The position columns of a point. -/
theorem col_at (r : Fin 1024) (l : Fin 64) : k0_pay9 (F := Ideal) (BitVec.ofNat 32 (grid0.coords t 1 : ℕ)) (ix2 r l) = col (BitVec.ofNat 32 (n * 1024 + r.val)) l := by
  rw [hi]
  exact pay9_apply ⟨n, hn⟩ r l

/-- A store of a block of the keys of the compression. -/
theorem piece4 (h) (x : S1x1024x128.Idx) :
    k0_pay4 (View.ld (iblk m c 0 t) (Rect.unit ![0, 0, 0] ![1, 1024, 1024] inb_S1x1024x1024_S1x1024x1024_0_0_0)) (View.ld (iblk m c 1 t) (Rect.unit ![0, 0] ![1, 1024] inb_S1x1024_S1x1024_0_0)) (View.ld (iblk m c 2 t) (Rect.unit (s := S2816x1024) ![0, 0] ![256, 1024] inb_S2816x1024_S256x1024_0_0)) x = G4 m c b n hn ((Rect.unit (s := S1x1024x128) ![0, 0, 0] ![1, 1024, 128] h).emb x) := by
  idx_vars x
  obtain rfl : x0 = 0 := Subsingleton.elim _ _
  have hx2 : x2.val < 128 := x2.isLt
  refine (pay4_apply _ _ _ x1 x2).trans ((sumK m c t b n hn hb hi _ 0 0 x1 x2 ⟨0 + x2, by omega⟩ rfl (by decide) fun e => ?_).trans ?_)
  · refine (ldN m c t 256 0 _ ⟨x2, by omega⟩ e (by dsimp only <;> omega)).trans (congrArg (iblk m c 2 t : Vec Ideal S2816x1024 .bf16) (congrArg (fun u => ix2 u e) (Fin.ext ?_)))
    show 0 + x2.val = 0 + x2.val
    omega
  · exact kv_congr m c (by show n * 1024 + x1.val = n * 1024 + (0 + 1 * x1.val); omega) (by show x2.val = 0 + 1 * x2.val; omega)

/-- A store of a block of the values of the compression. -/
theorem piece5 (h) (x : S1x1024x128.Idx) :
    k0_pay5 (View.ld (iblk m c 0 t) (Rect.unit ![0, 0, 0] ![1, 1024, 1024] inb_S1x1024x1024_S1x1024x1024_0_0_0)) (View.ld (iblk m c 1 t) (Rect.unit ![0, 0] ![1, 1024] inb_S1x1024_S1x1024_0_0)) (View.ld (iblk m c 2 t) (Rect.unit (s := S2816x1024) ![0, 0] ![256, 1024] inb_S2816x1024_S256x1024_0_0)) x = G5 m c b n hn ((Rect.unit (s := S1x1024x128) ![0, 0, 0] ![1, 1024, 128] h).emb x) := by
  idx_vars x
  obtain rfl : x0 = 0 := Subsingleton.elim _ _
  have hx2 : x2.val < 128 := x2.isLt
  refine (pay5_apply _ _ _ x1 x2).trans ((sumK m c t b n hn hb hi _ 1 128 x1 x2 ⟨128 + x2, by omega⟩ rfl (by decide) fun e => ?_).trans ?_)
  · refine (ldN m c t 256 0 _ ⟨128 + x2, by omega⟩ e (by dsimp only <;> omega)).trans (congrArg (iblk m c 2 t : Vec Ideal S2816x1024 .bf16) (congrArg (fun u => ix2 u e) (Fin.ext ?_)))
    show 0 + (128 + x2.val) = 128 + x2.val
    omega
  · exact kv_congr m c (by show n * 1024 + x1.val = n * 1024 + (0 + 1 * x1.val); omega) (by show x2.val = 0 + 1 * x2.val; omega)

/-- A store of one head of a block of the keys of the selected blocks. -/
theorem piece6_0 (h) (x : S1x1x1024x128.Idx) :
    k0_pay11 (k0_pay10 (BitVec.ofNat 32 (grid0.coords t 1 : ℕ)) (k0_pay6 (View.ld (iblk m c 0 t) (Rect.unit ![0, 0, 0] ![1, 1024, 1024] inb_S1x1024x1024_S1x1024x1024_0_0_0)) (View.ld (iblk m c 1 t) (Rect.unit ![0, 0] ![1, 1024] inb_S1x1024_S1x1024_0_0)) (View.ld (iblk m c 2 t) (Rect.unit (s := S2816x1024) ![256, 0] ![128, 1024] inb_S2816x1024_S128x1024_256_0)))) x = G6 m c b n hn ((Rect.unit (s := S1x2x1024x128) ![0, 0, 0, 0] ![1, 1, 1024, 128] h).emb x) := by
  idx_vars x
  obtain rfl : x0 = 0 := Subsingleton.elim _ _
  obtain rfl : x1 = 0 := Subsingleton.elim _ _
  have hx2 : x2.val < 1024 := x2.isLt
  have hx3 : x3.val < 128 := x3.isLt
  refine Eq.trans (b := keys (aX m c) (aG m c) (aW m c) 2 b 0 ⟨n * 1024 + x2, by omega⟩ x3) ?_
    (keys_congr m c rfl (by show n * 1024 + x2.val = n * 1024 + (0 + 1 * x2.val); omega) (by show x3.val = 0 + 1 * x3.val; omega))
  refine (pay11_apply _ _ x2 x3).trans ?_
  unfold keys
  by_cases hl : x3.val < 64
  · refine (dif_pos hl).trans (Eq.trans ?_ (dif_pos hl).symm)
    refine (pay6_apply _ _ _ x2 ⟨x3, by omega⟩).trans ((sumK m c t b n hn hb hi _ 2 256 x2 ⟨x3, by omega⟩ ⟨256 + (0 + x3), by omega⟩ (by dsimp only <;> omega) (by decide) fun e => ?_).trans ?_)
    · refine (ldN m c t 128 256 _ ⟨x3, by omega⟩ e (by dsimp only <;> omega)).trans (congrArg (iblk m c 2 t : Vec Ideal S2816x1024 .bf16) (congrArg (fun u => ix2 u e) (Fin.ext ?_)))
      dsimp only <;> omega
    · exact kv_congr m c rfl (by show x3.val = 64 * 0 + x3.val; omega)
  · refine (dif_neg hl).trans (Eq.trans ?_ (dif_neg hl).symm)
    exact col_at t b n hn hb hi x2 ⟨x3 - 64, by omega⟩

/-- A store of one head of a block of the keys of the selected blocks. -/
theorem piece6_1 (h) (x : S1x1x1024x128.Idx) :
    k0_pay13 (k0_pay6 (View.ld (iblk m c 0 t) (Rect.unit ![0, 0, 0] ![1, 1024, 1024] inb_S1x1024x1024_S1x1024x1024_0_0_0)) (View.ld (iblk m c 1 t) (Rect.unit ![0, 0] ![1, 1024] inb_S1x1024_S1x1024_0_0)) (View.ld (iblk m c 2 t) (Rect.unit (s := S2816x1024) ![256, 0] ![128, 1024] inb_S2816x1024_S128x1024_256_0))) (k0_pay9 (F := Ideal) (BitVec.ofNat 32 (grid0.coords t 1 : ℕ))) x = G6 m c b n hn ((Rect.unit (s := S1x2x1024x128) ![0, 1, 0, 0] ![1, 1, 1024, 128] h).emb x) := by
  idx_vars x
  obtain rfl : x0 = 0 := Subsingleton.elim _ _
  obtain rfl : x1 = 0 := Subsingleton.elim _ _
  have hx2 : x2.val < 1024 := x2.isLt
  have hx3 : x3.val < 128 := x3.isLt
  refine Eq.trans (b := keys (aX m c) (aG m c) (aW m c) 2 b 1 ⟨n * 1024 + x2, by omega⟩ x3) ?_
    (keys_congr m c rfl (by show n * 1024 + x2.val = n * 1024 + (0 + 1 * x2.val); omega) (by show x3.val = 0 + 1 * x3.val; omega))
  refine (pay13_apply _ _ x2 x3).trans ?_
  unfold keys
  by_cases hl : x3.val < 64
  · refine (dif_pos hl).trans (Eq.trans ?_ (dif_pos hl).symm)
    refine (pay6_apply _ _ _ x2 ⟨64 + x3, by omega⟩).trans ((sumK m c t b n hn hb hi _ 2 256 x2 ⟨64 + x3, by omega⟩ ⟨256 + (64 + x3), by omega⟩ (by dsimp only <;> omega) (by decide) fun e => ?_).trans ?_)
    · refine (ldN m c t 128 256 _ ⟨64 + x3, by omega⟩ e (by dsimp only <;> omega)).trans (congrArg (iblk m c 2 t : Vec Ideal S2816x1024 .bf16) (congrArg (fun u => ix2 u e) (Fin.ext ?_)))
      dsimp only <;> omega
    · exact kv_congr m c rfl (by show 64 + x3.val = 64 * 1 + x3.val; omega)
  · refine (dif_neg hl).trans (Eq.trans ?_ (dif_neg hl).symm)
    exact col_at t b n hn hb hi x2 ⟨x3 - 64, by omega⟩

/-- A store of one head of a block of the keys of the window. -/
theorem piece7_0 (h) (x : S1x1x1024x128.Idx) :
    k0_pay12 (k0_pay8 (hB m c t) (k0_pay7 (View.ld (iblk m c 2 t) (Rect.unit (s := S2816x1024) ![384, 0] ![128, 1024] inb_S2816x1024_S128x1024_384_0))) (constant S1024x128 .f32 0x00000000#32)) (k0_pay9 (F := Ideal) (BitVec.ofNat 32 (grid0.coords t 1 : ℕ))) x = G7 m c b n hn ((Rect.unit (s := S1x2x1024x128) ![0, 0, 0, 0] ![1, 1, 1024, 128] h).emb x) := by
  idx_vars x
  obtain rfl : x0 = 0 := Subsingleton.elim _ _
  obtain rfl : x1 = 0 := Subsingleton.elim _ _
  have hx2 : x2.val < 1024 := x2.isLt
  have hx3 : x3.val < 128 := x3.isLt
  refine Eq.trans (b := keys (aX m c) (aG m c) (aW m c) 4 b 0 ⟨n * 1024 + x2, by omega⟩ x3) ?_
    (keys_congr m c rfl (by show n * 1024 + x2.val = n * 1024 + (0 + 1 * x2.val); omega) (by show x3.val = 0 + 1 * x3.val; omega))
  refine (pay12_apply _ _ x2 x3).trans ?_
  unfold keys
  by_cases hl : x3.val < 64
  · refine (dif_pos hl).trans (Eq.trans ?_ (dif_pos hl).symm)
    refine (pay8_apply _ _ x2 ⟨x3, by omega⟩).trans ((sumK m c t b n hn hb hi _ 4 384 x2 ⟨x3, by omega⟩ ⟨384 + (0 + x3), by omega⟩ (by dsimp only <;> omega) (by decide) fun e => ?_).trans ?_)
    · refine (ldN m c t 128 384 _ ⟨x3, by omega⟩ e (by dsimp only <;> omega)).trans (congrArg (iblk m c 2 t : Vec Ideal S2816x1024 .bf16) (congrArg (fun u => ix2 u e) (Fin.ext ?_)))
      dsimp only <;> omega
    · exact kv_congr m c rfl (by show x3.val = 64 * 0 + x3.val; omega)
  · refine (dif_neg hl).trans (Eq.trans ?_ (dif_neg hl).symm)
    exact col_at t b n hn hb hi x2 ⟨x3 - 64, by omega⟩

/-- A store of one head of a block of the keys of the window. -/
theorem piece7_1 (h) (x : S1x1x1024x128.Idx) :
    k0_pay14 (k0_pay8 (hB m c t) (k0_pay7 (View.ld (iblk m c 2 t) (Rect.unit (s := S2816x1024) ![384, 0] ![128, 1024] inb_S2816x1024_S128x1024_384_0))) (constant S1024x128 .f32 0x00000000#32)) (k0_pay9 (F := Ideal) (BitVec.ofNat 32 (grid0.coords t 1 : ℕ))) x = G7 m c b n hn ((Rect.unit (s := S1x2x1024x128) ![0, 1, 0, 0] ![1, 1, 1024, 128] h).emb x) := by
  idx_vars x
  obtain rfl : x0 = 0 := Subsingleton.elim _ _
  obtain rfl : x1 = 0 := Subsingleton.elim _ _
  have hx2 : x2.val < 1024 := x2.isLt
  have hx3 : x3.val < 128 := x3.isLt
  refine Eq.trans (b := keys (aX m c) (aG m c) (aW m c) 4 b 1 ⟨n * 1024 + x2, by omega⟩ x3) ?_
    (keys_congr m c rfl (by show n * 1024 + x2.val = n * 1024 + (0 + 1 * x2.val); omega) (by show x3.val = 0 + 1 * x3.val; omega))
  refine (pay14_apply _ _ x2 x3).trans ?_
  unfold keys
  by_cases hl : x3.val < 64
  · refine (dif_pos hl).trans (Eq.trans ?_ (dif_pos hl).symm)
    refine (pay8_apply _ _ x2 ⟨64 + x3, by omega⟩).trans ((sumK m c t b n hn hb hi _ 4 384 x2 ⟨64 + x3, by omega⟩ ⟨384 + (64 + x3), by omega⟩ (by dsimp only <;> omega) (by decide) fun e => ?_).trans ?_)
    · refine (ldN m c t 128 384 _ ⟨64 + x3, by omega⟩ e (by dsimp only <;> omega)).trans (congrArg (iblk m c 2 t : Vec Ideal S2816x1024 .bf16) (congrArg (fun u => ix2 u e) (Fin.ext ?_)))
      dsimp only <;> omega
    · exact kv_congr m c rfl (by show 64 + x3.val = 64 * 1 + x3.val; omega)
  · refine (dif_neg hl).trans (Eq.trans ?_ (dif_neg hl).symm)
    exact col_at t b n hn hb hi x2 ⟨x3 - 64, by omega⟩

/-- A store of one head of a block of the values of the selected blocks. -/
theorem piece12_0 (h) (x : S1x1x80x1024.Idx) :
    k0_pay122 (hB m c t) (wT m c t) x = G12 m c b n hn ((Rect.unit (s := S1x2x80x1024) ![0, 0, 0, 0] ![1, 1, 80, 1024] h).emb x) := by
  idx_vars x
  obtain rfl : x0 = 0 := Subsingleton.elim _ _
  obtain rfl : x1 = 0 := Subsingleton.elim _ _
  have hx2 : x2.val < 80 := x2.isLt
  have hx3 : x3.val < 1024 := x3.isLt
  refine Eq.trans (b := values (aX m c) (aG m c) (aW m c) 3 b 0 x2 ⟨n * 1024 + x3, by omega⟩) ?_
    (values_congr m c rfl (by show x2.val = 0 + 1 * x2.val; omega) (by show n * 1024 + x3.val = n * 1024 + (0 + 1 * x3.val); omega))
  refine (pay122_apply _ _ x2 x3).trans ?_
  unfold values
  by_cases hl : x2.val < 64
  · refine (dif_pos hl).trans (Eq.trans ?_ (dif_pos hl).symm)
    exact sumV m c t b n hn hb hi 3 512 x3 ⟨64 * 0 + x2, by omega⟩ ⟨512 + x2, by omega⟩ (by dsimp only <;> omega) (by decide)
  · refine (dif_neg hl).trans (Eq.trans ?_ (dif_neg hl).symm)
    rfl

/-- A store of one head of a block of the values of the selected blocks. -/
theorem piece12_1 (h) (x : S1x1x80x1024.Idx) :
    k0_pay123 (hB m c t) (wT m c t) x = G12 m c b n hn ((Rect.unit (s := S1x2x80x1024) ![0, 1, 0, 0] ![1, 1, 80, 1024] h).emb x) := by
  idx_vars x
  obtain rfl : x0 = 0 := Subsingleton.elim _ _
  obtain rfl : x1 = 0 := Subsingleton.elim _ _
  have hx2 : x2.val < 80 := x2.isLt
  have hx3 : x3.val < 1024 := x3.isLt
  refine Eq.trans (b := values (aX m c) (aG m c) (aW m c) 3 b 1 x2 ⟨n * 1024 + x3, by omega⟩) ?_
    (values_congr m c rfl (by show x2.val = 0 + 1 * x2.val; omega) (by show n * 1024 + x3.val = n * 1024 + (0 + 1 * x3.val); omega))
  refine (pay123_apply _ _ x2 x3).trans ?_
  unfold values
  by_cases hl : x2.val < 64
  · refine (dif_pos hl).trans (Eq.trans ?_ (dif_pos hl).symm)
    exact sumV m c t b n hn hb hi 3 512 x3 ⟨64 * 1 + x2, by omega⟩ ⟨576 + x2, by omega⟩ (by dsimp only <;> omega) (by decide)
  · refine (dif_neg hl).trans (Eq.trans ?_ (dif_neg hl).symm)
    rfl

/-- A store of one head of a block of the values of the window. -/
theorem piece13_0 (h) (x : S1x1x80x1024.Idx) :
    k0_pay126 (k0_pay125 (hB m c t) (wT m c t)) x = G13 m c b n hn ((Rect.unit (s := S1x2x80x1024) ![0, 0, 0, 0] ![1, 1, 80, 1024] h).emb x) := by
  idx_vars x
  obtain rfl : x0 = 0 := Subsingleton.elim _ _
  obtain rfl : x1 = 0 := Subsingleton.elim _ _
  have hx2 : x2.val < 80 := x2.isLt
  have hx3 : x3.val < 1024 := x3.isLt
  refine Eq.trans (b := values (aX m c) (aG m c) (aW m c) 5 b 0 x2 ⟨n * 1024 + x3, by omega⟩) ?_
    (values_congr m c rfl (by show x2.val = 0 + 1 * x2.val; omega) (by show n * 1024 + x3.val = n * 1024 + (0 + 1 * x3.val); omega))
  refine (pay126_apply _ _ x2 x3).trans ?_
  unfold values
  by_cases hl : x2.val < 64
  · refine (dif_pos hl).trans (Eq.trans ?_ (dif_pos hl).symm)
    exact sumV m c t b n hn hb hi 5 640 x3 ⟨64 * 0 + x2, by omega⟩ ⟨640 + x2, by omega⟩ (by dsimp only <;> omega) (by decide)
  · refine (dif_neg hl).trans (Eq.trans ?_ (dif_neg hl).symm)
    rfl

/-- A store of one head of a block of the values of the window. -/
theorem piece13_1 (h) (x : S1x1x80x1024.Idx) :
    k0_pay127 k0_pay120 (k0_pay124 (hB m c t) (wT m c t)) x = G13 m c b n hn ((Rect.unit (s := S1x2x80x1024) ![0, 1, 0, 0] ![1, 1, 80, 1024] h).emb x) := by
  idx_vars x
  obtain rfl : x0 = 0 := Subsingleton.elim _ _
  obtain rfl : x1 = 0 := Subsingleton.elim _ _
  have hx2 : x2.val < 80 := x2.isLt
  have hx3 : x3.val < 1024 := x3.isLt
  refine Eq.trans (b := values (aX m c) (aG m c) (aW m c) 5 b 1 x2 ⟨n * 1024 + x3, by omega⟩) ?_
    (values_congr m c rfl (by show x2.val = 0 + 1 * x2.val; omega) (by show n * 1024 + x3.val = n * 1024 + (0 + 1 * x3.val); omega))
  refine (pay127_apply _ _ x2 x3).trans ?_
  unfold values
  by_cases hl : x2.val < 64
  · refine (dif_pos hl).trans (Eq.trans ?_ (dif_pos hl).symm)
    exact sumV m c t b n hn hb hi 5 640 x3 ⟨64 * 1 + x2, by omega⟩ ⟨704 + x2, by omega⟩ (by dsimp only <;> omega) (by decide)
  · refine (dif_neg hl).trans (Eq.trans ?_ (dif_neg hl).symm)
    rfl

/-- A store of a block of the queries. -/
theorem piece11 (h) (x : S1x512x1024.Idx) :
    k0_pay119 (hB m c t) (wT m c t) x = G11 m c b n hn ((Rect.unit (s := S1x512x1024) ![0, 0, 0] ![1, 512, 1024] h).emb x) := by
  idx_vars x
  obtain rfl : x0 = 0 := Subsingleton.elim _ _
  have hx1 : x1.val < 512 := x1.isLt
  have hx2 : x2.val < 1024 := x2.isLt
  refine (pay119_apply _ _ x1 x2).trans ((sumT m c t b n hn hb hi ⟨x1, by omega⟩ _ x2 fun e => wT_at m c t _ e).trans ((if_pos (by dsimp only <;> omega)).trans ?_))
  exact qt_congr m c (q := x1) (s := ⟨n * 1024 + x2, by omega⟩) (by show x1.val = 0 + 1 * x1.val; omega) (by show n * 1024 + x2.val = n * 1024 + (0 + 1 * x2.val); omega)

/-- A store of a block of the gates. -/
theorem piece14 (h) (x : S1x32x1024.Idx) :
    k0_pay1 (k0_pay128 (k0_pay118 (hB m c t) (wT m c t))) x = G14 m c b n hn ((Rect.unit (s := S1x32x1024) ![0, 0, 0] ![1, 32, 1024] h).emb x) := by
  idx_vars x
  obtain rfl : x0 = 0 := Subsingleton.elim _ _
  have hx1 : x1.val < 32 := x1.isLt
  have hx2 : x2.val < 1024 := x2.isLt
  refine Eq.trans (b := gates (aX m c) (aG m c) (aW m c) b x1 ⟨n * 1024 + x2, by omega⟩) ?_
    (gates_congr m c (by show x1.val = 0 + 1 * x1.val; omega) (by show n * 1024 + x2.val = n * 1024 + (0 + 1 * x2.val); omega))
  refine (pay128_apply _ _ x1 x2).trans (congrArg MergeSpec.gate ?_)
  refine (sumT m c t b n hn hb hi ⟨768 + x1, by omega⟩ _ x2 fun e => wT_at m c t _ e).trans ?_
  refine (if_neg (by dsimp only <;> omega)).trans ((if_neg (by dsimp only <;> omega)).trans ((if_neg (by dsimp only <;> omega)).trans ?_))
  by_cases hj : x1.val % 16 < 12
  · refine (dif_pos (by dsimp only <;> omega)).trans (Eq.trans ?_ (dif_pos hj).symm)
    exact proj_congr m c rfl (by dsimp only <;> omega)
  · refine (dif_neg (by dsimp only <;> omega)).trans (Eq.trans ?_ (dif_neg hj).symm)
    rfl

set_option maxHeartbeats 4000000 in
/-- What a point leaves in the block of the keys of the compression. -/
theorem point4 (y) : ((outsAt0 m c t).1) y = G4 m c b n hn y := by
  unfold outsAt0 out0_A_4
  dsimp only
  rw [View.read_writes_eq_canon _ _ _ (cover0_A_4 c _ _ _ _ _ _ _ _ _ _ _ _ _ _ _ _ _ _ _ _ _ _ _ _ _ _ _ _ _ _ _ _ _ _ _ _ _ )]
  refine View.canon_apply_of_pieces (Val := Elt Ideal) (G4 m c b n hn) _ ?_ y (cover0_A_4 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece4 m c t b n hn hb hi (by decide) x
  nomatch hpc

set_option maxHeartbeats 4000000 in
/-- What a point leaves in the block of the values of the compression. -/
theorem point5 (y) : ((outsAt0 m c t).2.1) y = G5 m c b n hn y := by
  unfold outsAt0 out0_A_5
  dsimp only
  rw [View.read_writes_eq_canon _ _ _ (cover0_A_5 c _ _ _ _ _ _ _ _ _ _ _ _ _ _ _ _ _ _ _ _ _ _ _ _ _ _ _ _ _ _ _ _ _ _ _ _ _ )]
  refine View.canon_apply_of_pieces (Val := Elt Ideal) (G5 m c b n hn) _ ?_ y (cover0_A_5 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece5 m c t b n hn hb hi (by decide) x
  nomatch hpc

set_option maxHeartbeats 4000000 in
/-- What a point leaves in the block of the keys of the selected blocks. -/
theorem point6 (y) : ((outsAt0 m c t).2.2.1) y = G6 m c b n hn y := by
  unfold outsAt0 out0_A_6
  dsimp only
  rw [View.read_writes_eq_canon _ _ _ (cover0_A_6 c _ _ _ _ _ _ _ _ _ _ _ _ _ _ _ _ _ _ _ _ _ _ _ _ _ _ _ _ _ _ _ _ _ _ _ _ _ )]
  refine View.canon_apply_of_pieces (Val := Elt Ideal) (G6 m c b n hn) _ ?_ y (cover0_A_6 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece6_1 m c t b n hn hb hi (by decide) x
  rcases List.mem_cons.mp hpc with rfl | hpc
  · exact piece6_0 m c t b n hn hb hi (by decide) x
  nomatch hpc

set_option maxHeartbeats 4000000 in
/-- What a point leaves in the block of the keys of the window. -/
theorem point7 (y) : ((outsAt0 m c t).2.2.2.1) y = G7 m c b n hn y := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ )]
  refine View.canon_apply_of_pieces (Val := Elt Ideal) (G7 m c b n hn) _ ?_ y (cover0_A_7 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece7_1 m c t b n hn hb hi (by decide) x
  rcases List.mem_cons.mp hpc with rfl | hpc
  · exact piece7_0 m c t b n hn hb hi (by decide) x
  nomatch hpc

set_option maxHeartbeats 4000000 in
/-- What a point leaves in the block of the queries. -/
theorem point11 (y) : ((outsAt0 m c t).2.2.2.2.2.2.2.1) y = G11 m c b n hn y := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ )]
  refine View.canon_apply_of_pieces (Val := Elt Ideal) (G11 m c b n hn) _ ?_ y (cover0_A_11 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece11 m c t b n hn hb hi (by decide) x
  nomatch hpc

set_option maxHeartbeats 4000000 in
/-- What a point leaves in the block of the values of the selected blocks. -/
theorem point12 (y) : ((outsAt0 m c t).2.2.2.2.2.2.2.2.1) y = G12 m c b n hn y := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ )]
  refine View.canon_apply_of_pieces (Val := Elt Ideal) (G12 m c b n hn) _ ?_ y (cover0_A_12 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece12_1 m c t b n hn hb hi (by decide) x
  rcases List.mem_cons.mp hpc with rfl | hpc
  · exact piece12_0 m c t b n hn hb hi (by decide) x
  nomatch hpc

set_option maxHeartbeats 4000000 in
/-- What a point leaves in the block of the values of the window. -/
theorem point13 (y) : ((outsAt0 m c t).2.2.2.2.2.2.2.2.2.1) y = G13 m c b n hn y := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ )]
  refine View.canon_apply_of_pieces (Val := Elt Ideal) (G13 m c b n hn) _ ?_ y (cover0_A_13 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece13_1 m c t b n hn hb hi (by decide) x
  rcases List.mem_cons.mp hpc with rfl | hpc
  · exact piece13_0 m c t b n hn hb hi (by decide) x
  nomatch hpc

set_option maxHeartbeats 4000000 in
/-- What a point leaves in the block of the gates. -/
theorem point14 (y) : ((outsAt0 m c t).2.2.2.2.2.2.2.2.2.2) y = G14 m c b n hn y := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ )]
  refine View.canon_apply_of_pieces (Val := Elt Ideal) (G14 m c b n hn) _ ?_ y (cover0_A_14 c _ _ _ _ _ _ _ _ _ _ _ _ _ _ _ _ _ _ _ _ _ _ _ _ _ _ _ _ _ _ _ _ _ _ _ _ _  y)
  unfold kernelRun0_A; dsimp only; sl_unfold_words
  simp only [View.readAt_eq_ld, (hs0_0 t).read_unread, (hs0_1 t).read_unread, (hs0_2 t).read_unread, (hs0_3 t).read_unread]
  intro pc hpc x
  rcases List.mem_cons.mp hpc with rfl | hpc
  · exact piece14 m c t b n hn hb hi (by decide) x
  nomatch hpc

end Cert.InProjIdeal.Val
-- ==== Proof.InProjFinal.lean ====
/- The in-projection kernel's eleven result arrays after the run, as formulas over the arguments. -/
module
public import proofs.«01_k».proof.Proof.InProjDil
public import proofs.«01_k».proof.Proof.InProjFlat
@[expose] public section
set_option maxRecDepth 16384
noncomputable section
namespace Cert.InProjIdeal.Val
open Cert.InProjIdeal Cert.InProjIdeal.Gen Idealize.ShloMosaic Idealize.ShloMosaic.TcCoe Idealize.SL.Sem
open Idealize.ShloMosaic.Pipeline (Dat)
open Cert.InProjSpec

variable (m : (ℓ : Loc nD τ sig) → Buf (Elt Ideal) ℓ)

/-- The keys of the compression, as an array. -/
def arr4 (c : Dev nD) : S4x4096x128.Idx → EReal := fun j => kv (aX m c) (aG m c) (aW m c) 0 (j 0) (j 1) (j 2)

/-- What a point leaves of the keys of the compression, at an index of the result whose coordinates are those of the block's. -/
theorem point_at4 (c : Dev nD) (t : Fin cfg0.N) (y : S1x1024x128.Idx) (j : S4x4096x128.Idx) (h0 : (j 0 : ℕ) = (grid0.coords t 0 : ℕ))
    (h1 : (j 1 : ℕ) = (grid0.coords t 1 : ℕ) * 1024 + (y 1 : ℕ)) (h2 : (j 2 : ℕ) = (y 2 : ℕ)) : ((outsAt0 m c t).1) y = arr4 m c j := by
  have hn : (grid0.coords t 1 : ℕ) < 4 := (grid0.coords t 1).isLt
  idx_vars y
  idx_vars j
  refine (point4 m c t j0 _ hn h0.symm rfl _).trans ?_
  exact kv_congr m c h1.symm h2.symm

/-- The keys of the compression after the run. -/
theorem final4 (c : Dev nD) : (dats m 0 c).arrAt 4 (cfgs 0).N = arr4 m c := by
  refine (dats m 0 c).arrAt_eq_of_covers 4 _ (by decide +kernel) fun t _ y => ?_
  blk_simp
  rw [after0_4]
  have hy : ((y 0 : Fin 1) : ℕ) < 1 := (y 0 : Fin 1).isLt
  refine point_at4 m c t y _ ?_ ?_ ?_
  all_goals (blk_simp [idx t] <;> try omega)

/-- The values of the compression, as an array. -/
def arr5 (c : Dev nD) : S4x4096x128.Idx → EReal := fun j => kv (aX m c) (aG m c) (aW m c) 1 (j 0) (j 1) (j 2)

/-- What a point leaves of the values of the compression, at an index of the result whose coordinates are those of the block's. -/
theorem point_at5 (c : Dev nD) (t : Fin cfg0.N) (y : S1x1024x128.Idx) (j : S4x4096x128.Idx) (h0 : (j 0 : ℕ) = (grid0.coords t 0 : ℕ))
    (h1 : (j 1 : ℕ) = (grid0.coords t 1 : ℕ) * 1024 + (y 1 : ℕ)) (h2 : (j 2 : ℕ) = (y 2 : ℕ)) : ((outsAt0 m c t).2.1) y = arr5 m c j := by
  have hn : (grid0.coords t 1 : ℕ) < 4 := (grid0.coords t 1).isLt
  idx_vars y
  idx_vars j
  refine (point5 m c t j0 _ hn h0.symm rfl _).trans ?_
  exact kv_congr m c h1.symm h2.symm

/-- The values of the compression after the run. -/
theorem final5 (c : Dev nD) : (dats m 0 c).arrAt 5 (cfgs 0).N = arr5 m c := by
  refine (dats m 0 c).arrAt_eq_of_covers 5 _ (by decide +kernel) fun t _ y => ?_
  blk_simp
  rw [after0_5]
  have hy : ((y 0 : Fin 1) : ℕ) < 1 := (y 0 : Fin 1).isLt
  refine point_at5 m c t y _ ?_ ?_ ?_
  all_goals (blk_simp [idx t] <;> try omega)

/-- The keys of the selected blocks, as an array. -/
def arr6 (c : Dev nD) : S4x2x4096x128.Idx → EReal := fun j => keys (aX m c) (aG m c) (aW m c) 2 (j 0) (j 1) (j 2) (j 3)

/-- What a point leaves of the keys of the selected blocks, at an index of the result whose coordinates are those of the block's. -/
theorem point_at6 (c : Dev nD) (t : Fin cfg0.N) (y : S1x2x1024x128.Idx) (j : S4x2x4096x128.Idx) (h0 : (j 0 : ℕ) = (grid0.coords t 0 : ℕ))
    (h1 : (j 1 : ℕ) = (y 1 : ℕ)) (h2 : (j 2 : ℕ) = (grid0.coords t 1 : ℕ) * 1024 + (y 2 : ℕ)) (h3 : (j 3 : ℕ) = (y 3 : ℕ)) : ((outsAt0 m c t).2.2.1) y = arr6 m c j := by
  have hn : (grid0.coords t 1 : ℕ) < 4 := (grid0.coords t 1).isLt
  idx_vars y
  idx_vars j
  refine (point6 m c t j0 _ hn h0.symm rfl _).trans ?_
  exact keys_congr m c h1.symm h2.symm h3.symm

/-- The keys of the selected blocks after the run. -/
theorem final6 (c : Dev nD) : (dats m 0 c).arrAt 6 (cfgs 0).N = arr6 m c := by
  refine (dats m 0 c).arrAt_eq_of_covers 6 _ (by decide +kernel) fun t _ y => ?_
  blk_simp
  rw [after0_6]
  have hy : ((y 0 : Fin 1) : ℕ) < 1 := (y 0 : Fin 1).isLt
  refine point_at6 m c t y _ ?_ ?_ ?_ ?_
  all_goals (blk_simp [idx t] <;> try omega)

/-- The keys of the window, as an array. -/
def arr7 (c : Dev nD) : S4x2x4096x128.Idx → EReal := fun j => keys (aX m c) (aG m c) (aW m c) 4 (j 0) (j 1) (j 2) (j 3)

/-- What a point leaves of the keys of the window, at an index of the result whose coordinates are those of the block's. -/
theorem point_at7 (c : Dev nD) (t : Fin cfg0.N) (y : S1x2x1024x128.Idx) (j : S4x2x4096x128.Idx) (h0 : (j 0 : ℕ) = (grid0.coords t 0 : ℕ))
    (h1 : (j 1 : ℕ) = (y 1 : ℕ)) (h2 : (j 2 : ℕ) = (grid0.coords t 1 : ℕ) * 1024 + (y 2 : ℕ)) (h3 : (j 3 : ℕ) = (y 3 : ℕ)) : ((outsAt0 m c t).2.2.2.1) y = arr7 m c j := by
  have hn : (grid0.coords t 1 : ℕ) < 4 := (grid0.coords t 1).isLt
  idx_vars y
  idx_vars j
  refine (point7 m c t j0 _ hn h0.symm rfl _).trans ?_
  exact keys_congr m c h1.symm h2.symm h3.symm

/-- The keys of the window after the run. -/
theorem final7 (c : Dev nD) : (dats m 0 c).arrAt 7 (cfgs 0).N = arr7 m c := by
  refine (dats m 0 c).arrAt_eq_of_covers 7 _ (by decide +kernel) fun t _ y => ?_
  blk_simp
  rw [after0_7]
  have hy : ((y 0 : Fin 1) : ℕ) < 1 := (y 0 : Fin 1).isLt
  refine point_at7 m c t y _ ?_ ?_ ?_ ?_
  all_goals (blk_simp [idx t] <;> try omega)

/-- The group of step one, as an array. -/
def arr8 (c : Dev nD) : S4x3x1x4096x256.Idx → EReal := fun j => dil (aX m c) (aG m c) (aW m c) (j 0) (j 1) ⟨(j 2).val + 1 * (j 3).val, by have h : (j 2).val < 1 := (j 2).isLt; have h' : (j 3).val < 4096 := (j 3).isLt; omega⟩ ⟨256 * (0 : Fin 3).val + (j 4).val, by have h : (j 4).val < 256 := (j 4).isLt; omega⟩

/-- What a point leaves of the group of step one, at an index of the result whose coordinates are those of the block's. -/
theorem point_at8 (c : Dev nD) (t : Fin cfg0.N) (y : S1x3x1x1024x256.Idx) (j : S4x3x1x4096x256.Idx) (h0 : (j 0 : ℕ) = (grid0.coords t 0 : ℕ))
    (h1 : (j 1 : ℕ) = (y 1 : ℕ)) (h2 : (j 2 : ℕ) = (y 2 : ℕ)) (h3 : (j 3 : ℕ) = (grid0.coords t 1 : ℕ) * 1024 + (y 3 : ℕ)) (h4 : (j 4 : ℕ) = (y 4 : ℕ)) : ((outsAt0 m c t).2.2.2.2.1) y = arr8 m c j := by
  have hn : (grid0.coords t 1 : ℕ) < 4 := (grid0.coords t 1).isLt
  idx_vars y
  idx_vars j
  refine (point8 m c t j0 _ hn h0.symm rfl _).trans ?_
  have hy2 : (y2 : ℕ) < 1 := y2.isLt
  exact dil_congr m c j0 h1.symm (by show (grid0.coords t 1 : ℕ) * 1024 + (y3 : ℕ) = (j2 : ℕ) + 1 * (j3 : ℕ); rw [h2, h3] <;> omega) (by show (y4 : ℕ) = 256 * 0 + (j4 : ℕ); rw [h4] <;> omega)

/-- The group of step one after the run. -/
theorem final8 (c : Dev nD) : (dats m 0 c).arrAt 8 (cfgs 0).N = arr8 m c := by
  refine (dats m 0 c).arrAt_eq_of_covers 8 _ (by decide +kernel) fun t _ y => ?_
  blk_simp
  rw [after0_8]
  have hy : ((y 0 : Fin 1) : ℕ) < 1 := (y 0 : Fin 1).isLt
  refine point_at8 m c t y _ ?_ ?_ ?_ ?_ ?_
  all_goals (blk_simp [idx t] <;> try omega)

/-- The group of step four, as an array. -/
def arr9 (c : Dev nD) : S4x3x4x1024x256.Idx → EReal := fun j => dil (aX m c) (aG m c) (aW m c) (j 0) (j 1) ⟨(j 2).val + 4 * (j 3).val, by have h : (j 2).val < 4 := (j 2).isLt; have h' : (j 3).val < 1024 := (j 3).isLt; omega⟩ ⟨256 * (1 : Fin 3).val + (j 4).val, by have h : (j 4).val < 256 := (j 4).isLt; show 256 * 1 + (j 4).val < 768; omega⟩

/-- What a point leaves of the group of step four, at an index of the result whose coordinates are those of the block's. -/
theorem point_at9 (c : Dev nD) (t : Fin cfg0.N) (y : S1x3x4x256x256.Idx) (j : S4x3x4x1024x256.Idx) (h0 : (j 0 : ℕ) = (grid0.coords t 0 : ℕ))
    (h1 : (j 1 : ℕ) = (y 1 : ℕ)) (h2 : (j 2 : ℕ) = (y 2 : ℕ)) (h3 : (j 3 : ℕ) = (grid0.coords t 1 : ℕ) * 256 + (y 3 : ℕ)) (h4 : (j 4 : ℕ) = (y 4 : ℕ)) : ((outsAt0 m c t).2.2.2.2.2.1) y = arr9 m c j := by
  have hn : (grid0.coords t 1 : ℕ) < 4 := (grid0.coords t 1).isLt
  idx_vars y
  idx_vars j
  refine (point9 m c t j0 _ hn h0.symm rfl _).trans ?_
  exact dil_congr m c j0 h1.symm (by show (grid0.coords t 1 : ℕ) * 1024 + ((y2 : ℕ) + 4 * (y3 : ℕ)) = (j2 : ℕ) + 4 * (j3 : ℕ); rw [h2, h3] <;> omega) (by show 256 + (y4 : ℕ) = 256 * 1 + (j4 : ℕ); rw [h4] <;> omega)

/-- The group of step four after the run. -/
theorem final9 (c : Dev nD) : (dats m 0 c).arrAt 9 (cfgs 0).N = arr9 m c := by
  refine (dats m 0 c).arrAt_eq_of_covers 9 _ (by decide +kernel) fun t _ y => ?_
  blk_simp
  rw [after0_9]
  have hy : ((y 0 : Fin 1) : ℕ) < 1 := (y 0 : Fin 1).isLt
  refine point_at9 m c t y _ ?_ ?_ ?_ ?_ ?_
  all_goals (blk_simp [idx t] <;> try omega)

/-- The group of step sixteen, as an array. -/
def arr10 (c : Dev nD) : S4x3x16x256x256.Idx → EReal := fun j => dil (aX m c) (aG m c) (aW m c) (j 0) (j 1) ⟨(j 2).val + 16 * (j 3).val, by have h : (j 2).val < 16 := (j 2).isLt; have h' : (j 3).val < 256 := (j 3).isLt; omega⟩ ⟨256 * (2 : Fin 3).val + (j 4).val, by have h : (j 4).val < 256 := (j 4).isLt; show 256 * 2 + (j 4).val < 768; omega⟩

/-- What a point leaves of the group of step sixteen, at an index of the result whose coordinates are those of the block's. -/
theorem point_at10 (c : Dev nD) (t : Fin cfg0.N) (y : S1x3x16x64x256.Idx) (j : S4x3x16x256x256.Idx) (h0 : (j 0 : ℕ) = (grid0.coords t 0 : ℕ))
    (h1 : (j 1 : ℕ) = (y 1 : ℕ)) (h2 : (j 2 : ℕ) = (y 2 : ℕ)) (h3 : (j 3 : ℕ) = (grid0.coords t 1 : ℕ) * 64 + (y 3 : ℕ)) (h4 : (j 4 : ℕ) = (y 4 : ℕ)) : ((outsAt0 m c t).2.2.2.2.2.2.1) y = arr10 m c j := by
  have hn : (grid0.coords t 1 : ℕ) < 4 := (grid0.coords t 1).isLt
  idx_vars y
  idx_vars j
  refine (point10 m c t j0 _ hn h0.symm rfl _).trans ?_
  exact dil_congr m c j0 h1.symm (by show (grid0.coords t 1 : ℕ) * 1024 + ((y2 : ℕ) + 16 * (y3 : ℕ)) = (j2 : ℕ) + 16 * (j3 : ℕ); rw [h2, h3] <;> omega) (by show 512 + (y4 : ℕ) = 256 * 2 + (j4 : ℕ); rw [h4] <;> omega)

/-- The group of step sixteen after the run. -/
theorem final10 (c : Dev nD) : (dats m 0 c).arrAt 10 (cfgs 0).N = arr10 m c := by
  refine (dats m 0 c).arrAt_eq_of_covers 10 _ (by decide +kernel) fun t _ y => ?_
  blk_simp
  rw [after0_10]
  have hy : ((y 0 : Fin 1) : ℕ) < 1 := (y 0 : Fin 1).isLt
  refine point_at10 m c t y _ ?_ ?_ ?_ ?_ ?_
  all_goals (blk_simp [idx t] <;> try omega)

/-- The queries, as an array. -/
def arr11 (c : Dev nD) : S4x512x4096.Idx → EReal := fun j => qt (aX m c) (aG m c) (aW m c) (j 0) (j 1) (j 2)

/-- What a point leaves of the queries, at an index of the result whose coordinates are those of the block's. -/
theorem point_at11 (c : Dev nD) (t : Fin cfg0.N) (y : S1x512x1024.Idx) (j : S4x512x4096.Idx) (h0 : (j 0 : ℕ) = (grid0.coords t 0 : ℕ))
    (h1 : (j 1 : ℕ) = (y 1 : ℕ)) (h2 : (j 2 : ℕ) = (grid0.coords t 1 : ℕ) * 1024 + (y 2 : ℕ)) : ((outsAt0 m c t).2.2.2.2.2.2.2.1) y = arr11 m c j := by
  have hn : (grid0.coords t 1 : ℕ) < 4 := (grid0.coords t 1).isLt
  idx_vars y
  idx_vars j
  refine (point11 m c t j0 _ hn h0.symm rfl _).trans ?_
  exact qt_congr m c h1.symm h2.symm

/-- The queries after the run. -/
theorem final11 (c : Dev nD) : (dats m 0 c).arrAt 11 (cfgs 0).N = arr11 m c := by
  refine (dats m 0 c).arrAt_eq_of_covers 11 _ (by decide +kernel) fun t _ y => ?_
  blk_simp
  rw [after0_11]
  have hy : ((y 0 : Fin 1) : ℕ) < 1 := (y 0 : Fin 1).isLt
  refine point_at11 m c t y _ ?_ ?_ ?_
  all_goals (blk_simp [idx t] <;> try omega)

/-- The values of the selected blocks, as an array. -/
def arr12 (c : Dev nD) : S4x2x80x4096.Idx → EReal := fun j => values (aX m c) (aG m c) (aW m c) 3 (j 0) (j 1) (j 2) (j 3)

/-- What a point leaves of the values of the selected blocks, at an index of the result whose coordinates are those of the block's. -/
theorem point_at12 (c : Dev nD) (t : Fin cfg0.N) (y : S1x2x80x1024.Idx) (j : S4x2x80x4096.Idx) (h0 : (j 0 : ℕ) = (grid0.coords t 0 : ℕ))
    (h1 : (j 1 : ℕ) = (y 1 : ℕ)) (h2 : (j 2 : ℕ) = (y 2 : ℕ)) (h3 : (j 3 : ℕ) = (grid0.coords t 1 : ℕ) * 1024 + (y 3 : ℕ)) : ((outsAt0 m c t).2.2.2.2.2.2.2.2.1) y = arr12 m c j := by
  have hn : (grid0.coords t 1 : ℕ) < 4 := (grid0.coords t 1).isLt
  idx_vars y
  idx_vars j
  refine (point12 m c t j0 _ hn h0.symm rfl _).trans ?_
  exact values_congr m c h1.symm h2.symm h3.symm

/-- The values of the selected blocks after the run. -/
theorem final12 (c : Dev nD) : (dats m 0 c).arrAt 12 (cfgs 0).N = arr12 m c := by
  refine (dats m 0 c).arrAt_eq_of_covers 12 _ (by decide +kernel) fun t _ y => ?_
  blk_simp
  rw [after0_12]
  have hy : ((y 0 : Fin 1) : ℕ) < 1 := (y 0 : Fin 1).isLt
  refine point_at12 m c t y _ ?_ ?_ ?_ ?_
  all_goals (blk_simp [idx t] <;> try omega)

/-- The values of the window, as an array. -/
def arr13 (c : Dev nD) : S4x2x80x4096.Idx → EReal := fun j => values (aX m c) (aG m c) (aW m c) 5 (j 0) (j 1) (j 2) (j 3)

/-- What a point leaves of the values of the window, at an index of the result whose coordinates are those of the block's. -/
theorem point_at13 (c : Dev nD) (t : Fin cfg0.N) (y : S1x2x80x1024.Idx) (j : S4x2x80x4096.Idx) (h0 : (j 0 : ℕ) = (grid0.coords t 0 : ℕ))
    (h1 : (j 1 : ℕ) = (y 1 : ℕ)) (h2 : (j 2 : ℕ) = (y 2 : ℕ)) (h3 : (j 3 : ℕ) = (grid0.coords t 1 : ℕ) * 1024 + (y 3 : ℕ)) : ((outsAt0 m c t).2.2.2.2.2.2.2.2.2.1) y = arr13 m c j := by
  have hn : (grid0.coords t 1 : ℕ) < 4 := (grid0.coords t 1).isLt
  idx_vars y
  idx_vars j
  refine (point13 m c t j0 _ hn h0.symm rfl _).trans ?_
  exact values_congr m c h1.symm h2.symm h3.symm

/-- The values of the window after the run. -/
theorem final13 (c : Dev nD) : (dats m 0 c).arrAt 13 (cfgs 0).N = arr13 m c := by
  refine (dats m 0 c).arrAt_eq_of_covers 13 _ (by decide +kernel) fun t _ y => ?_
  blk_simp
  rw [after0_13]
  have hy : ((y 0 : Fin 1) : ℕ) < 1 := (y 0 : Fin 1).isLt
  refine point_at13 m c t y _ ?_ ?_ ?_ ?_
  all_goals (blk_simp [idx t] <;> try omega)

/-- The gates, as an array. -/
def arr14 (c : Dev nD) : S4x32x4096.Idx → EReal := fun j => gates (aX m c) (aG m c) (aW m c) (j 0) (j 1) (j 2)

/-- What a point leaves of the gates, at an index of the result whose coordinates are those of the block's. -/
theorem point_at14 (c : Dev nD) (t : Fin cfg0.N) (y : S1x32x1024.Idx) (j : S4x32x4096.Idx) (h0 : (j 0 : ℕ) = (grid0.coords t 0 : ℕ))
    (h1 : (j 1 : ℕ) = (y 1 : ℕ)) (h2 : (j 2 : ℕ) = (grid0.coords t 1 : ℕ) * 1024 + (y 2 : ℕ)) : ((outsAt0 m c t).2.2.2.2.2.2.2.2.2.2) y = arr14 m c j := by
  have hn : (grid0.coords t 1 : ℕ) < 4 := (grid0.coords t 1).isLt
  idx_vars y
  idx_vars j
  refine (point14 m c t j0 _ hn h0.symm rfl _).trans ?_
  exact gates_congr m c h1.symm h2.symm

/-- The gates after the run. -/
theorem final14 (c : Dev nD) : (dats m 0 c).arrAt 14 (cfgs 0).N = arr14 m c := by
  refine (dats m 0 c).arrAt_eq_of_covers 14 _ (by decide +kernel) fun t _ y => ?_
  blk_simp
  rw [after0_14]
  have hy : ((y 0 : Fin 1) : ℕ) < 1 := (y 0 : Fin 1).isLt
  refine point_at14 m c t y _ ?_ ?_ ?_
  all_goals (blk_simp [idx t] <;> try omega)

/-- The kernel's run: the result arrays are the formulas over the arguments, which end unchanged. -/
theorem run (ρ : Dev nD → PrngReg) : θ_run defs (onTc (τ := τ) (main (F := Ideal))) ⟨m, fun _ => 0, ρ⟩ fun r => ∀ c : Dev nD,
      r.2.mem ((c : Thread nD τ).loc main_v25_0) = arr4 m c
      ∧ r.2.mem ((c : Thread nD τ).loc main_v25_1) = arr5 m c
      ∧ r.2.mem ((c : Thread nD τ).loc main_v25_2) = arr6 m c
      ∧ r.2.mem ((c : Thread nD τ).loc main_v25_3) = arr7 m c
      ∧ r.2.mem ((c : Thread nD τ).loc main_v25_4) = arr8 m c
      ∧ r.2.mem ((c : Thread nD τ).loc main_v25_5) = arr9 m c
      ∧ r.2.mem ((c : Thread nD τ).loc main_v25_6) = arr10 m c
      ∧ r.2.mem ((c : Thread nD τ).loc main_v25_7) = arr11 m c
      ∧ r.2.mem ((c : Thread nD τ).loc main_v25_8) = arr12 m c
      ∧ r.2.mem ((c : Thread nD τ).loc main_v25_9) = arr13 m c
      ∧ r.2.mem ((c : Thread nD τ).loc main_v25_10) = arr14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final4 m c), ((h c).2.1).trans (final5 m c), ((h c).2.2.1).trans (final6 m c), ((h c).2.2.2.1).trans (final7 m c), ((h c).2.2.2.2.1).trans (final8 m c), ((h c).2.2.2.2.2.1).trans (final9 m c), ((h c).2.2.2.2.2.2.1).trans (final10 m c), ((h c).2.2.2.2.2.2.2.1).trans (final11 m c), ((h c).2.2.2.2.2.2.2.2.1).trans (final12 m c), ((h c).2.2.2.2.2.2.2.2.2.1).trans (final13 m c), ((h c).2.2.2.2.2.2.2.2.2.2.1).trans (final14 m c), (h c).2.2.2.2.2.2.2.2.2.2.2⟩) (Value.run_blocks m ρ)
end Cert.InProjIdeal.Val
-- ==== Proof.InProjRef.lean ====
/- The plain in-projection reference, read at an index, is the formula of `InProjSpec`. -/
module
public import proofs.«01_k».proof.Proof.Gen.InProjRefIdeal.Read
public import proofs.«01_k».proof.Proof.InProjSpec
public import Idealize.ShloMosaic.Lib.WordCmp
@[expose] public section
set_option maxRecDepth 16384
noncomputable section
namespace Cert.InProjRefIdeal.Val
open Cert.InProjRefIdeal Cert.InProjRefIdeal.Gen Cert.InProjRefIdeal.Read Idealize.ShloMosaic Idealize.ShloMosaic.TcCoe Idealize.SL.Sem
open Cert.InProjSpec

variable (x : Vec Ideal S4x4096x1024 .f32) (g : Vec Ideal S1x1024 .f32) (w : Vec Ideal S1024x5656 .f32)

/-- The projection. -/
theorem proj_eq (b : Fin 4) (s : Fin 4096) (q : Fin 3608) : val_main_v15 (F := Ideal) x g w (ix3 b s q) = proj x g w b s ⟨q, by omega⟩ := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The six streams of keys and values. -/
theorem kv_eq (k : Fin 6) (b : Fin 4) (s : Fin 4096) (h : Fin 2) (d : Fin 64) : val_main_v20 (F := Ideal) x g w (ix5 b s k h d) = kv x g w k b s ⟨64 * h + d, by omega⟩ := by
  pointwise [val_main_v20, val_main_v17]
  rw [proj_eq]
  unfold kv
  congr 1
  ext
  simp
  omega
/-- Stream 0, as it goes to the compression. -/
theorem kcmp_eq (b : Fin 4) (s : Fin 4096) (l : Fin 128) : val_main_v77 (F := Ideal) x g w (ix3 b s l) = kv x g w 0 b s l := by
  pointwise [val_main_v77, val_main_v76, val_main_v75]
  rw [kv_eq]
  exact congrArg (kv x g w 0 b s) (Fin.ext (Nat.div_add_mod l.val 64))
/-- Stream 1, as it goes to the compression. -/
theorem vcmp_eq (b : Fin 4) (s : Fin 4096) (l : Fin 128) : val_main_v80 (F := Ideal) x g w (ix3 b s l) = kv x g w 1 b s l := by
  pointwise [val_main_v80, val_main_v79, val_main_v78]
  rw [kv_eq]
  exact congrArg (kv x g w 1 b s) (Fin.ext (Nat.div_add_mod l.val 64))
/-- The position columns. -/
theorem cols_eq (b : Fin 4) (h : Fin 2) (s : Fin 4096) (l : Fin 64) : val_main_v40 (F := Ideal) (ix4 b h s l) = col (BitVec.ofNat 32 s) l := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_c, val_main_c_2, val_main_c_3, val_main_cst_4]
  unfold col
  split_ifs with h1 h2 h3 h4 h5 h6 h7 h8 h9 h10 <;> first | rfl | omega | skip
  · exact (congrArg (FloatOps.uitofp (F := Ideal) FTy.f32) (show _ = 1#1 from by simp [IntOp.cmpi, IntOp.andi, IntOp.shrui, ArithUnit.host, h2])).trans (by simp [FloatOps.uitofp])
  · exact (congrArg (FloatOps.uitofp (F := Ideal) FTy.f32) (show _ = 0#1 from by rw [show IntOp.cmpi CmpIPredicate.eq (IntOp.andi (IntOp.shrui ArithUnit.host (BitVec.ofNat 32 s) 6#32) 7#32) (BitVec.ofNat 32 l) = BitVec.ofBool (BitVec.ofNat 32 s >>> 6 &&& 7#32 == BitVec.ofNat 32 l) from by simp [IntOp.cmpi, IntOp.andi, IntOp.shrui, ArithUnit.host], beq_eq_false_iff_ne.mpr h2]; rfl)).trans (by simp [FloatOps.uitofp])
/-- The keys of stream 2. -/
theorem ks_eq (b : Fin 4) (h : Fin 2) (s : Fin 4096) (l : Fin 128) : val_main_v85 (F := Ideal) x g w (ix4 b h s l) = keys x g w 2 b h s l := by
  pointwise [val_main_v85, val_main_v84, val_main_v83, val_main_v82, val_main_v81]
  unfold keys
  by_cases hl : l.val < 64
  · rw [dif_pos hl, dif_pos hl, kv_eq]
  · rw [dif_neg hl, dif_neg hl]
    exact cols_eq b h s _
/-- The keys of stream 4. -/
theorem kw_eq (b : Fin 4) (h : Fin 2) (s : Fin 4096) (l : Fin 128) : val_main_v90 (F := Ideal) x g w (ix4 b h s l) = keys x g w 4 b h s l := by
  pointwise [val_main_v90, val_main_v89, val_main_v88, val_main_v87, val_main_v86]
  unfold keys
  by_cases hl : l.val < 64
  · rw [dif_pos hl, dif_pos hl, kv_eq]
  · rw [dif_neg hl, dif_neg hl]
    exact cols_eq b h s _
/-- The values of stream 3. -/
theorem vst_eq (b : Fin 4) (h : Fin 2) (d : Fin 80) (s : Fin 4096) : val_main_v99 (F := Ideal) x g w (ix4 b h d s) = values x g w 3 b h d s := by
  pointwise [val_main_v99, val_main_v98, val_main_v97, val_main_v96, val_main_v95, val_main_v43, val_main_v42, val_main_v41, val_main_cst_5, val_main_cst_6]
  unfold values
  split_ifs with hl h2 h3 h4 <;> first | omega | rfl | rw [kv_eq]
/-- The values of stream 5. -/
theorem vwt_eq (b : Fin 4) (h : Fin 2) (d : Fin 80) (s : Fin 4096) : val_main_v104 (F := Ideal) x g w (ix4 b h d s) = values x g w 5 b h d s := by
  pointwise [val_main_v104, val_main_v103, val_main_v102, val_main_v101, val_main_v100, val_main_v43, val_main_v42, val_main_v41, val_main_cst_5, val_main_cst_6]
  unfold values
  split_ifs with hl h2 h3 h4 <;> first | omega | rfl | rw [kv_eq]
/-- The queries of the sparse attention. -/
theorem qt_eq (b : Fin 4) (q : Fin 512) (s : Fin 4096) : val_main_v94 (F := Ideal) x g w (ix3 b q s) = qt x g w b q s := by
  pointwise [val_main_v94, val_main_v93, val_main_v92, val_main_v91, val_main_v16, val_main_cst_11]
  rw [proj_eq]
  rfl
/-- The dilated attention's operands, in token order. -/
theorem dil_eq (b : Fin 4) (s : Fin 4096) (v : Fin 3) (gr : Fin 3) (l : Fin 256) : val_main_v49 (F := Ideal) x g w (ix5 b s v gr l) = dil x g w b v s ⟨256 * gr + l, by omega⟩ := by
  pointwise [val_main_v49, val_main_v48, val_main_v47, val_main_v46, val_main_v45, val_main_v44, val_main_v19, val_main_cst_7]
  unfold dil
  by_cases h1 : v.val = 0
  · rw [dif_pos (show v.val < 1 by omega), if_pos h1, proj_eq]
    refine congrArg (fun q => proj x g w b s q * scal) (Fin.ext ?_)
    show 1304 + (v.val * 768 + gr.val * 256 + l.val) = 1304 + 768 * v.val + (256 * gr.val + l.val)
    omega
  · rw [dif_neg (show ¬v.val < 1 by omega), if_neg h1, proj_eq]
    refine congrArg (proj x g w b s) (Fin.ext ?_)
    show 1304 + ((1 + (v.val - 1)) * 768 + gr.val * 256 + l.val) = 1304 + 768 * v.val + (256 * gr.val + l.val)
    omega
/-- A padding word. -/
theorem pad_eq (i : S_.Idx) : val_main_call0_v0 (F := Ideal) i = 0 := by
  unfold val_main_call0_v0
  pointwise [val_main_c_8]
  simp [FloatOps.sitofp]
/-- The gates. -/
theorem gates_eq (b : Fin 4) (j : Fin 32) (s : Fin 4096) : val_main_v74 (F := Ideal) x g w (ix3 b j s) = gates x g w b j s := by
  pointwise [val_main_v74, val_main_v73, val_main_v72, val_main_v71, val_main_v70, val_main_v69, val_main_v68, val_main_v67, val_main_v66, val_main_v65, val_main_v18, val_main_c_8, val_main_cst_9, val_main_cst_10]
  unfold gates MergeSpec.gate
  rw [pad_eq]
  split_ifs with h1 h2 h2
  · rw [proj_eq]
    refine congrArg (fun q => Ideal.div 1 (1 + Ideal.exp (-proj x g w b s q))) (Fin.ext ?_)
    show 1280 + (j.val / 16 * 12 + j.val % 16) = 1280 + 12 * (j.val / 16) + j.val % 16
    omega
  · exact absurd h1.2 h2
  · exact absurd ⟨by omega, h2⟩ h1
  · rfl
end Cert.InProjRefIdeal.Val
-- ==== Proof.InProjRefDil.lean ====
/- The dilated operands of the plain in-projection reference, by their place modulo the step. -/
module
public import proofs.«01_k».proof.Proof.Gen.InProjRefIdeal.Read
public import proofs.«01_k».proof.Proof.InProjSpec
@[expose] public section
set_option maxRecDepth 16384
noncomputable section
namespace Cert.InProjRefIdeal.Val
open Cert.InProjRefIdeal Cert.InProjRefIdeal.Gen Cert.InProjRefIdeal.Read Idealize.ShloMosaic Idealize.ShloMosaic.TcCoe Idealize.SL.Sem
open Cert.InProjSpec

variable (x : Vec Ideal S4x4096x1024 .f32) (g : Vec Ideal S1x1024 .f32) (w : Vec Ideal S1024x5656 .f32)

/-- The group of step 1, its axes in the order of the result. -/
theorem d0_t (b : Fin 4) (v : Fin 3) (c : Fin 1) (r : Fin 4096) (l : Fin 256) : val_main_v54 (F := Ideal) x g w (ix5 b v c r l) = val_main_v52 (F := Ideal) x g w (ix5 b r c v l) := by
  refine (val_main_v54_apply x g w _).trans ((val_main_v53_apply x g w _).trans (congrArg (val_main_v52 (F := Ideal) x g w) (funext fun a => ?_)))
  match a with
  | ⟨0, _⟩ => rfl
  | ⟨1, _⟩ => rfl
  | ⟨2, _⟩ => rfl
  | ⟨3, _⟩ => rfl
  | ⟨4, _⟩ => rfl
/-- Token `c + 1 r` is row `r` of residue `c`. -/
theorem d0_r (b : Fin 4) (v : Fin 3) (c : Fin 1) (r : Fin 4096) (l : Fin 256) : val_main_v52 (F := Ideal) x g w (ix5 b r c v l) = val_main_v51 (F := Ideal) x g w (ix4 b ⟨c + 1 * r, by omega⟩ v l) := by
  refine (val_main_v52_apply x g w _).trans (congrArg (val_main_v51 (F := Ideal) x g w) (funext fun a => Fin.ext ?_))
  have hb := b.isLt; have hv := v.isLt; have hr := r.isLt; have hl := l.isLt; have hc := c.isLt
  match a with
  | ⟨0, _⟩ => show ((((b.val * 4096 + r.val) * 1 + c.val) * 3 + v.val) * 256 + l.val) / 3145728 = b.val; omega
  | ⟨1, _⟩ => show ((((b.val * 4096 + r.val) * 1 + c.val) * 3 + v.val) * 256 + l.val) / 768 % 4096 = c.val + 1 * r.val; omega
  | ⟨2, _⟩ => show ((((b.val * 4096 + r.val) * 1 + c.val) * 3 + v.val) * 256 + l.val) / 256 % 3 = v.val; omega
  | ⟨3, _⟩ => show ((((b.val * 4096 + r.val) * 1 + c.val) * 3 + v.val) * 256 + l.val) % 256 = l.val; omega
/-- The group of step 1 of the dilated columns. -/
theorem d0_g (b : Fin 4) (s : Fin 4096) (v : Fin 3) (l : Fin 256) : val_main_v51 (F := Ideal) x g w (ix4 b s v l) = val_main_v49 (F := Ideal) x g w (ix5 b s v 0 l) := by
  pointwise [val_main_v51, val_main_v50]
/-- The group of step 4, its axes in the order of the result. -/
theorem d1_t (b : Fin 4) (v : Fin 3) (c : Fin 4) (r : Fin 1024) (l : Fin 256) : val_main_v59 (F := Ideal) x g w (ix5 b v c r l) = val_main_v57 (F := Ideal) x g w (ix5 b r c v l) := by
  refine (val_main_v59_apply x g w _).trans ((val_main_v58_apply x g w _).trans (congrArg (val_main_v57 (F := Ideal) x g w) (funext fun a => ?_)))
  match a with
  | ⟨0, _⟩ => rfl
  | ⟨1, _⟩ => rfl
  | ⟨2, _⟩ => rfl
  | ⟨3, _⟩ => rfl
  | ⟨4, _⟩ => rfl
/-- Token `c + 4 r` is row `r` of residue `c`. -/
theorem d1_r (b : Fin 4) (v : Fin 3) (c : Fin 4) (r : Fin 1024) (l : Fin 256) : val_main_v57 (F := Ideal) x g w (ix5 b r c v l) = val_main_v56 (F := Ideal) x g w (ix4 b ⟨c + 4 * r, by omega⟩ v l) := by
  refine (val_main_v57_apply x g w _).trans (congrArg (val_main_v56 (F := Ideal) x g w) (funext fun a => Fin.ext ?_))
  have hb := b.isLt; have hv := v.isLt; have hr := r.isLt; have hl := l.isLt; have hc := c.isLt
  match a with
  | ⟨0, _⟩ => show ((((b.val * 1024 + r.val) * 4 + c.val) * 3 + v.val) * 256 + l.val) / 3145728 = b.val; omega
  | ⟨1, _⟩ => show ((((b.val * 1024 + r.val) * 4 + c.val) * 3 + v.val) * 256 + l.val) / 768 % 4096 = c.val + 4 * r.val; omega
  | ⟨2, _⟩ => show ((((b.val * 1024 + r.val) * 4 + c.val) * 3 + v.val) * 256 + l.val) / 256 % 3 = v.val; omega
  | ⟨3, _⟩ => show ((((b.val * 1024 + r.val) * 4 + c.val) * 3 + v.val) * 256 + l.val) % 256 = l.val; omega
/-- The group of step 4 of the dilated columns. -/
theorem d1_g (b : Fin 4) (s : Fin 4096) (v : Fin 3) (l : Fin 256) : val_main_v56 (F := Ideal) x g w (ix4 b s v l) = val_main_v49 (F := Ideal) x g w (ix5 b s v 1 l) := by
  pointwise [val_main_v56, val_main_v55]
/-- The group of step 16, its axes in the order of the result. -/
theorem d2_t (b : Fin 4) (v : Fin 3) (c : Fin 16) (r : Fin 256) (l : Fin 256) : val_main_v64 (F := Ideal) x g w (ix5 b v c r l) = val_main_v62 (F := Ideal) x g w (ix5 b r c v l) := by
  refine (val_main_v64_apply x g w _).trans ((val_main_v63_apply x g w _).trans (congrArg (val_main_v62 (F := Ideal) x g w) (funext fun a => ?_)))
  match a with
  | ⟨0, _⟩ => rfl
  | ⟨1, _⟩ => rfl
  | ⟨2, _⟩ => rfl
  | ⟨3, _⟩ => rfl
  | ⟨4, _⟩ => rfl
/-- Token `c + 16 r` is row `r` of residue `c`. -/
theorem d2_r (b : Fin 4) (v : Fin 3) (c : Fin 16) (r : Fin 256) (l : Fin 256) : val_main_v62 (F := Ideal) x g w (ix5 b r c v l) = val_main_v61 (F := Ideal) x g w (ix4 b ⟨c + 16 * r, by omega⟩ v l) := by
  refine (val_main_v62_apply x g w _).trans (congrArg (val_main_v61 (F := Ideal) x g w) (funext fun a => Fin.ext ?_))
  have hb := b.isLt; have hv := v.isLt; have hr := r.isLt; have hl := l.isLt; have hc := c.isLt
  match a with
  | ⟨0, _⟩ => show ((((b.val * 256 + r.val) * 16 + c.val) * 3 + v.val) * 256 + l.val) / 3145728 = b.val; omega
  | ⟨1, _⟩ => show ((((b.val * 256 + r.val) * 16 + c.val) * 3 + v.val) * 256 + l.val) / 768 % 4096 = c.val + 16 * r.val; omega
  | ⟨2, _⟩ => show ((((b.val * 256 + r.val) * 16 + c.val) * 3 + v.val) * 256 + l.val) / 256 % 3 = v.val; omega
  | ⟨3, _⟩ => show ((((b.val * 256 + r.val) * 16 + c.val) * 3 + v.val) * 256 + l.val) % 256 = l.val; omega
/-- The group of step 16 of the dilated columns. -/
theorem d2_g (b : Fin 4) (s : Fin 4096) (v : Fin 3) (l : Fin 256) : val_main_v61 (F := Ideal) x g w (ix4 b s v l) = val_main_v49 (F := Ideal) x g w (ix5 b s v 2 l) := by
  pointwise [val_main_v61, val_main_v60]
end Cert.InProjRefIdeal.Val
-- ==== Proof.InProjClaim.lean ====
/- The claim about the in-projection: kernel and reference leave the same eleven arrays. -/
module
public import proofs.«01_k».proof.Defs
public import proofs.«01_k».proof.Proof.Gen.InProjRefIdeal.Run
public import proofs.«01_k».proof.Proof.InProjFinal
public import proofs.«01_k».proof.Proof.InProjRef
public import proofs.«01_k».proof.Proof.InProjRefDil
@[expose] public section
noncomputable section
namespace Cert.Proof
open Idealize.ShloMosaic Idealize.SL.Sem

/-- The kernel and the reference leave the same eleven arrays: the keys, values, queries and gates of the sparse attention and the three
groups of the dilated attention, as `InProjSpec` has them. -/
theorem inproj_algebraic : Cert.algebraic_InProjIdeal_InProjRefIdeal := by
  intro m g m' g' _ ha
  refine ⟨fun c => Cert.InProjIdeal.Val.arr4 m c, fun c => Cert.InProjIdeal.Val.arr5 m c, fun c => Cert.InProjIdeal.Val.arr6 m c, fun c => Cert.InProjIdeal.Val.arr7 m c, fun c => Cert.InProjIdeal.Val.arr8 m c, fun c => Cert.InProjIdeal.Val.arr9 m c, fun c => Cert.InProjIdeal.Val.arr10 m c, fun c => Cert.InProjIdeal.Val.arr11 m c, fun c => Cert.InProjIdeal.Val.arr12 m c, fun c => Cert.InProjIdeal.Val.arr13 m c, fun c => Cert.InProjIdeal.Val.arr14 m c, ?_, ?_⟩
  · exact Cert.InProjIdeal.Val.run m g
  · refine (θ_run _ _ _).mono (fun r h c => ⟨?_, ?_, ?_, ?_, ?_, ?_, ?_, ?_, ?_, ?_, ?_, (h c).2.2.2.2.2.2.2.2.2.2.2⟩) (Cert.InProjRefIdeal.Value.run m' g')
    · obtain ⟨h0, h1, h2⟩ := ha c
      rw [(h c).1, Cert.InProjRefIdeal.Read.val_main_v77_eq, h0, h1, h2]
      funext j
      rw [eq_ix3 j]
      exact Cert.InProjRefIdeal.Val.kcmp_eq _ _ _ _ _ _
    · obtain ⟨h0, h1, h2⟩ := ha c
      rw [(h c).2.1, Cert.InProjRefIdeal.Read.val_main_v80_eq, h0, h1, h2]
      funext j
      rw [eq_ix3 j]
      exact Cert.InProjRefIdeal.Val.vcmp_eq _ _ _ _ _ _
    · obtain ⟨h0, h1, h2⟩ := ha c
      rw [(h c).2.2.1, Cert.InProjRefIdeal.Read.val_main_v85_eq, h0, h1, h2]
      funext j
      rw [eq_ix4 j]
      exact Cert.InProjRefIdeal.Val.ks_eq _ _ _ _ _ _ _
    · obtain ⟨h0, h1, h2⟩ := ha c
      rw [(h c).2.2.2.1, Cert.InProjRefIdeal.Read.val_main_v90_eq, h0, h1, h2]
      funext j
      rw [eq_ix4 j]
      exact Cert.InProjRefIdeal.Val.kw_eq _ _ _ _ _ _ _
    · obtain ⟨h0, h1, h2⟩ := ha c
      rw [(h c).2.2.2.2.1, Cert.InProjRefIdeal.Read.val_main_v54_eq, h0, h1, h2]
      funext j
      rw [eq_ix5 j]
      exact (Cert.InProjRefIdeal.Val.d0_t _ _ _ _ _ _ _ _).trans ((Cert.InProjRefIdeal.Val.d0_r _ _ _ _ _ _ _ _).trans ((Cert.InProjRefIdeal.Val.d0_g _ _ _ _ _ _ _).trans (Cert.InProjRefIdeal.Val.dil_eq _ _ _ _ _ _ _ _)))
    · obtain ⟨h0, h1, h2⟩ := ha c
      rw [(h c).2.2.2.2.2.1, Cert.InProjRefIdeal.Read.val_main_v59_eq, h0, h1, h2]
      funext j
      rw [eq_ix5 j]
      exact (Cert.InProjRefIdeal.Val.d1_t _ _ _ _ _ _ _ _).trans ((Cert.InProjRefIdeal.Val.d1_r _ _ _ _ _ _ _ _).trans ((Cert.InProjRefIdeal.Val.d1_g _ _ _ _ _ _ _).trans (Cert.InProjRefIdeal.Val.dil_eq _ _ _ _ _ _ _ _)))
    · obtain ⟨h0, h1, h2⟩ := ha c
      rw [(h c).2.2.2.2.2.2.1, Cert.InProjRefIdeal.Read.val_main_v64_eq, h0, h1, h2]
      funext j
      rw [eq_ix5 j]
      exact (Cert.InProjRefIdeal.Val.d2_t _ _ _ _ _ _ _ _).trans ((Cert.InProjRefIdeal.Val.d2_r _ _ _ _ _ _ _ _).trans ((Cert.InProjRefIdeal.Val.d2_g _ _ _ _ _ _ _).trans (Cert.InProjRefIdeal.Val.dil_eq _ _ _ _ _ _ _ _)))
    · obtain ⟨h0, h1, h2⟩ := ha c
      rw [(h c).2.2.2.2.2.2.2.1, Cert.InProjRefIdeal.Read.val_main_v94_eq, h0, h1, h2]
      funext j
      rw [eq_ix3 j]
      exact Cert.InProjRefIdeal.Val.qt_eq _ _ _ _ _ _
    · obtain ⟨h0, h1, h2⟩ := ha c
      rw [(h c).2.2.2.2.2.2.2.2.1, Cert.InProjRefIdeal.Read.val_main_v99_eq, h0, h1, h2]
      funext j
      rw [eq_ix4 j]
      exact Cert.InProjRefIdeal.Val.vst_eq _ _ _ _ _ _ _
    · obtain ⟨h0, h1, h2⟩ := ha c
      rw [(h c).2.2.2.2.2.2.2.2.2.1, Cert.InProjRefIdeal.Read.val_main_v104_eq, h0, h1, h2]
      funext j
      rw [eq_ix4 j]
      exact Cert.InProjRefIdeal.Val.vwt_eq _ _ _ _ _ _ _
    · obtain ⟨h0, h1, h2⟩ := ha c
      rw [(h c).2.2.2.2.2.2.2.2.2.2.1, Cert.InProjRefIdeal.Read.val_main_v74_eq, h0, h1, h2]
      funext j
      rw [eq_ix3 j]
      exact Cert.InProjRefIdeal.Val.gates_eq _ _ _ _ _ _
end Cert.Proof
end
-- ==== Proof.Band1Final.lean ====
/- The two results of the dilated attention's kernel after the run, as the specification over the argument. -/
module
public import proofs.«01_k».proof.Proof.Gen.Band1Ideal.Value
public import proofs.«01_k».proof.Proof.BandCore
public import Idealize.ShloMosaic.Lib.Pipeline.ValueKit
@[expose] public section
set_option maxRecDepth 16384
noncomputable section
namespace Cert.Band1Ideal.Val
open Cert.Band1Ideal Cert.Band1Ideal.Gen Idealize.ShloMosaic Idealize.ShloMosaic.TcCoe Idealize.SL.Sem
open Idealize.ShloMosaic.WordCmp Idealize.ShloMosaic.Affine
open Idealize.ShloMosaic.Pipeline (Dat)
variable (m : (ℓ : Loc nD τ sig) → Buf (Elt Ideal) ℓ)

/-- Every window's block index at a grid point. -/
theorem idx : ∀ t : Fin cfg0.N, win0_0.index t = ![(grid0.coords t 0).val, 0, 0, (grid0.coords t 2).val, 0]
    ∧ win0_1.index t = ![(grid0.coords t 0).val, 1, 0, 0, 0]
    ∧ win0_2.index t = ![(grid0.coords t 0).val, 2, 0, 0, 0]
    ∧ win0_3.index t = ![(grid0.coords t 0).val, 0, (grid0.coords t 2).val, 0] ∧ win0_4.index t = ![(grid0.coords t 0).val, 0, (grid0.coords t 2).val, 0] :=
  (by decide +kernel : ∀ t : Fin grid0.N, _)

/-- The distance of a sub-problem's first row from its first key row, for the first of a point. -/
def firstOff (i : grid0.Coords) : BitVec 32 :=
  Scalar.subi (Scalar.muli (Scalar.addi (Scalar.muli (BitVec.ofNat 32 (i 2).val) 16#32) 0#32) 128#32)
    (Scalar.muli (Scalar.maxsi (Scalar.subi (Scalar.addi (Scalar.muli (BitVec.ofNat 32 (i 2).val) 16#32) 0#32) 1#32) 0#32) 128#32)

/-- Where the keys of each sub-problem start, and that first distance. -/
theorem off : ∀ (t : Fin cfg0.N) (s : Fin 16), k0_off1 (grid0.coords t) (BitVec.ofNat 32 s.val) = ![0, 0, 0, (16 * (grid0.coords t 2).val + s.val - 1) * 128, 0]
    ∧ (firstOff (grid0.coords t)).toInt = ((if (grid0.coords t 2).val = 0 then 0 else 128 : ℕ) : ℤ) :=
  (by decide +kernel : ∀ (t : Fin grid0.N) (s : Fin 16), _)

/-- The same distance, at the number of the point's first sub-problem. -/
theorem firstW (t : Fin cfg0.N) (g : ℕ) (hg' : (grid0.coords t 2 : ℕ) = g) :
    (firstOff (grid0.coords t)).toInt = ((if 16 * g + 0 = 0 then 0 else 128 : ℕ) : ℤ) := by
  rw [(off t 0).2, hg']
  by_cases h : g = 0
  · rw [if_pos h, if_pos (by omega)]
  · rw [if_neg h, if_neg (by omega)]

/-- And that of the others. -/
theorem otherW (g s : ℕ) (hs : 0 < s) : (128#32 : BitVec 32).toInt = ((if 16 * g + s = 0 then 0 else 128 : ℕ) : ℤ) := by
  rw [if_neg (by omega)]
  rfl

/-- The four heads' slopes. -/
def slope (h : Fin 4) : ℝ :=
  if h.val < 1 then 1321123 / 2 ^ 21 else if h.val - 1 < 1 then 13316085 / 2 ^ 25 else if h.val - 1 - 1 < 1 then 1 / 4 else 1321123 / 2 ^ 23

/-- The rows of the queries, the keys and the values. -/
def rows (x0 : Vec Ideal S4x3x1x4096x256 .bf16) (b : Fin 4) (c : Fin 1) (a : Fin 3) (i : Fin 4096) (l : Fin 256) : EReal := x0 (ix5 b a c i l)

/-- The argument. -/
abbrev arg (c : Dev nD) : Vec Ideal S4x3x1x4096x256 .bf16 := m ((c : Thread nD τ).loc main_arg0)

/-- The weighted mean at an index. -/
def specO (c : Dev nD) (b : Fin 4) (e : Fin 1) (i : Fin 4096) (l : Fin 256) : EReal :=
  BandSpec.mean (rows (arg m c) b e 0) (rows (arg m c) b e 1) (rows (arg m c) b e 2) (slope ⟨l.val / 64, by omega⟩) 1 ⟨l.val / 64, by omega⟩ i l

/-- The logarithm of the sum at an index. -/
def specL (c : Dev nD) (b : Fin 4) (e : Fin 1) (i : Fin 4096) (l : Fin 256) : EReal :=
  BandSpec.lse (rows (arg m c) b e 0) (rows (arg m c) b e 1) (slope ⟨l.val / 64, by omega⟩) 1 ⟨l.val / 64, by omega⟩ i

/-- The two result arrays the run leaves. -/
abbrev arrO (c : Dev nD) : FVec Ideal S4x1x4096x256 .f32 := fun j => specO m c (j 0) (j 1) (j 2) (j 3)
/-- The second of them. -/
abbrev arrL (c : Dev nD) : FVec Ideal S4x1x4096x256 .f32 := fun j => specL m c (j 0) (j 1) (j 2) (j 3)

/-- The staged query rows of a point are half of the argument's. -/
theorem blk_q (c : Dev nD) (t : Fin cfg0.N) (b : Fin 4) (g : ℕ) (hg : g < 2) (hb : (grid0.coords t 0 : ℕ) = b) (hg' : (grid0.coords t 2 : ℕ) = g)
    (r : Fin 2048) (x : Fin 256) :
    (iblk m c 0 t : Vec Ideal S1x1x1x2048x256 .bf16) (ix5 0 0 0 r x) = arg m c (ix5 b 0 0 ⟨g * 2048 + r.val, by omega⟩ x) := by
  blk_ext [iblk, V, idx t]
/-- The keys. -/
theorem blk_k (c : Dev nD) (t : Fin cfg0.N) (b : Fin 4) (hb : (grid0.coords t 0 : ℕ) = b) (r : Fin 4096) (x : Fin 256) :
    (iblk m c 1 t : Vec Ideal S1x1x1x4096x256 .bf16) (ix5 0 0 0 r x) = arg m c (ix5 b 1 0 r x) := by
  blk_ext [iblk, V, idx t]
/-- The values. -/
theorem blk_v (c : Dev nD) (t : Fin cfg0.N) (b : Fin 4) (hb : (grid0.coords t 0 : ℕ) = b) (r : Fin 4096) (x : Fin 256) :
    (iblk m c 2 t : Vec Ideal S1x1x1x4096x256 .bf16) (ix5 0 0 0 r x) = arg m c (ix5 b 2 0 r x) := by
  blk_ext [iblk, V, idx t]

/-- A sub-problem's query rows within the block. -/
theorem ld_q (Q : ℕ) (x : Vec Ideal S1x1x1x2048x256 .bf16) (inb : ∀ a, ![0, 0, 0, Q, 0] a + S1x1x1x128x256.size a ≤ S1x1x1x2048x256.size a)
    (hQ : Q + 128 ≤ 2048) (i : Fin 128) (l : Fin 256) :
    View.ld x (Rect.unit ![0, 0, 0, Q, 0] S1x1x1x128x256.size inb) (ix5 0 0 0 i l) = x (ix5 0 0 0 ⟨Q + i.val, by omega⟩ l) := by
  pointwise

/-- A sub-problem's key rows within the block. -/
theorem ld_k (K : ℕ) (x : Vec Ideal S1x1x1x4096x256 .bf16) (o : Fin 5 → ℕ) (inb : ∀ a, o a + S1x1x1x256x256.size a ≤ S1x1x1x4096x256.size a)
    (hK : K + 256 ≤ 4096) (ho : o = ![0, 0, 0, K, 0]) (j : Fin 256) (l : Fin 256) :
    View.ld x (Rect.unit o S1x1x1x256x256.size inb) (ix5 0 0 0 j l) = x (ix5 0 0 0 ⟨K + j.val, by omega⟩ l) := by
  subst ho
  pointwise

/-- The words of the distances within a sub-problem. -/
def dist (w : BitVec 32) : IVec S128x256 32 :=
  addi (broadcast S128x256 w) (subi (iota .tc S128x256 32 [0] iota_S128x256_d0_w32) (iota .tc S128x256 32 [1] iota_S128x256_d1_w32))

/-- They hold the distance of the rows. -/
theorem dist_toInt (w : BitVec 32) (n : ℕ) (hn : n ≤ 128) (hw : w.toInt = n) (i : Fin 128) (j : Fin 256) :
    (dist w (ix2 i j)).toInt = (n : ℤ) + ((i.val : ℤ) - (j.val : ℤ)) := by
  have e : dist w (ix2 i j) = IntOp.addi w (IntOp.subi (BitVec.ofNat 32 i.val) (BitVec.ofNat 32 j.val)) := by
    pointwise [dist]
  have hw' : IsInt w n := by unfold IsInt; exact hw
  have h : IsInt (dist w (ix2 i j)) ((n : ℤ) + ((i.val : ℤ) - (j.val : ℤ))) := by
    rw [e]
    exact Affine.addi hw' (Affine.subi (Affine.ofNat (e := (i.val : ℤ)) i.val (by omega)) (Affine.ofNat (e := (j.val : ℤ)) j.val (by omega)) ⟨rfl, by omega, by omega⟩)
      ⟨rfl, by omega, by omega⟩
  unfold IsInt at h; exact h

/-- The four heads' biases of a sub-problem. -/
def bias0 (w : BitVec 32) := BandCore.bias (dist w) (Named.named (F := Ideal) κ "slope0" 0x3F68A9CD#32) (Named.named (F := Ideal) κ "mask" 0xF149F2CA#32)
/-- The second head's. -/
def bias1 (w : BitVec 32) := BandCore.bias (dist w) (Named.named (F := Ideal) κ "slope1" 0x3F129195#32) (Named.named (F := Ideal) κ "mask" 0xF149F2CA#32)
/-- The third head's. -/
def bias2 (w : BitVec 32) := BandCore.bias (dist w) (Named.named (F := Ideal) κ "slope2" 0x3EB8AA3B#32) (Named.named (F := Ideal) κ "mask" 0xF149F2CA#32)
/-- The fourth head's. -/
def bias3 (w : BitVec 32) := BandCore.bias (dist w) (Named.named (F := Ideal) κ "slope3" 0x3E68A9CD#32) (Named.named (F := Ideal) κ "mask" 0xF149F2CA#32)

/-- The biases at an index. -/
theorem bias_eq (w : BitVec 32) (I0 K0 : ℕ) (n : ℕ) (hn : n ≤ 128) (hw : w.toInt = n) (hI : I0 = K0 + n) (h : Fin 4) (i : Fin 128) (j : Fin 256) :
    BandChunk.sel (bias0 w) (bias1 w) (bias2 w) (bias3 w) h.val (ix2 i j) =
  ((slope h * 1 * (Real.log 2)⁻¹ * -(((I0 + i.val : ℕ) : ℤ) - ((K0 + j.val : ℕ) : ℤ) : ℤ) : ℝ) : EReal) +
    if 0 ≤ ((I0 + i.val : ℕ) : ℤ) - ((K0 + j.val : ℕ) : ℤ) ∧ ((I0 + i.val : ℕ) : ℤ) - ((K0 + j.val : ℕ) : ℤ) ≤ 128 then 0 else ⊥ := by
  have hd : (dist w (ix2 i j)).toInt = ((I0 + i.val : ℕ) : ℤ) - ((K0 + j.val : ℕ) : ℤ) := by
    rw [dist_toInt w n hn hw]; push_cast; omega
  generalize ((I0 + i.val : ℕ) : ℤ) - ((K0 + j.val : ℕ) : ℤ) = e at hd ⊢
  have main : ∀ σ : ℝ, BandCore.bias (dist w) (σ : EReal) (⊥ : EReal) (ix2 i j) = ((σ * -(e : ℝ) : ℝ) : EReal) + if 0 ≤ e ∧ e ≤ 128 then 0 else ⊥ :=
    fun σ => BandCore.bias_apply (dist w) σ i j e hd
  fin_cases h
  · refine (main (1321123 / 2097152 * (Real.log 2)⁻¹)).trans ?_
    congr 2; unfold slope; norm_num
  · refine (main (13316085 / 33554432 * (Real.log 2)⁻¹)).trans ?_
    congr 2; unfold slope; norm_num
  · refine (main (1 / 4 * (Real.log 2)⁻¹)).trans ?_
    congr 2; unfold slope; norm_num
  · refine (main (1321123 / 8388608 * (Real.log 2)⁻¹)).trans ?_
    congr 2; unfold slope; norm_num

/-- The first output of a sub-problem. -/
def outOAt (w : BitVec 32) (q : Vec Ideal S1x1x1x128x256 .bf16) (k v : Vec Ideal S1x1x1x256x256 .bf16) : FVec Ideal S1x1x128x256 .f32 :=
  BandChunk.outO q k v (bias0 w) (bias1 w) (bias2 w) (bias3 w)
/-- The second. -/
def outLAt (w : BitVec 32) (q : Vec Ideal S1x1x1x128x256 .bf16) (k : Vec Ideal S1x1x1x256x256 .bf16) : FVec Ideal S1x1x128x256 .f32 :=
  BandChunk.outL q k (bias0 w) (bias1 w) (bias2 w) (bias3 w) (Named.named (F := Ideal) κ "ln2" 0x3F317218#32)

section
variable (c : Dev nD) (t : Fin cfg0.N) (b : Fin 4) (g : ℕ) (hg : g < 2) (hb : (grid0.coords t 0 : ℕ) = b) (hg' : (grid0.coords t 2 : ℕ) = g)
    (s : ℕ) (hs : s < 16) (w : BitVec 32) (hw : w.toInt = ((if 16 * g + s = 0 then 0 else 128 : ℕ) : ℤ))
    (q : Vec Ideal S1x1x1x128x256 .bf16) (k v : Vec Ideal S1x1x1x256x256 .bf16)
    (hq : ∀ i l, q (ix5 0 0 0 i l) = (iblk m c 0 t : Vec Ideal S1x1x1x2048x256 .bf16) (ix5 0 0 0 ⟨s * 128 + i.val, by omega⟩ l))
    (hk : ∀ j l, k (ix5 0 0 0 j l) = (iblk m c 1 t : Vec Ideal S1x1x1x4096x256 .bf16) (ix5 0 0 0 ⟨(16 * g + s - 1) * 128 + j.val, by omega⟩ l))
include hg hb hg' hs hw hq hk

/-- What a point stores for a sub-problem in the first output. -/
theorem pieceO (hv : ∀ j l, v (ix5 0 0 0 j l) = (iblk m c 2 t : Vec Ideal S1x1x1x4096x256 .bf16) (ix5 0 0 0 ⟨(16 * g + s - 1) * 128 + j.val, by omega⟩ l))
    (y0 y1 : Fin 1) (y2 : Fin 128) (y3 : Fin 256) (x2 : Fin 2048) (x3 : Fin 256)
    (h2 : (x2 : ℕ) = s * 128 + y2) (h3 : (x3 : ℕ) = y3) :
    outOAt w q k v (ix4 y0 y1 y2 y3) = specO m c b 0 ⟨g * 2048 + x2.val, by omega⟩ x3 := by
  obtain rfl : x3 = y3 := Fin.ext h3
  obtain rfl : y0 = 0 := Subsingleton.elim _ _
  obtain rfl : y1 = 0 := Subsingleton.elim _ _
  rw [show (⟨g * 2048 + x2.val, by omega⟩ : Fin 4096) = ⟨(16 * g + s) * 128 + y2.val, by omega⟩ from Fin.ext (by show g * 2048 + x2.val = (16 * g + s) * 128 + y2.val; omega)]
  exact BandCore.mean_eq (n := 4096) _ _ _ slope 1 q k v (bias0 w) (bias1 w) (bias2 w) (bias3 w) ((16 * g + s) * 128) ((16 * g + s - 1) * 128) (by omega) (by omega) (by omega)
    (fun i l => (hq i l).trans ((blk_q m c t b g hg hb hg' _ _).trans (congrArg (fun z => arg m c (ix5 b 0 0 z l)) (Fin.ext (by show g * 2048 + (s * 128 + i.val) = (16 * g + s) * 128 + i.val; omega)))))
    (fun j l => (hk j l).trans (blk_k m c t b hb _ _)) (fun j l => (hv j l).trans (blk_v m c t b hb _ _))
    (bias_eq w _ _ _ (by split_ifs <;> omega) hw (by split_ifs <;> omega)) ⟨x3.val / 64, by omega⟩ y2 x3 rfl

/-- What a point stores for a sub-problem in the second output. -/
theorem pieceL (y0 y1 : Fin 1) (y2 : Fin 128) (y3 : Fin 256) (x2 : Fin 2048) (x3 : Fin 256)
    (h2 : (x2 : ℕ) = s * 128 + y2) (h3 : (x3 : ℕ) = y3) :
    outLAt w q k (ix4 y0 y1 y2 y3) = specL m c b 0 ⟨g * 2048 + x2.val, by omega⟩ x3 := by
  obtain rfl : x3 = y3 := Fin.ext h3
  obtain rfl : y0 = 0 := Subsingleton.elim _ _
  obtain rfl : y1 = 0 := Subsingleton.elim _ _
  rw [show (⟨g * 2048 + x2.val, by omega⟩ : Fin 4096) = ⟨(16 * g + s) * 128 + y2.val, by omega⟩ from Fin.ext (by show g * 2048 + x2.val = (16 * g + s) * 128 + y2.val; omega)]
  exact BandCore.lse_eq (n := 4096) _ _ slope 1 q k (bias0 w) (bias1 w) (bias2 w) (bias3 w) ((16 * g + s) * 128) ((16 * g + s - 1) * 128) (by omega) (by omega) (by omega)
    (fun i l => (hq i l).trans ((blk_q m c t b g hg hb hg' _ _).trans (congrArg (fun z => arg m c (ix5 b 0 0 z l)) (Fin.ext (by show g * 2048 + (s * 128 + i.val) = (16 * g + s) * 128 + i.val; omega)))))
    (fun j l => (hk j l).trans (blk_k m c t b hb _ _))
    (bias_eq w _ _ _ (by split_ifs <;> omega) hw (by split_ifs <;> omega)) ⟨x3.val / 64, by omega⟩ y2 x3 rfl
end
set_option maxHeartbeats 4000000 in
/-- What a point leaves in the first output's block. -/
theorem pointO (c : Dev nD) (t : Fin cfg0.N) (b : Fin 4) (g : ℕ) (hg : g < 2) (hb : (grid0.coords t 0 : ℕ) = b) (hg' : (grid0.coords t 2 : ℕ) = g)
    (z x1 : Fin 1) (x2 : Fin 2048) (x3 : Fin 256) : ((outsAt0 m c t).1 : Vec Ideal S1x1x2048x256 .f32) (ix4 z x1 x2 x3) =
      specO m c b 0 ⟨g * 2048 + x2.val, by omega⟩ x3 := by
  unfold outsAt0 out0_A_3
  dsimp only
  rw [View.read_writes_eq_canon _ _ _ (cover0_A_3 c _ _ _ _ _ _ _ _ _ _ _ _ _ _)]
  unfold kernelRun0_A; dsimp only; sl_unfold_words
  simp only [View.readAt_eq_ld]
  rw [(hs0_0 t).read_unread (iblk m c 0 t), (hs0_1 t).read_unread (iblk m c 1 t), (hs0_2 t).read_unread (iblk m c 2 t)]
  canon_tiles y h
  all_goals idx_vars y
  case piece0 =>
    refine Eq.trans (b := outOAt 128#32
        (View.ld (iblk m c 0 t) (Rect.unit ![0, 0, 0, 1920, 0] S1x1x1x128x256.size inb_S1x1x1x2048x256_S1x1x1x128x256_0_0_0_1920_0))
        (View.ld (iblk m c 1 t) (Rect.unit (k0_off1 (grid0.coords t) 15#32) S1x1x1x256x256.size (k0_off1_inb (grid0.coords t) 15)))
        (View.ld (iblk m c 2 t) (Rect.unit (k0_off1 (grid0.coords t) 15#32) S1x1x1x256x256.size (k0_off1_inb (grid0.coords t) 15))) (ix4 y0 y1 y2 y3)) ?_ (pieceO m c t b g hg hb hg' 15 (by decide) 128#32 (otherW g 15 (by decide)) _ _ _ (fun i l => ld_q 1920 _ _ (by decide) i l) (fun j l => ld_k ((16 * g + 15 - 1) * 128) _ _ _ (by omega) ((off t 15).1.trans (by rw [hg']; rfl)) j l) (fun j l => ld_k ((16 * g + 15 - 1) * 128) _ _ _ (by omega) ((off t 15).1.trans (by rw [hg']; rfl)) j l) y0 y1 y2 y3 x2 x3 (by simpa using h2) (by simpa using h3))
    exact congrFun rfl (ix4 y0 y1 y2 y3)
  case piece1 =>
    refine Eq.trans (b := outOAt 128#32
        (View.ld (iblk m c 0 t) (Rect.unit ![0, 0, 0, 1792, 0] S1x1x1x128x256.size inb_S1x1x1x2048x256_S1x1x1x128x256_0_0_0_1792_0))
        (View.ld (iblk m c 1 t) (Rect.unit (k0_off1 (grid0.coords t) 14#32) S1x1x1x256x256.size (k0_off1_inb (grid0.coords t) 14)))
        (View.ld (iblk m c 2 t) (Rect.unit (k0_off1 (grid0.coords t) 14#32) S1x1x1x256x256.size (k0_off1_inb (grid0.coords t) 14))) (ix4 y0 y1 y2 y3)) ?_ (pieceO m c t b g hg hb hg' 14 (by decide) 128#32 (otherW g 14 (by decide)) _ _ _ (fun i l => ld_q 1792 _ _ (by decide) i l) (fun j l => ld_k ((16 * g + 14 - 1) * 128) _ _ _ (by omega) ((off t 14).1.trans (by rw [hg']; rfl)) j l) (fun j l => ld_k ((16 * g + 14 - 1) * 128) _ _ _ (by omega) ((off t 14).1.trans (by rw [hg']; rfl)) j l) y0 y1 y2 y3 x2 x3 (by simpa using h2) (by simpa using h3))
    exact congrFun rfl (ix4 y0 y1 y2 y3)
  case piece2 =>
    refine Eq.trans (b := outOAt 128#32
        (View.ld (iblk m c 0 t) (Rect.unit ![0, 0, 0, 1664, 0] S1x1x1x128x256.size inb_S1x1x1x2048x256_S1x1x1x128x256_0_0_0_1664_0))
        (View.ld (iblk m c 1 t) (Rect.unit (k0_off1 (grid0.coords t) 13#32) S1x1x1x256x256.size (k0_off1_inb (grid0.coords t) 13)))
        (View.ld (iblk m c 2 t) (Rect.unit (k0_off1 (grid0.coords t) 13#32) S1x1x1x256x256.size (k0_off1_inb (grid0.coords t) 13))) (ix4 y0 y1 y2 y3)) ?_ (pieceO m c t b g hg hb hg' 13 (by decide) 128#32 (otherW g 13 (by decide)) _ _ _ (fun i l => ld_q 1664 _ _ (by decide) i l) (fun j l => ld_k ((16 * g + 13 - 1) * 128) _ _ _ (by omega) ((off t 13).1.trans (by rw [hg']; rfl)) j l) (fun j l => ld_k ((16 * g + 13 - 1) * 128) _ _ _ (by omega) ((off t 13).1.trans (by rw [hg']; rfl)) j l) y0 y1 y2 y3 x2 x3 (by simpa using h2) (by simpa using h3))
    exact congrFun rfl (ix4 y0 y1 y2 y3)
  case piece3 =>
    refine Eq.trans (b := outOAt 128#32
        (View.ld (iblk m c 0 t) (Rect.unit ![0, 0, 0, 1536, 0] S1x1x1x128x256.size inb_S1x1x1x2048x256_S1x1x1x128x256_0_0_0_1536_0))
        (View.ld (iblk m c 1 t) (Rect.unit (k0_off1 (grid0.coords t) 12#32) S1x1x1x256x256.size (k0_off1_inb (grid0.coords t) 12)))
        (View.ld (iblk m c 2 t) (Rect.unit (k0_off1 (grid0.coords t) 12#32) S1x1x1x256x256.size (k0_off1_inb (grid0.coords t) 12))) (ix4 y0 y1 y2 y3)) ?_ (pieceO m c t b g hg hb hg' 12 (by decide) 128#32 (otherW g 12 (by decide)) _ _ _ (fun i l => ld_q 1536 _ _ (by decide) i l) (fun j l => ld_k ((16 * g + 12 - 1) * 128) _ _ _ (by omega) ((off t 12).1.trans (by rw [hg']; rfl)) j l) (fun j l => ld_k ((16 * g + 12 - 1) * 128) _ _ _ (by omega) ((off t 12).1.trans (by rw [hg']; rfl)) j l) y0 y1 y2 y3 x2 x3 (by simpa using h2) (by simpa using h3))
    exact congrFun rfl (ix4 y0 y1 y2 y3)
  case piece4 =>
    refine Eq.trans (b := outOAt 128#32
        (View.ld (iblk m c 0 t) (Rect.unit ![0, 0, 0, 1408, 0] S1x1x1x128x256.size inb_S1x1x1x2048x256_S1x1x1x128x256_0_0_0_1408_0))
        (View.ld (iblk m c 1 t) (Rect.unit (k0_off1 (grid0.coords t) 11#32) S1x1x1x256x256.size (k0_off1_inb (grid0.coords t) 11)))
        (View.ld (iblk m c 2 t) (Rect.unit (k0_off1 (grid0.coords t) 11#32) S1x1x1x256x256.size (k0_off1_inb (grid0.coords t) 11))) (ix4 y0 y1 y2 y3)) ?_ (pieceO m c t b g hg hb hg' 11 (by decide) 128#32 (otherW g 11 (by decide)) _ _ _ (fun i l => ld_q 1408 _ _ (by decide) i l) (fun j l => ld_k ((16 * g + 11 - 1) * 128) _ _ _ (by omega) ((off t 11).1.trans (by rw [hg']; rfl)) j l) (fun j l => ld_k ((16 * g + 11 - 1) * 128) _ _ _ (by omega) ((off t 11).1.trans (by rw [hg']; rfl)) j l) y0 y1 y2 y3 x2 x3 (by simpa using h2) (by simpa using h3))
    exact congrFun rfl (ix4 y0 y1 y2 y3)
  case piece5 =>
    refine Eq.trans (b := outOAt 128#32
        (View.ld (iblk m c 0 t) (Rect.unit ![0, 0, 0, 1280, 0] S1x1x1x128x256.size inb_S1x1x1x2048x256_S1x1x1x128x256_0_0_0_1280_0))
        (View.ld (iblk m c 1 t) (Rect.unit (k0_off1 (grid0.coords t) 10#32) S1x1x1x256x256.size (k0_off1_inb (grid0.coords t) 10)))
        (View.ld (iblk m c 2 t) (Rect.unit (k0_off1 (grid0.coords t) 10#32) S1x1x1x256x256.size (k0_off1_inb (grid0.coords t) 10))) (ix4 y0 y1 y2 y3)) ?_ (pieceO m c t b g hg hb hg' 10 (by decide) 128#32 (otherW g 10 (by decide)) _ _ _ (fun i l => ld_q 1280 _ _ (by decide) i l) (fun j l => ld_k ((16 * g + 10 - 1) * 128) _ _ _ (by omega) ((off t 10).1.trans (by rw [hg']; rfl)) j l) (fun j l => ld_k ((16 * g + 10 - 1) * 128) _ _ _ (by omega) ((off t 10).1.trans (by rw [hg']; rfl)) j l) y0 y1 y2 y3 x2 x3 (by simpa using h2) (by simpa using h3))
    exact congrFun rfl (ix4 y0 y1 y2 y3)
  case piece6 =>
    refine Eq.trans (b := outOAt 128#32
        (View.ld (iblk m c 0 t) (Rect.unit ![0, 0, 0, 1152, 0] S1x1x1x128x256.size inb_S1x1x1x2048x256_S1x1x1x128x256_0_0_0_1152_0))
        (View.ld (iblk m c 1 t) (Rect.unit (k0_off1 (grid0.coords t) 9#32) S1x1x1x256x256.size (k0_off1_inb (grid0.coords t) 9)))
        (View.ld (iblk m c 2 t) (Rect.unit (k0_off1 (grid0.coords t) 9#32) S1x1x1x256x256.size (k0_off1_inb (grid0.coords t) 9))) (ix4 y0 y1 y2 y3)) ?_ (pieceO m c t b g hg hb hg' 9 (by decide) 128#32 (otherW g 9 (by decide)) _ _ _ (fun i l => ld_q 1152 _ _ (by decide) i l) (fun j l => ld_k ((16 * g + 9 - 1) * 128) _ _ _ (by omega) ((off t 9).1.trans (by rw [hg']; rfl)) j l) (fun j l => ld_k ((16 * g + 9 - 1) * 128) _ _ _ (by omega) ((off t 9).1.trans (by rw [hg']; rfl)) j l) y0 y1 y2 y3 x2 x3 (by simpa using h2) (by simpa using h3))
    exact congrFun rfl (ix4 y0 y1 y2 y3)
  case piece7 =>
    refine Eq.trans (b := outOAt 128#32
        (View.ld (iblk m c 0 t) (Rect.unit ![0, 0, 0, 1024, 0] S1x1x1x128x256.size inb_S1x1x1x2048x256_S1x1x1x128x256_0_0_0_1024_0))
        (View.ld (iblk m c 1 t) (Rect.unit (k0_off1 (grid0.coords t) 8#32) S1x1x1x256x256.size (k0_off1_inb (grid0.coords t) 8)))
        (View.ld (iblk m c 2 t) (Rect.unit (k0_off1 (grid0.coords t) 8#32) S1x1x1x256x256.size (k0_off1_inb (grid0.coords t) 8))) (ix4 y0 y1 y2 y3)) ?_ (pieceO m c t b g hg hb hg' 8 (by decide) 128#32 (otherW g 8 (by decide)) _ _ _ (fun i l => ld_q 1024 _ _ (by decide) i l) (fun j l => ld_k ((16 * g + 8 - 1) * 128) _ _ _ (by omega) ((off t 8).1.trans (by rw [hg']; rfl)) j l) (fun j l => ld_k ((16 * g + 8 - 1) * 128) _ _ _ (by omega) ((off t 8).1.trans (by rw [hg']; rfl)) j l) y0 y1 y2 y3 x2 x3 (by simpa using h2) (by simpa using h3))
    exact congrFun rfl (ix4 y0 y1 y2 y3)
  case piece8 =>
    refine Eq.trans (b := outOAt 128#32
        (View.ld (iblk m c 0 t) (Rect.unit ![0, 0, 0, 896, 0] S1x1x1x128x256.size inb_S1x1x1x2048x256_S1x1x1x128x256_0_0_0_896_0))
        (View.ld (iblk m c 1 t) (Rect.unit (k0_off1 (grid0.coords t) 7#32) S1x1x1x256x256.size (k0_off1_inb (grid0.coords t) 7)))
        (View.ld (iblk m c 2 t) (Rect.unit (k0_off1 (grid0.coords t) 7#32) S1x1x1x256x256.size (k0_off1_inb (grid0.coords t) 7))) (ix4 y0 y1 y2 y3)) ?_ (pieceO m c t b g hg hb hg' 7 (by decide) 128#32 (otherW g 7 (by decide)) _ _ _ (fun i l => ld_q 896 _ _ (by decide) i l) (fun j l => ld_k ((16 * g + 7 - 1) * 128) _ _ _ (by omega) ((off t 7).1.trans (by rw [hg']; rfl)) j l) (fun j l => ld_k ((16 * g + 7 - 1) * 128) _ _ _ (by omega) ((off t 7).1.trans (by rw [hg']; rfl)) j l) y0 y1 y2 y3 x2 x3 (by simpa using h2) (by simpa using h3))
    exact congrFun rfl (ix4 y0 y1 y2 y3)
  case piece9 =>
    refine Eq.trans (b := outOAt 128#32
        (View.ld (iblk m c 0 t) (Rect.unit ![0, 0, 0, 768, 0] S1x1x1x128x256.size inb_S1x1x1x2048x256_S1x1x1x128x256_0_0_0_768_0))
        (View.ld (iblk m c 1 t) (Rect.unit (k0_off1 (grid0.coords t) 6#32) S1x1x1x256x256.size (k0_off1_inb (grid0.coords t) 6)))
        (View.ld (iblk m c 2 t) (Rect.unit (k0_off1 (grid0.coords t) 6#32) S1x1x1x256x256.size (k0_off1_inb (grid0.coords t) 6))) (ix4 y0 y1 y2 y3)) ?_ (pieceO m c t b g hg hb hg' 6 (by decide) 128#32 (otherW g 6 (by decide)) _ _ _ (fun i l => ld_q 768 _ _ (by decide) i l) (fun j l => ld_k ((16 * g + 6 - 1) * 128) _ _ _ (by omega) ((off t 6).1.trans (by rw [hg']; rfl)) j l) (fun j l => ld_k ((16 * g + 6 - 1) * 128) _ _ _ (by omega) ((off t 6).1.trans (by rw [hg']; rfl)) j l) y0 y1 y2 y3 x2 x3 (by simpa using h2) (by simpa using h3))
    exact congrFun rfl (ix4 y0 y1 y2 y3)
  case piece10 =>
    refine Eq.trans (b := outOAt 128#32
        (View.ld (iblk m c 0 t) (Rect.unit ![0, 0, 0, 640, 0] S1x1x1x128x256.size inb_S1x1x1x2048x256_S1x1x1x128x256_0_0_0_640_0))
        (View.ld (iblk m c 1 t) (Rect.unit (k0_off1 (grid0.coords t) 5#32) S1x1x1x256x256.size (k0_off1_inb (grid0.coords t) 5)))
        (View.ld (iblk m c 2 t) (Rect.unit (k0_off1 (grid0.coords t) 5#32) S1x1x1x256x256.size (k0_off1_inb (grid0.coords t) 5))) (ix4 y0 y1 y2 y3)) ?_ (pieceO m c t b g hg hb hg' 5 (by decide) 128#32 (otherW g 5 (by decide)) _ _ _ (fun i l => ld_q 640 _ _ (by decide) i l) (fun j l => ld_k ((16 * g + 5 - 1) * 128) _ _ _ (by omega) ((off t 5).1.trans (by rw [hg']; rfl)) j l) (fun j l => ld_k ((16 * g + 5 - 1) * 128) _ _ _ (by omega) ((off t 5).1.trans (by rw [hg']; rfl)) j l) y0 y1 y2 y3 x2 x3 (by simpa using h2) (by simpa using h3))
    exact congrFun rfl (ix4 y0 y1 y2 y3)
  case piece11 =>
    refine Eq.trans (b := outOAt 128#32
        (View.ld (iblk m c 0 t) (Rect.unit ![0, 0, 0, 512, 0] S1x1x1x128x256.size inb_S1x1x1x2048x256_S1x1x1x128x256_0_0_0_512_0))
        (View.ld (iblk m c 1 t) (Rect.unit (k0_off1 (grid0.coords t) 4#32) S1x1x1x256x256.size (k0_off1_inb (grid0.coords t) 4)))
        (View.ld (iblk m c 2 t) (Rect.unit (k0_off1 (grid0.coords t) 4#32) S1x1x1x256x256.size (k0_off1_inb (grid0.coords t) 4))) (ix4 y0 y1 y2 y3)) ?_ (pieceO m c t b g hg hb hg' 4 (by decide) 128#32 (otherW g 4 (by decide)) _ _ _ (fun i l => ld_q 512 _ _ (by decide) i l) (fun j l => ld_k ((16 * g + 4 - 1) * 128) _ _ _ (by omega) ((off t 4).1.trans (by rw [hg']; rfl)) j l) (fun j l => ld_k ((16 * g + 4 - 1) * 128) _ _ _ (by omega) ((off t 4).1.trans (by rw [hg']; rfl)) j l) y0 y1 y2 y3 x2 x3 (by simpa using h2) (by simpa using h3))
    exact congrFun rfl (ix4 y0 y1 y2 y3)
  case piece12 =>
    refine Eq.trans (b := outOAt 128#32
        (View.ld (iblk m c 0 t) (Rect.unit ![0, 0, 0, 384, 0] S1x1x1x128x256.size inb_S1x1x1x2048x256_S1x1x1x128x256_0_0_0_384_0))
        (View.ld (iblk m c 1 t) (Rect.unit (k0_off1 (grid0.coords t) 3#32) S1x1x1x256x256.size (k0_off1_inb (grid0.coords t) 3)))
        (View.ld (iblk m c 2 t) (Rect.unit (k0_off1 (grid0.coords t) 3#32) S1x1x1x256x256.size (k0_off1_inb (grid0.coords t) 3))) (ix4 y0 y1 y2 y3)) ?_ (pieceO m c t b g hg hb hg' 3 (by decide) 128#32 (otherW g 3 (by decide)) _ _ _ (fun i l => ld_q 384 _ _ (by decide) i l) (fun j l => ld_k ((16 * g + 3 - 1) * 128) _ _ _ (by omega) ((off t 3).1.trans (by rw [hg']; rfl)) j l) (fun j l => ld_k ((16 * g + 3 - 1) * 128) _ _ _ (by omega) ((off t 3).1.trans (by rw [hg']; rfl)) j l) y0 y1 y2 y3 x2 x3 (by simpa using h2) (by simpa using h3))
    exact congrFun rfl (ix4 y0 y1 y2 y3)
  case piece13 =>
    refine Eq.trans (b := outOAt 128#32
        (View.ld (iblk m c 0 t) (Rect.unit ![0, 0, 0, 256, 0] S1x1x1x128x256.size inb_S1x1x1x2048x256_S1x1x1x128x256_0_0_0_256_0))
        (View.ld (iblk m c 1 t) (Rect.unit (k0_off1 (grid0.coords t) 2#32) S1x1x1x256x256.size (k0_off1_inb (grid0.coords t) 2)))
        (View.ld (iblk m c 2 t) (Rect.unit (k0_off1 (grid0.coords t) 2#32) S1x1x1x256x256.size (k0_off1_inb (grid0.coords t) 2))) (ix4 y0 y1 y2 y3)) ?_ (pieceO m c t b g hg hb hg' 2 (by decide) 128#32 (otherW g 2 (by decide)) _ _ _ (fun i l => ld_q 256 _ _ (by decide) i l) (fun j l => ld_k ((16 * g + 2 - 1) * 128) _ _ _ (by omega) ((off t 2).1.trans (by rw [hg']; rfl)) j l) (fun j l => ld_k ((16 * g + 2 - 1) * 128) _ _ _ (by omega) ((off t 2).1.trans (by rw [hg']; rfl)) j l) y0 y1 y2 y3 x2 x3 (by simpa using h2) (by simpa using h3))
    exact congrFun rfl (ix4 y0 y1 y2 y3)
  case piece14 =>
    refine Eq.trans (b := outOAt 128#32
        (View.ld (iblk m c 0 t) (Rect.unit ![0, 0, 0, 128, 0] S1x1x1x128x256.size inb_S1x1x1x2048x256_S1x1x1x128x256_0_0_0_128_0))
        (View.ld (iblk m c 1 t) (Rect.unit (k0_off1 (grid0.coords t) 1#32) S1x1x1x256x256.size (k0_off1_inb (grid0.coords t) 1)))
        (View.ld (iblk m c 2 t) (Rect.unit (k0_off1 (grid0.coords t) 1#32) S1x1x1x256x256.size (k0_off1_inb (grid0.coords t) 1))) (ix4 y0 y1 y2 y3)) ?_ (pieceO m c t b g hg hb hg' 1 (by decide) 128#32 (otherW g 1 (by decide)) _ _ _ (fun i l => ld_q 128 _ _ (by decide) i l) (fun j l => ld_k ((16 * g + 1 - 1) * 128) _ _ _ (by omega) ((off t 1).1.trans (by rw [hg']; rfl)) j l) (fun j l => ld_k ((16 * g + 1 - 1) * 128) _ _ _ (by omega) ((off t 1).1.trans (by rw [hg']; rfl)) j l) y0 y1 y2 y3 x2 x3 (by simpa using h2) (by simpa using h3))
    exact congrFun rfl (ix4 y0 y1 y2 y3)
  case piece15 =>
    refine Eq.trans (b := outOAt (firstOff (grid0.coords t))
        (View.ld (iblk m c 0 t) (Rect.unit ![0, 0, 0, 0, 0] S1x1x1x128x256.size inb_S1x1x1x2048x256_S1x1x1x128x256_0_0_0_0_0))
        (View.ld (iblk m c 1 t) (Rect.unit (k0_off1 (grid0.coords t) 0#32) S1x1x1x256x256.size (k0_off1_inb (grid0.coords t) 0)))
        (View.ld (iblk m c 2 t) (Rect.unit (k0_off1 (grid0.coords t) 0#32) S1x1x1x256x256.size (k0_off1_inb (grid0.coords t) 0))) (ix4 y0 y1 y2 y3)) ?_ (pieceO m c t b g hg hb hg' 0 (by decide) (firstOff (grid0.coords t)) (firstW t g hg') _ _ _ (fun i l => ld_q 0 _ _ (by decide) i l) (fun j l => ld_k ((16 * g + 0 - 1) * 128) _ _ _ (by omega) ((off t 0).1.trans (by rw [hg']; rfl)) j l) (fun j l => ld_k ((16 * g + 0 - 1) * 128) _ _ _ (by omega) ((off t 0).1.trans (by rw [hg']; rfl)) j l) y0 y1 y2 y3 x2 x3 (by simpa using h2) (by simpa using h3))
    exact congrFun rfl (ix4 y0 y1 y2 y3)

set_option maxHeartbeats 4000000 in
/-- What a point leaves in the second output's block. -/
theorem pointL (c : Dev nD) (t : Fin cfg0.N) (b : Fin 4) (g : ℕ) (hg : g < 2) (hb : (grid0.coords t 0 : ℕ) = b) (hg' : (grid0.coords t 2 : ℕ) = g)
    (z x1 : Fin 1) (x2 : Fin 2048) (x3 : Fin 256) : ((outsAt0 m c t).2 : Vec Ideal S1x1x2048x256 .f32) (ix4 z x1 x2 x3) =
      specL m c b 0 ⟨g * 2048 + x2.val, by omega⟩ x3 := by
  unfold outsAt0 out0_A_4
  dsimp only
  rw [View.read_writes_eq_canon _ _ _ (cover0_A_4 c _ _ _ _ _ _ _ _ _ _ _ _ _ _)]
  unfold kernelRun0_A; dsimp only; sl_unfold_words
  simp only [View.readAt_eq_ld]
  rw [(hs0_0 t).read_unread (iblk m c 0 t), (hs0_1 t).read_unread (iblk m c 1 t)]
  canon_tiles y h
  all_goals idx_vars y
  case piece0 =>
    refine Eq.trans (b := outLAt 128#32
        (View.ld (iblk m c 0 t) (Rect.unit ![0, 0, 0, 1920, 0] S1x1x1x128x256.size inb_S1x1x1x2048x256_S1x1x1x128x256_0_0_0_1920_0))
        (View.ld (iblk m c 1 t) (Rect.unit (k0_off1 (grid0.coords t) 15#32) S1x1x1x256x256.size (k0_off1_inb (grid0.coords t) 15))) (ix4 y0 y1 y2 y3)) ?_ (pieceL m c t b g hg hb hg' 15 (by decide) 128#32 (otherW g 15 (by decide)) _ _ (fun i l => ld_q 1920 _ _ (by decide) i l) (fun j l => ld_k ((16 * g + 15 - 1) * 128) _ _ _ (by omega) ((off t 15).1.trans (by rw [hg']; rfl)) j l) y0 y1 y2 y3 x2 x3 (by simpa using h2) (by simpa using h3))
    exact congrFun rfl (ix4 y0 y1 y2 y3)
  case piece1 =>
    refine Eq.trans (b := outLAt 128#32
        (View.ld (iblk m c 0 t) (Rect.unit ![0, 0, 0, 1792, 0] S1x1x1x128x256.size inb_S1x1x1x2048x256_S1x1x1x128x256_0_0_0_1792_0))
        (View.ld (iblk m c 1 t) (Rect.unit (k0_off1 (grid0.coords t) 14#32) S1x1x1x256x256.size (k0_off1_inb (grid0.coords t) 14))) (ix4 y0 y1 y2 y3)) ?_ (pieceL m c t b g hg hb hg' 14 (by decide) 128#32 (otherW g 14 (by decide)) _ _ (fun i l => ld_q 1792 _ _ (by decide) i l) (fun j l => ld_k ((16 * g + 14 - 1) * 128) _ _ _ (by omega) ((off t 14).1.trans (by rw [hg']; rfl)) j l) y0 y1 y2 y3 x2 x3 (by simpa using h2) (by simpa using h3))
    exact congrFun rfl (ix4 y0 y1 y2 y3)
  case piece2 =>
    refine Eq.trans (b := outLAt 128#32
        (View.ld (iblk m c 0 t) (Rect.unit ![0, 0, 0, 1664, 0] S1x1x1x128x256.size inb_S1x1x1x2048x256_S1x1x1x128x256_0_0_0_1664_0))
        (View.ld (iblk m c 1 t) (Rect.unit (k0_off1 (grid0.coords t) 13#32) S1x1x1x256x256.size (k0_off1_inb (grid0.coords t) 13))) (ix4 y0 y1 y2 y3)) ?_ (pieceL m c t b g hg hb hg' 13 (by decide) 128#32 (otherW g 13 (by decide)) _ _ (fun i l => ld_q 1664 _ _ (by decide) i l) (fun j l => ld_k ((16 * g + 13 - 1) * 128) _ _ _ (by omega) ((off t 13).1.trans (by rw [hg']; rfl)) j l) y0 y1 y2 y3 x2 x3 (by simpa using h2) (by simpa using h3))
    exact congrFun rfl (ix4 y0 y1 y2 y3)
  case piece3 =>
    refine Eq.trans (b := outLAt 128#32
        (View.ld (iblk m c 0 t) (Rect.unit ![0, 0, 0, 1536, 0] S1x1x1x128x256.size inb_S1x1x1x2048x256_S1x1x1x128x256_0_0_0_1536_0))
        (View.ld (iblk m c 1 t) (Rect.unit (k0_off1 (grid0.coords t) 12#32) S1x1x1x256x256.size (k0_off1_inb (grid0.coords t) 12))) (ix4 y0 y1 y2 y3)) ?_ (pieceL m c t b g hg hb hg' 12 (by decide) 128#32 (otherW g 12 (by decide)) _ _ (fun i l => ld_q 1536 _ _ (by decide) i l) (fun j l => ld_k ((16 * g + 12 - 1) * 128) _ _ _ (by omega) ((off t 12).1.trans (by rw [hg']; rfl)) j l) y0 y1 y2 y3 x2 x3 (by simpa using h2) (by simpa using h3))
    exact congrFun rfl (ix4 y0 y1 y2 y3)
  case piece4 =>
    refine Eq.trans (b := outLAt 128#32
        (View.ld (iblk m c 0 t) (Rect.unit ![0, 0, 0, 1408, 0] S1x1x1x128x256.size inb_S1x1x1x2048x256_S1x1x1x128x256_0_0_0_1408_0))
        (View.ld (iblk m c 1 t) (Rect.unit (k0_off1 (grid0.coords t) 11#32) S1x1x1x256x256.size (k0_off1_inb (grid0.coords t) 11))) (ix4 y0 y1 y2 y3)) ?_ (pieceL m c t b g hg hb hg' 11 (by decide) 128#32 (otherW g 11 (by decide)) _ _ (fun i l => ld_q 1408 _ _ (by decide) i l) (fun j l => ld_k ((16 * g + 11 - 1) * 128) _ _ _ (by omega) ((off t 11).1.trans (by rw [hg']; rfl)) j l) y0 y1 y2 y3 x2 x3 (by simpa using h2) (by simpa using h3))
    exact congrFun rfl (ix4 y0 y1 y2 y3)
  case piece5 =>
    refine Eq.trans (b := outLAt 128#32
        (View.ld (iblk m c 0 t) (Rect.unit ![0, 0, 0, 1280, 0] S1x1x1x128x256.size inb_S1x1x1x2048x256_S1x1x1x128x256_0_0_0_1280_0))
        (View.ld (iblk m c 1 t) (Rect.unit (k0_off1 (grid0.coords t) 10#32) S1x1x1x256x256.size (k0_off1_inb (grid0.coords t) 10))) (ix4 y0 y1 y2 y3)) ?_ (pieceL m c t b g hg hb hg' 10 (by decide) 128#32 (otherW g 10 (by decide)) _ _ (fun i l => ld_q 1280 _ _ (by decide) i l) (fun j l => ld_k ((16 * g + 10 - 1) * 128) _ _ _ (by omega) ((off t 10).1.trans (by rw [hg']; rfl)) j l) y0 y1 y2 y3 x2 x3 (by simpa using h2) (by simpa using h3))
    exact congrFun rfl (ix4 y0 y1 y2 y3)
  case piece6 =>
    refine Eq.trans (b := outLAt 128#32
        (View.ld (iblk m c 0 t) (Rect.unit ![0, 0, 0, 1152, 0] S1x1x1x128x256.size inb_S1x1x1x2048x256_S1x1x1x128x256_0_0_0_1152_0))
        (View.ld (iblk m c 1 t) (Rect.unit (k0_off1 (grid0.coords t) 9#32) S1x1x1x256x256.size (k0_off1_inb (grid0.coords t) 9))) (ix4 y0 y1 y2 y3)) ?_ (pieceL m c t b g hg hb hg' 9 (by decide) 128#32 (otherW g 9 (by decide)) _ _ (fun i l => ld_q 1152 _ _ (by decide) i l) (fun j l => ld_k ((16 * g + 9 - 1) * 128) _ _ _ (by omega) ((off t 9).1.trans (by rw [hg']; rfl)) j l) y0 y1 y2 y3 x2 x3 (by simpa using h2) (by simpa using h3))
    exact congrFun rfl (ix4 y0 y1 y2 y3)
  case piece7 =>
    refine Eq.trans (b := outLAt 128#32
        (View.ld (iblk m c 0 t) (Rect.unit ![0, 0, 0, 1024, 0] S1x1x1x128x256.size inb_S1x1x1x2048x256_S1x1x1x128x256_0_0_0_1024_0))
        (View.ld (iblk m c 1 t) (Rect.unit (k0_off1 (grid0.coords t) 8#32) S1x1x1x256x256.size (k0_off1_inb (grid0.coords t) 8))) (ix4 y0 y1 y2 y3)) ?_ (pieceL m c t b g hg hb hg' 8 (by decide) 128#32 (otherW g 8 (by decide)) _ _ (fun i l => ld_q 1024 _ _ (by decide) i l) (fun j l => ld_k ((16 * g + 8 - 1) * 128) _ _ _ (by omega) ((off t 8).1.trans (by rw [hg']; rfl)) j l) y0 y1 y2 y3 x2 x3 (by simpa using h2) (by simpa using h3))
    exact congrFun rfl (ix4 y0 y1 y2 y3)
  case piece8 =>
    refine Eq.trans (b := outLAt 128#32
        (View.ld (iblk m c 0 t) (Rect.unit ![0, 0, 0, 896, 0] S1x1x1x128x256.size inb_S1x1x1x2048x256_S1x1x1x128x256_0_0_0_896_0))
        (View.ld (iblk m c 1 t) (Rect.unit (k0_off1 (grid0.coords t) 7#32) S1x1x1x256x256.size (k0_off1_inb (grid0.coords t) 7))) (ix4 y0 y1 y2 y3)) ?_ (pieceL m c t b g hg hb hg' 7 (by decide) 128#32 (otherW g 7 (by decide)) _ _ (fun i l => ld_q 896 _ _ (by decide) i l) (fun j l => ld_k ((16 * g + 7 - 1) * 128) _ _ _ (by omega) ((off t 7).1.trans (by rw [hg']; rfl)) j l) y0 y1 y2 y3 x2 x3 (by simpa using h2) (by simpa using h3))
    exact congrFun rfl (ix4 y0 y1 y2 y3)
  case piece9 =>
    refine Eq.trans (b := outLAt 128#32
        (View.ld (iblk m c 0 t) (Rect.unit ![0, 0, 0, 768, 0] S1x1x1x128x256.size inb_S1x1x1x2048x256_S1x1x1x128x256_0_0_0_768_0))
        (View.ld (iblk m c 1 t) (Rect.unit (k0_off1 (grid0.coords t) 6#32) S1x1x1x256x256.size (k0_off1_inb (grid0.coords t) 6))) (ix4 y0 y1 y2 y3)) ?_ (pieceL m c t b g hg hb hg' 6 (by decide) 128#32 (otherW g 6 (by decide)) _ _ (fun i l => ld_q 768 _ _ (by decide) i l) (fun j l => ld_k ((16 * g + 6 - 1) * 128) _ _ _ (by omega) ((off t 6).1.trans (by rw [hg']; rfl)) j l) y0 y1 y2 y3 x2 x3 (by simpa using h2) (by simpa using h3))
    exact congrFun rfl (ix4 y0 y1 y2 y3)
  case piece10 =>
    refine Eq.trans (b := outLAt 128#32
        (View.ld (iblk m c 0 t) (Rect.unit ![0, 0, 0, 640, 0] S1x1x1x128x256.size inb_S1x1x1x2048x256_S1x1x1x128x256_0_0_0_640_0))
        (View.ld (iblk m c 1 t) (Rect.unit (k0_off1 (grid0.coords t) 5#32) S1x1x1x256x256.size (k0_off1_inb (grid0.coords t) 5))) (ix4 y0 y1 y2 y3)) ?_ (pieceL m c t b g hg hb hg' 5 (by decide) 128#32 (otherW g 5 (by decide)) _ _ (fun i l => ld_q 640 _ _ (by decide) i l) (fun j l => ld_k ((16 * g + 5 - 1) * 128) _ _ _ (by omega) ((off t 5).1.trans (by rw [hg']; rfl)) j l) y0 y1 y2 y3 x2 x3 (by simpa using h2) (by simpa using h3))
    exact congrFun rfl (ix4 y0 y1 y2 y3)
  case piece11 =>
    refine Eq.trans (b := outLAt 128#32
        (View.ld (iblk m c 0 t) (Rect.unit ![0, 0, 0, 512, 0] S1x1x1x128x256.size inb_S1x1x1x2048x256_S1x1x1x128x256_0_0_0_512_0))
        (View.ld (iblk m c 1 t) (Rect.unit (k0_off1 (grid0.coords t) 4#32) S1x1x1x256x256.size (k0_off1_inb (grid0.coords t) 4))) (ix4 y0 y1 y2 y3)) ?_ (pieceL m c t b g hg hb hg' 4 (by decide) 128#32 (otherW g 4 (by decide)) _ _ (fun i l => ld_q 512 _ _ (by decide) i l) (fun j l => ld_k ((16 * g + 4 - 1) * 128) _ _ _ (by omega) ((off t 4).1.trans (by rw [hg']; rfl)) j l) y0 y1 y2 y3 x2 x3 (by simpa using h2) (by simpa using h3))
    exact congrFun rfl (ix4 y0 y1 y2 y3)
  case piece12 =>
    refine Eq.trans (b := outLAt 128#32
        (View.ld (iblk m c 0 t) (Rect.unit ![0, 0, 0, 384, 0] S1x1x1x128x256.size inb_S1x1x1x2048x256_S1x1x1x128x256_0_0_0_384_0))
        (View.ld (iblk m c 1 t) (Rect.unit (k0_off1 (grid0.coords t) 3#32) S1x1x1x256x256.size (k0_off1_inb (grid0.coords t) 3))) (ix4 y0 y1 y2 y3)) ?_ (pieceL m c t b g hg hb hg' 3 (by decide) 128#32 (otherW g 3 (by decide)) _ _ (fun i l => ld_q 384 _ _ (by decide) i l) (fun j l => ld_k ((16 * g + 3 - 1) * 128) _ _ _ (by omega) ((off t 3).1.trans (by rw [hg']; rfl)) j l) y0 y1 y2 y3 x2 x3 (by simpa using h2) (by simpa using h3))
    exact congrFun rfl (ix4 y0 y1 y2 y3)
  case piece13 =>
    refine Eq.trans (b := outLAt 128#32
        (View.ld (iblk m c 0 t) (Rect.unit ![0, 0, 0, 256, 0] S1x1x1x128x256.size inb_S1x1x1x2048x256_S1x1x1x128x256_0_0_0_256_0))
        (View.ld (iblk m c 1 t) (Rect.unit (k0_off1 (grid0.coords t) 2#32) S1x1x1x256x256.size (k0_off1_inb (grid0.coords t) 2))) (ix4 y0 y1 y2 y3)) ?_ (pieceL m c t b g hg hb hg' 2 (by decide) 128#32 (otherW g 2 (by decide)) _ _ (fun i l => ld_q 256 _ _ (by decide) i l) (fun j l => ld_k ((16 * g + 2 - 1) * 128) _ _ _ (by omega) ((off t 2).1.trans (by rw [hg']; rfl)) j l) y0 y1 y2 y3 x2 x3 (by simpa using h2) (by simpa using h3))
    exact congrFun rfl (ix4 y0 y1 y2 y3)
  case piece14 =>
    refine Eq.trans (b := outLAt 128#32
        (View.ld (iblk m c 0 t) (Rect.unit ![0, 0, 0, 128, 0] S1x1x1x128x256.size inb_S1x1x1x2048x256_S1x1x1x128x256_0_0_0_128_0))
        (View.ld (iblk m c 1 t) (Rect.unit (k0_off1 (grid0.coords t) 1#32) S1x1x1x256x256.size (k0_off1_inb (grid0.coords t) 1))) (ix4 y0 y1 y2 y3)) ?_ (pieceL m c t b g hg hb hg' 1 (by decide) 128#32 (otherW g 1 (by decide)) _ _ (fun i l => ld_q 128 _ _ (by decide) i l) (fun j l => ld_k ((16 * g + 1 - 1) * 128) _ _ _ (by omega) ((off t 1).1.trans (by rw [hg']; rfl)) j l) y0 y1 y2 y3 x2 x3 (by simpa using h2) (by simpa using h3))
    exact congrFun rfl (ix4 y0 y1 y2 y3)
  case piece15 =>
    refine Eq.trans (b := outLAt (firstOff (grid0.coords t))
        (View.ld (iblk m c 0 t) (Rect.unit ![0, 0, 0, 0, 0] S1x1x1x128x256.size inb_S1x1x1x2048x256_S1x1x1x128x256_0_0_0_0_0))
        (View.ld (iblk m c 1 t) (Rect.unit (k0_off1 (grid0.coords t) 0#32) S1x1x1x256x256.size (k0_off1_inb (grid0.coords t) 0))) (ix4 y0 y1 y2 y3)) ?_ (pieceL m c t b g hg hb hg' 0 (by decide) (firstOff (grid0.coords t)) (firstW t g hg') _ _ (fun i l => ld_q 0 _ _ (by decide) i l) (fun j l => ld_k ((16 * g + 0 - 1) * 128) _ _ _ (by omega) ((off t 0).1.trans (by rw [hg']; rfl)) j l) y0 y1 y2 y3 x2 x3 (by simpa using h2) (by simpa using h3))
    exact congrFun rfl (ix4 y0 y1 y2 y3)

/-- The first output's block, at an index of the result whose coordinates are those of the block's. -/
theorem point_at3 (c : Dev nD) (t : Fin cfg0.N) (y : S1x1x2048x256.Idx) (j : S4x1x4096x256.Idx) (h0 : (j 0 : ℕ) = (grid0.coords t 0 : ℕ))
    (h2 : (j 2 : ℕ) = (grid0.coords t 2 : ℕ) * 2048 + (y 2 : ℕ)) (h3 : (j 3 : ℕ) = y 3) : (outsAt0 m c t).1 y = arrO m c j := by
  have hn : (grid0.coords t 2 : ℕ) < 2 := (grid0.coords t 2).isLt
  idx_vars y
  idx_vars j
  obtain rfl : j1 = 0 := Subsingleton.elim _ _
  refine (pointO m c t j0 _ hn h0.symm rfl y0 y1 y2 y3).trans ?_
  have hy2 : (y2 : ℕ) < 2048 := y2.isLt
  have e2 : j2 = ⟨(grid0.coords t 2 : ℕ) * 2048 + y2, by omega⟩ := Fin.ext h2
  have e3 : j3 = y3 := Fin.ext h3
  rw [e2, e3]
  rfl

/-- The first result array after the run. -/
theorem final3 (c : Dev nD) : (dats m 0 c).arrAt 3 (cfgs 0).N = arrO m c := by
  refine (dats m 0 c).arrAt_eq_of_covers 3 _ (by decide +kernel) fun t _ y => ?_
  blk_simp
  rw [after0_3]
  have hy : ((y 0 : Fin 1) : ℕ) < 1 := (y 0 : Fin 1).isLt
  refine point_at3 m c t y _ ?_ ?_ ?_
  all_goals (blk_simp [idx t] <;> try omega)

/-- The second output's block, at an index of the result whose coordinates are those of the block's. -/
theorem point_at4 (c : Dev nD) (t : Fin cfg0.N) (y : S1x1x2048x256.Idx) (j : S4x1x4096x256.Idx) (h0 : (j 0 : ℕ) = (grid0.coords t 0 : ℕ))
    (h2 : (j 2 : ℕ) = (grid0.coords t 2 : ℕ) * 2048 + (y 2 : ℕ)) (h3 : (j 3 : ℕ) = y 3) : (outsAt0 m c t).2 y = arrL m c j := by
  have hn : (grid0.coords t 2 : ℕ) < 2 := (grid0.coords t 2).isLt
  idx_vars y
  idx_vars j
  obtain rfl : j1 = 0 := Subsingleton.elim _ _
  refine (pointL m c t j0 _ hn h0.symm rfl y0 y1 y2 y3).trans ?_
  have hy2 : (y2 : ℕ) < 2048 := y2.isLt
  have e2 : j2 = ⟨(grid0.coords t 2 : ℕ) * 2048 + y2, by omega⟩ := Fin.ext h2
  have e3 : j3 = y3 := Fin.ext h3
  rw [e2, e3]
  rfl

/-- The second result array after the run. -/
theorem final4 (c : Dev nD) : (dats m 0 c).arrAt 4 (cfgs 0).N = arrL m c := by
  refine (dats m 0 c).arrAt_eq_of_covers 4 _ (by decide +kernel) fun t _ y => ?_
  blk_simp
  rw [after0_4]
  have hy : ((y 0 : Fin 1) : ℕ) < 1 := (y 0 : Fin 1).isLt
  refine point_at4 m c t y _ ?_ ?_ ?_
  all_goals (blk_simp [idx t] <;> try omega)

/-- The kernel's run: the result arrays are the specification over the argument, which ends unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = arrO m c
      ∧ r.2.mem ((c : Thread nD τ).loc main_v0_1) = arrL m c
      ∧ r.2.mem ((c : Thread nD τ).loc main_arg0) = m ((c : Thread nD τ).loc main_arg0) :=
  (θ_run defs _ _).mono (fun _ h c => ⟨((h c).1).trans (final3 m c), ((h c).2.1).trans (final4 m c), (h c).2.2⟩) (Value.run_blocks m ρ)
end Cert.Band1Ideal.Val
-- ==== Proof.Band1Ref.lean ====
/- The reference of the dilated attention, read at an index: the row softmax of the specification. -/
module
public import proofs.«01_k».proof.Proof.Gen.Band1RefIdeal.Read
public import proofs.«01_k».proof.Proof.BandSpec
public import Idealize.ShloMosaic.Lib.Pointwise
public import Idealize.ShloMosaic.Lib.WordCmp
public import Idealize.ShloMosaic.Lib.Affine
@[expose] public section
set_option maxRecDepth 16384
noncomputable section
namespace Cert.Band1RefIdeal.Val
open Cert.Band1RefIdeal Cert.Band1RefIdeal.Gen Cert.Band1RefIdeal.Read Idealize.ShloMosaic Idealize.ShloMosaic.TcCoe Idealize.SL.Sem
open Idealize.ShloMosaic.WordCmp Idealize.ShloMosaic.Affine

/-- The distance of two rows' tokens, as a word and as an integer. -/
def dist (i j : Fin 4096) : BitVec 32 := IntOp.muli 1#32 (IntOp.subi (BitVec.ofNat 32 i) (BitVec.ofNat 32 j))

/-- The distance word holds the distance of the rows. -/
theorem dist_toInt (i j : Fin 4096) : (dist i j).toInt = 1 * ((i.val : ℤ) - (j.val : ℤ)) := by
  have h : IsInt (dist i j) (1 * ((i.val : ℤ) - (j.val : ℤ))) :=
    Affine.muli (Affine.ofNat (e := 1) 1 (by omega)) (Affine.subi (Affine.ofNat (e := (i.val : ℤ)) i.val (by omega)) (Affine.ofNat (e := (j.val : ℤ)) j.val (by omega)) ⟨rfl, by omega, by omega⟩)
      ⟨rfl, by omega, by omega⟩
  unfold IsInt at h; exact h

/-- The mask bit says whether the key is in the window. -/
theorem mask_eq (i j : Fin 4096) :
    val_main_v25 (F := Ideal) (ix2 i j) = BitVec.ofBool (decide (BandSpec.window i j)) := by
  have h : val_main_v25 (F := Ideal) (ix2 i j) = IntOp.andi (IntOp.cmpi .sge (dist i j) 0#32) (IntOp.cmpi .sle (dist i j) 128#32) := by
    pointwise [val_main_v25, val_main_v24, val_main_v23, val_main_c_1, val_main_v22, val_main_v21, val_main_c_0, val_main_v20, val_main_v19, val_main_c, val_main_v18, val_main_v17, val_main_v16, val_main_v15, val_main_v14, val_main_v13, val_main_v12, hlo_ix]
    rfl
  rw [h, cmpi_sge_eq, cmpi_sle_eq, andi_ofBool, dist_toInt, ← Bool.decide_and]
  congr 1
  refine decide_eq_decide.mpr ?_
  unfold BandSpec.window
  rw [show (0#32 : BitVec 32).toInt = 0 from rfl, show (128#32 : BitVec 32).toInt = 128 from rfl]
  omega

/-- A choice by the mask bit is a choice by the window. -/
theorem mask_select {α : Type} (i j : Fin 4096) (a b : α) :
    Scalar.select (val_main_v25 (F := Ideal) (ix2 i j)) a b = if BandSpec.window i j then a else b := by
  rw [mask_eq]; by_cases h : BandSpec.window i j <;> simp [h, Scalar.select]

/-- The four heads' slopes. -/
def slope (h : Fin 4) : ℝ :=
  if h.val < 1 then 1321123 / 2 ^ 21 else if h.val - 1 < 1 then 13316085 / 2 ^ 25 else if h.val - 1 - 1 < 1 then 1 / 4 else 1321123 / 2 ^ 23

section
variable (x0 : Vec Ideal S4x3x1x4096x256 .bf16) (b : Fin 4) (c : Fin 1)
/-- The rows of the queries, the keys and the values of one class. -/
def rows (a : Fin 3) (i : Fin 4096) (l : Fin 256) : EReal := x0 (ix5 b a c i l)

/-- The scores. -/
theorem score_eq (h : Fin 4) (i j : Fin 4096) :
    val_main_v43 (F := Ideal) x0 (ix5 b c h i j) = BandSpec.score (rows x0 b c 0) (rows x0 b c 1) (slope h) 1 h i j := by
  obtain rfl : c = 0 := Subsingleton.elim _ _
  pointwise [val_main_v43, val_main_v42, val_main_v41, val_main_v40, val_main_v39, val_main_v38, val_main_v37, val_main_v36, val_main_v35, val_main_v34, val_main_v33, val_main_v32, val_main_v31, val_main_v30, val_main_cst_5, val_main_cst_4, val_main_cst_3, val_main_cst_2, val_main_v29, val_main_v28, val_main_v27, val_main_v26, val_main_cst, val_main_v20, val_main_v19, val_main_c, val_main_v18, val_main_v17, val_main_v16, val_main_v15, val_main_v14, val_main_v13, val_main_v12, val_main_v7, val_main_v6, val_main_v5, val_main_v4, val_main_v3, val_main_v2, val_main_v1, val_main_v0]
  rw [BandSpec.log_two]
  unfold BandSpec.score rows
  congr 1
  change _ * (((dist i j).toInt : ℝ) : EReal) = _
  have e1 : Ideal.ofBits .f32 1059144984#32 = ((1321123 / 2 ^ 21 : ℝ) : EReal) := by simp [Ideal.ofBits, Ideal.ieee, -EReal.coe_mul]; norm_num
  have e2 : Ideal.ofBits .f32 1053503477#32 = ((13316085 / 2 ^ 25 : ℝ) : EReal) := by simp [Ideal.ofBits, Ideal.ieee, -EReal.coe_mul]; norm_num
  have e3 : Ideal.ofBits .f32 1048576000#32 = ((1 / 4 : ℝ) : EReal) := by simp [Ideal.ofBits, Ideal.ieee, -EReal.coe_mul]; norm_num
  have e4 : Ideal.ofBits .f32 1042367768#32 = ((1321123 / 2 ^ 23 : ℝ) : EReal) := by simp [Ideal.ofBits, Ideal.ieee, -EReal.coe_mul]; norm_num
  rw [e1, e2, e3, e4, dist_toInt, EReal.coe_mul]
  congr 1
  · unfold slope; split_ifs <;> rfl
  · push_cast; rfl

/-- The masked scores. -/
theorem masked_eq (h : Fin 4) (i j : Fin 4096) :
    val_main_v44 (F := Ideal) x0 (ix5 b c h i j) =
      BandMath.ms (BandSpec.window i) (BandSpec.score (rows x0 b c 0) (rows x0 b c 1) (slope h) 1 h i) j := by
  obtain rfl : c = 0 := Subsingleton.elim _ _
  pointwise [val_main_v44, val_main_call0_v2, val_main_call0_v1, val_main_call0_v0, val_main_cst_6]
  rw [mask_select, score_eq]
  unfold BandMath.ms
  rw [show (id (constant (F := Ideal) S_ .f32 4286578688#32) ix0 : EReal) = ⊥ from by
    show Ideal.ofBits .f32 4286578688#32 = ⊥
    simp [Ideal.ofBits, Ideal.ieee]]

/-- The greatest score of a row. -/
theorem max_eq (h : Fin 4) (i : Fin 4096) :
    val_main_v45 (F := Ideal) x0 (ix4 b c h i) =
      BandMath.mx (BandSpec.window i) (BandSpec.score (rows x0 b c 0) (rows x0 b c 1) (slope h) 1 h i) := by
  obtain rfl : c = 0 := Subsingleton.elim _ _
  pointwise [val_main_v45, val_main_cst_7]
  simp only [masked_eq]
  rw [show Ideal.ofBits .f32 4286578688#32 = ⊥ from by simp [Ideal.ofBits, Ideal.ieee]]; rfl

/-- The weights. -/
theorem p_eq (h : Fin 4) (i j : Fin 4096) :
    val_main_v50 (F := Ideal) x0 (ix5 b c h i j) =
      BandMath.p (BandSpec.window i) (BandSpec.score (rows x0 b c 0) (rows x0 b c 1) (slope h) 1 h i) j := by
  obtain rfl : c = 0 := Subsingleton.elim _ _
  have e : val_main_v49 (F := Ideal) x0 (ix5 b 0 h i j) = Ideal.exp (val_main_v44 (F := Ideal) x0 (ix5 b 0 h i j) - val_main_v45 (F := Ideal) x0 (ix4 b 0 h i)) := by
    pointwise [val_main_v49, val_main_v48, val_main_v47, val_main_v46]
  pointwise [val_main_v50, val_main_call1_v2, val_main_call1_v1, val_main_call1_v0, val_main_cst_8]
  rw [mask_select, e, masked_eq, max_eq]
  unfold BandMath.p
  rw [show (id (constant (F := Ideal) S_ .f32 0#32) ix0 : EReal) = 0 from Ideal.ofBits_zero_f32]

/-- The normaliser of a row. -/
theorem den_eq (h : Fin 4) (i : Fin 4096) :
    val_main_v51 (F := Ideal) x0 (ix4 b c h i) =
      ∑ j, BandMath.p (BandSpec.window i) (BandSpec.score (rows x0 b c 0) (rows x0 b c 1) (slope h) 1 h i) j := by
  obtain rfl : c = 0 := Subsingleton.elim _ _
  pointwise [val_main_v51, val_main_cst_9]
  simp only [p_eq]

/-- The normalised weights. -/
theorem prob_eq (h : Fin 4) (i j : Fin 4096) :
    val_main_v56 (F := Ideal) x0 (ix5 b c h i j) =
      Ideal.div (BandMath.p (BandSpec.window i) (BandSpec.score (rows x0 b c 0) (rows x0 b c 1) (slope h) 1 h i) j)
        (max (∑ j, BandMath.p (BandSpec.window i) (BandSpec.score (rows x0 b c 0) (rows x0 b c 1) (slope h) 1 h i) j) (Ideal.ofBits .f32 228737632#32)) := by
  obtain rfl : c = 0 := Subsingleton.elim _ _
  pointwise [val_main_v56, val_main_v55, val_main_v54, val_main_v53, val_main_v52, val_main_cst_10]
  rw [p_eq, den_eq]

/-- The first result. -/
theorem o_eq (i : Fin 4096) (l : Fin 256) (h : Fin 4) (hl : l.val / 64 = h.val) :
    val_main_v63 (F := Ideal) x0 (ix4 b c i l) = BandSpec.mean (rows x0 b c 0) (rows x0 b c 1) (rows x0 b c 2) (slope h) 1 h i l := by
  obtain rfl : c = 0 := Subsingleton.elim _ _
  pointwise [val_main_v63, val_main_v58, val_main_v57, val_main_v11, val_main_v10, val_main_v9, val_main_v8]
  unfold BandSpec.mean
  refine Finset.sum_congr rfl fun j _ => ?_
  rw [← prob_eq]
  congr 3
  exact Fin.ext hl

end
end Cert.Band1RefIdeal.Val
-- ==== Proof.Band1RefLse.lean ====
/- The second result of the reference of the dilated attention, read at an index. -/
module
public import proofs.«01_k».proof.Proof.Gen.Band1RefIdeal.Read
public import proofs.«01_k».proof.Proof.Band1Ref
public import Idealize.ShloMosaic.Lib.Pointwise
@[expose] public section
set_option maxRecDepth 16384
noncomputable section
namespace Cert.Band1RefIdeal.Val
open Cert.Band1RefIdeal Cert.Band1RefIdeal.Gen Cert.Band1RefIdeal.Read Idealize.ShloMosaic Idealize.ShloMosaic.TcCoe Idealize.SL.Sem
open Idealize.ShloMosaic.WordCmp Idealize.ShloMosaic.Affine

section
variable (x0 : Vec Ideal S4x3x1x4096x256 .bf16) (b : Fin 4) (c : Fin 1)
/-- The logarithm of the sum, before it is laid out. -/
theorem r60 (h : Fin 4) (i : Fin 4096) : val_main_v60 (F := Ideal) x0 (ix5 b c h i 0) =
    val_main_v46 (F := Ideal) x0 (ix5 b c h i 0) + Ideal.log (val_main_v52 (F := Ideal) x0 (ix5 b c h i 0)) := by
  obtain rfl : c = 0 := Subsingleton.elim _ _
  have e : ∀ x y : EReal, FloatOps.addf (F := Ideal) (φ := .f32) x (FloatOps.hostUnary (F := Ideal) (φ := .f32) .log y) = x + Ideal.log y := fun _ _ => rfl
  rw [val_main_v60_apply, val_main_v59_apply]; exact e _ _
/-- The greatest score as a column. -/
theorem r46 (h : Fin 4) (i : Fin 4096) : val_main_v46 (F := Ideal) x0 (ix5 b c h i 0) = val_main_v45 (F := Ideal) x0 (ix4 b c h i) := by
  obtain rfl : c = 0 := Subsingleton.elim _ _
  pointwise [val_main_v46]
/-- The normaliser as a column. -/
theorem r52 (h : Fin 4) (i : Fin 4096) : val_main_v52 (F := Ideal) x0 (ix5 b c h i 0) = val_main_v51 (F := Ideal) x0 (ix4 b c h i) := by
  obtain rfl : c = 0 := Subsingleton.elim _ _
  pointwise [val_main_v52]
/-- The heads moved behind the rows. -/
theorem r61 (h : Fin 4) (i : Fin 4096) : val_main_v61 (F := Ideal) x0 (ix5 b c i h 0) = val_main_v60 (F := Ideal) x0 (ix5 b c h i 0) := by
  obtain rfl : c = 0 := Subsingleton.elim _ _
  pointwise [val_main_v61]
/-- A column repeated along the lanes of its head. -/
theorem r62 (h : Fin 4) (i : Fin 4096) (d : Fin 64) : val_main_v62 (F := Ideal) x0 (ix5 b c i h d) = val_main_v61 (F := Ideal) x0 (ix5 b c i h 0) := by
  obtain rfl : c = 0 := Subsingleton.elim _ _
  pointwise [val_main_v62]
/-- The heads side by side. -/
theorem r64 (i : Fin 4096) (l : Fin 256) : val_main_v64 (F := Ideal) x0 (ix4 b c i l) = val_main_v62 (F := Ideal) x0 (ix5 b c i ⟨l.val / 64, by omega⟩ ⟨l.val % 64, by omega⟩) := by
  obtain rfl : c = 0 := Subsingleton.elim _ _
  pointwise [val_main_v64]
/-- The second result. -/
theorem lse_eq (i : Fin 4096) (l : Fin 256) (h : Fin 4) (hl : l.val / 64 = h.val) :
    val_main_v64 (F := Ideal) x0 (ix4 b c i l) = BandSpec.lse (rows x0 b c 0) (rows x0 b c 1) (slope h) 1 h i := by
  obtain rfl : c = 0 := Subsingleton.elim _ _
  rw [r64, r62, r61, show (⟨l.val / 64, by omega⟩ : Fin 4) = h from Fin.ext hl, r60, r46, r52, max_eq, den_eq]; rfl
end
end Cert.Band1RefIdeal.Val
-- ==== Proof.Band1Claim.lean ====
/- The claims about the dilated attention at step one: the named constants stand for what they replace, and kernel and reference agree. -/
module
public import proofs.«01_k».proof.Defs
public import proofs.«01_k».proof.Proof.Gen.Band1RefIdeal.Run
public import proofs.«01_k».proof.Proof.Band1Final
public import proofs.«01_k».proof.Proof.Band1RefLse
@[expose] public section
noncomputable section
namespace Cert.Proof
open Idealize.ShloMosaic Idealize.SL.Sem

/-- Each named constant is what its table says. -/
theorem band1_preserves : Cert.preserves_Band1_Band1Ideal :=
  ⟨IdealRules.named_const.statement Cert.Band1Ideal.κ "mask" .f32 0xF149F2CA#32 ⊥ rfl,
   IdealRules.named_const.statement Cert.Band1Ideal.κ "slope0" .f32 0x3F68A9CD#32 (((1321123 / 2097152) * (Real.log 2)⁻¹ : ℝ) : EReal) rfl,
   IdealRules.named_const.statement Cert.Band1Ideal.κ "slope1" .f32 0x3F129195#32 (((13316085 / 33554432) * (Real.log 2)⁻¹ : ℝ) : EReal) rfl,
   IdealRules.named_const.statement Cert.Band1Ideal.κ "slope2" .f32 0x3EB8AA3B#32 (((1 / 4) * (Real.log 2)⁻¹ : ℝ) : EReal) rfl,
   IdealRules.named_const.statement Cert.Band1Ideal.κ "slope3" .f32 0x3E68A9CD#32 (((1321123 / 8388608) * (Real.log 2)⁻¹ : ℝ) : EReal) rfl,
   IdealRules.named_const.statement Cert.Band1Ideal.κ "ln2" .f32 0x3F317218#32 ((Real.log 2 : ℝ) : EReal) rfl⟩

/-- The kernel and the reference leave the same two arrays: the row softmax of `BandSpec`. -/
theorem band1_algebraic : Cert.algebraic_Band1Ideal_Band1RefIdeal := by
  intro m g m' g' _ ha
  refine ⟨fun c => Cert.Band1Ideal.Val.arrO m c, fun c => Cert.Band1Ideal.Val.arrL m c, ?_, ?_⟩
  · exact Cert.Band1Ideal.Val.run m g
  · refine (θ_run _ _ _).mono (fun r h c => ⟨?_, ?_, (h c).2.2⟩) (Cert.Band1RefIdeal.Value.run m' g')
    · rw [(h c).1, Cert.Band1RefIdeal.Read.val_main_v63_eq, ha c]
      funext j
      rw [eq_ix4 j]
      exact Cert.Band1RefIdeal.Val.o_eq _ _ _ _ _ ⟨(j 3).val / 64, _⟩ rfl
    · rw [(h c).2.1, Cert.Band1RefIdeal.Read.val_main_v64_eq, ha c]
      funext j
      rw [eq_ix4 j]
      exact Cert.Band1RefIdeal.Val.lse_eq _ _ _ _ _ ⟨(j 3).val / 64, _⟩ rfl
end Cert.Proof
end
-- ==== Proof.Band16Final.lean ====
/- The two results of the dilated attention's kernel after the run, as the specification over the argument. -/
module
public import proofs.«01_k».proof.Proof.Gen.Band16Ideal.Value
public import proofs.«01_k».proof.Proof.BandCore
public import Idealize.ShloMosaic.Lib.Pipeline.ValueKit
@[expose] public section
set_option maxRecDepth 16384
noncomputable section
namespace Cert.Band16Ideal.Val
open Cert.Band16Ideal Cert.Band16Ideal.Gen Idealize.ShloMosaic Idealize.ShloMosaic.TcCoe Idealize.SL.Sem
open Idealize.ShloMosaic.WordCmp Idealize.ShloMosaic.Affine
open Idealize.ShloMosaic.Pipeline (Dat)
variable (m : (ℓ : Loc nD τ sig) → Buf (Elt Ideal) ℓ)

/-- Every window's block index at a grid point. -/
theorem idx : ∀ t : Fin cfg0.N, win0_0.index t = ![(grid0.coords t 0).val, 0, (grid0.coords t 1).val, 0, 0]
    ∧ win0_1.index t = ![(grid0.coords t 0).val, 1, (grid0.coords t 1).val, 0, 0]
    ∧ win0_2.index t = ![(grid0.coords t 0).val, 2, (grid0.coords t 1).val, 0, 0]
    ∧ win0_3.index t = ![(grid0.coords t 0).val, (grid0.coords t 1).val, 0, 0] ∧ win0_4.index t = ![(grid0.coords t 0).val, (grid0.coords t 1).val, 0, 0] :=
  (by decide +kernel : ∀ t : Fin grid0.N, _)

/-- The distance of a sub-problem's first row from its first key row, for the first of a point. -/
def firstOff (i : grid0.Coords) : BitVec 32 :=
  Scalar.subi (Scalar.muli (Scalar.addi (Scalar.muli (BitVec.ofNat 32 (i 2).val) 2#32) 0#32) 128#32)
    (Scalar.muli (Scalar.maxsi (Scalar.subi (Scalar.addi (Scalar.muli (BitVec.ofNat 32 (i 2).val) 2#32) 0#32) 1#32) 0#32) 128#32)

/-- Where the keys of each sub-problem start, and that first distance. -/
theorem off : ∀ (t : Fin cfg0.N) (s : Fin 2), (firstOff (grid0.coords t)).toInt = 0
    ∧ k0_off1 (grid0.coords t) (BitVec.ofNat 32 s.val) = ![0, 0, 0, 0, 0]
    ∧ k0_off2 (grid0.coords t) (BitVec.ofNat 32 s.val) = ![0, 0, 1, 0, 0]
    ∧ k0_off3 (grid0.coords t) (BitVec.ofNat 32 s.val) = ![0, 0, 2, 0, 0]
    ∧ k0_off4 (grid0.coords t) (BitVec.ofNat 32 s.val) = ![0, 0, 3, 0, 0]
    ∧ k0_off5 (grid0.coords t) (BitVec.ofNat 32 s.val) = ![0, 0, 4, 0, 0]
    ∧ k0_off6 (grid0.coords t) (BitVec.ofNat 32 s.val) = ![0, 0, 5, 0, 0]
    ∧ k0_off7 (grid0.coords t) (BitVec.ofNat 32 s.val) = ![0, 0, 6, 0, 0]
    ∧ k0_off8 (grid0.coords t) (BitVec.ofNat 32 s.val) = ![0, 0, 7, 0, 0] :=
  (by decide +kernel : ∀ (t : Fin grid0.N) (s : Fin 2), _)

/-- The four heads' slopes. -/
def slope (h : Fin 4) : ℝ :=
  if h.val < 1 then 1 / 64 else if h.val - 1 < 1 then 1321123 / 2 ^ 27 else if h.val - 1 - 1 < 1 then 13316085 / 2 ^ 31 else 1 / 256

/-- The rows of the queries, the keys and the values of one class. -/
def rows (x0 : Vec Ideal S4x3x16x256x256 .bf16) (b : Fin 4) (c : Fin 16) (a : Fin 3) (i : Fin 256) (l : Fin 256) : EReal := x0 (ix5 b a c i l)

/-- The argument. -/
abbrev arg (c : Dev nD) : Vec Ideal S4x3x16x256x256 .bf16 := m ((c : Thread nD τ).loc main_arg0)

/-- The weighted mean at an index. -/
def specO (c : Dev nD) (b : Fin 4) (e : Fin 16) (i : Fin 256) (l : Fin 256) : EReal :=
  BandSpec.mean (rows (arg m c) b e 0) (rows (arg m c) b e 1) (rows (arg m c) b e 2) (slope ⟨l.val / 64, by omega⟩) 16 ⟨l.val / 64, by omega⟩ i l

/-- The logarithm of the sum at an index. -/
def specL (c : Dev nD) (b : Fin 4) (e : Fin 16) (i : Fin 256) (l : Fin 256) : EReal :=
  BandSpec.lse (rows (arg m c) b e 0) (rows (arg m c) b e 1) (slope ⟨l.val / 64, by omega⟩) 16 ⟨l.val / 64, by omega⟩ i

/-- The two result arrays the run leaves. -/
abbrev arrO (c : Dev nD) : FVec Ideal S4x16x256x256 .f32 := fun j => specO m c (j 0) (j 1) (j 2) (j 3)
/-- The second of them. -/
abbrev arrL (c : Dev nD) : FVec Ideal S4x16x256x256 .f32 := fun j => specL m c (j 0) (j 1) (j 2) (j 3)

/-- The staged rows of a point are its eight classes' rows of the argument. -/
theorem blk_q (c : Dev nD) (t : Fin cfg0.N) (b : Fin 4) (g : ℕ) (hg : g < 2) (hb : (grid0.coords t 0 : ℕ) = b) (hg' : (grid0.coords t 1 : ℕ) = g)
    (e : Fin 8) (r : Fin 256) (x : Fin 256) :
    (iblk m c 0 t : Vec Ideal S1x1x8x256x256 .bf16) (ix5 0 0 e r x) = arg m c (ix5 b 0 ⟨8 * g + e.val, by omega⟩ r x) := by
  blk_ext [iblk, V, idx t]
/-- The keys. -/
theorem blk_k (c : Dev nD) (t : Fin cfg0.N) (b : Fin 4) (g : ℕ) (hg : g < 2) (hb : (grid0.coords t 0 : ℕ) = b) (hg' : (grid0.coords t 1 : ℕ) = g)
    (e : Fin 8) (r : Fin 256) (x : Fin 256) :
    (iblk m c 1 t : Vec Ideal S1x1x8x256x256 .bf16) (ix5 0 0 e r x) = arg m c (ix5 b 1 ⟨8 * g + e.val, by omega⟩ r x) := by
  blk_ext [iblk, V, idx t]
/-- The values. -/
theorem blk_v (c : Dev nD) (t : Fin cfg0.N) (b : Fin 4) (g : ℕ) (hg : g < 2) (hb : (grid0.coords t 0 : ℕ) = b) (hg' : (grid0.coords t 1 : ℕ) = g)
    (e : Fin 8) (r : Fin 256) (x : Fin 256) :
    (iblk m c 2 t : Vec Ideal S1x1x8x256x256 .bf16) (ix5 0 0 e r x) = arg m c (ix5 b 2 ⟨8 * g + e.val, by omega⟩ r x) := by
  blk_ext [iblk, V, idx t]

/-- A sub-problem's query rows within the block. -/
theorem ld_q (e : Fin 8) (Q : ℕ) (x : Vec Ideal S1x1x8x256x256 .bf16) (inb : ∀ a, ![0, 0, e.val, Q, 0] a + S1x1x1x128x256.size a ≤ S1x1x8x256x256.size a)
    (hQ : Q + 128 ≤ 256) (i : Fin 128) (l : Fin 256) :
    View.ld x (Rect.unit ![0, 0, e.val, Q, 0] S1x1x1x128x256.size inb) (ix5 0 0 0 i l) = x (ix5 0 0 e ⟨Q + i.val, by omega⟩ l) := by
  pointwise

/-- A sub-problem's key rows within the block. -/
theorem ld_k (e : Fin 8) (K : ℕ) (x : Vec Ideal S1x1x8x256x256 .bf16) (o : Fin 5 → ℕ) (inb : ∀ a, o a + S1x1x1x256x256.size a ≤ S1x1x8x256x256.size a)
    (hK : K + 256 ≤ 256) (ho : o = ![0, 0, e.val, K, 0]) (j : Fin 256) (l : Fin 256) :
    View.ld x (Rect.unit o S1x1x1x256x256.size inb) (ix5 0 0 0 j l) = x (ix5 0 0 e ⟨K + j.val, by omega⟩ l) := by
  subst ho
  pointwise

/-- The words of the distances within a sub-problem. -/
def dist (w : BitVec 32) : IVec S128x256 32 :=
  addi (broadcast S128x256 w) (subi (iota .tc S128x256 32 [0] iota_S128x256_d0_w32) (iota .tc S128x256 32 [1] iota_S128x256_d1_w32))

/-- They hold the distance of the rows. -/
theorem dist_toInt (w : BitVec 32) (n : ℕ) (hn : n ≤ 128) (hw : w.toInt = n) (i : Fin 128) (j : Fin 256) :
    (dist w (ix2 i j)).toInt = (n : ℤ) + ((i.val : ℤ) - (j.val : ℤ)) := by
  have e : dist w (ix2 i j) = IntOp.addi w (IntOp.subi (BitVec.ofNat 32 i.val) (BitVec.ofNat 32 j.val)) := by
    pointwise [dist]
  have hw' : IsInt w n := by unfold IsInt; exact hw
  have h : IsInt (dist w (ix2 i j)) ((n : ℤ) + ((i.val : ℤ) - (j.val : ℤ))) := by
    rw [e]
    exact Affine.addi hw' (Affine.subi (Affine.ofNat (e := (i.val : ℤ)) i.val (by omega)) (Affine.ofNat (e := (j.val : ℤ)) j.val (by omega)) ⟨rfl, by omega, by omega⟩)
      ⟨rfl, by omega, by omega⟩
  unfold IsInt at h; exact h

/-- The four heads' biases of a sub-problem. -/
def bias0 (w : BitVec 32) := BandCore.bias (dist w) (Named.named (F := Ideal) κ "slope0" 0x3EB8AA3B#32) (Named.named (F := Ideal) κ "mask" 0xF149F2CA#32)
/-- The second head's. -/
def bias1 (w : BitVec 32) := BandCore.bias (dist w) (Named.named (F := Ideal) κ "slope1" 0x3E68A9CD#32) (Named.named (F := Ideal) κ "mask" 0xF149F2CA#32)
/-- The third head's. -/
def bias2 (w : BitVec 32) := BandCore.bias (dist w) (Named.named (F := Ideal) κ "slope2" 0x3E129195#32) (Named.named (F := Ideal) κ "mask" 0xF149F2CA#32)
/-- The fourth head's. -/
def bias3 (w : BitVec 32) := BandCore.bias (dist w) (Named.named (F := Ideal) κ "slope3" 0x3DB8AA3B#32) (Named.named (F := Ideal) κ "mask" 0xF149F2CA#32)

/-- The biases at an index. -/
theorem bias_eq (w : BitVec 32) (I0 K0 : ℕ) (n : ℕ) (hn : n ≤ 128) (hw : w.toInt = n) (hI : I0 = K0 + n) (h : Fin 4) (i : Fin 128) (j : Fin 256) :
    BandChunk.sel (bias0 w) (bias1 w) (bias2 w) (bias3 w) h.val (ix2 i j) =
  ((slope h * 16 * (Real.log 2)⁻¹ * -(((I0 + i.val : ℕ) : ℤ) - ((K0 + j.val : ℕ) : ℤ) : ℤ) : ℝ) : EReal) +
    if 0 ≤ ((I0 + i.val : ℕ) : ℤ) - ((K0 + j.val : ℕ) : ℤ) ∧ ((I0 + i.val : ℕ) : ℤ) - ((K0 + j.val : ℕ) : ℤ) ≤ 128 then 0 else ⊥ := by
  have hd : (dist w (ix2 i j)).toInt = ((I0 + i.val : ℕ) : ℤ) - ((K0 + j.val : ℕ) : ℤ) := by
    rw [dist_toInt w n hn hw]; push_cast; omega
  generalize ((I0 + i.val : ℕ) : ℤ) - ((K0 + j.val : ℕ) : ℤ) = e at hd ⊢
  have main : ∀ σ : ℝ, BandCore.bias (dist w) (σ : EReal) (⊥ : EReal) (ix2 i j) = ((σ * -(e : ℝ) : ℝ) : EReal) + if 0 ≤ e ∧ e ≤ 128 then 0 else ⊥ :=
    fun σ => BandCore.bias_apply (dist w) σ i j e hd
  fin_cases h
  · refine (main (1 / 4 * (Real.log 2)⁻¹)).trans ?_
    congr 2; unfold slope; norm_num
  · refine (main (1321123 / 8388608 * (Real.log 2)⁻¹)).trans ?_
    congr 2; unfold slope; norm_num
  · refine (main (13316085 / 134217728 * (Real.log 2)⁻¹)).trans ?_
    congr 2; unfold slope; norm_num
  · refine (main (1 / 16 * (Real.log 2)⁻¹)).trans ?_
    congr 2; unfold slope; norm_num

/-- The first output of a sub-problem. -/
def outOAt (w : BitVec 32) (q : Vec Ideal S1x1x1x128x256 .bf16) (k v : Vec Ideal S1x1x1x256x256 .bf16) : FVec Ideal S1x1x128x256 .f32 :=
  BandChunk.outO q k v (bias0 w) (bias1 w) (bias2 w) (bias3 w)
/-- The second. -/
def outLAt (w : BitVec 32) (q : Vec Ideal S1x1x1x128x256 .bf16) (k : Vec Ideal S1x1x1x256x256 .bf16) : FVec Ideal S1x1x128x256 .f32 :=
  BandChunk.outL q k (bias0 w) (bias1 w) (bias2 w) (bias3 w) (Named.named (F := Ideal) κ "ln2" 0x3F317218#32)

section
variable (c : Dev nD) (t : Fin cfg0.N) (b : Fin 4) (g : ℕ) (hg : g < 2) (hb : (grid0.coords t 0 : ℕ) = b) (hg' : (grid0.coords t 1 : ℕ) = g)
    (e : Fin 8) (s : ℕ) (hs : s < 2) (w : BitVec 32) (hw : w.toInt = ((if s = 0 then 0 else 128 : ℕ) : ℤ))
    (q : Vec Ideal S1x1x1x128x256 .bf16) (k v : Vec Ideal S1x1x1x256x256 .bf16)
    (hq : ∀ i l, q (ix5 0 0 0 i l) = (iblk m c 0 t : Vec Ideal S1x1x8x256x256 .bf16) (ix5 0 0 e ⟨s * 128 + i.val, by omega⟩ l))
    (hk : ∀ j l, k (ix5 0 0 0 j l) = (iblk m c 1 t : Vec Ideal S1x1x8x256x256 .bf16) (ix5 0 0 e ⟨(s - 1) * 128 + j.val, by omega⟩ l))
include hg hb hg' hs hw hq hk

/-- What a point stores for a sub-problem in the first output. -/
theorem pieceO (hv : ∀ j l, v (ix5 0 0 0 j l) = (iblk m c 2 t : Vec Ideal S1x1x8x256x256 .bf16) (ix5 0 0 e ⟨(s - 1) * 128 + j.val, by omega⟩ l))
    (y0 y1 : Fin 1) (y2 : Fin 128) (y3 : Fin 256) (x1 : Fin 8) (x2 : Fin 256) (x3 : Fin 256)
    (h1 : (x1 : ℕ) = e) (h2 : (x2 : ℕ) = s * 128 + y2) (h3 : (x3 : ℕ) = y3) :
    outOAt w q k v (ix4 y0 y1 y2 y3) = specO m c b ⟨8 * g + x1.val, by omega⟩ x2 x3 := by
  obtain rfl : x1 = e := Fin.ext h1
  obtain rfl : x3 = y3 := Fin.ext h3
  obtain rfl : y0 = 0 := Subsingleton.elim _ _
  obtain rfl : y1 = 0 := Subsingleton.elim _ _
  rw [show x2 = ⟨s * 128 + y2.val, by omega⟩ from Fin.ext h2]
  exact BandCore.mean_eq (n := 256) _ _ _ slope 16 q k v (bias0 w) (bias1 w) (bias2 w) (bias3 w) (s * 128) ((s - 1) * 128) (by omega) (by omega) (by omega)
    (fun i l => (hq i l).trans (blk_q m c t b g hg hb hg' x1 _ _)) (fun j l => (hk j l).trans (blk_k m c t b g hg hb hg' x1 _ _))
    (fun j l => (hv j l).trans (blk_v m c t b g hg hb hg' x1 _ _))
    (bias_eq w _ _ _ (by split_ifs <;> omega) hw (by split_ifs <;> omega)) ⟨x3.val / 64, by omega⟩ y2 x3 rfl

/-- What a point stores for a sub-problem in the second output. -/
theorem pieceL (y0 y1 : Fin 1) (y2 : Fin 128) (y3 : Fin 256) (x1 : Fin 8) (x2 : Fin 256) (x3 : Fin 256)
    (h1 : (x1 : ℕ) = e) (h2 : (x2 : ℕ) = s * 128 + y2) (h3 : (x3 : ℕ) = y3) :
    outLAt w q k (ix4 y0 y1 y2 y3) = specL m c b ⟨8 * g + x1.val, by omega⟩ x2 x3 := by
  obtain rfl : x1 = e := Fin.ext h1
  obtain rfl : x3 = y3 := Fin.ext h3
  obtain rfl : y0 = 0 := Subsingleton.elim _ _
  obtain rfl : y1 = 0 := Subsingleton.elim _ _
  rw [show x2 = ⟨s * 128 + y2.val, by omega⟩ from Fin.ext h2]
  exact BandCore.lse_eq (n := 256) _ _ slope 16 q k (bias0 w) (bias1 w) (bias2 w) (bias3 w) (s * 128) ((s - 1) * 128) (by omega) (by omega) (by omega)
    (fun i l => (hq i l).trans (blk_q m c t b g hg hb hg' x1 _ _)) (fun j l => (hk j l).trans (blk_k m c t b g hg hb hg' x1 _ _))
    (bias_eq w _ _ _ (by split_ifs <;> omega) hw (by split_ifs <;> omega)) ⟨x3.val / 64, by omega⟩ y2 x3 rfl
end
set_option maxHeartbeats 4000000 in
/-- What a point leaves in the first output's block. -/
theorem pointO (c : Dev nD) (t : Fin cfg0.N) (b : Fin 4) (g : ℕ) (hg : g < 2) (hb : (grid0.coords t 0 : ℕ) = b) (hg' : (grid0.coords t 1 : ℕ) = g)
    (z : Fin 1) (x1 : Fin 8) (x2 : Fin 256) (x3 : Fin 256) : ((outsAt0 m c t).1 : Vec Ideal S1x8x256x256 .f32) (ix4 z x1 x2 x3) =
      specO m c b ⟨8 * g + x1.val, by omega⟩ x2 x3 := by
  unfold outsAt0 out0_A_3
  dsimp only
  rw [View.read_writes_eq_canon _ _ _ (cover0_A_3 c _ _ _ _ _ _ _ _ _ _ _ _ _ _)]
  unfold kernelRun0_A; dsimp only; sl_unfold_words
  simp only [View.readAt_eq_ld]
  rw [(hs0_0 t).read_unread (iblk m c 0 t), (hs0_1 t).read_unread (iblk m c 1 t), (hs0_2 t).read_unread (iblk m c 2 t)]
  canon_tiles y h
  all_goals idx_vars y
  case piece0 =>
    refine Eq.trans (b := outOAt 128#32
        (View.ld (iblk m c 0 t) (Rect.unit ![0, 0, 7, 128, 0] S1x1x1x128x256.size inb_S1x1x8x256x256_S1x1x1x128x256_0_0_7_128_0))
        (View.ld (iblk m c 1 t) (Rect.unit (k0_off8 (grid0.coords t) 1#32) S1x1x1x256x256.size (k0_off8_inb (grid0.coords t) 1)))
        (View.ld (iblk m c 2 t) (Rect.unit (k0_off8 (grid0.coords t) 1#32) S1x1x1x256x256.size (k0_off8_inb (grid0.coords t) 1))) (ix4 y0 y1 y2 y3)) ?_ (pieceO m c t b g hg hb hg' 7 1 (by decide) 128#32 rfl _ _ _ (fun i l => ld_q 7 128 _ _ (by decide) i l) (fun j l => ld_k 7 0 _ _ _ (by decide) (off t 1).2.2.2.2.2.2.2.2 j l) (fun j l => ld_k 7 0 _ _ _ (by decide) (off t 1).2.2.2.2.2.2.2.2 j l) y0 y1 y2 y3 x1 x2 x3 (by simpa using h1) (by simpa using h2) (by simpa using h3))
    exact congrFun rfl (ix4 y0 y1 y2 y3)
  case piece1 =>
    refine Eq.trans (b := outOAt (firstOff (grid0.coords t))
        (View.ld (iblk m c 0 t) (Rect.unit ![0, 0, 7, 0, 0] S1x1x1x128x256.size inb_S1x1x8x256x256_S1x1x1x128x256_0_0_7_0_0))
        (View.ld (iblk m c 1 t) (Rect.unit (k0_off8 (grid0.coords t) 0#32) S1x1x1x256x256.size (k0_off8_inb (grid0.coords t) 0)))
        (View.ld (iblk m c 2 t) (Rect.unit (k0_off8 (grid0.coords t) 0#32) S1x1x1x256x256.size (k0_off8_inb (grid0.coords t) 0))) (ix4 y0 y1 y2 y3)) ?_ (pieceO m c t b g hg hb hg' 7 0 (by decide) (firstOff (grid0.coords t)) (off t 0).1 _ _ _ (fun i l => ld_q 7 0 _ _ (by decide) i l) (fun j l => ld_k 7 0 _ _ _ (by decide) (off t 0).2.2.2.2.2.2.2.2 j l) (fun j l => ld_k 7 0 _ _ _ (by decide) (off t 0).2.2.2.2.2.2.2.2 j l) y0 y1 y2 y3 x1 x2 x3 (by simpa using h1) (by simpa using h2) (by simpa using h3))
    exact congrFun rfl (ix4 y0 y1 y2 y3)
  case piece2 =>
    refine Eq.trans (b := outOAt 128#32
        (View.ld (iblk m c 0 t) (Rect.unit ![0, 0, 6, 128, 0] S1x1x1x128x256.size inb_S1x1x8x256x256_S1x1x1x128x256_0_0_6_128_0))
        (View.ld (iblk m c 1 t) (Rect.unit (k0_off7 (grid0.coords t) 1#32) S1x1x1x256x256.size (k0_off7_inb (grid0.coords t) 1)))
        (View.ld (iblk m c 2 t) (Rect.unit (k0_off7 (grid0.coords t) 1#32) S1x1x1x256x256.size (k0_off7_inb (grid0.coords t) 1))) (ix4 y0 y1 y2 y3)) ?_ (pieceO m c t b g hg hb hg' 6 1 (by decide) 128#32 rfl _ _ _ (fun i l => ld_q 6 128 _ _ (by decide) i l) (fun j l => ld_k 6 0 _ _ _ (by decide) (off t 1).2.2.2.2.2.2.2.1 j l) (fun j l => ld_k 6 0 _ _ _ (by decide) (off t 1).2.2.2.2.2.2.2.1 j l) y0 y1 y2 y3 x1 x2 x3 (by simpa using h1) (by simpa using h2) (by simpa using h3))
    exact congrFun rfl (ix4 y0 y1 y2 y3)
  case piece3 =>
    refine Eq.trans (b := outOAt (firstOff (grid0.coords t))
        (View.ld (iblk m c 0 t) (Rect.unit ![0, 0, 6, 0, 0] S1x1x1x128x256.size inb_S1x1x8x256x256_S1x1x1x128x256_0_0_6_0_0))
        (View.ld (iblk m c 1 t) (Rect.unit (k0_off7 (grid0.coords t) 0#32) S1x1x1x256x256.size (k0_off7_inb (grid0.coords t) 0)))
        (View.ld (iblk m c 2 t) (Rect.unit (k0_off7 (grid0.coords t) 0#32) S1x1x1x256x256.size (k0_off7_inb (grid0.coords t) 0))) (ix4 y0 y1 y2 y3)) ?_ (pieceO m c t b g hg hb hg' 6 0 (by decide) (firstOff (grid0.coords t)) (off t 0).1 _ _ _ (fun i l => ld_q 6 0 _ _ (by decide) i l) (fun j l => ld_k 6 0 _ _ _ (by decide) (off t 0).2.2.2.2.2.2.2.1 j l) (fun j l => ld_k 6 0 _ _ _ (by decide) (off t 0).2.2.2.2.2.2.2.1 j l) y0 y1 y2 y3 x1 x2 x3 (by simpa using h1) (by simpa using h2) (by simpa using h3))
    exact congrFun rfl (ix4 y0 y1 y2 y3)
  case piece4 =>
    refine Eq.trans (b := outOAt 128#32
        (View.ld (iblk m c 0 t) (Rect.unit ![0, 0, 5, 128, 0] S1x1x1x128x256.size inb_S1x1x8x256x256_S1x1x1x128x256_0_0_5_128_0))
        (View.ld (iblk m c 1 t) (Rect.unit (k0_off6 (grid0.coords t) 1#32) S1x1x1x256x256.size (k0_off6_inb (grid0.coords t) 1)))
        (View.ld (iblk m c 2 t) (Rect.unit (k0_off6 (grid0.coords t) 1#32) S1x1x1x256x256.size (k0_off6_inb (grid0.coords t) 1))) (ix4 y0 y1 y2 y3)) ?_ (pieceO m c t b g hg hb hg' 5 1 (by decide) 128#32 rfl _ _ _ (fun i l => ld_q 5 128 _ _ (by decide) i l) (fun j l => ld_k 5 0 _ _ _ (by decide) (off t 1).2.2.2.2.2.2.1 j l) (fun j l => ld_k 5 0 _ _ _ (by decide) (off t 1).2.2.2.2.2.2.1 j l) y0 y1 y2 y3 x1 x2 x3 (by simpa using h1) (by simpa using h2) (by simpa using h3))
    exact congrFun rfl (ix4 y0 y1 y2 y3)
  case piece5 =>
    refine Eq.trans (b := outOAt (firstOff (grid0.coords t))
        (View.ld (iblk m c 0 t) (Rect.unit ![0, 0, 5, 0, 0] S1x1x1x128x256.size inb_S1x1x8x256x256_S1x1x1x128x256_0_0_5_0_0))
        (View.ld (iblk m c 1 t) (Rect.unit (k0_off6 (grid0.coords t) 0#32) S1x1x1x256x256.size (k0_off6_inb (grid0.coords t) 0)))
        (View.ld (iblk m c 2 t) (Rect.unit (k0_off6 (grid0.coords t) 0#32) S1x1x1x256x256.size (k0_off6_inb (grid0.coords t) 0))) (ix4 y0 y1 y2 y3)) ?_ (pieceO m c t b g hg hb hg' 5 0 (by decide) (firstOff (grid0.coords t)) (off t 0).1 _ _ _ (fun i l => ld_q 5 0 _ _ (by decide) i l) (fun j l => ld_k 5 0 _ _ _ (by decide) (off t 0).2.2.2.2.2.2.1 j l) (fun j l => ld_k 5 0 _ _ _ (by decide) (off t 0).2.2.2.2.2.2.1 j l) y0 y1 y2 y3 x1 x2 x3 (by simpa using h1) (by simpa using h2) (by simpa using h3))
    exact congrFun rfl (ix4 y0 y1 y2 y3)
  case piece6 =>
    refine Eq.trans (b := outOAt 128#32
        (View.ld (iblk m c 0 t) (Rect.unit ![0, 0, 4, 128, 0] S1x1x1x128x256.size inb_S1x1x8x256x256_S1x1x1x128x256_0_0_4_128_0))
        (View.ld (iblk m c 1 t) (Rect.unit (k0_off5 (grid0.coords t) 1#32) S1x1x1x256x256.size (k0_off5_inb (grid0.coords t) 1)))
        (View.ld (iblk m c 2 t) (Rect.unit (k0_off5 (grid0.coords t) 1#32) S1x1x1x256x256.size (k0_off5_inb (grid0.coords t) 1))) (ix4 y0 y1 y2 y3)) ?_ (pieceO m c t b g hg hb hg' 4 1 (by decide) 128#32 rfl _ _ _ (fun i l => ld_q 4 128 _ _ (by decide) i l) (fun j l => ld_k 4 0 _ _ _ (by decide) (off t 1).2.2.2.2.2.1 j l) (fun j l => ld_k 4 0 _ _ _ (by decide) (off t 1).2.2.2.2.2.1 j l) y0 y1 y2 y3 x1 x2 x3 (by simpa using h1) (by simpa using h2) (by simpa using h3))
    exact congrFun rfl (ix4 y0 y1 y2 y3)
  case piece7 =>
    refine Eq.trans (b := outOAt (firstOff (grid0.coords t))
        (View.ld (iblk m c 0 t) (Rect.unit ![0, 0, 4, 0, 0] S1x1x1x128x256.size inb_S1x1x8x256x256_S1x1x1x128x256_0_0_4_0_0))
        (View.ld (iblk m c 1 t) (Rect.unit (k0_off5 (grid0.coords t) 0#32) S1x1x1x256x256.size (k0_off5_inb (grid0.coords t) 0)))
        (View.ld (iblk m c 2 t) (Rect.unit (k0_off5 (grid0.coords t) 0#32) S1x1x1x256x256.size (k0_off5_inb (grid0.coords t) 0))) (ix4 y0 y1 y2 y3)) ?_ (pieceO m c t b g hg hb hg' 4 0 (by decide) (firstOff (grid0.coords t)) (off t 0).1 _ _ _ (fun i l => ld_q 4 0 _ _ (by decide) i l) (fun j l => ld_k 4 0 _ _ _ (by decide) (off t 0).2.2.2.2.2.1 j l) (fun j l => ld_k 4 0 _ _ _ (by decide) (off t 0).2.2.2.2.2.1 j l) y0 y1 y2 y3 x1 x2 x3 (by simpa using h1) (by simpa using h2) (by simpa using h3))
    exact congrFun rfl (ix4 y0 y1 y2 y3)
  case piece8 =>
    refine Eq.trans (b := outOAt 128#32
        (View.ld (iblk m c 0 t) (Rect.unit ![0, 0, 3, 128, 0] S1x1x1x128x256.size inb_S1x1x8x256x256_S1x1x1x128x256_0_0_3_128_0))
        (View.ld (iblk m c 1 t) (Rect.unit (k0_off4 (grid0.coords t) 1#32) S1x1x1x256x256.size (k0_off4_inb (grid0.coords t) 1)))
        (View.ld (iblk m c 2 t) (Rect.unit (k0_off4 (grid0.coords t) 1#32) S1x1x1x256x256.size (k0_off4_inb (grid0.coords t) 1))) (ix4 y0 y1 y2 y3)) ?_ (pieceO m c t b g hg hb hg' 3 1 (by decide) 128#32 rfl _ _ _ (fun i l => ld_q 3 128 _ _ (by decide) i l) (fun j l => ld_k 3 0 _ _ _ (by decide) (off t 1).2.2.2.2.1 j l) (fun j l => ld_k 3 0 _ _ _ (by decide) (off t 1).2.2.2.2.1 j l) y0 y1 y2 y3 x1 x2 x3 (by simpa using h1) (by simpa using h2) (by simpa using h3))
    exact congrFun rfl (ix4 y0 y1 y2 y3)
  case piece9 =>
    refine Eq.trans (b := outOAt (firstOff (grid0.coords t))
        (View.ld (iblk m c 0 t) (Rect.unit ![0, 0, 3, 0, 0] S1x1x1x128x256.size inb_S1x1x8x256x256_S1x1x1x128x256_0_0_3_0_0))
        (View.ld (iblk m c 1 t) (Rect.unit (k0_off4 (grid0.coords t) 0#32) S1x1x1x256x256.size (k0_off4_inb (grid0.coords t) 0)))
        (View.ld (iblk m c 2 t) (Rect.unit (k0_off4 (grid0.coords t) 0#32) S1x1x1x256x256.size (k0_off4_inb (grid0.coords t) 0))) (ix4 y0 y1 y2 y3)) ?_ (pieceO m c t b g hg hb hg' 3 0 (by decide) (firstOff (grid0.coords t)) (off t 0).1 _ _ _ (fun i l => ld_q 3 0 _ _ (by decide) i l) (fun j l => ld_k 3 0 _ _ _ (by decide) (off t 0).2.2.2.2.1 j l) (fun j l => ld_k 3 0 _ _ _ (by decide) (off t 0).2.2.2.2.1 j l) y0 y1 y2 y3 x1 x2 x3 (by simpa using h1) (by simpa using h2) (by simpa using h3))
    exact congrFun rfl (ix4 y0 y1 y2 y3)
  case piece10 =>
    refine Eq.trans (b := outOAt 128#32
        (View.ld (iblk m c 0 t) (Rect.unit ![0, 0, 2, 128, 0] S1x1x1x128x256.size inb_S1x1x8x256x256_S1x1x1x128x256_0_0_2_128_0))
        (View.ld (iblk m c 1 t) (Rect.unit (k0_off3 (grid0.coords t) 1#32) S1x1x1x256x256.size (k0_off3_inb (grid0.coords t) 1)))
        (View.ld (iblk m c 2 t) (Rect.unit (k0_off3 (grid0.coords t) 1#32) S1x1x1x256x256.size (k0_off3_inb (grid0.coords t) 1))) (ix4 y0 y1 y2 y3)) ?_ (pieceO m c t b g hg hb hg' 2 1 (by decide) 128#32 rfl _ _ _ (fun i l => ld_q 2 128 _ _ (by decide) i l) (fun j l => ld_k 2 0 _ _ _ (by decide) (off t 1).2.2.2.1 j l) (fun j l => ld_k 2 0 _ _ _ (by decide) (off t 1).2.2.2.1 j l) y0 y1 y2 y3 x1 x2 x3 (by simpa using h1) (by simpa using h2) (by simpa using h3))
    exact congrFun rfl (ix4 y0 y1 y2 y3)
  case piece11 =>
    refine Eq.trans (b := outOAt (firstOff (grid0.coords t))
        (View.ld (iblk m c 0 t) (Rect.unit ![0, 0, 2, 0, 0] S1x1x1x128x256.size inb_S1x1x8x256x256_S1x1x1x128x256_0_0_2_0_0))
        (View.ld (iblk m c 1 t) (Rect.unit (k0_off3 (grid0.coords t) 0#32) S1x1x1x256x256.size (k0_off3_inb (grid0.coords t) 0)))
        (View.ld (iblk m c 2 t) (Rect.unit (k0_off3 (grid0.coords t) 0#32) S1x1x1x256x256.size (k0_off3_inb (grid0.coords t) 0))) (ix4 y0 y1 y2 y3)) ?_ (pieceO m c t b g hg hb hg' 2 0 (by decide) (firstOff (grid0.coords t)) (off t 0).1 _ _ _ (fun i l => ld_q 2 0 _ _ (by decide) i l) (fun j l => ld_k 2 0 _ _ _ (by decide) (off t 0).2.2.2.1 j l) (fun j l => ld_k 2 0 _ _ _ (by decide) (off t 0).2.2.2.1 j l) y0 y1 y2 y3 x1 x2 x3 (by simpa using h1) (by simpa using h2) (by simpa using h3))
    exact congrFun rfl (ix4 y0 y1 y2 y3)
  case piece12 =>
    refine Eq.trans (b := outOAt 128#32
        (View.ld (iblk m c 0 t) (Rect.unit ![0, 0, 1, 128, 0] S1x1x1x128x256.size inb_S1x1x8x256x256_S1x1x1x128x256_0_0_1_128_0))
        (View.ld (iblk m c 1 t) (Rect.unit (k0_off2 (grid0.coords t) 1#32) S1x1x1x256x256.size (k0_off2_inb (grid0.coords t) 1)))
        (View.ld (iblk m c 2 t) (Rect.unit (k0_off2 (grid0.coords t) 1#32) S1x1x1x256x256.size (k0_off2_inb (grid0.coords t) 1))) (ix4 y0 y1 y2 y3)) ?_ (pieceO m c t b g hg hb hg' 1 1 (by decide) 128#32 rfl _ _ _ (fun i l => ld_q 1 128 _ _ (by decide) i l) (fun j l => ld_k 1 0 _ _ _ (by decide) (off t 1).2.2.1 j l) (fun j l => ld_k 1 0 _ _ _ (by decide) (off t 1).2.2.1 j l) y0 y1 y2 y3 x1 x2 x3 (by simpa using h1) (by simpa using h2) (by simpa using h3))
    exact congrFun rfl (ix4 y0 y1 y2 y3)
  case piece13 =>
    refine Eq.trans (b := outOAt (firstOff (grid0.coords t))
        (View.ld (iblk m c 0 t) (Rect.unit ![0, 0, 1, 0, 0] S1x1x1x128x256.size inb_S1x1x8x256x256_S1x1x1x128x256_0_0_1_0_0))
        (View.ld (iblk m c 1 t) (Rect.unit (k0_off2 (grid0.coords t) 0#32) S1x1x1x256x256.size (k0_off2_inb (grid0.coords t) 0)))
        (View.ld (iblk m c 2 t) (Rect.unit (k0_off2 (grid0.coords t) 0#32) S1x1x1x256x256.size (k0_off2_inb (grid0.coords t) 0))) (ix4 y0 y1 y2 y3)) ?_ (pieceO m c t b g hg hb hg' 1 0 (by decide) (firstOff (grid0.coords t)) (off t 0).1 _ _ _ (fun i l => ld_q 1 0 _ _ (by decide) i l) (fun j l => ld_k 1 0 _ _ _ (by decide) (off t 0).2.2.1 j l) (fun j l => ld_k 1 0 _ _ _ (by decide) (off t 0).2.2.1 j l) y0 y1 y2 y3 x1 x2 x3 (by simpa using h1) (by simpa using h2) (by simpa using h3))
    exact congrFun rfl (ix4 y0 y1 y2 y3)
  case piece14 =>
    refine Eq.trans (b := outOAt 128#32
        (View.ld (iblk m c 0 t) (Rect.unit ![0, 0, 0, 128, 0] S1x1x1x128x256.size inb_S1x1x8x256x256_S1x1x1x128x256_0_0_0_128_0))
        (View.ld (iblk m c 1 t) (Rect.unit (k0_off1 (grid0.coords t) 1#32) S1x1x1x256x256.size (k0_off1_inb (grid0.coords t) 1)))
        (View.ld (iblk m c 2 t) (Rect.unit (k0_off1 (grid0.coords t) 1#32) S1x1x1x256x256.size (k0_off1_inb (grid0.coords t) 1))) (ix4 y0 y1 y2 y3)) ?_ (pieceO m c t b g hg hb hg' 0 1 (by decide) 128#32 rfl _ _ _ (fun i l => ld_q 0 128 _ _ (by decide) i l) (fun j l => ld_k 0 0 _ _ _ (by decide) (off t 1).2.1 j l) (fun j l => ld_k 0 0 _ _ _ (by decide) (off t 1).2.1 j l) y0 y1 y2 y3 x1 x2 x3 (by simpa using h1) (by simpa using h2) (by simpa using h3))
    exact congrFun rfl (ix4 y0 y1 y2 y3)
  case piece15 =>
    refine Eq.trans (b := outOAt (firstOff (grid0.coords t))
        (View.ld (iblk m c 0 t) (Rect.unit ![0, 0, 0, 0, 0] S1x1x1x128x256.size inb_S1x1x8x256x256_S1x1x1x128x256_0_0_0_0_0))
        (View.ld (iblk m c 1 t) (Rect.unit (k0_off1 (grid0.coords t) 0#32) S1x1x1x256x256.size (k0_off1_inb (grid0.coords t) 0)))
        (View.ld (iblk m c 2 t) (Rect.unit (k0_off1 (grid0.coords t) 0#32) S1x1x1x256x256.size (k0_off1_inb (grid0.coords t) 0))) (ix4 y0 y1 y2 y3)) ?_ (pieceO m c t b g hg hb hg' 0 0 (by decide) (firstOff (grid0.coords t)) (off t 0).1 _ _ _ (fun i l => ld_q 0 0 _ _ (by decide) i l) (fun j l => ld_k 0 0 _ _ _ (by decide) (off t 0).2.1 j l) (fun j l => ld_k 0 0 _ _ _ (by decide) (off t 0).2.1 j l) y0 y1 y2 y3 x1 x2 x3 (by simpa using h1) (by simpa using h2) (by simpa using h3))
    exact congrFun rfl (ix4 y0 y1 y2 y3)

set_option maxHeartbeats 4000000 in
/-- What a point leaves in the second output's block. -/
theorem pointL (c : Dev nD) (t : Fin cfg0.N) (b : Fin 4) (g : ℕ) (hg : g < 2) (hb : (grid0.coords t 0 : ℕ) = b) (hg' : (grid0.coords t 1 : ℕ) = g)
    (z : Fin 1) (x1 : Fin 8) (x2 : Fin 256) (x3 : Fin 256) : ((outsAt0 m c t).2 : Vec Ideal S1x8x256x256 .f32) (ix4 z x1 x2 x3) =
      specL m c b ⟨8 * g + x1.val, by omega⟩ x2 x3 := by
  unfold outsAt0 out0_A_4
  dsimp only
  rw [View.read_writes_eq_canon _ _ _ (cover0_A_4 c _ _ _ _ _ _ _ _ _ _ _ _ _ _)]
  unfold kernelRun0_A; dsimp only; sl_unfold_words
  simp only [View.readAt_eq_ld]
  rw [(hs0_0 t).read_unread (iblk m c 0 t), (hs0_1 t).read_unread (iblk m c 1 t)]
  canon_tiles y h
  all_goals idx_vars y
  case piece0 =>
    refine Eq.trans (b := outLAt 128#32
        (View.ld (iblk m c 0 t) (Rect.unit ![0, 0, 7, 128, 0] S1x1x1x128x256.size inb_S1x1x8x256x256_S1x1x1x128x256_0_0_7_128_0))
        (View.ld (iblk m c 1 t) (Rect.unit (k0_off8 (grid0.coords t) 1#32) S1x1x1x256x256.size (k0_off8_inb (grid0.coords t) 1))) (ix4 y0 y1 y2 y3)) ?_ (pieceL m c t b g hg hb hg' 7 1 (by decide) 128#32 rfl _ _ (fun i l => ld_q 7 128 _ _ (by decide) i l) (fun j l => ld_k 7 0 _ _ _ (by decide) (off t 1).2.2.2.2.2.2.2.2 j l) y0 y1 y2 y3 x1 x2 x3 (by simpa using h1) (by simpa using h2) (by simpa using h3))
    exact congrFun rfl (ix4 y0 y1 y2 y3)
  case piece1 =>
    refine Eq.trans (b := outLAt (firstOff (grid0.coords t))
        (View.ld (iblk m c 0 t) (Rect.unit ![0, 0, 7, 0, 0] S1x1x1x128x256.size inb_S1x1x8x256x256_S1x1x1x128x256_0_0_7_0_0))
        (View.ld (iblk m c 1 t) (Rect.unit (k0_off8 (grid0.coords t) 0#32) S1x1x1x256x256.size (k0_off8_inb (grid0.coords t) 0))) (ix4 y0 y1 y2 y3)) ?_ (pieceL m c t b g hg hb hg' 7 0 (by decide) (firstOff (grid0.coords t)) (off t 0).1 _ _ (fun i l => ld_q 7 0 _ _ (by decide) i l) (fun j l => ld_k 7 0 _ _ _ (by decide) (off t 0).2.2.2.2.2.2.2.2 j l) y0 y1 y2 y3 x1 x2 x3 (by simpa using h1) (by simpa using h2) (by simpa using h3))
    exact congrFun rfl (ix4 y0 y1 y2 y3)
  case piece2 =>
    refine Eq.trans (b := outLAt 128#32
        (View.ld (iblk m c 0 t) (Rect.unit ![0, 0, 6, 128, 0] S1x1x1x128x256.size inb_S1x1x8x256x256_S1x1x1x128x256_0_0_6_128_0))
        (View.ld (iblk m c 1 t) (Rect.unit (k0_off7 (grid0.coords t) 1#32) S1x1x1x256x256.size (k0_off7_inb (grid0.coords t) 1))) (ix4 y0 y1 y2 y3)) ?_ (pieceL m c t b g hg hb hg' 6 1 (by decide) 128#32 rfl _ _ (fun i l => ld_q 6 128 _ _ (by decide) i l) (fun j l => ld_k 6 0 _ _ _ (by decide) (off t 1).2.2.2.2.2.2.2.1 j l) y0 y1 y2 y3 x1 x2 x3 (by simpa using h1) (by simpa using h2) (by simpa using h3))
    exact congrFun rfl (ix4 y0 y1 y2 y3)
  case piece3 =>
    refine Eq.trans (b := outLAt (firstOff (grid0.coords t))
        (View.ld (iblk m c 0 t) (Rect.unit ![0, 0, 6, 0, 0] S1x1x1x128x256.size inb_S1x1x8x256x256_S1x1x1x128x256_0_0_6_0_0))
        (View.ld (iblk m c 1 t) (Rect.unit (k0_off7 (grid0.coords t) 0#32) S1x1x1x256x256.size (k0_off7_inb (grid0.coords t) 0))) (ix4 y0 y1 y2 y3)) ?_ (pieceL m c t b g hg hb hg' 6 0 (by decide) (firstOff (grid0.coords t)) (off t 0).1 _ _ (fun i l => ld_q 6 0 _ _ (by decide) i l) (fun j l => ld_k 6 0 _ _ _ (by decide) (off t 0).2.2.2.2.2.2.2.1 j l) y0 y1 y2 y3 x1 x2 x3 (by simpa using h1) (by simpa using h2) (by simpa using h3))
    exact congrFun rfl (ix4 y0 y1 y2 y3)
  case piece4 =>
    refine Eq.trans (b := outLAt 128#32
        (View.ld (iblk m c 0 t) (Rect.unit ![0, 0, 5, 128, 0] S1x1x1x128x256.size inb_S1x1x8x256x256_S1x1x1x128x256_0_0_5_128_0))
        (View.ld (iblk m c 1 t) (Rect.unit (k0_off6 (grid0.coords t) 1#32) S1x1x1x256x256.size (k0_off6_inb (grid0.coords t) 1))) (ix4 y0 y1 y2 y3)) ?_ (pieceL m c t b g hg hb hg' 5 1 (by decide) 128#32 rfl _ _ (fun i l => ld_q 5 128 _ _ (by decide) i l) (fun j l => ld_k 5 0 _ _ _ (by decide) (off t 1).2.2.2.2.2.2.1 j l) y0 y1 y2 y3 x1 x2 x3 (by simpa using h1) (by simpa using h2) (by simpa using h3))
    exact congrFun rfl (ix4 y0 y1 y2 y3)
  case piece5 =>
    refine Eq.trans (b := outLAt (firstOff (grid0.coords t))
        (View.ld (iblk m c 0 t) (Rect.unit ![0, 0, 5, 0, 0] S1x1x1x128x256.size inb_S1x1x8x256x256_S1x1x1x128x256_0_0_5_0_0))
        (View.ld (iblk m c 1 t) (Rect.unit (k0_off6 (grid0.coords t) 0#32) S1x1x1x256x256.size (k0_off6_inb (grid0.coords t) 0))) (ix4 y0 y1 y2 y3)) ?_ (pieceL m c t b g hg hb hg' 5 0 (by decide) (firstOff (grid0.coords t)) (off t 0).1 _ _ (fun i l => ld_q 5 0 _ _ (by decide) i l) (fun j l => ld_k 5 0 _ _ _ (by decide) (off t 0).2.2.2.2.2.2.1 j l) y0 y1 y2 y3 x1 x2 x3 (by simpa using h1) (by simpa using h2) (by simpa using h3))
    exact congrFun rfl (ix4 y0 y1 y2 y3)
  case piece6 =>
    refine Eq.trans (b := outLAt 128#32
        (View.ld (iblk m c 0 t) (Rect.unit ![0, 0, 4, 128, 0] S1x1x1x128x256.size inb_S1x1x8x256x256_S1x1x1x128x256_0_0_4_128_0))
        (View.ld (iblk m c 1 t) (Rect.unit (k0_off5 (grid0.coords t) 1#32) S1x1x1x256x256.size (k0_off5_inb (grid0.coords t) 1))) (ix4 y0 y1 y2 y3)) ?_ (pieceL m c t b g hg hb hg' 4 1 (by decide) 128#32 rfl _ _ (fun i l => ld_q 4 128 _ _ (by decide) i l) (fun j l => ld_k 4 0 _ _ _ (by decide) (off t 1).2.2.2.2.2.1 j l) y0 y1 y2 y3 x1 x2 x3 (by simpa using h1) (by simpa using h2) (by simpa using h3))
    exact congrFun rfl (ix4 y0 y1 y2 y3)
  case piece7 =>
    refine Eq.trans (b := outLAt (firstOff (grid0.coords t))
        (View.ld (iblk m c 0 t) (Rect.unit ![0, 0, 4, 0, 0] S1x1x1x128x256.size inb_S1x1x8x256x256_S1x1x1x128x256_0_0_4_0_0))
        (View.ld (iblk m c 1 t) (Rect.unit (k0_off5 (grid0.coords t) 0#32) S1x1x1x256x256.size (k0_off5_inb (grid0.coords t) 0))) (ix4 y0 y1 y2 y3)) ?_ (pieceL m c t b g hg hb hg' 4 0 (by decide) (firstOff (grid0.coords t)) (off t 0).1 _ _ (fun i l => ld_q 4 0 _ _ (by decide) i l) (fun j l => ld_k 4 0 _ _ _ (by decide) (off t 0).2.2.2.2.2.1 j l) y0 y1 y2 y3 x1 x2 x3 (by simpa using h1) (by simpa using h2) (by simpa using h3))
    exact congrFun rfl (ix4 y0 y1 y2 y3)
  case piece8 =>
    refine Eq.trans (b := outLAt 128#32
        (View.ld (iblk m c 0 t) (Rect.unit ![0, 0, 3, 128, 0] S1x1x1x128x256.size inb_S1x1x8x256x256_S1x1x1x128x256_0_0_3_128_0))
        (View.ld (iblk m c 1 t) (Rect.unit (k0_off4 (grid0.coords t) 1#32) S1x1x1x256x256.size (k0_off4_inb (grid0.coords t) 1))) (ix4 y0 y1 y2 y3)) ?_ (pieceL m c t b g hg hb hg' 3 1 (by decide) 128#32 rfl _ _ (fun i l => ld_q 3 128 _ _ (by decide) i l) (fun j l => ld_k 3 0 _ _ _ (by decide) (off t 1).2.2.2.2.1 j l) y0 y1 y2 y3 x1 x2 x3 (by simpa using h1) (by simpa using h2) (by simpa using h3))
    exact congrFun rfl (ix4 y0 y1 y2 y3)
  case piece9 =>
    refine Eq.trans (b := outLAt (firstOff (grid0.coords t))
        (View.ld (iblk m c 0 t) (Rect.unit ![0, 0, 3, 0, 0] S1x1x1x128x256.size inb_S1x1x8x256x256_S1x1x1x128x256_0_0_3_0_0))
        (View.ld (iblk m c 1 t) (Rect.unit (k0_off4 (grid0.coords t) 0#32) S1x1x1x256x256.size (k0_off4_inb (grid0.coords t) 0))) (ix4 y0 y1 y2 y3)) ?_ (pieceL m c t b g hg hb hg' 3 0 (by decide) (firstOff (grid0.coords t)) (off t 0).1 _ _ (fun i l => ld_q 3 0 _ _ (by decide) i l) (fun j l => ld_k 3 0 _ _ _ (by decide) (off t 0).2.2.2.2.1 j l) y0 y1 y2 y3 x1 x2 x3 (by simpa using h1) (by simpa using h2) (by simpa using h3))
    exact congrFun rfl (ix4 y0 y1 y2 y3)
  case piece10 =>
    refine Eq.trans (b := outLAt 128#32
        (View.ld (iblk m c 0 t) (Rect.unit ![0, 0, 2, 128, 0] S1x1x1x128x256.size inb_S1x1x8x256x256_S1x1x1x128x256_0_0_2_128_0))
        (View.ld (iblk m c 1 t) (Rect.unit (k0_off3 (grid0.coords t) 1#32) S1x1x1x256x256.size (k0_off3_inb (grid0.coords t) 1))) (ix4 y0 y1 y2 y3)) ?_ (pieceL m c t b g hg hb hg' 2 1 (by decide) 128#32 rfl _ _ (fun i l => ld_q 2 128 _ _ (by decide) i l) (fun j l => ld_k 2 0 _ _ _ (by decide) (off t 1).2.2.2.1 j l) y0 y1 y2 y3 x1 x2 x3 (by simpa using h1) (by simpa using h2) (by simpa using h3))
    exact congrFun rfl (ix4 y0 y1 y2 y3)
  case piece11 =>
    refine Eq.trans (b := outLAt (firstOff (grid0.coords t))
        (View.ld (iblk m c 0 t) (Rect.unit ![0, 0, 2, 0, 0] S1x1x1x128x256.size inb_S1x1x8x256x256_S1x1x1x128x256_0_0_2_0_0))
        (View.ld (iblk m c 1 t) (Rect.unit (k0_off3 (grid0.coords t) 0#32) S1x1x1x256x256.size (k0_off3_inb (grid0.coords t) 0))) (ix4 y0 y1 y2 y3)) ?_ (pieceL m c t b g hg hb hg' 2 0 (by decide) (firstOff (grid0.coords t)) (off t 0).1 _ _ (fun i l => ld_q 2 0 _ _ (by decide) i l) (fun j l => ld_k 2 0 _ _ _ (by decide) (off t 0).2.2.2.1 j l) y0 y1 y2 y3 x1 x2 x3 (by simpa using h1) (by simpa using h2) (by simpa using h3))
    exact congrFun rfl (ix4 y0 y1 y2 y3)
  case piece12 =>
    refine Eq.trans (b := outLAt 128#32
        (View.ld (iblk m c 0 t) (Rect.unit ![0, 0, 1, 128, 0] S1x1x1x128x256.size inb_S1x1x8x256x256_S1x1x1x128x256_0_0_1_128_0))
        (View.ld (iblk m c 1 t) (Rect.unit (k0_off2 (grid0.coords t) 1#32) S1x1x1x256x256.size (k0_off2_inb (grid0.coords t) 1))) (ix4 y0 y1 y2 y3)) ?_ (pieceL m c t b g hg hb hg' 1 1 (by decide) 128#32 rfl _ _ (fun i l => ld_q 1 128 _ _ (by decide) i l) (fun j l => ld_k 1 0 _ _ _ (by decide) (off t 1).2.2.1 j l) y0 y1 y2 y3 x1 x2 x3 (by simpa using h1) (by simpa using h2) (by simpa using h3))
    exact congrFun rfl (ix4 y0 y1 y2 y3)
  case piece13 =>
    refine Eq.trans (b := outLAt (firstOff (grid0.coords t))
        (View.ld (iblk m c 0 t) (Rect.unit ![0, 0, 1, 0, 0] S1x1x1x128x256.size inb_S1x1x8x256x256_S1x1x1x128x256_0_0_1_0_0))
        (View.ld (iblk m c 1 t) (Rect.unit (k0_off2 (grid0.coords t) 0#32) S1x1x1x256x256.size (k0_off2_inb (grid0.coords t) 0))) (ix4 y0 y1 y2 y3)) ?_ (pieceL m c t b g hg hb hg' 1 0 (by decide) (firstOff (grid0.coords t)) (off t 0).1 _ _ (fun i l => ld_q 1 0 _ _ (by decide) i l) (fun j l => ld_k 1 0 _ _ _ (by decide) (off t 0).2.2.1 j l) y0 y1 y2 y3 x1 x2 x3 (by simpa using h1) (by simpa using h2) (by simpa using h3))
    exact congrFun rfl (ix4 y0 y1 y2 y3)
  case piece14 =>
    refine Eq.trans (b := outLAt 128#32
        (View.ld (iblk m c 0 t) (Rect.unit ![0, 0, 0, 128, 0] S1x1x1x128x256.size inb_S1x1x8x256x256_S1x1x1x128x256_0_0_0_128_0))
        (View.ld (iblk m c 1 t) (Rect.unit (k0_off1 (grid0.coords t) 1#32) S1x1x1x256x256.size (k0_off1_inb (grid0.coords t) 1))) (ix4 y0 y1 y2 y3)) ?_ (pieceL m c t b g hg hb hg' 0 1 (by decide) 128#32 rfl _ _ (fun i l => ld_q 0 128 _ _ (by decide) i l) (fun j l => ld_k 0 0 _ _ _ (by decide) (off t 1).2.1 j l) y0 y1 y2 y3 x1 x2 x3 (by simpa using h1) (by simpa using h2) (by simpa using h3))
    exact congrFun rfl (ix4 y0 y1 y2 y3)
  case piece15 =>
    refine Eq.trans (b := outLAt (firstOff (grid0.coords t))
        (View.ld (iblk m c 0 t) (Rect.unit ![0, 0, 0, 0, 0] S1x1x1x128x256.size inb_S1x1x8x256x256_S1x1x1x128x256_0_0_0_0_0))
        (View.ld (iblk m c 1 t) (Rect.unit (k0_off1 (grid0.coords t) 0#32) S1x1x1x256x256.size (k0_off1_inb (grid0.coords t) 0))) (ix4 y0 y1 y2 y3)) ?_ (pieceL m c t b g hg hb hg' 0 0 (by decide) (firstOff (grid0.coords t)) (off t 0).1 _ _ (fun i l => ld_q 0 0 _ _ (by decide) i l) (fun j l => ld_k 0 0 _ _ _ (by decide) (off t 0).2.1 j l) y0 y1 y2 y3 x1 x2 x3 (by simpa using h1) (by simpa using h2) (by simpa using h3))
    exact congrFun rfl (ix4 y0 y1 y2 y3)

/-- The first output's block at a point is its part of the result. -/
theorem point_at3 (c : Dev nD) (t : Fin cfg0.N) (y : S1x8x256x256.Idx) (j : S4x16x256x256.Idx) (h0 : (j 0 : ℕ) = (grid0.coords t 0 : ℕ))
    (h1 : (j 1 : ℕ) = (grid0.coords t 1 : ℕ) * 8 + (y 1 : ℕ)) (h2 : (j 2 : ℕ) = y 2) (h3 : (j 3 : ℕ) = y 3) : (outsAt0 m c t).1 y = arrO m c j := by
  have hn : (grid0.coords t 1 : ℕ) < 2 := (grid0.coords t 1).isLt
  idx_vars y
  idx_vars j
  refine (pointO m c t j0 _ hn h0.symm rfl y0 y1 y2 y3).trans ?_
  have hy1 : (y1 : ℕ) < 8 := y1.isLt
  have e1 : j1 = ⟨8 * (grid0.coords t 1 : ℕ) + y1, by omega⟩ := Fin.ext (by show (j1 : ℕ) = 8 * _ + _; rw [h1]; exact congrArg (· + (y1 : ℕ)) (Nat.mul_comm _ _))
  have e2 : j2 = y2 := Fin.ext h2
  have e3 : j3 = y3 := Fin.ext h3
  rw [e1, e2, e3]
  rfl

/-- The second output's block. -/
theorem point_at4 (c : Dev nD) (t : Fin cfg0.N) (y : S1x8x256x256.Idx) (j : S4x16x256x256.Idx) (h0 : (j 0 : ℕ) = (grid0.coords t 0 : ℕ))
    (h1 : (j 1 : ℕ) = (grid0.coords t 1 : ℕ) * 8 + (y 1 : ℕ)) (h2 : (j 2 : ℕ) = y 2) (h3 : (j 3 : ℕ) = y 3) : (outsAt0 m c t).2 y = arrL m c j := by
  have hn : (grid0.coords t 1 : ℕ) < 2 := (grid0.coords t 1).isLt
  idx_vars y
  idx_vars j
  refine (pointL m c t j0 _ hn h0.symm rfl y0 y1 y2 y3).trans ?_
  have hy1 : (y1 : ℕ) < 8 := y1.isLt
  have e1 : j1 = ⟨8 * (grid0.coords t 1 : ℕ) + y1, by omega⟩ := Fin.ext (by show (j1 : ℕ) = 8 * _ + _; rw [h1]; exact congrArg (· + (y1 : ℕ)) (Nat.mul_comm _ _))
  have e2 : j2 = y2 := Fin.ext h2
  have e3 : j3 = y3 := Fin.ext h3
  rw [e1, e2, e3]
  rfl

/-- The first result array after the run. -/
theorem final3 (c : Dev nD) : (dats m 0 c).arrAt 3 (cfgs 0).N = arrO m c := by
  refine (dats m 0 c).arrAt_eq_of_covers 3 _ (by decide +kernel) fun t _ y => ?_
  blk_simp
  rw [after0_3]
  have hy : ((y 0 : Fin 1) : ℕ) < 1 := (y 0 : Fin 1).isLt
  refine point_at3 m c t y _ ?_ ?_ ?_ ?_
  all_goals (blk_simp [idx t] <;> try omega)

/-- The second result array after the run. -/
theorem final4 (c : Dev nD) : (dats m 0 c).arrAt 4 (cfgs 0).N = arrL m c := by
  refine (dats m 0 c).arrAt_eq_of_covers 4 _ (by decide +kernel) fun t _ y => ?_
  blk_simp
  rw [after0_4]
  have hy : ((y 0 : Fin 1) : ℕ) < 1 := (y 0 : Fin 1).isLt
  refine point_at4 m c t y _ ?_ ?_ ?_ ?_
  all_goals (blk_simp [idx t] <;> try omega)

/-- The kernel's run: the result arrays are the specification over the argument, which ends unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = arrO m c
      ∧ r.2.mem ((c : Thread nD τ).loc main_v0_1) = arrL m c
      ∧ r.2.mem ((c : Thread nD τ).loc main_arg0) = m ((c : Thread nD τ).loc main_arg0) :=
  (θ_run defs _ _).mono (fun _ h c => ⟨((h c).1).trans (final3 m c), ((h c).2.1).trans (final4 m c), (h c).2.2⟩) (Value.run_blocks m ρ)
end Cert.Band16Ideal.Val
-- ==== Proof.Band16Ref.lean ====
/- The reference of the dilated attention, read at an index: the row softmax of the specification. -/
module
public import proofs.«01_k».proof.Proof.Gen.Band16RefIdeal.Read
public import proofs.«01_k».proof.Proof.BandSpec
public import Idealize.ShloMosaic.Lib.Pointwise
public import Idealize.ShloMosaic.Lib.WordCmp
public import Idealize.ShloMosaic.Lib.Affine
@[expose] public section
set_option maxRecDepth 16384
noncomputable section
namespace Cert.Band16RefIdeal.Val
open Cert.Band16RefIdeal Cert.Band16RefIdeal.Gen Cert.Band16RefIdeal.Read Idealize.ShloMosaic Idealize.ShloMosaic.TcCoe Idealize.SL.Sem
open Idealize.ShloMosaic.WordCmp Idealize.ShloMosaic.Affine

/-- The distance of two rows' tokens, as a word and as an integer. -/
def dist (i j : Fin 256) : BitVec 32 := IntOp.muli 16#32 (IntOp.subi (BitVec.ofNat 32 i) (BitVec.ofNat 32 j))

/-- The distance word holds sixteen times the distance of the rows. -/
theorem dist_toInt (i j : Fin 256) : (dist i j).toInt = 16 * ((i.val : ℤ) - (j.val : ℤ)) := by
  have h : IsInt (dist i j) (16 * ((i.val : ℤ) - (j.val : ℤ))) :=
    Affine.muli (Affine.ofNat (e := 16) 16 (by omega)) (Affine.subi (Affine.ofNat (e := (i.val : ℤ)) i.val (by omega)) (Affine.ofNat (e := (j.val : ℤ)) j.val (by omega)) ⟨rfl, by omega, by omega⟩)
      ⟨rfl, by omega, by omega⟩
  unfold IsInt at h; exact h

/-- The mask bit says whether the key is in the window. -/
theorem mask_eq (i j : Fin 256) :
    val_main_v25 (F := Ideal) (ix2 i j) = BitVec.ofBool (decide (BandSpec.window i j)) := by
  have h : val_main_v25 (F := Ideal) (ix2 i j) = IntOp.andi (IntOp.cmpi .sge (dist i j) 0#32) (IntOp.cmpi .sle (dist i j) 2048#32) := by
    pointwise [val_main_v25, val_main_v24, val_main_v23, val_main_c_1, val_main_v22, val_main_v21, val_main_c_0, val_main_v20, val_main_v19, val_main_c, val_main_v18, val_main_v17, val_main_v16, val_main_v15, val_main_v14, val_main_v13, val_main_v12, hlo_ix]
    rfl
  rw [h, cmpi_sge_eq, cmpi_sle_eq, andi_ofBool, dist_toInt, ← Bool.decide_and]
  congr 1
  refine decide_eq_decide.mpr ?_
  unfold BandSpec.window
  rw [show (0#32 : BitVec 32).toInt = 0 from rfl, show (2048#32 : BitVec 32).toInt = 2048 from rfl]
  omega

/-- A choice by the mask bit is a choice by the window. -/
theorem mask_select {α : Type} (i j : Fin 256) (a b : α) :
    Scalar.select (val_main_v25 (F := Ideal) (ix2 i j)) a b = if BandSpec.window i j then a else b := by
  rw [mask_eq]; by_cases h : BandSpec.window i j <;> simp [h, Scalar.select]

/-- The four heads' slopes. -/
def slope (h : Fin 4) : ℝ :=
  if h.val < 1 then 1 / 64 else if h.val - 1 < 1 then 1321123 / 2 ^ 27 else if h.val - 1 - 1 < 1 then 13316085 / 2 ^ 31 else 1 / 256

section
variable (x0 : Vec Ideal S4x3x16x256x256 .bf16) (b : Fin 4) (c : Fin 16)
/-- The rows of the queries, the keys and the values of one class. -/
def rows (a : Fin 3) (i : Fin 256) (l : Fin 256) : EReal := x0 (ix5 b a c i l)

/-- The scores. -/
theorem score_eq (h : Fin 4) (i j : Fin 256) :
    val_main_v43 (F := Ideal) x0 (ix5 b c h i j) = BandSpec.score (rows x0 b c 0) (rows x0 b c 1) (slope h) 16 h i j := by
  pointwise [val_main_v43, val_main_v42, val_main_v41, val_main_v40, val_main_v39, val_main_v38, val_main_v37, val_main_v36, val_main_v35, val_main_v34, val_main_v33, val_main_v32, val_main_v31, val_main_v30, val_main_cst_5, val_main_cst_4, val_main_cst_3, val_main_cst_2, val_main_v29, val_main_v28, val_main_v27, val_main_v26, val_main_cst, val_main_v20, val_main_v19, val_main_c, val_main_v18, val_main_v17, val_main_v16, val_main_v15, val_main_v14, val_main_v13, val_main_v12, val_main_v7, val_main_v6, val_main_v5, val_main_v4, val_main_v3, val_main_v2, val_main_v1, val_main_v0]
  rw [BandSpec.log_two]
  unfold BandSpec.score rows
  congr 1
  change _ * (((dist i j).toInt : ℝ) : EReal) = _
  have e1 : Ideal.ofBits .f32 1015021568#32 = ((1 / 64 : ℝ) : EReal) := by simp [Ideal.ofBits, Ideal.ieee, -EReal.coe_mul]; norm_num
  have e2 : Ideal.ofBits .f32 1008813336#32 = ((1321123 / 2 ^ 27 : ℝ) : EReal) := by simp [Ideal.ofBits, Ideal.ieee, -EReal.coe_mul]; norm_num
  have e3 : Ideal.ofBits .f32 1003171829#32 = ((13316085 / 2 ^ 31 : ℝ) : EReal) := by simp [Ideal.ofBits, Ideal.ieee, -EReal.coe_mul]; norm_num
  have e4 : Ideal.ofBits .f32 998244352#32 = ((1 / 256 : ℝ) : EReal) := by simp [Ideal.ofBits, Ideal.ieee, -EReal.coe_mul]; norm_num
  rw [e1, e2, e3, e4, dist_toInt, EReal.coe_mul]
  congr 1
  · unfold slope; split_ifs <;> rfl
  · push_cast; rfl

/-- The masked scores. -/
theorem masked_eq (h : Fin 4) (i j : Fin 256) :
    val_main_v44 (F := Ideal) x0 (ix5 b c h i j) =
      BandMath.ms (BandSpec.window i) (BandSpec.score (rows x0 b c 0) (rows x0 b c 1) (slope h) 16 h i) j := by
  pointwise [val_main_v44, val_main_call0_v2, val_main_call0_v1, val_main_call0_v0, val_main_cst_6]
  rw [mask_select, score_eq]
  unfold BandMath.ms
  rw [show (id (constant (F := Ideal) S_ .f32 4286578688#32) ix0 : EReal) = ⊥ from by
    show Ideal.ofBits .f32 4286578688#32 = ⊥
    simp [Ideal.ofBits, Ideal.ieee]]

/-- The greatest score of a row. -/
theorem max_eq (h : Fin 4) (i : Fin 256) :
    val_main_v45 (F := Ideal) x0 (ix4 b c h i) =
      BandMath.mx (BandSpec.window i) (BandSpec.score (rows x0 b c 0) (rows x0 b c 1) (slope h) 16 h i) := by
  pointwise [val_main_v45, val_main_cst_7]
  simp only [masked_eq]
  rw [show Ideal.ofBits .f32 4286578688#32 = ⊥ from by simp [Ideal.ofBits, Ideal.ieee]]; rfl

/-- The weights. -/
theorem p_eq (h : Fin 4) (i j : Fin 256) :
    val_main_v50 (F := Ideal) x0 (ix5 b c h i j) =
      BandMath.p (BandSpec.window i) (BandSpec.score (rows x0 b c 0) (rows x0 b c 1) (slope h) 16 h i) j := by
  have e : val_main_v49 (F := Ideal) x0 (ix5 b c h i j) = Ideal.exp (val_main_v44 (F := Ideal) x0 (ix5 b c h i j) - val_main_v45 (F := Ideal) x0 (ix4 b c h i)) := by
    pointwise [val_main_v49, val_main_v48, val_main_v47, val_main_v46]
  pointwise [val_main_v50, val_main_call1_v2, val_main_call1_v1, val_main_call1_v0, val_main_cst_8]
  rw [mask_select, e, masked_eq, max_eq]
  unfold BandMath.p
  rw [show (id (constant (F := Ideal) S_ .f32 0#32) ix0 : EReal) = 0 from Ideal.ofBits_zero_f32]

/-- The normaliser of a row. -/
theorem den_eq (h : Fin 4) (i : Fin 256) :
    val_main_v51 (F := Ideal) x0 (ix4 b c h i) =
      ∑ j, BandMath.p (BandSpec.window i) (BandSpec.score (rows x0 b c 0) (rows x0 b c 1) (slope h) 16 h i) j := by
  pointwise [val_main_v51, val_main_cst_9]
  simp only [p_eq]

/-- The normalised weights. -/
theorem prob_eq (h : Fin 4) (i j : Fin 256) :
    val_main_v56 (F := Ideal) x0 (ix5 b c h i j) =
      Ideal.div (BandMath.p (BandSpec.window i) (BandSpec.score (rows x0 b c 0) (rows x0 b c 1) (slope h) 16 h i) j)
        (max (∑ j, BandMath.p (BandSpec.window i) (BandSpec.score (rows x0 b c 0) (rows x0 b c 1) (slope h) 16 h i) j) (Ideal.ofBits .f32 228737632#32)) := by
  pointwise [val_main_v56, val_main_v55, val_main_v54, val_main_v53, val_main_v52, val_main_cst_10]
  rw [p_eq, den_eq]

/-- The first result. -/
theorem o_eq (i : Fin 256) (l : Fin 256) (h : Fin 4) (hl : l.val / 64 = h.val) :
    val_main_v63 (F := Ideal) x0 (ix4 b c i l) = BandSpec.mean (rows x0 b c 0) (rows x0 b c 1) (rows x0 b c 2) (slope h) 16 h i l := by
  pointwise [val_main_v63, val_main_v58, val_main_v57, val_main_v11, val_main_v10, val_main_v9, val_main_v8]
  unfold BandSpec.mean
  refine Finset.sum_congr rfl fun j _ => ?_
  rw [← prob_eq]
  congr 3
  exact Fin.ext hl

end
end Cert.Band16RefIdeal.Val
-- ==== Proof.Band16RefLse.lean ====
/- The second result of the reference of the dilated attention, read at an index. -/
module
public import proofs.«01_k».proof.Proof.Gen.Band16RefIdeal.Read
public import proofs.«01_k».proof.Proof.Band16Ref
public import Idealize.ShloMosaic.Lib.Pointwise
@[expose] public section
set_option maxRecDepth 16384
noncomputable section
namespace Cert.Band16RefIdeal.Val
open Cert.Band16RefIdeal Cert.Band16RefIdeal.Gen Cert.Band16RefIdeal.Read Idealize.ShloMosaic Idealize.ShloMosaic.TcCoe Idealize.SL.Sem
open Idealize.ShloMosaic.WordCmp Idealize.ShloMosaic.Affine

section
variable (x0 : Vec Ideal S4x3x16x256x256 .bf16) (b : Fin 4) (c : Fin 16)
/-- The logarithm of the sum, before it is laid out. -/
theorem r60 (h : Fin 4) (i : Fin 256) : val_main_v60 (F := Ideal) x0 (ix5 b c h i 0) =
    val_main_v46 (F := Ideal) x0 (ix5 b c h i 0) + Ideal.log (val_main_v52 (F := Ideal) x0 (ix5 b c h i 0)) := by
  have e : ∀ x y : EReal, FloatOps.addf (F := Ideal) (φ := .f32) x (FloatOps.hostUnary (F := Ideal) (φ := .f32) .log y) = x + Ideal.log y := fun _ _ => rfl
  rw [val_main_v60_apply, val_main_v59_apply]; exact e _ _
/-- The greatest score as a column. -/
theorem r46 (h : Fin 4) (i : Fin 256) : val_main_v46 (F := Ideal) x0 (ix5 b c h i 0) = val_main_v45 (F := Ideal) x0 (ix4 b c h i) := by
  pointwise [val_main_v46]
/-- The normaliser as a column. -/
theorem r52 (h : Fin 4) (i : Fin 256) : val_main_v52 (F := Ideal) x0 (ix5 b c h i 0) = val_main_v51 (F := Ideal) x0 (ix4 b c h i) := by
  pointwise [val_main_v52]
/-- The heads moved behind the rows. -/
theorem r61 (h : Fin 4) (i : Fin 256) : val_main_v61 (F := Ideal) x0 (ix5 b c i h 0) = val_main_v60 (F := Ideal) x0 (ix5 b c h i 0) := by
  pointwise [val_main_v61]
/-- A column repeated along the lanes of its head. -/
theorem r62 (h : Fin 4) (i : Fin 256) (d : Fin 64) : val_main_v62 (F := Ideal) x0 (ix5 b c i h d) = val_main_v61 (F := Ideal) x0 (ix5 b c i h 0) := by
  pointwise [val_main_v62]
/-- The heads side by side. -/
theorem r64 (i : Fin 256) (l : Fin 256) : val_main_v64 (F := Ideal) x0 (ix4 b c i l) = val_main_v62 (F := Ideal) x0 (ix5 b c i ⟨l.val / 64, by omega⟩ ⟨l.val % 64, by omega⟩) := by
  pointwise [val_main_v64]
/-- The second result. -/
theorem lse_eq (i : Fin 256) (l : Fin 256) (h : Fin 4) (hl : l.val / 64 = h.val) :
    val_main_v64 (F := Ideal) x0 (ix4 b c i l) = BandSpec.lse (rows x0 b c 0) (rows x0 b c 1) (slope h) 16 h i := by
  rw [r64, r62, r61, show (⟨l.val / 64, by omega⟩ : Fin 4) = h from Fin.ext hl, r60, r46, r52, max_eq, den_eq]; rfl
end
end Cert.Band16RefIdeal.Val
-- ==== Proof.Band16Claim.lean ====
/- The claims about the dilated attention at step sixteen: the named constants stand for what they replace, and kernel and reference agree. -/
module
public import proofs.«01_k».proof.Defs
public import proofs.«01_k».proof.Proof.Gen.Band16RefIdeal.Run
public import proofs.«01_k».proof.Proof.Band16Final
public import proofs.«01_k».proof.Proof.Band16RefLse
@[expose] public section
noncomputable section
namespace Cert.Proof
open Idealize.ShloMosaic Idealize.SL.Sem

/-- Each named constant is what its table says. -/
theorem band16_preserves : Cert.preserves_Band16_Band16Ideal :=
  ⟨IdealRules.named_const.statement Cert.Band16Ideal.κ "mask" .f32 0xF149F2CA#32 ⊥ rfl,
   IdealRules.named_const.statement Cert.Band16Ideal.κ "slope0" .f32 0x3EB8AA3B#32 (((1 / 4) * (Real.log 2)⁻¹ : ℝ) : EReal) rfl,
   IdealRules.named_const.statement Cert.Band16Ideal.κ "slope1" .f32 0x3E68A9CD#32 (((1321123 / 8388608) * (Real.log 2)⁻¹ : ℝ) : EReal) rfl,
   IdealRules.named_const.statement Cert.Band16Ideal.κ "slope2" .f32 0x3E129195#32 (((13316085 / 134217728) * (Real.log 2)⁻¹ : ℝ) : EReal) rfl,
   IdealRules.named_const.statement Cert.Band16Ideal.κ "slope3" .f32 0x3DB8AA3B#32 (((1 / 16) * (Real.log 2)⁻¹ : ℝ) : EReal) rfl,
   IdealRules.named_const.statement Cert.Band16Ideal.κ "ln2" .f32 0x3F317218#32 ((Real.log 2 : ℝ) : EReal) rfl⟩

/-- The kernel and the reference leave the same two arrays: the row softmax of `BandSpec`. -/
theorem band16_algebraic : Cert.algebraic_Band16Ideal_Band16RefIdeal := by
  intro m g m' g' _ ha
  refine ⟨fun c => Cert.Band16Ideal.Val.arrO m c, fun c => Cert.Band16Ideal.Val.arrL m c, ?_, ?_⟩
  · exact Cert.Band16Ideal.Val.run m g
  · refine (θ_run _ _ _).mono (fun r h c => ⟨?_, ?_, (h c).2.2⟩) (Cert.Band16RefIdeal.Value.run m' g')
    · rw [(h c).1, Cert.Band16RefIdeal.Read.val_main_v63_eq, ha c]
      funext j
      rw [eq_ix4 j]
      exact Cert.Band16RefIdeal.Val.o_eq _ _ _ _ _ ⟨(j 3).val / 64, _⟩ rfl
    · rw [(h c).2.1, Cert.Band16RefIdeal.Read.val_main_v64_eq, ha c]
      funext j
      rw [eq_ix4 j]
      exact Cert.Band16RefIdeal.Val.lse_eq _ _ _ _ _ ⟨(j 3).val / 64, _⟩ rfl
end Cert.Proof
end
-- ==== Proof.FfnSpec.lean ====
/- The feed-forward block in plain sums over the extended reals: the formula both programs are read down to. -/
module
public import Idealize.ShloMosaic.Lib.Pointwise
@[expose] public section
noncomputable section
namespace Cert.FfnSpec
open Idealize.ShloMosaic

variable (h : FVec Ideal ⟨3, ![4, 4096, 1024]⟩ .bf16) (x1 : FVec Ideal ⟨3, ![4, 4096, 1024]⟩ .f32)
  (w : FVec Ideal ⟨2, ![1024, 5632]⟩ .f32) (cw : FVec Ideal ⟨2, ![3, 2816]⟩ .f32)
  (cb : FVec Ideal ⟨1, ![2816]⟩ .f32) (wd : FVec Ideal ⟨2, ![2816, 1024]⟩ .f32)
  (g : FVec Ideal ⟨1, ![1024]⟩ .f32)

/-- Column `q` of the up projection at token `s` of batch `b`. -/
def up (b : Fin 4) (s : Fin 4096) (q : Fin 5632) : EReal := ∑ x : Fin 1024, h (ix3 b s x) * w (ix2 x q)

/-- The up projection `n` tokens back, zero before the first token. -/
def tap (n : ℕ) (b : Fin 4) (s : Fin 4096) (q : Fin 5632) : EReal :=
  if n ≤ s.val then up h w b ⟨s.val - n, by omega⟩ q else 0

/-- The causal convolution of width three over the first half of the up projection. -/
def conv (b : Fin 4) (s : Fin 4096) (q : Fin 2816) : EReal :=
  cb (ix1 q) + cw (ix2 0 q) * tap h w 2 b s ⟨q.val, by omega⟩ + cw (ix2 1 q) * tap h w 1 b s ⟨q.val, by omega⟩
    + cw (ix2 2 q) * up h w b s ⟨q.val, by omega⟩

/-- The tanh form of gelu, with the literals both programs use. -/
def gelu (p : EReal) : EReal :=
  p * (Ideal.ofBits .f32 0x3F000000#32 * (1 + Ideal.tanh (Ideal.ofBits .f32 0x3F4C422A#32 *
    (p + Ideal.ofBits .f32 0x3D372713#32 * (p * p * p)))))

/-- The gated activation. -/
def act (b : Fin 4) (s : Fin 4096) (q : Fin 2816) : EReal :=
  gelu (conv h w cw cb b s q) * up h w b s ⟨2816 + q.val, by omega⟩

/-- The residual stream after the down projection. -/
def res (b : Fin 4) (s : Fin 4096) (d : Fin 1024) : EReal :=
  x1 (ix3 b s d) + ∑ q : Fin 2816, act h w cw cb b s q * wd (ix2 q d)

/-- The block's result: the residual stream, normalised by its root mean square and scaled. -/
def out (b : Fin 4) (s : Fin 4096) (d : Fin 1024) : EReal :=
  res h x1 w cw cb wd b s d
    * Ideal.rsqrt (Ideal.div (∑ e : Fin 1024, res h x1 w cw cb wd b s e * res h x1 w cw cb wd b s e)
        (Ideal.ofBits .f32 1149239296#32) + Ideal.ofBits .f32 897988541#32)
    * g (ix1 d)

end Cert.FfnSpec
-- ==== Proof.FfnChunk.lean ====
/- One block of 256 channels of the feed-forward kernel's activation, and its last store, as the formulas of `FfnSpec`. -/
module
public import proofs.«01_k».proof.Proof.Gen.FfnIdeal.Skeleton
public import proofs.«01_k».proof.Proof.FfnSpec
public import Idealize.ShloMosaic.Lib.WordCmp
@[expose] public section
set_option maxRecDepth 16384
noncomputable section
namespace Cert.FfnIdeal.Val
open Cert.FfnIdeal Cert.FfnIdeal.Gen Idealize.ShloMosaic Idealize.ShloMosaic.TcCoe Idealize.SL.Sem

/-- What the kernel stores for one block of 256 channels, from the staged tokens, the rows before them, and the block's columns
    of the weights. -/
def chunk (i : grid0.Coords) (h : Vec Ideal S1x1024x1024 .bf16) (halo : Vec Ideal S1x16x1024 .bf16) (wu wg : Vec Ideal S1024x256 .bf16)
    (cb w0 w1 w2 : Vec Ideal S1x256 .f32) : FVec Ideal S1024x256 .bf16 :=
  k0_pay12 (k0_pay5 h wu) (k0_pay7 h wg) (k0_pay9 i h halo wu) (k0_pay10 i h halo wu) (k0_pay11 cb) w0 w1 w2

/-- The factor that silences the rows before the first token: zero at the first block, one after it. -/
theorem live_eq (n : ℕ) (hn : n < 4) :
    (((Scalar.extui (IntOp.cmpi CmpIPredicate.sgt (BitVec.ofNat 32 n) 0#32) : BitVec 32).toInt : ℝ) : EReal) = if n = 0 then 0 else 1 := by
  have h : (Scalar.extui (IntOp.cmpi CmpIPredicate.sgt (BitVec.ofNat 32 n) 0#32) : BitVec 32).toInt = if n = 0 then 0 else 1 := by
    revert n; decide
  rw [h]; split <;> simp

/-- A block of channels is the gated activation of its rows and columns. -/
theorem chunk_apply (i : grid0.Coords) (h : Vec Ideal S1x1024x1024 .bf16) (halo : Vec Ideal S1x16x1024 .bf16) (wu wg : Vec Ideal S1024x256 .bf16)
    (cb w0 w1 w2 : Vec Ideal S1x256 .f32)
    (H : FVec Ideal ⟨3, ![4, 4096, 1024]⟩ .bf16)  (W : FVec Ideal ⟨2, ![1024, 5632]⟩ .f32) (CW : FVec Ideal ⟨2, ![3, 2816]⟩ .f32)
    (CB : FVec Ideal ⟨1, ![2816]⟩ .f32) (b : Fin 4) (n : ℕ) (hn : n < 4) (hi : (i 1 : ℕ) = n) (k : ℕ) (hk : k < 11)
    (hh : ∀ (r : Fin 1024) (x : Fin 1024), h (ix3 0 r x) = H (ix3 b ⟨n * 1024 + r, by omega⟩ x))
    (hhalo : ∀ (r : Fin 16) (x : Fin 1024), (h : 0 < n) → halo (ix3 0 r x) = H (ix3 b ⟨n * 1024 + r - 16, by omega⟩ x))
    (hwu : ∀ (x : Fin 1024) (q : Fin 256), wu (ix2 x q) = W (ix2 x ⟨256 * k + q, by omega⟩))
    (hwg : ∀ (x : Fin 1024) (q : Fin 256), wg (ix2 x q) = W (ix2 x ⟨2816 + (256 * k + q), by omega⟩))
    (hcb : ∀ (q : Fin 256), cb (ix2 0 q) = CB (ix1 ⟨256 * k + q, by omega⟩))
    (hw0 : ∀ (q : Fin 256), w0 (ix2 0 q) = CW (ix2 0 ⟨256 * k + q, by omega⟩))
    (hw1 : ∀ (q : Fin 256), w1 (ix2 0 q) = CW (ix2 1 ⟨256 * k + q, by omega⟩))
    (hw2 : ∀ (q : Fin 256), w2 (ix2 0 q) = CW (ix2 2 ⟨256 * k + q, by omega⟩))
    (r : Fin 1024) (q : Fin 256) :
    chunk i h halo wu wg cb w0 w1 w2 (ix2 r q) = FfnSpec.act H W CW CB b ⟨n * 1024 + r, by omega⟩ ⟨256 * k + q, by omega⟩ := by
  unfold chunk
  unfold_payloads
  have hr : (BitVec.ofNat 32 (r : ℕ)).toNat = r := WordCmp.toNat_ofNat_of_lt (by omega)
  pointwise [hlo_ix, hr, hi, live_eq n hn, hh, hwu, hwg, hcb, hw0, hw1, hw2]
  have t2 : (if (r : ℕ) = 0 then (∑ x, halo (ix3 0 14 x) * W (ix2 x ⟨256 * k + q, by omega⟩)) * (if n = 0 then (0 : EReal) else 1)
      else if (r : ℕ) = 1 then (∑ x, halo (ix3 0 15 x) * W (ix2 x ⟨256 * k + q, by omega⟩)) * (if n = 0 then (0 : EReal) else 1)
      else ∑ x, H (ix3 b ⟨n * 1024 + (r + 1024 - 2) % 1024, by omega⟩ x) * W (ix2 x ⟨256 * k + q, by omega⟩))
      = FfnSpec.tap H W 2 b ⟨n * 1024 + r, by omega⟩ ⟨256 * k + q, by omega⟩ := by
    unfold FfnSpec.tap FfnSpec.up
    by_cases h0 : n = 0
    · by_cases r0 : (r : ℕ) = 0
      · rw [if_pos r0, if_pos h0, if_neg (by simp only [not_le]; omega), mul_zero]
      · by_cases r1 : (r : ℕ) = 1
        · rw [if_neg r0, if_pos r1, if_pos h0, if_neg (by simp only [not_le]; omega), mul_zero]
        · rw [if_neg r0, if_neg r1, if_pos (show 2 ≤ ((⟨n * 1024 + r.val, by omega⟩ : Fin 4096) : ℕ) by show 2 ≤ n * 1024 + r.val; omega)]
          refine Finset.sum_congr rfl fun x _ => ?_
          congr 3; apply Fin.ext; show n * 1024 + (r.val + 1024 - 2) % 1024 = n * 1024 + r.val - 2; omega
    · rw [if_neg h0, mul_one, mul_one, if_pos (show 2 ≤ ((⟨n * 1024 + r.val, by omega⟩ : Fin 4096) : ℕ) by show 2 ≤ n * 1024 + r.val; omega)]
      by_cases r0 : (r : ℕ) = 0
      · rw [if_pos r0]
        refine Finset.sum_congr rfl fun x _ => ?_
        rw [hhalo _ _ (by omega)]
        congr 3; apply Fin.ext; show n * 1024 + 14 - 16 = n * 1024 + r.val - 2; omega
      · by_cases r1 : (r : ℕ) = 1
        · rw [if_neg r0, if_pos r1]
          refine Finset.sum_congr rfl fun x _ => ?_
          rw [hhalo _ _ (by omega)]
          congr 3; apply Fin.ext; show n * 1024 + 15 - 16 = n * 1024 + r.val - 2; omega
        · rw [if_neg r0, if_neg r1]
          refine Finset.sum_congr rfl fun x _ => ?_
          congr 3; apply Fin.ext; show n * 1024 + (r.val + 1024 - 2) % 1024 = n * 1024 + r.val - 2; omega
  have t1 : (if (r : ℕ) = 0 then (∑ x, halo (ix3 0 15 x) * W (ix2 x ⟨256 * k + q, by omega⟩)) * (if n = 0 then (0 : EReal) else 1)
      else ∑ x, H (ix3 b ⟨n * 1024 + (r + 1024 - 1) % 1024, by omega⟩ x) * W (ix2 x ⟨256 * k + q, by omega⟩))
      = FfnSpec.tap H W 1 b ⟨n * 1024 + r, by omega⟩ ⟨256 * k + q, by omega⟩ := by
    unfold FfnSpec.tap FfnSpec.up
    by_cases h0 : n = 0
    · by_cases r0 : (r : ℕ) = 0
      · rw [if_pos r0, if_pos h0, if_neg (by simp only [not_le]; omega), mul_zero]
      · rw [if_neg r0, if_pos (show 1 ≤ ((⟨n * 1024 + r.val, by omega⟩ : Fin 4096) : ℕ) by show 1 ≤ n * 1024 + r.val; omega)]
        refine Finset.sum_congr rfl fun x _ => ?_
        congr 3; apply Fin.ext; show n * 1024 + (r.val + 1024 - 1) % 1024 = n * 1024 + r.val - 1; omega
    · rw [if_neg h0, mul_one, if_pos (show 1 ≤ ((⟨n * 1024 + r.val, by omega⟩ : Fin 4096) : ℕ) by show 1 ≤ n * 1024 + r.val; omega)]
      by_cases r0 : (r : ℕ) = 0
      · rw [if_pos r0]
        refine Finset.sum_congr rfl fun x _ => ?_
        rw [hhalo _ _ (by omega)]
        congr 3; apply Fin.ext; show n * 1024 + 15 - 16 = n * 1024 + r.val - 1; omega
      · rw [if_neg r0]
        refine Finset.sum_congr rfl fun x _ => ?_
        congr 3; apply Fin.ext; show n * 1024 + (r.val + 1024 - 1) % 1024 = n * 1024 + r.val - 1; omega
  rw [t2, t1]
  unfold FfnSpec.act FfnSpec.gelu FfnSpec.conv
  rw [mul_assoc (_ + _ : EReal) (_ + _) (_ + _)]
  rfl

/-- The last store is the normalised residual stream of its rows. -/
theorem last_apply (a : Vec Ideal S1024x2816 .bf16) (wd : Vec Ideal S2816x1024 .bf16) (x1 : Vec Ideal S1x1024x1024 .f32) (g : Vec Ideal S1x1024 .f32) (z : Fin 1) (r : Fin 1024) (q : Fin 1024)
    (H : FVec Ideal ⟨3, ![4, 4096, 1024]⟩ .bf16) (X : FVec Ideal ⟨3, ![4, 4096, 1024]⟩ .f32) (W : FVec Ideal ⟨2, ![1024, 5632]⟩ .f32) (CW : FVec Ideal ⟨2, ![3, 2816]⟩ .f32)
    (CB : FVec Ideal ⟨1, ![2816]⟩ .f32) (WD : FVec Ideal ⟨2, ![2816, 1024]⟩ .f32) (G : FVec Ideal ⟨1, ![1024]⟩ .f32) (b : Fin 4) (s : Fin 4096)
    (ha : ∀ p : Fin 2816, a (ix2 r p) = FfnSpec.act H W CW CB b s p)
    (hwd : ∀ (p : Fin 2816) (e : Fin 1024), wd (ix2 p e) = WD (ix2 p e))
    (hx : ∀ e : Fin 1024, x1 (ix3 0 r e) = X (ix3 b s e))
    (hg : ∀ e : Fin 1024, g (ix2 0 e) = G (ix1 e)) :
    k0_pay91 a wd x1 g (ix3 z r q) = FfnSpec.out H X W CW CB WD G b s q := by
  unfold_payloads
  pointwise [ha, hwd, hx, hg]
  rfl
end Cert.FfnIdeal.Val
-- ==== Proof.FfnFinal.lean ====
/- The feed-forward kernel's result array after the run, as the formula of `FfnSpec` over the arguments. -/
module
public import proofs.«01_k».proof.Proof.Gen.FfnIdeal.Value
public import proofs.«01_k».proof.Proof.FfnChunk
public import Idealize.ShloMosaic.Lib.Pipeline.ValueKit
@[expose] public section
set_option maxRecDepth 16384
noncomputable section
namespace Cert.FfnIdeal.Val
open Cert.FfnIdeal Cert.FfnIdeal.Gen Idealize.ShloMosaic Idealize.ShloMosaic.TcCoe Idealize.SL.Sem
open Idealize.ShloMosaic.Pipeline (Dat)
variable (m : (ℓ : Loc nD τ sig) → Buf (Elt Ideal) ℓ)

/-- Every window's block index at a grid point. -/
theorem idx : ∀ t : Fin cfg0.N, win0_0.index t = ![(grid0.coords t 0).val, (grid0.coords t 1).val, 0]
    ∧ win0_1.index t = ![(grid0.coords t 0).val, (grid0.coords t 1).val * 64 - 1, 0]
    ∧ win0_2.index t = ![(grid0.coords t 0).val, (grid0.coords t 1).val, 0]
    ∧ win0_3.index t = ![0, 0] ∧ win0_4.index t = ![0, 0] ∧ win0_5.index t = ![0, 0] ∧ win0_6.index t = ![0, 0] ∧ win0_7.index t = ![0, 0]
    ∧ win0_8.index t = ![(grid0.coords t 0).val, (grid0.coords t 1).val, 0] :=
  (by decide +kernel : ∀ t : Fin grid0.N, _)

/-- The result array the run leaves. -/
abbrev outArr (c : Dev nD) : FVec Ideal S4x4096x1024 .f32 := fun j =>
  FfnSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (j 0) (j 1) (j 2)

/-- The staged tokens of a point are its rows of the argument. -/
theorem blk_h (c : Dev nD) (t : Fin cfg0.N) (b : Fin 4) (n : ℕ) (hn : n < 4) (hb : (grid0.coords t 0 : ℕ) = b) (hi : (grid0.coords t 1 : ℕ) = n)
    (r : Fin 1024) (x : Fin 1024) :
    (iblk m c 0 t : Vec Ideal S1x1024x1024 .bf16) (ix3 0 r x) = (m ((c : Thread nD τ).loc main_arg0) : Vec Ideal S4x4096x1024 .bf16) (ix3 b ⟨n * 1024 + r, by omega⟩ x) := by
  blk_ext [iblk, V, idx t]

/-- The sixteen rows before a point's rows, where there are any. -/
theorem blk_halo (c : Dev nD) (t : Fin cfg0.N) (b : Fin 4) (n : ℕ) (hn : n < 4) (hb : (grid0.coords t 0 : ℕ) = b) (hi : (grid0.coords t 1 : ℕ) = n)
    (r : Fin 16) (x : Fin 1024) (h : 0 < n) :
    (iblk m c 1 t : Vec Ideal S1x16x1024 .bf16) (ix3 0 r x) = (m ((c : Thread nD τ).loc main_arg0) : Vec Ideal S4x4096x1024 .bf16) (ix3 b ⟨n * 1024 + r - 16, by omega⟩ x) := by
  blk_ext [iblk, V, idx t]

/-- The residual rows of a point. -/
theorem blk_x (c : Dev nD) (t : Fin cfg0.N) (b : Fin 4) (n : ℕ) (hn : n < 4) (hb : (grid0.coords t 0 : ℕ) = b) (hi : (grid0.coords t 1 : ℕ) = n)
    (r : Fin 1024) (x : Fin 1024) :
    (iblk m c 2 t : Vec Ideal S1x1024x1024 .f32) (ix3 0 r x) = (m ((c : Thread nD τ).loc main_arg1) : Vec Ideal S4x4096x1024 .f32) (ix3 b ⟨n * 1024 + r, by omega⟩ x) := by
  blk_ext [iblk, V, idx t]

/-- The up projection's weights, whole at every point. -/
theorem blk_wu (c : Dev nD) (t : Fin cfg0.N) (x : Fin 1024) (q : Fin 5632) :
    (iblk m c 3 t : Vec Ideal S1024x5632 .bf16) (ix2 x q) = (m ((c : Thread nD τ).loc main_arg2) : Vec Ideal S1024x5632 .f32) (ix2 x q) := by
  blk_point [iblk, idx t]

/-- The convolution's weights, whole at every point. -/
theorem blk_cw (c : Dev nD) (t : Fin cfg0.N) (x : Fin 3) (q : Fin 2816) :
    (iblk m c 4 t : Vec Ideal S3x2816 .f32) (ix2 x q) = (m ((c : Thread nD τ).loc main_arg3) : Vec Ideal S3x2816 .f32) (ix2 x q) := by
  blk_ext [iblk, V, idx t]

/-- The convolution's bias, whole at every point. -/
theorem blk_cb (c : Dev nD) (t : Fin cfg0.N) (q : Fin 2816) :
    (iblk m c 5 t : Vec Ideal S1x2816 .f32) (ix2 0 q) = (m ((c : Thread nD τ).loc main_arg4) : Vec Ideal S2816 .f32) (ix1 q) := by
  blk_point [iblk, idx t]

/-- The down projection's weights, whole at every point. -/
theorem blk_wd (c : Dev nD) (t : Fin cfg0.N) (x : Fin 2816) (q : Fin 1024) :
    (iblk m c 6 t : Vec Ideal S2816x1024 .bf16) (ix2 x q) = (m ((c : Thread nD τ).loc main_arg5) : Vec Ideal S2816x1024 .f32) (ix2 x q) := by
  blk_point [iblk, idx t]

/-- The final scale, whole at every point. -/
theorem blk_g (c : Dev nD) (t : Fin cfg0.N) (q : Fin 1024) :
    (iblk m c 7 t : Vec Ideal S1x1024 .f32) (ix2 0 q) = (m ((c : Thread nD τ).loc main_arg6) : Vec Ideal S1024 .f32) (ix1 q) := by
  blk_point [iblk, idx t]

/-- What a point stores for its block `k` of channels is the gated activation. -/
theorem piece (c : Dev nD) (t : Fin cfg0.N) (b : Fin 4) (n : ℕ) (hn : n < 4) (hb : (grid0.coords t 0 : ℕ) = b) (hi : (grid0.coords t 1 : ℕ) = n)
    (k : ℕ) (hk : k < 11) (h : Vec Ideal S1x1024x1024 .bf16) (halo : Vec Ideal S1x16x1024 .bf16) (wu wg : Vec Ideal S1024x256 .bf16)
    (cb w0 w1 w2 : Vec Ideal S1x256 .f32) (r : Fin 1024) (p : Fin 2816) (y : S1024x256.Idx) (hr : (r : ℕ) = y 0) (hp : (p : ℕ) = 256 * k + y 1)
    (eh : ∀ (r : Fin 1024) (x : Fin 1024), h (ix3 0 r x) = (iblk m c 0 t : Vec Ideal S1x1024x1024 .bf16) (ix3 0 r x))
    (ehalo : ∀ (r : Fin 16) (x : Fin 1024), halo (ix3 0 r x) = (iblk m c 1 t : Vec Ideal S1x16x1024 .bf16) (ix3 0 r x))
    (ewu : ∀ (x : Fin 1024) (q : Fin 256), wu (ix2 x q) = (iblk m c 3 t : Vec Ideal S1024x5632 .bf16) (ix2 x ⟨256 * k + q, by omega⟩))
    (ewg : ∀ (x : Fin 1024) (q : Fin 256), wg (ix2 x q) = (iblk m c 3 t : Vec Ideal S1024x5632 .bf16) (ix2 x ⟨2816 + 256 * k + q, by omega⟩))
    (ecb : ∀ (q : Fin 256), cb (ix2 0 q) = (iblk m c 5 t : Vec Ideal S1x2816 .f32) (ix2 0 ⟨256 * k + q, by omega⟩))
    (ew0 : ∀ (q : Fin 256), w0 (ix2 0 q) = (iblk m c 4 t : Vec Ideal S3x2816 .f32) (ix2 0 ⟨256 * k + q, by omega⟩))
    (ew1 : ∀ (q : Fin 256), w1 (ix2 0 q) = (iblk m c 4 t : Vec Ideal S3x2816 .f32) (ix2 1 ⟨256 * k + q, by omega⟩))
    (ew2 : ∀ (q : Fin 256), w2 (ix2 0 q) = (iblk m c 4 t : Vec Ideal S3x2816 .f32) (ix2 2 ⟨256 * k + q, by omega⟩)) :
    chunk (grid0.coords t) h halo wu wg cb w0 w1 w2 y = FfnSpec.act (m ((c : Thread nD τ).loc main_arg0)) (m ((c : Thread nD τ).loc main_arg2))
      (m ((c : Thread nD τ).loc main_arg3)) (m ((c : Thread nD τ).loc main_arg4)) b ⟨n * 1024 + r, by omega⟩ p := by
  idx_vars y
  obtain rfl : r = y0 := Fin.ext hr
  rw [show p = ⟨256 * k + y1, by omega⟩ from Fin.ext hp]
  refine chunk_apply (grid0.coords t) h halo wu wg cb w0 w1 w2 _ _ _ _ b n hn hi k hk (fun r x => (eh r x).trans (blk_h m c t b n hn hb hi r x))
    (fun r x h0 => (ehalo r x).trans (blk_halo m c t b n hn hb hi r x h0)) (fun x q => (ewu x q).trans (blk_wu m c t _ _))
    (fun x q => (ewg x q).trans ((blk_wu m c t _ _).trans ?_)) (fun q => (ecb q).trans (blk_cb m c t _)) (fun q => (ew0 q).trans (blk_cw m c t _ _))
    (fun q => (ew1 q).trans (blk_cw m c t _ _)) (fun q => (ew2 q).trans (blk_cw m c t _ _)) r y1
  congr 2; apply Fin.ext; show 2816 + 256 * k + q.val = 2816 + (256 * k + q.val); omega

set_option maxHeartbeats 2000000 in
/-- What a point leaves in the result's block. -/
theorem point (c : Dev nD) (t : Fin cfg0.N) (b : Fin 4) (n : ℕ) (hn : n < 4) (hb : (grid0.coords t 0 : ℕ) = b) (hi : (grid0.coords t 1 : ℕ) = n)
    (z : Fin 1) (r : Fin 1024) (d : Fin 1024) : (outsAt0 m c t : Vec Ideal S1x1024x1024 .f32) (ix3 z r d) =
      FfnSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b ⟨n * 1024 + r, by omega⟩ d := by
  unfold outsAt0 out0_A_8
  rw [View.read_writes_eq_canon _ _ _ (cover0_A_8 c _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  canon_tiles x h
  idx_vars x
  obtain rfl : x1 = r := Fin.ext (by simpa using h1.symm)
  obtain rfl : x2 = d := Fin.ext (by simpa using h2.symm)
  refine last_apply _ _ _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b _ (fun p => ?_) (fun p e => ?_) (fun e => ?_) (fun e => ?_)
  · rw [View.readCov_eq_canon']
    canon_tiles y k
    case piece0 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 2560] ![1024, 256] inb_S1024x5632_S1024x256_0_2560))
        (View.ld (iblk m c 3 t) (Rect.unit ![0, 5376] ![1024, 256] inb_S1024x5632_S1024x256_0_5376))
        (View.ld (iblk m c 5 t) (Rect.unit ![0, 2560] ![1, 256] inb_S1x2816_S1x256_0_2560))
        (View.ld (iblk m c 4 t) (Rect.unit ![0, 2560] ![1, 256] inb_S3x2816_S1x256_0_2560)) (View.ld (iblk m c 4 t) (Rect.unit ![1, 2560] ![1, 256] inb_S3x2816_S1x256_1_2560)) (View.ld (iblk m c 4 t) (Rect.unit ![2, 2560] ![1, 256] inb_S3x2816_S1x256_2_2560)) y) ?_ (piece m c t b n hn hb hi 10 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece1 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 2304] ![1024, 256] inb_S1024x5632_S1024x256_0_2304))
        (View.ld (iblk m c 3 t) (Rect.unit ![0, 5120] ![1024, 256] inb_S1024x5632_S1024x256_0_5120))
        (View.ld (iblk m c 5 t) (Rect.unit ![0, 2304] ![1, 256] inb_S1x2816_S1x256_0_2304))
        (View.ld (iblk m c 4 t) (Rect.unit ![0, 2304] ![1, 256] inb_S3x2816_S1x256_0_2304)) (View.ld (iblk m c 4 t) (Rect.unit ![1, 2304] ![1, 256] inb_S3x2816_S1x256_1_2304)) (View.ld (iblk m c 4 t) (Rect.unit ![2, 2304] ![1, 256] inb_S3x2816_S1x256_2_2304)) y) ?_ (piece m c t b n hn hb hi 9 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece2 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 2048] ![1024, 256] inb_S1024x5632_S1024x256_0_2048))
        (View.ld (iblk m c 3 t) (Rect.unit ![0, 4864] ![1024, 256] inb_S1024x5632_S1024x256_0_4864))
        (View.ld (iblk m c 5 t) (Rect.unit ![0, 2048] ![1, 256] inb_S1x2816_S1x256_0_2048))
        (View.ld (iblk m c 4 t) (Rect.unit ![0, 2048] ![1, 256] inb_S3x2816_S1x256_0_2048)) (View.ld (iblk m c 4 t) (Rect.unit ![1, 2048] ![1, 256] inb_S3x2816_S1x256_1_2048)) (View.ld (iblk m c 4 t) (Rect.unit ![2, 2048] ![1, 256] inb_S3x2816_S1x256_2_2048)) y) ?_ (piece m c t b n hn hb hi 8 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece3 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 1792] ![1024, 256] inb_S1024x5632_S1024x256_0_1792))
        (View.ld (iblk m c 3 t) (Rect.unit ![0, 4608] ![1024, 256] inb_S1024x5632_S1024x256_0_4608))
        (View.ld (iblk m c 5 t) (Rect.unit ![0, 1792] ![1, 256] inb_S1x2816_S1x256_0_1792))
        (View.ld (iblk m c 4 t) (Rect.unit ![0, 1792] ![1, 256] inb_S3x2816_S1x256_0_1792)) (View.ld (iblk m c 4 t) (Rect.unit ![1, 1792] ![1, 256] inb_S3x2816_S1x256_1_1792)) (View.ld (iblk m c 4 t) (Rect.unit ![2, 1792] ![1, 256] inb_S3x2816_S1x256_2_1792)) y) ?_ (piece m c t b n hn hb hi 7 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece4 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 1536] ![1024, 256] inb_S1024x5632_S1024x256_0_1536))
        (View.ld (iblk m c 3 t) (Rect.unit ![0, 4352] ![1024, 256] inb_S1024x5632_S1024x256_0_4352))
        (View.ld (iblk m c 5 t) (Rect.unit ![0, 1536] ![1, 256] inb_S1x2816_S1x256_0_1536))
        (View.ld (iblk m c 4 t) (Rect.unit ![0, 1536] ![1, 256] inb_S3x2816_S1x256_0_1536)) (View.ld (iblk m c 4 t) (Rect.unit ![1, 1536] ![1, 256] inb_S3x2816_S1x256_1_1536)) (View.ld (iblk m c 4 t) (Rect.unit ![2, 1536] ![1, 256] inb_S3x2816_S1x256_2_1536)) y) ?_ (piece m c t b n hn hb hi 6 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece5 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 1280] ![1024, 256] inb_S1024x5632_S1024x256_0_1280))
        (View.ld (iblk m c 3 t) (Rect.unit ![0, 4096] ![1024, 256] inb_S1024x5632_S1024x256_0_4096))
        (View.ld (iblk m c 5 t) (Rect.unit ![0, 1280] ![1, 256] inb_S1x2816_S1x256_0_1280))
        (View.ld (iblk m c 4 t) (Rect.unit ![0, 1280] ![1, 256] inb_S3x2816_S1x256_0_1280)) (View.ld (iblk m c 4 t) (Rect.unit ![1, 1280] ![1, 256] inb_S3x2816_S1x256_1_1280)) (View.ld (iblk m c 4 t) (Rect.unit ![2, 1280] ![1, 256] inb_S3x2816_S1x256_2_1280)) y) ?_ (piece m c t b n hn hb hi 5 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece6 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 1024] ![1024, 256] inb_S1024x5632_S1024x256_0_1024))
        (View.ld (iblk m c 3 t) (Rect.unit ![0, 3840] ![1024, 256] inb_S1024x5632_S1024x256_0_3840))
        (View.ld (iblk m c 5 t) (Rect.unit ![0, 1024] ![1, 256] inb_S1x2816_S1x256_0_1024))
        (View.ld (iblk m c 4 t) (Rect.unit ![0, 1024] ![1, 256] inb_S3x2816_S1x256_0_1024)) (View.ld (iblk m c 4 t) (Rect.unit ![1, 1024] ![1, 256] inb_S3x2816_S1x256_1_1024)) (View.ld (iblk m c 4 t) (Rect.unit ![2, 1024] ![1, 256] inb_S3x2816_S1x256_2_1024)) y) ?_ (piece m c t b n hn hb hi 4 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece7 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 768] ![1024, 256] inb_S1024x5632_S1024x256_0_768))
        (View.ld (iblk m c 3 t) (Rect.unit ![0, 3584] ![1024, 256] inb_S1024x5632_S1024x256_0_3584))
        (View.ld (iblk m c 5 t) (Rect.unit ![0, 768] ![1, 256] inb_S1x2816_S1x256_0_768))
        (View.ld (iblk m c 4 t) (Rect.unit ![0, 768] ![1, 256] inb_S3x2816_S1x256_0_768)) (View.ld (iblk m c 4 t) (Rect.unit ![1, 768] ![1, 256] inb_S3x2816_S1x256_1_768)) (View.ld (iblk m c 4 t) (Rect.unit ![2, 768] ![1, 256] inb_S3x2816_S1x256_2_768)) y) ?_ (piece m c t b n hn hb hi 3 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece8 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 512] ![1024, 256] inb_S1024x5632_S1024x256_0_512))
        (View.ld (iblk m c 3 t) (Rect.unit ![0, 3328] ![1024, 256] inb_S1024x5632_S1024x256_0_3328))
        (View.ld (iblk m c 5 t) (Rect.unit ![0, 512] ![1, 256] inb_S1x2816_S1x256_0_512))
        (View.ld (iblk m c 4 t) (Rect.unit ![0, 512] ![1, 256] inb_S3x2816_S1x256_0_512)) (View.ld (iblk m c 4 t) (Rect.unit ![1, 512] ![1, 256] inb_S3x2816_S1x256_1_512)) (View.ld (iblk m c 4 t) (Rect.unit ![2, 512] ![1, 256] inb_S3x2816_S1x256_2_512)) y) ?_ (piece m c t b n hn hb hi 2 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece9 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 256] ![1024, 256] inb_S1024x5632_S1024x256_0_256))
        (View.ld (iblk m c 3 t) (Rect.unit ![0, 3072] ![1024, 256] inb_S1024x5632_S1024x256_0_3072))
        (View.ld (iblk m c 5 t) (Rect.unit ![0, 256] ![1, 256] inb_S1x2816_S1x256_0_256))
        (View.ld (iblk m c 4 t) (Rect.unit ![0, 256] ![1, 256] inb_S3x2816_S1x256_0_256)) (View.ld (iblk m c 4 t) (Rect.unit ![1, 256] ![1, 256] inb_S3x2816_S1x256_1_256)) (View.ld (iblk m c 4 t) (Rect.unit ![2, 256] ![1, 256] inb_S3x2816_S1x256_2_256)) y) ?_ (piece m c t b n hn hb hi 1 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
    case piece10 =>
      refine Eq.trans (b := chunk (grid0.coords t)
        (View.ld (iblk m c 0 t) (Rect.unit ![0, 0, 0] ![1, 1024, 1024] inb_S1x1024x1024_S1x1024x1024_0_0_0))
        (View.ld (iblk m c 1 t) (Rect.unit ![0, 0, 0] ![1, 16, 1024] inb_S1x16x1024_S1x16x1024_0_0_0))
        (View.ld (iblk m c 3 t) (Rect.unit ![0, 0] ![1024, 256] inb_S1024x5632_S1024x256_0_0))
        (View.ld (iblk m c 3 t) (Rect.unit ![0, 2816] ![1024, 256] inb_S1024x5632_S1024x256_0_2816))
        (View.ld (iblk m c 5 t) (Rect.unit ![0, 0] ![1, 256] inb_S1x2816_S1x256_0_0))
        (View.ld (iblk m c 4 t) (Rect.unit ![0, 0] ![1, 256] inb_S3x2816_S1x256_0_0)) (View.ld (iblk m c 4 t) (Rect.unit ![1, 0] ![1, 256] inb_S3x2816_S1x256_1_0)) (View.ld (iblk m c 4 t) (Rect.unit ![2, 0] ![1, 256] inb_S3x2816_S1x256_2_0)) y) ?_ (piece m c t b n hn hb hi 0 (by decide) _ _ _ _ _ _ _ _ x1 p y (by simpa using k0) (by simpa using k1)
          (fun r x => by pointwise) (fun r x => by pointwise) (fun x q => by pointwise) (fun x q => by pointwise) (fun q => by pointwise) (fun q => by pointwise) (fun q => by pointwise) (fun q => by pointwise))
      exact congrFun rfl y
  · pointwise [blk_wd m c t]
  · pointwise [blk_x m c t b n hn hb hi]
  · pointwise [blk_g m c t]
/-- The same, at an index of the result whose coordinates are those of the block's. -/
theorem point_at (c : Dev nD) (t : Fin cfg0.N) (y : S1x1024x1024.Idx) (j : S4x4096x1024.Idx) (h0 : (j 0 : ℕ) = (grid0.coords t 0 : ℕ))
    (h1 : (j 1 : ℕ) = (grid0.coords t 1 : ℕ) * 1024 + (y 1 : ℕ)) (h2 : (j 2 : ℕ) = y 2) : outsAt0 m c t y = outArr m c j := by
  have hn : (grid0.coords t 1 : ℕ) < 4 := (grid0.coords t 1).isLt
  idx_vars y
  idx_vars j
  refine (point m c t j0 _ hn h0.symm rfl y0 y1 y2).trans ?_
  have hy1 : (y1 : ℕ) < 1024 := y1.isLt
  have e1 : j1 = ⟨(grid0.coords t 1 : ℕ) * 1024 + y1, by omega⟩ := Fin.ext h1
  have e2 : j2 = y2 := Fin.ext h2
  rw [e1, e2]
  rfl

/-- The result array after the run. -/
theorem final (c : Dev nD) : (dats m 0 c).arrAt 8 (cfgs 0).N = outArr m c := by
  refine (dats m 0 c).arrAt_eq_of_covers 8 _ (by decide +kernel) fun t _ y => ?_
  blk_simp
  rw [after0_8]
  have hy : ((y 0 : Fin 1) : ℕ) < 1 := (y 0 : Fin 1).isLt
  refine point_at m c t y _ ?_ ?_ ?_
  all_goals (blk_simp [idx t] <;> try omega)

/-- The kernel's run: the result array is the formula over the arguments, which end unchanged. -/
theorem run (ρ : Dev nD → PrngReg) : θ_run defs (onTc (τ := τ) (main (F := Ideal))) ⟨m, fun _ => 0, ρ⟩ fun r => ∀ c : Dev nD,
      r.2.mem ((c : Thread nD τ).loc main_v4) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1).trans (final m c), (h c).2⟩) (Value.run_blocks m ρ)
end Cert.FfnIdeal.Val
-- ==== Proof.FfnRef.lean ====
/- The plain feed-forward reference, read at an index, is the formula of `FfnSpec`. -/
module
public import proofs.«01_k».proof.Proof.Gen.FfnRefIdeal.Read
public import proofs.«01_k».proof.Proof.FfnSpec
public import Idealize.ShloMosaic.Lib.WordCmp
@[expose] public section
set_option maxRecDepth 16384
noncomputable section
namespace Cert.FfnRefIdeal.Val
open Cert.FfnRefIdeal Cert.FfnRefIdeal.Gen Cert.FfnRefIdeal.Read Idealize.ShloMosaic Idealize.ShloMosaic.TcCoe Idealize.SL.Sem

/-- The word zero converts to the real zero. -/
theorem zero_word : FloatOps.sitofp (F := Ideal) FTy.f32 (0#32) = (0 : EReal) := by
  show (((0#32).toInt : ℝ) : EReal) = 0
  simp

/-- The reference's convolution at an index. -/
theorem conv_eq (x0 : Vec Ideal S4x4096x1024 .bf16) (x2 : Vec Ideal S1024x5632 .f32) (x3 : Vec Ideal S3x2816 .f32) (x4 : Vec Ideal S2816 .f32) (b : Fin 4) (s : Fin 4096) (q : Fin 2816) :
   val_main_v27 (F := Ideal) x0 x2 x3 x4 (ix3 b s q) = FfnSpec.conv x0 x2 x3 x4 b s q := by
  pointwise [val_main_v27, val_main_v26, val_main_v25,val_main_v24,val_main_v23,val_main_v22,val_main_v21,val_main_v20,val_main_v19,val_main_v18,val_main_v17,val_main_v16,val_main_v15,val_main_v14,val_main_v13,val_main_v12,val_main_v11,val_main_v10,val_main_v9,val_main_v8,val_main_v7,val_main_v6,val_main_v5,val_main_v4,val_main_call0_v0,val_main_c, val_main_v3,val_main_v2,val_main_v1,val_main_v0, hlo_ix]
  unfold FfnSpec.conv FfnSpec.tap FfnSpec.up
  rw [zero_word]
  congr 3
  · congr 1
    by_cases h : 2 ≤ s.val
    · rw [dif_pos ⟨h, by omega⟩, if_pos h]
    · rw [dif_neg (fun c => h c.1), if_neg h]
  · by_cases h : 1 ≤ s.val
    · rw [dif_pos ⟨by omega, by omega⟩, if_pos h]
      congr 1; funext x; congr 3; apply Fin.ext; show 1 + s.val - 2 = s.val - 1; omega
    · rw [dif_neg (fun c => h (by omega)), if_neg h]

/-- The reference's residual stream at an index. -/
theorem res_eq (x0 : Vec Ideal S4x4096x1024 .bf16) (x1 : Vec Ideal S4x4096x1024 .f32) (x2 : Vec Ideal S1024x5632 .f32) (x3 : Vec Ideal S3x2816 .f32) (x4 : Vec Ideal S2816 .f32) (x5 : Vec Ideal S2816x1024 .f32)
    (b : Fin 4) (s : Fin 4096) (d : Fin 1024) :
   val_main_v43 (F := Ideal) x0 x1 x2 x3 x4 x5 (ix3 b s d) = FfnSpec.res x0 x1 x2 x3 x4 x5 b s d := by
  pointwise [val_main_v43, val_main_v42, val_main_v41, val_main_v40, val_main_v39, val_main_v38, val_main_cst_2, val_main_v37, val_main_v36, val_main_cst_1, val_main_v35, val_main_v34, val_main_v33, val_main_cst_0, val_main_v32, val_main_v31, val_main_v30, val_main_cst, val_main_v29, val_main_v28, val_main_v3, val_main_v1, val_main_v0]
  simp only [conv_eq]
  rfl

/-- The reference's result at an index. -/
theorem out_eq (x0 : Vec Ideal S4x4096x1024 .bf16) (x1 : Vec Ideal S4x4096x1024 .f32) (x2 : Vec Ideal S1024x5632 .f32) (x3 : Vec Ideal S3x2816 .f32) (x4 : Vec Ideal S2816 .f32) (x5 : Vec Ideal S2816x1024 .f32)
    (x6 : Vec Ideal S1024 .f32) (b : Fin 4) (s : Fin 4096) (d : Fin 1024) :
   val_main_v56 (F := Ideal) x0 x1 x2 x3 x4 x5 x6 (ix3 b s d) = FfnSpec.out x0 x1 x2 x3 x4 x5 x6 b s d := by
  pointwise [val_main_v56, val_main_v55, val_main_v54, val_main_v53, val_main_v52, val_main_v51, val_main_v50, val_main_v49, val_main_cst_5, val_main_v48, val_main_v47, val_main_cst_4, val_main_v46, val_main_v45, val_main_cst_3, val_main_v44]
  simp only [res_eq]
  rfl
end Cert.FfnRefIdeal.Val
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Band4.Frame
public import proofs.«01_k».proof.Proof.Gen.Band4Ideal.Frame
public import proofs.«01_k».proof.Proof.Gen.Band4Ideal.Value
public import proofs.«01_k».proof.Proof.Gen.Band4RefIdeal.Run
public import proofs.«01_k».proof.Proof.Gen.Band4RefIdeal.Read
public import proofs.«01_k».proof.Proof.BandClaim
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeClaim
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjClaim
public import proofs.«01_k».proof.Proof.Gen.Band1.Frame
public import proofs.«01_k».proof.Proof.Gen.Band1Ideal.Frame
public import proofs.«01_k».proof.Proof.Gen.Band1Ideal.Value
public import proofs.«01_k».proof.Proof.Gen.Band1RefIdeal.Run
public import proofs.«01_k».proof.Proof.Gen.Band1RefIdeal.Read
public import proofs.«01_k».proof.Proof.Band1Claim
public import proofs.«01_k».proof.Proof.Gen.Band16.Frame
public import proofs.«01_k».proof.Proof.Gen.Band16Ideal.Frame
public import proofs.«01_k».proof.Proof.Gen.Band16Ideal.Value
public import proofs.«01_k».proof.Proof.Gen.Band16RefIdeal.Run
public import proofs.«01_k».proof.Proof.Gen.Band16RefIdeal.Read
public import proofs.«01_k».proof.Proof.Band16Claim
public import proofs.«01_k».proof.Proof.FfnFinal
public import proofs.«01_k».proof.Proof.FfnRef
public import Idealize.ShloMosaic.Lib.Quiescent
public import Idealize.ShloMosaic.Adequacy
public import Idealize.ShloMosaic.Init

@[expose] public section

noncomputable section

namespace Cert.Proof

open Idealize.ShloMosaic Idealize.SL.Sem Cert.Ffn

/-- The feed-forward kernel and the plain reference leave the same array, the formula of `FfnSpec`. -/
theorem ffn_algebraic : Cert.algebraic_FfnIdeal_FfnRefIdeal := by
  intro m g m' g' _ ha
  refine ⟨fun c => Cert.FfnIdeal.Val.outArr m c, ?_, ?_⟩
  · exact Cert.FfnIdeal.Val.run m g
  · refine (θ_run _ _ _).mono (fun r h c => ⟨?_, (h c).2⟩) (Cert.FfnRefIdeal.Value.run m' g')
    rw [(h c).1, Cert.FfnRefIdeal.Read.val_main_v56_eq]
    obtain ⟨h0, h1, h2, h3, h4, h5, h6⟩ := ha c
    rw [h0, h1, h2, h3, h4, h5, h6]
    funext j
    rw [eq_ix3 j]
    exact Cert.FfnRefIdeal.Val.out_eq _ _ _ _ _ _ _ _ _ _

/-- Everything claimed. -/
theorem claim : Cert.Claim := ⟨Cert.Ffn.Gen.facts, Cert.FfnIdeal.Gen.facts, Cert.FfnRefIdeal.Gen.facts,
  Cert.Band4.Gen.facts, Cert.Band4Ideal.Gen.facts, Cert.Band4RefIdeal.Gen.facts,
  Cert.Merge.Gen.facts, Cert.MergeIdeal.Gen.facts, Cert.MergeRefIdeal.Gen.facts,
  Cert.InProj.Gen.facts, Cert.InProjIdeal.Gen.facts, Cert.InProjRefIdeal.Gen.facts,
  Cert.Band1.Gen.facts, Cert.Band1Ideal.Gen.facts, Cert.Band1RefIdeal.Gen.facts,
  Cert.Band16.Gen.facts, Cert.Band16Ideal.Gen.facts, Cert.Band16RefIdeal.Gen.facts,
  fun m ρ _ => Cert.Ffn.Gen.frame m ρ, fun m ρ _ => Cert.FfnIdeal.Gen.frame m ρ,
  fun m ρ _ => (θ_run _ _ _).mono (fun r h => ⟨fun c => (h c).2, sem_eq_zero_of_no_sems (by decide) r.2⟩) (Cert.FfnRefIdeal.Value.run m ρ),
  fun m ρ _ => Cert.Band4.Gen.frame m ρ, fun m ρ _ => Cert.Band4Ideal.Gen.frame m ρ,
  fun m ρ _ => (θ_run _ _ _).mono (fun r h => ⟨fun c => (h c).2.2, sem_eq_zero_of_no_sems (by decide) r.2⟩) (Cert.Band4RefIdeal.Value.run m ρ),
  fun m ρ _ => Cert.Merge.Gen.frame m ρ, fun m ρ _ => Cert.MergeIdeal.Gen.frame m ρ,
  fun m ρ _ => (θ_run _ _ _).mono (fun r h => ⟨fun c => (h c).2.2, sem_eq_zero_of_no_sems (by decide) r.2⟩) (Cert.MergeRefIdeal.Value.run m ρ),
  fun m ρ _ => Cert.InProj.Gen.frame m ρ, fun m ρ _ => Cert.InProjIdeal.Gen.frame m ρ,
  fun m ρ _ => (θ_run _ _ _).mono (fun r h => ⟨fun c => (h c).2.2.2.2.2.2.2.2.2.2.2, sem_eq_zero_of_no_sems (by decide) r.2⟩) (Cert.InProjRefIdeal.Value.run m ρ),
  fun m ρ _ => Cert.Band1.Gen.frame m ρ, fun m ρ _ => Cert.Band1Ideal.Gen.frame m ρ,
  fun m ρ _ => (θ_run _ _ _).mono (fun r h => ⟨fun c => (h c).2.2, sem_eq_zero_of_no_sems (by decide) r.2⟩) (Cert.Band1RefIdeal.Value.run m ρ),
  fun m ρ _ => Cert.Band16.Gen.frame m ρ, fun m ρ _ => Cert.Band16Ideal.Gen.frame m ρ,
  fun m ρ _ => (θ_run _ _ _).mono (fun r h => ⟨fun c => (h c).2.2, sem_eq_zero_of_no_sems (by decide) r.2⟩) (Cert.Band16RefIdeal.Value.run m ρ),
  trivial, ffn_algebraic, band_preserves, band_algebraic, trivial, merge_algebraic, trivial, inproj_algebraic,
  band1_preserves, band1_algebraic, band16_preserves, band16_algebraic⟩

end Cert.Proof

end
